-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v445) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x8192x1024 : Shape := ⟨3, ![8, 8192, 1024]⟩
abbrev S1x8x8192x256 : Shape := ⟨4, ![1, 8, 8192, 256]⟩
abbrev S1x1024 : Shape := ⟨2, ![1, 1024]⟩
abbrev S1x1024x7168 : Shape := ⟨3, ![1, 1024, 7168]⟩
abbrev S1x31x1024 : Shape := ⟨3, ![1, 31, 1024]⟩
abbrev S1x1024x1024 : Shape := ⟨3, ![1, 1024, 1024]⟩
abbrev S2x1024 : Shape := ⟨2, ![2, 1024]⟩
abbrev S1x2048x1024 : Shape := ⟨3, ![1, 2048, 1024]⟩
abbrev S1x256x1024 : Shape := ⟨3, ![1, 256, 1024]⟩
abbrev S1024 : Shape := ⟨1, ![1024]⟩
abbrev S1x1024x3072 : Shape := ⟨3, ![1, 1024, 3072]⟩
abbrev S_ : Shape := ⟨0, ![]⟩

class Facts : Prop where
  slices_S1x1024x7168_S1x1024x3072_0_0_3072 : S1x1024x7168.Slices ![0, 0, 3072] S1x1024x3072
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x3072 : S_.BroadcastsInDim S1x1024x3072 (![] : Fin 0 → Fin S1x1024x3072.rank)
  reducesTo_S1x1024x3072_S_d0_1_2 : S1x1024x3072.ReducesTo [0, 1, 2] S_

variable [Facts]

def fn {F : FTy → Type} [FloatOps F] (main_arg0 : FVec F S8x8192x1024 .f32) (main_arg1 : FVec F S1x8x8192x256 .f32) (main_arg2 : FVec F S1x1024 .f32) (main_arg3 : FVec F S1x1024x7168 .f32) (main_arg4 : FVec F S1x31x1024 .f32) (main_arg5 : FVec F S1x1024 .f32) (main_arg6 : FVec F S1x1024 .f32) (main_arg7 : FVec F S1x1024 .f32) (main_arg8 : FVec F S1x1024x1024 .f32) (main_arg9 : FVec F S1x1024 .f32) (main_arg10 : FVec F S2x1024 .f32) (main_arg11 : FVec F S1x1024 .f32) (main_arg12 : FVec F S1x2048x1024 .f32) (main_arg13 : FVec F S1x1024 .f32) (main_arg14 : FVec F S1x1024x1024 .f32) (main_arg15 : FVec F S1x256x1024 .f32) (main_arg16 : FVec F S1024 .f32) : IVec S_ 1 :=
  let main_v0 : FVec F S1x1024x3072 .f32 := (extractStridedSlice S1x1024x3072 ![0, 0, 3072] · slices_S1x1024x7168_S1x1024x3072_0_0_3072) main_arg3
  let main_v1 : FVec F S1x1024 .f32 := Host.absf main_arg2
  let main_cst : FVec F S_ .f32 := constant S_ .f32 0x7F800000#32
  let main_v2 : FVec F S1x1024 .f32 := broadcastInDim S1x1024 ![] bcast_S_S1x1024 main_cst
  let main_v3 : IVec S1x1024 1 := cmpf .olt main_v1 main_v2
  let main_c : IVec S_ 1 := constantI S_ 1 1#1
  let main_v4 : IVec S_ 1 := (fun x v => Host.reduce IntOp.andi x v reducesTo_S1x1024_S_d0_1 h_S_) main_v3 main_c
  let main_v5 : FVec F S1x1024x3072 .f32 := Host.absf main_v0
  let main_cst_0 : FVec F S_ .f32 := constant S_ .f32 0x7F800000#32
  let main_v6 : FVec F S1x1024x3072 .f32 := broadcastInDim S1x1024x3072 ![] bcast_S_S1x1024x3072 main_cst_0
  let main_v7 : IVec S1x1024x3072 1 := cmpf .olt main_v5 main_v6
  let main_c_1 : IVec S_ 1 := constantI S_ 1 1#1
  let main_v8 : IVec S_ 1 := (fun x v => Host.reduce IntOp.andi x v reducesTo_S1x1024x3072_S_d0_1_2 h_S_) main_v7 main_c_1
  let main_v9 : IVec S_ 1 := andi main_v4 main_v8
  main_v9
-- ==== Kernel.lean ====
abbrev S8x8192x1024 : Shape := ⟨3, ![8, 8192, 1024]⟩
abbrev S1x8x8192x256 : Shape := ⟨4, ![1, 8, 8192, 256]⟩
abbrev S1x1024 : Shape := ⟨2, ![1, 1024]⟩
abbrev S1x1024x7168 : Shape := ⟨3, ![1, 1024, 7168]⟩
abbrev S1x31x1024 : Shape := ⟨3, ![1, 31, 1024]⟩
abbrev S1x1024x1024 : Shape := ⟨3, ![1, 1024, 1024]⟩
abbrev S2x1024 : Shape := ⟨2, ![2, 1024]⟩
abbrev S1x2048x1024 : Shape := ⟨3, ![1, 2048, 1024]⟩
abbrev S1x256x1024 : Shape := ⟨3, ![1, 256, 1024]⟩
abbrev S1024 : Shape := ⟨1, ![1024]⟩
abbrev S8x8192x256 : Shape := ⟨3, ![8, 8192, 256]⟩
abbrev S1024x7168 : Shape := ⟨2, ![1024, 7168]⟩
abbrev S31x1024 : Shape := ⟨2, ![31, 1024]⟩
abbrev S1024x1024 : Shape := ⟨2, ![1024, 1024]⟩
abbrev S2048x1024 : Shape := ⟨2, ![2048, 1024]⟩
abbrev S256x1024 : Shape := ⟨2, ![256, 1024]⟩
abbrev S1x256x256 : Shape := ⟨3, ![1, 256, 256]⟩
abbrev S256x7168 : Shape := ⟨2, ![256, 7168]⟩
abbrev S288x1024 : Shape := ⟨2, ![288, 1024]⟩
abbrev S8x128x128 : Shape := ⟨3, ![8, 128, 128]⟩
abbrev S256x2048 : Shape := ⟨2, ![256, 2048]⟩
abbrev S32x1024 : Shape := ⟨2, ![32, 1024]⟩
abbrev S256 : Shape := ⟨1, ![256]⟩
abbrev S256x1 : Shape := ⟨2, ![256, 1]⟩
abbrev S288x128 : Shape := ⟨2, ![288, 128]⟩
abbrev S256x128 : Shape := ⟨2, ![256, 128]⟩
abbrev S1x128 : Shape := ⟨2, ![1, 128]⟩
abbrev S256x256 : Shape := ⟨2, ![256, 256]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 45
  | .vmem => 26
  | .smem => 0
  | _ => 0

abbrev bufTy : (tb : Table) → Fin (tcTables nBuf tb) → BufTy
  | .hbm, ⟨0, _⟩ => ⟨S8x8192x1024, .f32⟩
  | .hbm, ⟨1, _⟩ => ⟨S1x8x8192x256, .f32⟩
  | .hbm, ⟨2, _⟩ => ⟨S1x1024, .f32⟩
  | .hbm, ⟨3, _⟩ => ⟨S1x1024x7168, .f32⟩
  | .hbm, ⟨4, _⟩ => ⟨S1x31x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S1x1024, .f32⟩
  | .hbm, ⟨10, _⟩ => ⟨S2x1024, .f32⟩
  | .hbm, ⟨11, _⟩ => ⟨S1x1024, .f32⟩
  | .hbm, ⟨12, _⟩ => ⟨S1x2048x1024, .f32⟩
  | .hbm, ⟨13, _⟩ => ⟨S1x1024, .f32⟩
  | .hbm, ⟨14, _⟩ => ⟨S1x1024x1024, .f32⟩
  | .hbm, ⟨15, _⟩ => ⟨S1x256x1024, .f32⟩
  | .hbm, ⟨16, _⟩ => ⟨S1024, .f32⟩
  | .hbm, ⟨17, _⟩ => ⟨S8x8192x256, .f32⟩
  | .hbm, ⟨18, _⟩ => ⟨S1024, .f32⟩
  | .hbm, ⟨19, _⟩ => ⟨S1x1024, .f32⟩
  | .hbm, ⟨20, _⟩ => ⟨S1024x7168, .f32⟩
  | .hbm, ⟨21, _⟩ => ⟨S1024x7168, .bf16⟩
  | .hbm, ⟨22, _⟩ => ⟨S31x1024, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1024x1024, .f32⟩
  | .hbm, ⟨30, _⟩ => ⟨S1024x1024, .bf16⟩
  | .hbm, ⟨31, _⟩ => ⟨S1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .bf16⟩
  | .hbm, ⟨37, _⟩ => ⟨S1024, .f32⟩
  | .hbm, ⟨38, _⟩ => ⟨S1x1024, .f32⟩
  | .hbm, ⟨39, _⟩ => ⟨S1024x1024, .f32⟩
  | .hbm, ⟨40, _⟩ => ⟨S1024x1024, .bf16⟩
  | .hbm, ⟨41, _⟩ => ⟨S256x1024, .f32⟩
  | .hbm, ⟨42, _⟩ => ⟨S256x1024, .bf16⟩
  | .hbm, ⟨43, _⟩ => ⟨S1x1024, .f32⟩
  | .hbm, ⟨44, _⟩ => ⟨S8x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .f32⟩
  | .local _ .vmem, ⟨3, _⟩ => ⟨S1x256x256, .f32⟩
  | .local _ .vmem, ⟨4, _⟩ => ⟨S1x1024, .f32⟩
  | .local _ .vmem, ⟨5, _⟩ => ⟨S1024x7168, .bf16⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S2x1024, .f32⟩
  | .local _ .vmem, ⟨13, _⟩ => ⟨S1x1024, .f32⟩
  | .local _ .vmem, ⟨14, _⟩ => ⟨S2048x1024, .bf16⟩
  | .local _ .vmem, ⟨15, _⟩ => ⟨S1x1024, .f32⟩
  | .local _ .vmem, ⟨16, _⟩ => ⟨S1024x1024, .bf16⟩
  | .local _ .vmem, ⟨17, _⟩ => ⟨S256x1024, .bf16⟩
  | .local _ .vmem, ⟨18, _⟩ => ⟨S1x1024, .f32⟩
  | .local _ .vmem, ⟨19, _⟩ => ⟨S1x256x1024, .f32⟩
  | .local _ .vmem, ⟨20, _⟩ => ⟨S1x256x1024, .f32⟩
  | .local _ .vmem, ⟨21, _⟩ => ⟨S256x7168, .f32⟩
  | .local _ .vmem, ⟨22, _⟩ => ⟨S288x1024, .f32⟩
  | .local _ .vmem, ⟨23, _⟩ => ⟨S8x128x128, .f32⟩
  | .local _ .vmem, ⟨24, _⟩ => ⟨S256x2048, .bf16⟩
  | .local _ .vmem, ⟨25, _⟩ => ⟨S256x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S8x8192x1024 : Shape := ⟨3, ![8, 8192, 1024]⟩
abbrev S1x8x8192x256 : Shape := ⟨4, ![1, 8, 8192, 256]⟩
abbrev S1x1024 : Shape := ⟨2, ![1, 1024]⟩
abbrev S1x1024x7168 : Shape := ⟨3, ![1, 1024, 7168]⟩
abbrev S1x31x1024 : Shape := ⟨3, ![1, 31, 1024]⟩
abbrev S1x1024x1024 : Shape := ⟨3, ![1, 1024, 1024]⟩
abbrev S2x1024 : Shape := ⟨2, ![2, 1024]⟩
abbrev S1x2048x1024 : Shape := ⟨3, ![1, 2048, 1024]⟩
abbrev S1x256x1024 : Shape := ⟨3, ![1, 256, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x7168 : Shape := ⟨2, ![1024, 7168]⟩
abbrev S8x8192x7168 : Shape := ⟨3, ![8, 8192, 7168]⟩
abbrev S8x8222x1024 : Shape := ⟨3, ![8, 8222, 1024]⟩
abbrev S8x8192x8x128 : Shape := ⟨4, ![8, 8192, 8, 128]⟩
abbrev S8x8192x8 : Shape := ⟨3, ![8, 8192, 8]⟩
abbrev S8x8192x8x1 : Shape := ⟨4, ![8, 8192, 8, 1]⟩
abbrev S1024x1024 : Shape := ⟨2, ![1024, 1024]⟩
abbrev S8x8x8192x128 : Shape := ⟨4, ![8, 8, 8192, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x1x8192x8192x1 : Shape := ⟨5, ![1, 1, 8192, 8192, 1]⟩
abbrev S8x8x8192x1x128 : Shape := ⟨5, ![8, 8, 8192, 1, 128]⟩
abbrev S8x8x1x8192x128 : Shape := ⟨5, ![8, 8, 1, 8192, 128]⟩
abbrev S8x8x8192x8192x128 : Shape := ⟨5, ![8, 8, 8192, 8192, 128]⟩
abbrev S8x8x8192x8192 : Shape := ⟨4, ![8, 8, 8192, 8192]⟩
abbrev S8x128 : Shape := ⟨2, ![8, 128]⟩
abbrev S1x1x8x128 : Shape := ⟨4, ![1, 1, 8, 128]⟩
abbrev S8x8192x2048 : Shape := ⟨3, ![8, 8192, 2048]⟩
abbrev S2048x1024 : Shape := ⟨2, ![2048, 1024]⟩
abbrev S8x8192x256 : Shape := ⟨3, ![8, 8192, 256]⟩
abbrev S256x1024 : Shape := ⟨2, ![256, 1024]⟩

abbrev nBuf : Space → Nat
  | .hbm => 511
  | .vmem => 0
  | .smem => 0
  | _ => 0

abbrev hbmTy0_0 (i : Nat) : BufTy := match i % 128 with
  | 0 => ⟨S8x8192x1024, .f32⟩
  | 1 => ⟨S1x8x8192x256, .f32⟩
  | 2 => ⟨S1x1024, .f32⟩
  | 3 => ⟨S1x1024x7168, .f32⟩
  | 4 => ⟨S1x31x1024, .f32⟩
  | 5 => ⟨S1x1024, .f32⟩
  | 6 => ⟨S1x1024, .f32⟩
  | 7 => ⟨S1x1024, .f32⟩
  | 8 => ⟨S1x1024x1024, .f32⟩
  | 9 => ⟨S1x1024, .f32⟩
  | 10 => ⟨S2x1024, .f32⟩
  | 11 => ⟨S1x1024, .f32⟩
  | 12 => ⟨S1x2048x1024, .f32⟩
  | 13 => ⟨S1x1024, .f32⟩
  | 14 => ⟨S1x1024x1024, .f32⟩
  | 15 => ⟨S1x256x1024, .f32⟩
  | 16 => ⟨S1024, .f32⟩
  | 17 => ⟨S_, .f32⟩
  | 18 => ⟨S1024, .f32⟩
  | 19 => ⟨S_, .f32⟩
  | 20 => ⟨S1024, .f32⟩
  | 21 => ⟨S1024, .f32⟩
  | 22 => ⟨S1x1024, .f32⟩
  | 23 => ⟨S2x1024, .f32⟩
  | 24 => ⟨S2x1024, .f32⟩
  | 25 => ⟨S2x1024, .f32⟩
  | 26 => ⟨S_, .f32⟩
  | 27 => ⟨S1024, .f32⟩
  | 28 => ⟨S1x1024, .f32⟩
  | 29 => ⟨S2x1024, .f32⟩
  | 30 => ⟨S2x1024, .f32⟩
  | 31 => ⟨S_, .f32⟩
  | 32 => ⟨S_, .f32⟩
  | 33 => ⟨S2x1024, .f32⟩
  | 34 => ⟨S1024, .f32⟩
  | 35 => ⟨S8x8192x1024, .f32⟩
  | 36 => ⟨S_, .f32⟩
  | 37 => ⟨S8x8192, .f32⟩
  | 38 => ⟨S8x8192x1, .f32⟩
  | 39 => ⟨S_, .f32⟩
  | 40 => ⟨S8x8192x1, .f32⟩
  | 41 => ⟨S8x8192x1, .f32⟩
  | 42 => ⟨S_, .f32⟩
  | 43 => ⟨S8x8192x1, .f32⟩
  | 44 => ⟨S8x8192x1, .f32⟩
  | 45 => ⟨S8x8192x1, .f32⟩
  | 46 => ⟨S8x8192x1024, .f32⟩
  | 47 => ⟨S8x8192x1024, .f32⟩
  | 48 => ⟨S1x1x1024, .f32⟩
  | 49 => ⟨S8x8192x1024, .f32⟩
  | 50 => ⟨S8x8192x1024, .f32⟩
  | 51 => ⟨S1024x7168, .f32⟩
  | 52 => ⟨S8x8192x7168, .f32⟩
  | 53 => ⟨S8x8192x1024, .f32⟩
  | 54 => ⟨S8x8192x1024, .f32⟩
  | 55 => ⟨S8x8192x1024, .f32⟩
  | 56 => ⟨S8x8192x1024, .f32⟩
  | 57 => ⟨S8x8192x1024, .f32⟩
  | 58 => ⟨S8x8192x1024, .f32⟩
  | 59 => ⟨S8x8192x1024, .f32⟩
  | 60 => ⟨S8x8192x1024, .f32⟩
  | 61 => ⟨S8x8192x1024, .f32⟩
  | 62 => ⟨S_, .f32⟩
  | 63 => ⟨S8x8192x1024, .f32⟩
  | 64 => ⟨S8x8192x1024, .f32⟩
  | 65 => ⟨S_, .f32⟩
  | 66 => ⟨S8x8192x1024, .f32⟩
  | 67 => ⟨S8x8192x1024, .f32⟩
  | 68 => ⟨S8x8192x1024, .f32⟩
  | 69 => ⟨S_, .i32⟩
  | 70 => ⟨S_, .f32⟩
  | 71 => ⟨S8x8222x1024, .f32⟩
  | 72 => ⟨S1024, .f32⟩
  | 73 => ⟨S1x1x1024, .f32⟩
  | 74 => ⟨S1024, .f32⟩
  | 75 => ⟨S8x8192x1024, .f32⟩
  | 76 => ⟨S1x1x1024, .f32⟩
  | 77 => ⟨S8x8192x1024, .f32⟩
  | 78 => ⟨S8x8192x1024, .f32⟩
  | 79 => ⟨S1x1x1024, .f32⟩
  | 80 => ⟨S8x8192x1024, .f32⟩
  | 81 => ⟨S8x8192x1024, .f32⟩
  | 82 => ⟨S1x1x1024, .f32⟩
  | 83 => ⟨S1024, .f32⟩
  | 84 => ⟨S8x8192x1024, .f32⟩
  | 85 => ⟨S1x1x1024, .f32⟩
  | 86 => ⟨S8x8192x1024, .f32⟩
  | 87 => ⟨S8x8192x1024, .f32⟩
  | 88 => ⟨S8x8192x1024, .f32⟩
  | 89 => ⟨S1x1x1024, .f32⟩
  | 90 => ⟨S1024, .f32⟩
  | 91 => ⟨S8x8192x1024, .f32⟩
  | 92 => ⟨S1x1x1024, .f32⟩
  | 93 => ⟨S8x8192x1024, .f32⟩
  | 94 => ⟨S8x8192x1024, .f32⟩
  | 95 => ⟨S8x8192x1024, .f32⟩
  | 96 => ⟨S1x1x1024, .f32⟩
  | 97 => ⟨S1024, .f32⟩
  | 98 => ⟨S8x8192x1024, .f32⟩
  | 99 => ⟨S1x1x1024, .f32⟩
  | 100 => ⟨S8x8192x1024, .f32⟩
  | 101 => ⟨S8x8192x1024, .f32⟩
  | 102 => ⟨S8x8192x1024, .f32⟩
  | 103 => ⟨S1x1x1024, .f32⟩
  | 104 => ⟨S1024, .f32⟩
  | 105 => ⟨S8x8192x1024, .f32⟩
  | 106 => ⟨S1x1x1024, .f32⟩
  | 107 => ⟨S8x8192x1024, .f32⟩
  | 108 => ⟨S8x8192x1024, .f32⟩
  | 109 => ⟨S8x8192x1024, .f32⟩
  | 110 => ⟨S1x1x1024, .f32⟩
  | 111 => ⟨S1024, .f32⟩
  | 112 => ⟨S8x8192x1024, .f32⟩
  | 113 => ⟨S1x1x1024, .f32⟩
  | 114 => ⟨S8x8192x1024, .f32⟩
  | 115 => ⟨S8x8192x1024, .f32⟩
  | 116 => ⟨S8x8192x1024, .f32⟩
  | 117 => ⟨S1x1x1024, .f32⟩
  | 118 => ⟨S1024, .f32⟩
  | 119 => ⟨S8x8192x1024, .f32⟩
  | 120 => ⟨S1x1x1024, .f32⟩
  | 121 => ⟨S8x8192x1024, .f32⟩
  | 122 => ⟨S8x8192x1024, .f32⟩
  | 123 => ⟨S8x8192x1024, .f32⟩
  | 124 => ⟨S1x1x1024, .f32⟩
  | 125 => ⟨S1024, .f32⟩
  | 126 => ⟨S8x8192x1024, .f32⟩
  | 127 => ⟨S1x1x1024, .f32⟩
  | _ => ⟨S8x8192x1024, .f32⟩

abbrev hbmTy0_1 (i : Nat) : BufTy := match i % 128 with
  | 0 => ⟨S8x8192x1024, .f32⟩
  | 1 => ⟨S8x8192x1024, .f32⟩
  | 2 => ⟨S8x8192x1024, .f32⟩
  | 3 => ⟨S1x1x1024, .f32⟩
  | 4 => ⟨S1024, .f32⟩
  | 5 => ⟨S8x8192x1024, .f32⟩
  | 6 => ⟨S1x1x1024, .f32⟩
  | 7 => ⟨S8x8192x1024, .f32⟩
  | 8 => ⟨S8x8192x1024, .f32⟩
  | 9 => ⟨S8x8192x1024, .f32⟩
  | 10 => ⟨S1x1x1024, .f32⟩
  | 11 => ⟨S1024, .f32⟩
  | 12 => ⟨S8x8192x1024, .f32⟩
  | 13 => ⟨S1x1x1024, .f32⟩
  | 14 => ⟨S8x8192x1024, .f32⟩
  | 15 => ⟨S8x8192x1024, .f32⟩
  | 16 => ⟨S8x8192x1024, .f32⟩
  | 17 => ⟨S1x1x1024, .f32⟩
  | 18 => ⟨S1024, .f32⟩
  | 19 => ⟨S8x8192x1024, .f32⟩
  | 20 => ⟨S1x1x1024, .f32⟩
  | 21 => ⟨S8x8192x1024, .f32⟩
  | 22 => ⟨S8x8192x1024, .f32⟩
  | 23 => ⟨S8x8192x1024, .f32⟩
  | 24 => ⟨S1x1x1024, .f32⟩
  | 25 => ⟨S1024, .f32⟩
  | 26 => ⟨S8x8192x1024, .f32⟩
  | 27 => ⟨S1x1x1024, .f32⟩
  | 28 => ⟨S8x8192x1024, .f32⟩
  | 29 => ⟨S8x8192x1024, .f32⟩
  | 30 => ⟨S8x8192x1024, .f32⟩
  | 31 => ⟨S1x1x1024, .f32⟩
  | 32 => ⟨S1024, .f32⟩
  | 33 => ⟨S8x8192x1024, .f32⟩
  | 34 => ⟨S1x1x1024, .f32⟩
  | 35 => ⟨S8x8192x1024, .f32⟩
  | 36 => ⟨S8x8192x1024, .f32⟩
  | 37 => ⟨S8x8192x1024, .f32⟩
  | 38 => ⟨S1x1x1024, .f32⟩
  | 39 => ⟨S1024, .f32⟩
  | 40 => ⟨S8x8192x1024, .f32⟩
  | 41 => ⟨S1x1x1024, .f32⟩
  | 42 => ⟨S8x8192x1024, .f32⟩
  | 43 => ⟨S8x8192x1024, .f32⟩
  | 44 => ⟨S8x8192x1024, .f32⟩
  | 45 => ⟨S1x1x1024, .f32⟩
  | 46 => ⟨S1024, .f32⟩
  | 47 => ⟨S8x8192x1024, .f32⟩
  | 48 => ⟨S1x1x1024, .f32⟩
  | 49 => ⟨S8x8192x1024, .f32⟩
  | 50 => ⟨S8x8192x1024, .f32⟩
  | 51 => ⟨S8x8192x1024, .f32⟩
  | 52 => ⟨S1x1x1024, .f32⟩
  | 53 => ⟨S1024, .f32⟩
  | 54 => ⟨S8x8192x1024, .f32⟩
  | 55 => ⟨S1x1x1024, .f32⟩
  | 56 => ⟨S8x8192x1024, .f32⟩
  | 57 => ⟨S8x8192x1024, .f32⟩
  | 58 => ⟨S8x8192x1024, .f32⟩
  | 59 => ⟨S1x1x1024, .f32⟩
  | 60 => ⟨S1024, .f32⟩
  | 61 => ⟨S8x8192x1024, .f32⟩
  | 62 => ⟨S1x1x1024, .f32⟩
  | 63 => ⟨S8x8192x1024, .f32⟩
  | 64 => ⟨S8x8192x1024, .f32⟩
  | 65 => ⟨S8x8192x1024, .f32⟩
  | 66 => ⟨S1x1x1024, .f32⟩
  | 67 => ⟨S1024, .f32⟩
  | 68 => ⟨S8x8192x1024, .f32⟩
  | 69 => ⟨S1x1x1024, .f32⟩
  | 70 => ⟨S8x8192x1024, .f32⟩
  | 71 => ⟨S8x8192x1024, .f32⟩
  | 72 => ⟨S8x8192x1024, .f32⟩
  | 73 => ⟨S1x1x1024, .f32⟩
  | 74 => ⟨S1024, .f32⟩
  | 75 => ⟨S8x8192x1024, .f32⟩
  | 76 => ⟨S1x1x1024, .f32⟩
  | 77 => ⟨S8x8192x1024, .f32⟩
  | 78 => ⟨S8x8192x1024, .f32⟩
  | 79 => ⟨S8x8192x1024, .f32⟩
  | 80 => ⟨S1x1x1024, .f32⟩
  | 81 => ⟨S1024, .f32⟩
  | 82 => ⟨S8x8192x1024, .f32⟩
  | 83 => ⟨S1x1x1024, .f32⟩
  | 84 => ⟨S8x8192x1024, .f32⟩
  | 85 => ⟨S8x8192x1024, .f32⟩
  | 86 => ⟨S8x8192x1024, .f32⟩
  | 87 => ⟨S1x1x1024, .f32⟩
  | 88 => ⟨S1024, .f32⟩
  | 89 => ⟨S8x8192x1024, .f32⟩
  | 90 => ⟨S1x1x1024, .f32⟩
  | 91 => ⟨S8x8192x1024, .f32⟩
  | 92 => ⟨S8x8192x1024, .f32⟩
  | 93 => ⟨S8x8192x1024, .f32⟩
  | 94 => ⟨S1x1x1024, .f32⟩
  | 95 => ⟨S1024, .f32⟩
  | 96 => ⟨S8x8192x1024, .f32⟩
  | 97 => ⟨S1x1x1024, .f32⟩
  | 98 => ⟨S8x8192x1024, .f32⟩
  | 99 => ⟨S8x8192x1024, .f32⟩
  | 100 => ⟨S8x8192x1024, .f32⟩
  | 101 => ⟨S1x1x1024, .f32⟩
  | 102 => ⟨S1024, .f32⟩
  | 103 => ⟨S8x8192x1024, .f32⟩
  | 104 => ⟨S1x1x1024, .f32⟩
  | 105 => ⟨S8x8192x1024, .f32⟩
  | 106 => ⟨S8x8192x1024, .f32⟩
  | 107 => ⟨S8x8192x1024, .f32⟩
  | 108 => ⟨S1x1x1024, .f32⟩
  | 109 => ⟨S1024, .f32⟩
  | 110 => ⟨S8x8192x1024, .f32⟩
  | 111 => ⟨S1x1x1024, .f32⟩
  | 112 => ⟨S8x8192x1024, .f32⟩
  | 113 => ⟨S8x8192x1024, .f32⟩
  | 114 => ⟨S8x8192x1024, .f32⟩
  | 115 => ⟨S1x1x1024, .f32⟩
  | 116 => ⟨S1024, .f32⟩
  | 117 => ⟨S8x8192x1024, .f32⟩
  | 118 => ⟨S1x1x1024, .f32⟩
  | 119 => ⟨S8x8192x1024, .f32⟩
  | 120 => ⟨S8x8192x1024, .f32⟩
  | 121 => ⟨S8x8192x1024, .f32⟩
  | 122 => ⟨S1x1x1024, .f32⟩
  | 123 => ⟨S1024, .f32⟩
  | 124 => ⟨S8x8192x1024, .f32⟩
  | 125 => ⟨S1x1x1024, .f32⟩
  | 126 => ⟨S8x8192x1024, .f32⟩
  | 127 => ⟨S8x8192x1024, .f32⟩
  | _ => ⟨S8x8192x1024, .f32⟩

abbrev hbmTy0_2 (i : Nat) : BufTy := match i % 128 with
  | 0 => ⟨S8x8192x1024, .f32⟩
  | 1 => ⟨S1x1x1024, .f32⟩
  | 2 => ⟨S1024, .f32⟩
  | 3 => ⟨S8x8192x1024, .f32⟩
  | 4 => ⟨S1x1x1024, .f32⟩
  | 5 => ⟨S8x8192x1024, .f32⟩
  | 6 => ⟨S8x8192x1024, .f32⟩
  | 7 => ⟨S8x8192x1024, .f32⟩
  | 8 => ⟨S1x1x1024, .f32⟩
  | 9 => ⟨S1024, .f32⟩
  | 10 => ⟨S8x8192x1024, .f32⟩
  | 11 => ⟨S1x1x1024, .f32⟩
  | 12 => ⟨S8x8192x1024, .f32⟩
  | 13 => ⟨S8x8192x1024, .f32⟩
  | 14 => ⟨S8x8192x1024, .f32⟩
  | 15 => ⟨S1x1x1024, .f32⟩
  | 16 => ⟨S1024, .f32⟩
  | 17 => ⟨S8x8192x1024, .f32⟩
  | 18 => ⟨S1x1x1024, .f32⟩
  | 19 => ⟨S8x8192x1024, .f32⟩
  | 20 => ⟨S8x8192x1024, .f32⟩
  | 21 => ⟨S8x8192x1024, .f32⟩
  | 22 => ⟨S1x1x1024, .f32⟩
  | 23 => ⟨S1024, .f32⟩
  | 24 => ⟨S8x8192x1024, .f32⟩
  | 25 => ⟨S1x1x1024, .f32⟩
  | 26 => ⟨S8x8192x1024, .f32⟩
  | 27 => ⟨S8x8192x1024, .f32⟩
  | 28 => ⟨S8x8192x1024, .f32⟩
  | 29 => ⟨S1x1x1024, .f32⟩
  | 30 => ⟨S1024, .f32⟩
  | 31 => ⟨S8x8192x1024, .f32⟩
  | 32 => ⟨S1x1x1024, .f32⟩
  | 33 => ⟨S8x8192x1024, .f32⟩
  | 34 => ⟨S8x8192x1024, .f32⟩
  | 35 => ⟨S8x8192x1024, .f32⟩
  | 36 => ⟨S8x8192x8x128, .f32⟩
  | 37 => ⟨S_, .f32⟩
  | 38 => ⟨S8x8192x8, .f32⟩
  | 39 => ⟨S8x8192x8x1, .f32⟩
  | 40 => ⟨S_, .f32⟩
  | 41 => ⟨S8x8192x8x1, .f32⟩
  | 42 => ⟨S8x8192x8x1, .f32⟩
  | 43 => ⟨S8x8192x8x128, .f32⟩
  | 44 => ⟨S8x8192x8x128, .f32⟩
  | 45 => ⟨S8x8192x8x128, .f32⟩
  | 46 => ⟨S_, .f32⟩
  | 47 => ⟨S8x8192x8, .f32⟩
  | 48 => ⟨S8x8192x8x1, .f32⟩
  | 49 => ⟨S_, .f32⟩
  | 50 => ⟨S8x8192x8x1, .f32⟩
  | 51 => ⟨S8x8192x8x1, .f32⟩
  | 52 => ⟨S8x8192x8x128, .f32⟩
  | 53 => ⟨S8x8192x8x128, .f32⟩
  | 54 => ⟨S_, .f32⟩
  | 55 => ⟨S8x8192x8x1, .f32⟩
  | 56 => ⟨S8x8192x8x1, .f32⟩
  | 57 => ⟨S8x8192x8x1, .f32⟩
  | 58 => ⟨S8x8192x8x128, .f32⟩
  | 59 => ⟨S8x8192x8x128, .f32⟩
  | 60 => ⟨S8x8192x1024, .f32⟩
  | 61 => ⟨S1024, .f32⟩
  | 62 => ⟨S1x1x1024, .f32⟩
  | 63 => ⟨S8x8192x1024, .f32⟩
  | 64 => ⟨S8x8192x1024, .f32⟩
  | 65 => ⟨S1024, .f32⟩
  | 66 => ⟨S1x1x1024, .f32⟩
  | 67 => ⟨S8x8192x1024, .f32⟩
  | 68 => ⟨S8x8192x1024, .f32⟩
  | 69 => ⟨S8x8192x1024, .f32⟩
  | 70 => ⟨S8x8192x1024, .f32⟩
  | 71 => ⟨S_, .f32⟩
  | 72 => ⟨S8x8192x1024, .f32⟩
  | 73 => ⟨S8x8192x1024, .f32⟩
  | 74 => ⟨S_, .f32⟩
  | 75 => ⟨S8x8192x1024, .f32⟩
  | 76 => ⟨S8x8192x1024, .f32⟩
  | 77 => ⟨S8x8192x1024, .f32⟩
  | 78 => ⟨S1024x1024, .f32⟩
  | 79 => ⟨S8x8192x1024, .f32⟩
  | 80 => ⟨S1024, .f32⟩
  | 81 => ⟨S1x1x1024, .f32⟩
  | 82 => ⟨S8x8192x1024, .f32⟩
  | 83 => ⟨S8x8192x1024, .f32⟩
  | 84 => ⟨S8x8192x1024, .f32⟩
  | 85 => ⟨S8x8192x1024, .f32⟩
  | 86 => ⟨S_, .f32⟩
  | 87 => ⟨S8x8192x1024, .f32⟩
  | 88 => ⟨S8x8192x1024, .f32⟩
  | 89 => ⟨S_, .f32⟩
  | 90 => ⟨S8x8192x1024, .f32⟩
  | 91 => ⟨S8x8192x1024, .f32⟩
  | 92 => ⟨S8x8192x1024, .f32⟩
  | 93 => ⟨S8x8192x1024, .f32⟩
  | 94 => ⟨S1x1024, .f32⟩
  | 95 => ⟨S1024, .f32⟩
  | 96 => ⟨S_, .f32⟩
  | 97 => ⟨S1024, .f32⟩
  | 98 => ⟨S1024, .f32⟩
  | 99 => ⟨S8x8192x1024, .f32⟩
  | 100 => ⟨S8x8192x1024, .f32⟩
  | 101 => ⟨S_, .f32⟩
  | 102 => ⟨S8x8192x1024, .f32⟩
  | 103 => ⟨S8x8192x1024, .f32⟩
  | 104 => ⟨S_, .f32⟩
  | 105 => ⟨S8x8192x1024, .f32⟩
  | 106 => ⟨S8x8192x1024, .f32⟩
  | 107 => ⟨S1x1x1024, .f32⟩
  | 108 => ⟨S8x8192x1024, .f32⟩
  | 109 => ⟨S8x8192x1024, .f32⟩
  | 110 => ⟨S1x1x1024, .f32⟩
  | 111 => ⟨S8x8192x1024, .f32⟩
  | 112 => ⟨S8x8192x1024, .f32⟩
  | 113 => ⟨S_, .f32⟩
  | 114 => ⟨S1024, .f32⟩
  | 115 => ⟨S1024, .f32⟩
  | 116 => ⟨S8x8192x1024, .f32⟩
  | 117 => ⟨S8x8192x1024, .f32⟩
  | 118 => ⟨S8x8192x1024, .f32⟩
  | 119 => ⟨S_, .f32⟩
  | 120 => ⟨S8x8192x1024, .f32⟩
  | 121 => ⟨S8x8192x1024, .f32⟩
  | 122 => ⟨S_, .f32⟩
  | 123 => ⟨S8x8192x1024, .f32⟩
  | 124 => ⟨S8x8192x1024, .f32⟩
  | 125 => ⟨S1x1x1024, .f32⟩
  | 126 => ⟨S8x8192x1024, .f32⟩
  | 127 => ⟨S8x8192x1024, .f32⟩
  | _ => ⟨S8x8192x1024, .f32⟩

abbrev hbmTy0_3 (i : Nat) : BufTy := match i % 128 with
  | 0 => ⟨S8x8192x1024, .f32⟩
  | 1 => ⟨S8x8192x1024, .f32⟩
  | 2 => ⟨S_, .f32⟩
  | 3 => ⟨S8x8192x1024, .f32⟩
  | 4 => ⟨S8x8192x1024, .f32⟩
  | 5 => ⟨S_, .f32⟩
  | 6 => ⟨S8x8192x1024, .f32⟩
  | 7 => ⟨S8x8192x1024, .f32⟩
  | 8 => ⟨S8x8192x1024, .f32⟩
  | 9 => ⟨S8x8192x8x128, .f32⟩
  | 10 => ⟨S8x8x8192x128, .f32⟩
  | 11 => ⟨S8x8192x8x128, .f32⟩
  | 12 => ⟨S8x8x8192x128, .f32⟩
  | 13 => ⟨S8x8192x8x128, .f32⟩
  | 14 => ⟨S8x8x8192x128, .f32⟩
  | 15 => ⟨S8x8192x1024, .f32⟩
  | 16 => ⟨S8x8192x8x128, .f32⟩
  | 17 => ⟨S8x8x8192x128, .f32⟩
  | 18 => ⟨S_, .f32⟩
  | 19 => ⟨S_, .f32⟩
  | 20 => ⟨S8x8x8192x128, .f32⟩
  | 21 => ⟨S8192, .i32⟩
  | 22 => ⟨S8192x1, .i32⟩
  | 23 => ⟨S1x8192, .i32⟩
  | 24 => ⟨S8192x8192, .i32⟩
  | 25 => ⟨S8192x8192, .i32⟩
  | 26 => ⟨S8192x8192, .i1⟩
  | 27 => ⟨S1x1x8192x8192x1, .i1⟩
  | 28 => ⟨S8x8x8192x1x128, .f32⟩
  | 29 => ⟨S8x8x1x8192x128, .f32⟩
  | 30 => ⟨S8x8x8192x8192x128, .f32⟩
  | 31 => ⟨S8x8x8192x8192x128, .f32⟩
  | 32 => ⟨S8x8x8192x8192x128, .f32⟩
  | 33 => ⟨S_, .f32⟩
  | 34 => ⟨S_, .f32⟩
  | 35 => ⟨S8x8x8192x8192x128, .i1⟩
  | 36 => ⟨S8x8x8192x8192x128, .f32⟩
  | 37 => ⟨S8x8x8192x8192x128, .f32⟩
  | 38 => ⟨S8x8x8192x8192x128, .f32⟩
  | 39 => ⟨S8x8x8192x1x128, .f32⟩
  | 40 => ⟨S8x8x8192x8192x128, .f32⟩
  | 41 => ⟨S8x8x8192x8192x128, .f32⟩
  | 42 => ⟨S8x8x8192x8192, .f32⟩
  | 43 => ⟨S8x8x8192x8192, .f32⟩
  | 44 => ⟨S8x8x8192x128, .f32⟩
  | 45 => ⟨S8x8192x8x128, .f32⟩
  | 46 => ⟨S1024, .f32⟩
  | 47 => ⟨S8x128, .f32⟩
  | 48 => ⟨S8x8192x8x128, .f32⟩
  | 49 => ⟨S_, .f32⟩
  | 50 => ⟨S8x8192x8, .f32⟩
  | 51 => ⟨S8x8192x8x1, .f32⟩
  | 52 => ⟨S_, .f32⟩
  | 53 => ⟨S8x8192x8x1, .f32⟩
  | 54 => ⟨S8x8192x8x1, .f32⟩
  | 55 => ⟨S_, .f32⟩
  | 56 => ⟨S8x8192x8x1, .f32⟩
  | 57 => ⟨S8x8192x8x1, .f32⟩
  | 58 => ⟨S8x8192x8x1, .f32⟩
  | 59 => ⟨S8x8192x8x128, .f32⟩
  | 60 => ⟨S8x8192x8x128, .f32⟩
  | 61 => ⟨S1x1x8x128, .f32⟩
  | 62 => ⟨S8x8192x8x128, .f32⟩
  | 63 => ⟨S8x8192x8x128, .f32⟩
  | 64 => ⟨S8x8192x1024, .f32⟩
  | 65 => ⟨S8x8192x1024, .f32⟩
  | 66 => ⟨S8x8192x1024, .f32⟩
  | 67 => ⟨S_, .f32⟩
  | 68 => ⟨S8x8192x1024, .f32⟩
  | 69 => ⟨S8x8192x1024, .f32⟩
  | 70 => ⟨S_, .f32⟩
  | 71 => ⟨S8x8192x1024, .f32⟩
  | 72 => ⟨S8x8192x1024, .f32⟩
  | 73 => ⟨S8x8192x1024, .f32⟩
  | 74 => ⟨S8x8192x1024, .f32⟩
  | 75 => ⟨S8x8192x2048, .f32⟩
  | 76 => ⟨S2048x1024, .f32⟩
  | 77 => ⟨S8x8192x1024, .f32⟩
  | 78 => ⟨S8x8192x1024, .f32⟩
  | 79 => ⟨S1024, .f32⟩
  | 80 => ⟨S8x8192x1024, .f32⟩
  | 81 => ⟨S_, .f32⟩
  | 82 => ⟨S8x8192, .f32⟩
  | 83 => ⟨S8x8192x1, .f32⟩
  | 84 => ⟨S_, .f32⟩
  | 85 => ⟨S8x8192x1, .f32⟩
  | 86 => ⟨S8x8192x1, .f32⟩
  | 87 => ⟨S_, .f32⟩
  | 88 => ⟨S8x8192x1, .f32⟩
  | 89 => ⟨S8x8192x1, .f32⟩
  | 90 => ⟨S8x8192x1, .f32⟩
  | 91 => ⟨S8x8192x1024, .f32⟩
  | 92 => ⟨S8x8192x1024, .f32⟩
  | 93 => ⟨S1x1x1024, .f32⟩
  | 94 => ⟨S8x8192x1024, .f32⟩
  | 95 => ⟨S8x8192x1024, .f32⟩
  | 96 => ⟨S1024x1024, .f32⟩
  | 97 => ⟨S8x8192x1024, .f32⟩
  | 98 => ⟨S8x8192x1024, .f32⟩
  | 99 => ⟨S8x8192x1024, .f32⟩
  | 100 => ⟨S_, .f32⟩
  | 101 => ⟨S8x8192x1024, .f32⟩
  | 102 => ⟨S8x8192x1024, .f32⟩
  | 103 => ⟨S_, .f32⟩
  | 104 => ⟨S8x8192x1024, .f32⟩
  | 105 => ⟨S8x8192x1024, .f32⟩
  | 106 => ⟨S8x8192x256, .f32⟩
  | 107 => ⟨S256x1024, .f32⟩
  | 108 => ⟨S8x8192x1024, .f32⟩
  | 109 => ⟨S8x8192x1024, .f32⟩
  | 110 => ⟨S8x8192x1024, .f32⟩
  | 111 => ⟨S8x8192x1024, .f32⟩
  | 112 => ⟨S_, .f32⟩
  | 113 => ⟨S8x8192, .f32⟩
  | 114 => ⟨S8x8192x1, .f32⟩
  | 115 => ⟨S_, .f32⟩
  | 116 => ⟨S8x8192x1, .f32⟩
  | 117 => ⟨S8x8192x1, .f32⟩
  | 118 => ⟨S_, .f32⟩
  | 119 => ⟨S8x8192x1, .f32⟩
  | 120 => ⟨S8x8192x1, .f32⟩
  | 121 => ⟨S8x8192x1, .f32⟩
  | 122 => ⟨S8x8192x1024, .f32⟩
  | 123 => ⟨S8x8192x1024, .f32⟩
  | 124 => ⟨S1x1x1024, .f32⟩
  | 125 => ⟨S8x8192x1024, .f32⟩
  | 126 => ⟨S8x8192x1024, .f32⟩
  | _ => ⟨S8x8192x1024, .f32⟩

abbrev hbmTy (i : Nat) : BufTy := match i / 128 with
  | 0 => hbmTy0_0 i
  | 1 => hbmTy0_1 i
  | 2 => hbmTy0_2 i
  | 3 => hbmTy0_3 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call0_call0_cst : Ref sig .tc := ⟨.hbm, 31, rfl⟩
abbrev main_call0_call0_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_cst_3 : Ref sig .tc := ⟨.hbm, 39, rfl⟩
abbrev main_v16 : Ref sig .tc := ⟨.hbm, 40, rfl⟩
abbrev main_v17 : Ref sig .tc := ⟨.hbm, 41, rfl⟩
abbrev main_cst_4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c : Ref sig .tc := ⟨.hbm, 69, rfl⟩
abbrev main_call1_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_cst_7 : Ref sig .tc := ⟨.hbm, 293, rfl⟩
abbrev main_v264 : Ref sig .tc := ⟨.hbm, 294, rfl⟩
abbrev main_v265 : Ref sig .tc := ⟨.hbm, 295, rfl⟩
abbrev main_cst_8 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_cst_9 : Ref sig .tc := ⟨.hbm, 302, rfl⟩
abbrev main_v271 : Ref sig .tc := ⟨.hbm, 303, rfl⟩
abbrev main_v272 : Ref sig .tc := ⟨.hbm, 304, rfl⟩
abbrev main_cst_10 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_cst_11 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_v292 : Ref sig .tc := ⟨.hbm, 326, rfl⟩
abbrev main_cst_12 : Ref sig .tc := ⟨.hbm, 327, rfl⟩
abbrev main_v293 : Ref sig .tc := ⟨.hbm, 328, rfl⟩
abbrev main_v294 : Ref sig .tc := ⟨.hbm, 329, rfl⟩
abbrev main_cst_13 : Ref sig .tc := ⟨.hbm, 330, rfl⟩
abbrev main_v295 : Ref sig .tc := ⟨.hbm, 331, rfl⟩
abbrev main_v296 : Ref sig .tc := ⟨.hbm, 332, rfl⟩
abbrev main_v297 : Ref sig .tc := ⟨.hbm, 333, rfl⟩
abbrev main_v298 : Ref sig .tc := ⟨.hbm, 334, rfl⟩
abbrev main_v299 : Ref sig .tc := ⟨.hbm, 335, rfl⟩
abbrev main_v300 : Ref sig .tc := ⟨.hbm, 336, rfl⟩
abbrev main_v301 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_cst_14 : Ref sig .tc := ⟨.hbm, 342, rfl⟩
abbrev main_v306 : Ref sig .tc := ⟨.hbm, 343, rfl⟩
abbrev main_v307 : Ref sig .tc := ⟨.hbm, 344, rfl⟩
abbrev main_cst_15 : Ref sig .tc := ⟨.hbm, 345, rfl⟩
abbrev main_v308 : Ref sig .tc := ⟨.hbm, 346, rfl⟩
abbrev main_v309 : Ref sig .tc := ⟨.hbm, 347, rfl⟩
abbrev main_v310 : Ref sig .tc := ⟨.hbm, 348, rfl⟩
abbrev main_v311 : Ref sig .tc := ⟨.hbm, 349, rfl⟩
abbrev main_v312 : Ref sig .tc := ⟨.hbm, 350, rfl⟩
abbrev main_v313 : Ref sig .tc := ⟨.hbm, 351, rfl⟩
abbrev main_cst_16 : Ref sig .tc := ⟨.hbm, 352, rfl⟩
abbrev main_v314 : Ref sig .tc := ⟨.hbm, 353, rfl⟩
abbrev main_v315 : Ref sig .tc := ⟨.hbm, 354, rfl⟩
abbrev main_v316 : Ref sig .tc := ⟨.hbm, 355, rfl⟩
abbrev main_v317 : Ref sig .tc := ⟨.hbm, 356, rfl⟩
abbrev main_cst_17 : Ref sig .tc := ⟨.hbm, 357, rfl⟩
abbrev main_v318 : Ref sig .tc := ⟨.hbm, 358, rfl⟩
abbrev main_v319 : Ref sig .tc := ⟨.hbm, 359, rfl⟩
abbrev main_cst_18 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_cst_19 : Ref sig .tc := ⟨.hbm, 369, rfl⟩
abbrev main_v328 : Ref sig .tc := ⟨.hbm, 370, rfl⟩
abbrev main_v329 : Ref sig .tc := ⟨.hbm, 371, rfl⟩
abbrev main_v330 : Ref sig .tc := ⟨.hbm, 372, rfl⟩
abbrev main_v331 : Ref sig .tc := ⟨.hbm, 373, rfl⟩
abbrev main_v332 : Ref sig .tc := ⟨.hbm, 374, rfl⟩
abbrev main_cst_20 : Ref sig .tc := ⟨.hbm, 375, rfl⟩
abbrev main_v333 : Ref sig .tc := ⟨.hbm, 376, rfl⟩
abbrev main_v334 : Ref sig .tc := ⟨.hbm, 377, rfl⟩
abbrev main_cst_21 : Ref sig .tc := ⟨.hbm, 378, rfl⟩
abbrev main_v335 : Ref sig .tc := ⟨.hbm, 379, rfl⟩
abbrev main_v336 : Ref sig .tc := ⟨.hbm, 380, rfl⟩
abbrev main_v337 : Ref sig .tc := ⟨.hbm, 381, rfl⟩
abbrev main_v338 : Ref sig .tc := ⟨.hbm, 382, rfl⟩
abbrev main_v339 : Ref sig .tc := ⟨.hbm, 383, rfl⟩
abbrev main_v340 : Ref sig .tc := ⟨.hbm, 384, rfl⟩
abbrev main_v341 : Ref sig .tc := ⟨.hbm, 385, rfl⟩
abbrev main_cst_22 : Ref sig .tc := ⟨.hbm, 386, rfl⟩
abbrev main_v342 : Ref sig .tc := ⟨.hbm, 387, rfl⟩
abbrev main_v343 : Ref sig .tc := ⟨.hbm, 388, rfl⟩
abbrev main_cst_23 : Ref sig .tc := ⟨.hbm, 389, rfl⟩
abbrev main_v344 : Ref sig .tc := ⟨.hbm, 390, rfl⟩
abbrev main_v345 : Ref sig .tc := ⟨.hbm, 391, rfl⟩
abbrev main_v346 : Ref sig .tc := ⟨.hbm, 392, rfl⟩
abbrev main_v347 : Ref sig .tc := ⟨.hbm, 393, rfl⟩
abbrev main_v348 : Ref sig .tc := ⟨.hbm, 394, rfl⟩
abbrev main_v349 : Ref sig .tc := ⟨.hbm, 395, rfl⟩
abbrev main_v350 : Ref sig .tc := ⟨.hbm, 396, rfl⟩
abbrev main_v351 : Ref sig .tc := ⟨.hbm, 397, rfl⟩
abbrev main_v352 : Ref sig .tc := ⟨.hbm, 398, rfl⟩
abbrev main_v353 : Ref sig .tc := ⟨.hbm, 399, rfl⟩
abbrev main_v354 : Ref sig .tc := ⟨.hbm, 400, rfl⟩
abbrev main_v355 : Ref sig .tc := ⟨.hbm, 401, rfl⟩
abbrev main_call2_call0_cst : Ref sig .tc := ⟨.hbm, 402, rfl⟩
abbrev main_call2_call0_v0 : Ref sig .tc := ⟨.hbm, 403, rfl⟩
abbrev main_v356 : Ref sig .tc := ⟨.hbm, 404, rfl⟩
abbrev main_v357 : Ref sig .tc := ⟨.hbm, 405, rfl⟩
abbrev main_v358 : Ref sig .tc := ⟨.hbm, 406, rfl⟩
abbrev main_v359 : Ref sig .tc := ⟨.hbm, 407, rfl⟩
abbrev main_v360 : Ref sig .tc := ⟨.hbm, 408, rfl⟩
abbrev main_v361 : Ref sig .tc := ⟨.hbm, 409, rfl⟩
abbrev main_v362 : Ref sig .tc := ⟨.hbm, 410, rfl⟩
abbrev main_v363 : Ref sig .tc := ⟨.hbm, 411, rfl⟩
abbrev main_v364 : Ref sig .tc := ⟨.hbm, 412, rfl⟩
abbrev main_v365 : Ref sig .tc := ⟨.hbm, 413, rfl⟩
abbrev main_v366 : Ref sig .tc := ⟨.hbm, 414, rfl⟩
abbrev main_v367 : Ref sig .tc := ⟨.hbm, 415, rfl⟩
abbrev main_v368 : Ref sig .tc := ⟨.hbm, 416, rfl⟩
abbrev main_cst_24 : Ref sig .tc := ⟨.hbm, 417, rfl⟩
abbrev main_call3_v0 : Ref sig .tc := ⟨.hbm, 418, rfl⟩
abbrev main_call3_v1 : Ref sig .tc := ⟨.hbm, 419, rfl⟩
abbrev main_call3_v2 : Ref sig .tc := ⟨.hbm, 420, rfl⟩
abbrev main_v369 : Ref sig .tc := ⟨.hbm, 421, rfl⟩
abbrev main_v370 : Ref sig .tc := ⟨.hbm, 422, rfl⟩
abbrev main_v371 : Ref sig .tc := ⟨.hbm, 423, rfl⟩
abbrev main_v372 : Ref sig .tc := ⟨.hbm, 424, rfl⟩
abbrev main_v373 : Ref sig .tc := ⟨.hbm, 425, rfl⟩
abbrev main_v374 : Ref sig .tc := ⟨.hbm, 426, rfl⟩
abbrev main_v375 : Ref sig .tc := ⟨.hbm, 427, rfl⟩
abbrev main_v376 : Ref sig .tc := ⟨.hbm, 428, rfl⟩
abbrev main_v377 : Ref sig .tc := ⟨.hbm, 429, rfl⟩
abbrev main_v378 : Ref sig .tc := ⟨.hbm, 430, rfl⟩
abbrev main_v379 : Ref sig .tc := ⟨.hbm, 431, rfl⟩
abbrev main_v380 : Ref sig .tc := ⟨.hbm, 432, rfl⟩
abbrev main_cst_25 : Ref sig .tc := ⟨.hbm, 433, rfl⟩
abbrev main_v381 : Ref sig .tc := ⟨.hbm, 434, rfl⟩
abbrev main_v382 : Ref sig .tc := ⟨.hbm, 435, rfl⟩
abbrev main_cst_26 : Ref sig .tc := ⟨.hbm, 436, rfl⟩
abbrev main_v383 : Ref sig .tc := ⟨.hbm, 437, rfl⟩
abbrev main_v384 : Ref sig .tc := ⟨.hbm, 438, rfl⟩
abbrev main_cst_27 : Ref sig .tc := ⟨.hbm, 439, rfl⟩
abbrev main_v385 : Ref sig .tc := ⟨.hbm, 440, rfl⟩
abbrev main_v386 : Ref sig .tc := ⟨.hbm, 441, rfl⟩
abbrev main_v387 : Ref sig .tc := ⟨.hbm, 442, rfl⟩
abbrev main_v388 : Ref sig .tc := ⟨.hbm, 443, rfl⟩
abbrev main_v389 : Ref sig .tc := ⟨.hbm, 444, rfl⟩
abbrev main_v390 : Ref sig .tc := ⟨.hbm, 445, rfl⟩
abbrev main_v391 : Ref sig .tc := ⟨.hbm, 446, rfl⟩
abbrev main_v392 : Ref sig .tc := ⟨.hbm, 447, rfl⟩
abbrev main_v393 : Ref sig .tc := ⟨.hbm, 448, rfl⟩
abbrev main_v394 : Ref sig .tc := ⟨.hbm, 449, rfl⟩
abbrev main_v395 : Ref sig .tc := ⟨.hbm, 450, rfl⟩
abbrev main_cst_28 : Ref sig .tc := ⟨.hbm, 451, rfl⟩
abbrev main_v396 : Ref sig .tc := ⟨.hbm, 452, rfl⟩
abbrev main_v397 : Ref sig .tc := ⟨.hbm, 453, rfl⟩
abbrev main_cst_29 : Ref sig .tc := ⟨.hbm, 454, rfl⟩
abbrev main_v398 : Ref sig .tc := ⟨.hbm, 455, rfl⟩
abbrev main_v399 : Ref sig .tc := ⟨.hbm, 456, rfl⟩
abbrev main_v400 : Ref sig .tc := ⟨.hbm, 457, rfl⟩
abbrev main_v401 : Ref sig .tc := ⟨.hbm, 458, rfl⟩
abbrev main_v402 : Ref sig .tc := ⟨.hbm, 459, rfl⟩
abbrev main_v403 : Ref sig .tc := ⟨.hbm, 460, rfl⟩
abbrev main_v404 : Ref sig .tc := ⟨.hbm, 461, rfl⟩
abbrev main_v405 : Ref sig .tc := ⟨.hbm, 462, rfl⟩
abbrev main_v406 : Ref sig .tc := ⟨.hbm, 463, rfl⟩
abbrev main_v407 : Ref sig .tc := ⟨.hbm, 464, rfl⟩
abbrev main_cst_30 : Ref sig .tc := ⟨.hbm, 465, rfl⟩
abbrev main_v408 : Ref sig .tc := ⟨.hbm, 466, rfl⟩
abbrev main_v409 : Ref sig .tc := ⟨.hbm, 467, rfl⟩
abbrev main_cst_31 : Ref sig .tc := ⟨.hbm, 468, rfl⟩
abbrev main_v410 : Ref sig .tc := ⟨.hbm, 469, rfl⟩
abbrev main_v411 : Ref sig .tc := ⟨.hbm, 470, rfl⟩
abbrev main_cst_32 : Ref sig .tc := ⟨.hbm, 471, rfl⟩
abbrev main_v412 : Ref sig .tc := ⟨.hbm, 472, rfl⟩
abbrev main_v413 : Ref sig .tc := ⟨.hbm, 473, rfl⟩
abbrev main_v414 : Ref sig .tc := ⟨.hbm, 474, rfl⟩
abbrev main_v415 : Ref sig .tc := ⟨.hbm, 475, rfl⟩
abbrev main_v416 : Ref sig .tc := ⟨.hbm, 476, rfl⟩
abbrev main_v417 : Ref sig .tc := ⟨.hbm, 477, rfl⟩
abbrev main_v418 : Ref sig .tc := ⟨.hbm, 478, rfl⟩
abbrev main_v419 : Ref sig .tc := ⟨.hbm, 479, rfl⟩
abbrev main_v420 : Ref sig .tc := ⟨.hbm, 480, rfl⟩
abbrev main_v421 : Ref sig .tc := ⟨.hbm, 481, rfl⟩
abbrev main_v422 : Ref sig .tc := ⟨.hbm, 482, rfl⟩
abbrev main_v423 : Ref sig .tc := ⟨.hbm, 483, rfl⟩
abbrev main_cst_33 : Ref sig .tc := ⟨.hbm, 484, rfl⟩
abbrev main_v424 : Ref sig .tc := ⟨.hbm, 485, rfl⟩
abbrev main_v425 : Ref sig .tc := ⟨.hbm, 486, rfl⟩
abbrev main_cst_34 : Ref sig .tc := ⟨.hbm, 487, rfl⟩
abbrev main_v426 : Ref sig .tc := ⟨.hbm, 488, rfl⟩
abbrev main_v427 : Ref sig .tc := ⟨.hbm, 489, rfl⟩
abbrev main_v428 : Ref sig .tc := ⟨.hbm, 490, rfl⟩
abbrev main_v429 : Ref sig .tc := ⟨.hbm, 491, rfl⟩
abbrev main_v430 : Ref sig .tc := ⟨.hbm, 492, rfl⟩
abbrev main_v431 : Ref sig .tc := ⟨.hbm, 493, rfl⟩
abbrev main_v432 : Ref sig .tc := ⟨.hbm, 494, rfl⟩
abbrev main_v433 : Ref sig .tc := ⟨.hbm, 495, rfl⟩
abbrev main_cst_35 : Ref sig .tc := ⟨.hbm, 496, rfl⟩
abbrev main_v434 : Ref sig .tc := ⟨.hbm, 497, rfl⟩
abbrev main_v435 : Ref sig .tc := ⟨.hbm, 498, rfl⟩
abbrev main_cst_36 : Ref sig .tc := ⟨.hbm, 499, rfl⟩
abbrev main_v436 : Ref sig .tc := ⟨.hbm, 500, rfl⟩
abbrev main_v437 : Ref sig .tc := ⟨.hbm, 501, rfl⟩
abbrev main_cst_37 : Ref sig .tc := ⟨.hbm, 502, rfl⟩
abbrev main_v438 : Ref sig .tc := ⟨.hbm, 503, rfl⟩
abbrev main_v439 : Ref sig .tc := ⟨.hbm, 504, rfl⟩
abbrev main_v440 : Ref sig .tc := ⟨.hbm, 505, rfl⟩
abbrev main_v441 : Ref sig .tc := ⟨.hbm, 506, rfl⟩
abbrev main_v442 : Ref sig .tc := ⟨.hbm, 507, rfl⟩
abbrev main_v443 : Ref sig .tc := ⟨.hbm, 508, rfl⟩
abbrev main_v444 : Ref sig .tc := ⟨.hbm, 509, rfl⟩
abbrev main_v445 : Ref sig .tc := ⟨.hbm, 510, rfl⟩

abbrev nD : Nat := 1
abbrev τ : Topo := Topo.v7x

variable {F : FTy → Type} [FloatOps F]
-- ==== Proof.Spec.lean ====
/- The layer's mathematics over the extended reals, one batch row at a time: every quantity as a function of the time
   step and the channel. Both programs are shown to compute `Layer.out`. -/
module

public import Idealize.ShloMosaic.PureOps.Ideal

@[expose] public section

noncomputable section

namespace Cert.Layer

open Idealize.ShloMosaic

/-- The constant added under a root. -/
def eps : EReal := Ideal.ofBits .f32 0x358637BD#32
/-- The number of channels of the stream, as the programs write it. -/
def c1024 : EReal := Ideal.ofBits .f32 0x44800000#32
/-- The number of channels of a group or a head, as the programs write it. -/
def c128 : EReal := Ideal.ofBits .f32 0x43000000#32

/-- The layer's weights, by channel. -/
structure Wts where
  lng : Fin 1024 → EReal
  win : Fin 1024 → Fin 7168 → EReal
  cw : Fin 31 → Fin 1024 → EReal
  cb : Fin 1024 → EReal
  cg : Fin 1024 → EReal
  ce : Fin 1024 → EReal
  wp2 : Fin 1024 → Fin 1024 → EReal
  bp2 : Fin 1024 → EReal
  lg : Fin 2 → Fin 1024 → EReal
  og : Fin 1024 → EReal
  wo : Fin 2048 → Fin 1024 → EReal
  pg : Fin 1024 → EReal
  wpg : Fin 1024 → Fin 1024 → EReal
  wpp : Fin 256 → Fin 1024 → EReal
  fg : Fin 1024 → EReal

/-- The swish: `x` times its logistic. -/
def swish (x : EReal) : EReal := x * Ideal.logistic x

/-- A row's root-mean-square normalisation over the stream's channels, with gain `g`. -/
def rms (row g : Fin 1024 → EReal) (n : Fin 1024) : EReal :=
  row n * Ideal.rsqrt (Ideal.div (∑ k, row k * row k) c1024 + eps) * g n

/-- Column `o + c` of the projection, for a channel `c` of a section that begins at `o`. -/
def col (o : ℕ) (ho : o ≤ 6144) (c : Fin 1024) : Fin 7168 := ⟨o + c.val, by omega⟩

/-- Channel `k` of group (or head) `g`. -/
def ch (g : Fin 8) (k : Fin 128) : Fin 1024 := ⟨128 * g.val + k.val, by omega⟩
/-- A channel's group. -/
def grp (c : Fin 1024) : Fin 8 := ⟨c.val / 128, by omega⟩
/-- A channel within its group. -/
def lane (c : Fin 1024) : Fin 128 := ⟨c.val % 128, by omega⟩

/-- A channel from its group and its place in it. -/
theorem ch_grp_lane (c : Fin 1024) : ch (grp c) (lane c) = c := by
  apply Fin.ext; simp only [ch, grp, lane]; omega
/-- A group's channel lies in the group. -/
theorem grp_ch (g : Fin 8) (k : Fin 128) : grp (ch g k) = g := by
  apply Fin.ext; simp only [ch, grp]; omega
/-- A group's channel, its place in the group. -/
theorem lane_ch (g : Fin 8) (k : Fin 128) : lane (ch g k) = k := by
  apply Fin.ext; simp only [ch, lane]; omega

variable (W : Wts) (xr : ℕ → Fin 1024 → EReal) (pr : ℕ → Fin 256 → EReal)

/-- The combined projection of the normalised row. -/
def z (t : ℕ) (n : Fin 7168) : EReal := ∑ k, rms (xr t) W.lng k * W.win k n

/-- The gated linear unit. -/
def glu (t : ℕ) (c : Fin 1024) : EReal :=
  z W xr t (col 0 (by omega) c) * Ideal.logistic (z W xr t (col 1024 (by omega) c))

/-- The gated linear unit `30` steps back, zero before the sequence. -/
def gluP (u : ℕ) (c : Fin 1024) : EReal := if u < 30 then 0 else glu W xr (u - 30) c

/-- The causal convolution with its bias. -/
def conv (t : ℕ) (c : Fin 1024) : EReal := W.cb c + ∑ j : Fin 31, W.cw j c * gluP W xr (t + j.val) c

/-- A group's mean. -/
def mu (t : ℕ) (g : Fin 8) : EReal := Ideal.div (∑ k, conv W xr t (ch g k)) c128
/-- The convolution less its group's mean. -/
def cen (t : ℕ) (g : Fin 8) (k : Fin 128) : EReal := conv W xr t (ch g k) - mu W xr t g
/-- A group's variance. -/
def var (t : ℕ) (g : Fin 8) : EReal := Ideal.div (∑ k, cen W xr t g k * cen W xr t g k) c128
/-- The group normalisation with gain and offset. -/
def gn (t : ℕ) (g : Fin 8) (k : Fin 128) : EReal :=
  cen W xr t g k * Ideal.rsqrt (var W xr t g + eps) * W.cg (ch g k) + W.ce (ch g k)
/-- The convolution branch before its projection. -/
def cvb (t : ℕ) (c : Fin 1024) : EReal := swish (gn W xr t (grp c) (lane c))
/-- The convolution branch's gated output. -/
def yc (t : ℕ) (n : Fin 1024) : EReal :=
  (∑ c, cvb W xr t c * W.wp2 c n + W.bp2 n) * swish (z W xr t (col 2048 (by omega) n))

/-- The larger of the two layers' logits (and nothing below minus infinity). -/
def lmax (c : Fin 1024) : EReal := max (W.lg 0 c) (W.lg 1 c)
/-- The forget gate's lower bound: the first layer's share of the softmax. -/
def lb (c : Fin 1024) : EReal :=
  Ideal.div (Ideal.exp (W.lg 0 c - lmax W c)) (Ideal.exp (W.lg 0 c - lmax W c) + Ideal.exp (W.lg 1 c - lmax W c))
/-- The forget gate. -/
def fg (t : ℕ) (c : Fin 1024) : EReal :=
  lb W c + (1 - lb W c) * Ideal.logistic (z W xr t (col 4096 (by omega) c))
/-- The keys. -/
def key (t : ℕ) (c : Fin 1024) : EReal := (1 - lb W c) * Ideal.logistic (-(z W xr t (col 4096 (by omega) c)))
/-- The queries. -/
def qry (t : ℕ) (c : Fin 1024) : EReal := swish (z W xr t (col 3072 (by omega) c))
/-- The values. -/
def vls (t : ℕ) (c : Fin 1024) : EReal := z W xr t (col 5120 (by omega) c)
/-- The logarithm of the forget gate. -/
def lf (t : ℕ) (c : Fin 1024) : EReal := Ideal.log (fg W xr t c)
/-- The logarithms summed up to and including step `t`. -/
def cum (t : ℕ) (c : Fin 1024) : EReal := ∑ i ∈ Finset.range (t + 1), lf W xr i c

/-- The recurrence's readout in closed form over the whole sequence. -/
def rd (t : ℕ) (h : Fin 8) (v : Fin 128) : EReal :=
  ∑ s : Fin 8192, (∑ k, qry W xr t (ch h k) *
    Ideal.exp (if s.val ≤ t then cum W xr t (ch h k) - cum W xr s.val (ch h k) else ⊥) * key W xr s.val (ch h k)) * vls W xr s.val (ch h v)

/-- A head's normalised and gated readout. -/
def yh (t : ℕ) (h : Fin 8) (v : Fin 128) : EReal :=
  rd W xr t h v * Ideal.rsqrt (Ideal.div (∑ k, rd W xr t h k * rd W xr t h k) c128 + eps) * W.og (ch h v)
    * swish (z W xr t (col 6144 (by omega) (ch h v)))

/-- The two branches side by side. -/
def cat (t : ℕ) (c : Fin 2048) : EReal :=
  if h : c.val < 1024 then yc W xr t ⟨c.val, h⟩
  else yh W xr t (grp ⟨c.val - 1024, by omega⟩) (lane ⟨c.val - 1024, by omega⟩)

/-- The stream after the mixers. -/
def hres (t : ℕ) (n : Fin 1024) : EReal := xr t n + ∑ c, cat W xr t c * W.wo c n

/-- The stream after the gated per-layer embedding. -/
def hemb (t : ℕ) (n : Fin 1024) : EReal :=
  hres W xr t n + Ideal.logistic (∑ k, rms (hres W xr t) W.pg k * W.wpg k n) * (∑ k, pr t k * W.wpp k n)

/-- The layer's result. -/
def out (t : ℕ) (n : Fin 1024) : EReal := rms (hemb W xr pr t) W.fg n

end Cert.Layer

end
-- ==== Proof.Num0.lean ====
/- The logistic function by the hyperbolic tangent, on all extended reals, and the constants the programs write. -/
module

public import Idealize.ShloMosaic.Lib.Pointwise
public import Idealize.ShloMosaic.Lib.IdealHost

@[expose] public section

noncomputable section

namespace Cert.Layer

open Idealize.ShloMosaic

/-- The word of one half. -/
theorem half_eq : Ideal.ofBits .f32 0x3F000000#32 = ((1 / 2 : ℝ) : EReal) := by
  simp [Ideal.ofBits, Ideal.ieee]
  rw [← EReal.coe_mul]
  norm_num

/-- The word of 128. -/
theorem c128_eq : Ideal.ofBits .f32 0x43000000#32 = ((128 : ℝ) : EReal) := by
  simp [Ideal.ofBits, Ideal.ieee]
  rw [← EReal.coe_mul]
  norm_num

/-- The word of 1024. -/
theorem c1024_eq : Ideal.ofBits .f32 0x44800000#32 = ((1024 : ℝ) : EReal) := by
  simp [Ideal.ofBits, Ideal.ieee]
  rw [← EReal.coe_mul]
  norm_num

/-- The small constant under a root is a positive real. -/
theorem eps_pos : ∃ e : ℝ, 0 < e ∧ Ideal.ofBits .f32 0x358637BD#32 = (e : EReal) := by
  refine ⟨_, ?_, rfl⟩
  norm_num
  rw [if_neg (by decide)]
  positivity

/-- `tanh` of half an argument, scaled to the unit interval, is the logistic function. -/
theorem sig_tanh (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top]
    rw [mul_one, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-(1 / 2 * r)) = Real.exp (1 / 2 * r) * Real.exp (-r) := by
      rw [← Real.exp_add]; congr 1; ring
    rw [h1]
    have h2 := Real.exp_pos (1 / 2 * r)
    have h3 := Real.exp_pos (-r)
    field_simp
    ring

end Cert.Layer

end
-- ==== Proof.Num.lean ====
/- Real arithmetic of the gated recurrence: a chunk's readout and a chunk's state, and the closed form over the whole
   sequence they add up to. -/
module

public import proofs.«01_k».proof.Proof.Spec
public import proofs.«01_k».proof.Proof.Num0

@[expose] public section

noncomputable section

namespace Cert.Layer

open Idealize.ShloMosaic

/-- A finite sum of reals, seen in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

variable (L K Q V : ℕ → Fin 128 → ℝ)

/-- The logarithms summed over the first `n` steps. -/
def bR (n : ℕ) (k : Fin 128) : ℝ := ∑ i ∈ Finset.range n, L i k
/-- The recurrence's state after `T` steps, by value channel and key channel. -/
def stR (T : ℕ) (v k : Fin 128) : ℝ := ∑ s ∈ Finset.range T, V s v * (Real.exp (bR L T k - bR L (s + 1) k) * K s k)
/-- The recurrence's readout at step `t`. -/
def rdR (t : ℕ) (v : Fin 128) : ℝ :=
  ∑ s ∈ Finset.range (t + 1), (∑ k, Q t k * Real.exp (bR L (t + 1) k - bR L (s + 1) k) * K s k) * V s v

/-- A sum over the rows of a chunk up to row `j`. -/
theorem sum_upto (g : ℕ → ℝ) (n : ℕ) (j : ℕ) (hj : j < n) :
    ∑ x : Fin n, (if x.val ≤ j then g x.val else 0) = ∑ x ∈ Finset.range (j + 1), g x := by
  rw [Fin.sum_univ_eq_sum_range (fun x => if x ≤ j then g x else 0) n]
  rw [← Finset.sum_subset (s₁ := Finset.range (j + 1)) (s₂ := Finset.range n)]
  · exact Finset.sum_congr rfl fun x hx => by rw [if_pos (by have := Finset.mem_range.1 hx; omega)]
  · intro x hx; have := Finset.mem_range.1 hx; exact Finset.mem_range.2 (by omega)
  · intro x _ hx
    rw [if_neg]
    intro h; exact hx (Finset.mem_range.2 (by omega))

/-- A sum over the first `a + b + 1` numbers, split after the first `a`. -/
theorem sum_split (g : ℕ → ℝ) (a b : ℕ) :
    ∑ x ∈ Finset.range (a + b + 1), g x = ∑ x ∈ Finset.range a, g x + ∑ x ∈ Finset.range (b + 1), g (a + x) := by
  rw [add_assoc, Finset.sum_range_add]

/-- A chunk's readout: the part within the chunk and the part from the state before it, for any reference point `r`. -/
theorem chunkO (T0 : ℕ) (r : Fin 128 → ℝ) (j : Fin 128) (v : Fin 128) :
    ∑ x : Fin 128, (if x.val ≤ j.val then
        (∑ k, (Q (T0 + j) k * Real.exp ((bR L (T0 + j + 1) k - bR L T0 k) - r k))
          * (K (T0 + x) k * Real.exp (r k - (bR L (T0 + x + 1) k - bR L T0 k)))) * V (T0 + x) v else 0)
      + ∑ k, Q (T0 + j) k * Real.exp ((bR L (T0 + j + 1) k - bR L T0 k) - r k) * Real.exp (r k) * stR L K V T0 v k
      = rdR L K Q V (T0 + j) v := by
  rw [sum_upto (fun x => (∑ k, (Q (T0 + j) k * Real.exp ((bR L (T0 + j + 1) k - bR L T0 k) - r k))
          * (K (T0 + x) k * Real.exp (r k - (bR L (T0 + x + 1) k - bR L T0 k)))) * V (T0 + x) v) 128 j.val j.isLt]
  unfold rdR
  refine Eq.trans ?_ (sum_split _ T0 j.val).symm
  refine (add_comm _ _).trans (congrArg₂ (· + ·) ?_ ?_)
  · simp only [stR, Finset.mul_sum, Finset.sum_mul]
    refine Finset.sum_comm.trans (Finset.sum_congr rfl fun s _ => Finset.sum_congr rfl fun k _ => ?_)
    rw [show bR L (T0 + j + 1) k - bR L (s + 1) k = ((bR L (T0 + j + 1) k - bR L T0 k) - r k) + r k + (bR L T0 k - bR L (s + 1) k) by ring,
      Real.exp_add, Real.exp_add]
    ring
  · refine Finset.sum_congr rfl fun x _ => ?_
    congr 1
    refine Finset.sum_congr rfl fun k _ => ?_
    rw [show bR L (T0 + j + 1) k - bR L (T0 + x + 1) k = ((bR L (T0 + j + 1) k - bR L T0 k) - r k) + (r k - (bR L (T0 + x + 1) k - bR L T0 k)) by ring,
      Real.exp_add]
    ring

/-- A chunk's state: the state before it decayed by the whole chunk, and the chunk's own keys and values. -/
theorem chunkSt (T0 : ℕ) (r : Fin 128 → ℝ) (v k : Fin 128) (hr : r k + r k = bR L (T0 + 128) k - bR L T0 k) :
    stR L K V T0 v k * (Real.exp (r k) * Real.exp (r k))
      + ∑ x : Fin 128, V (T0 + x) v * (K (T0 + x) k * Real.exp (r k - (bR L (T0 + x + 1) k - bR L T0 k)) * Real.exp (r k))
      = stR L K V (T0 + 128) v k := by
  rw [Fin.sum_univ_eq_sum_range (fun x => V (T0 + x) v * (K (T0 + x) k * Real.exp (r k - (bR L (T0 + x + 1) k - bR L T0 k)) * Real.exp (r k))) 128]
  unfold stR
  rw [Finset.sum_range_add, Finset.sum_mul]
  congr 1
  · refine Finset.sum_congr rfl fun s _ => ?_
    rw [← Real.exp_add, hr, show bR L (T0 + 128) k - bR L (s + 1) k = (bR L T0 k - bR L (s + 1) k) + (bR L (T0 + 128) k - bR L T0 k) by ring,
      Real.exp_add]
    ring
  · refine Finset.sum_congr rfl fun x _ => ?_
    rw [show bR L (T0 + 128) k - bR L (T0 + x + 1) k = (r k - (bR L (T0 + x + 1) k - bR L T0 k)) + r k by linarith, Real.exp_add]
    ring

end Cert.Layer

end
-- ==== Proof.Real.lean ====
/- Where the first gain and the weights of the queries, the forget gate and the values are real numbers, so are those entries
   of the projection, whatever the stream holds, and so are the recurrence's quantities in every channel whose lower bound is real. In the other channels the lower
   bound is minus infinity and the channel adds nothing to the readout. -/
module

public import proofs.«01_k».proof.Proof.Num

@[expose] public section

noncomputable section

namespace Cert.Layer

open Idealize.ShloMosaic

/-- An extended real that is a real number. -/
def Rl (x : EReal) : Prop := ∃ r : ℝ, x = (r : EReal)

/-- A real number is its own real part. -/
theorem Rl.coe {x : EReal} (h : Rl x) : ((x.toReal : ℝ) : EReal) = x := by
  obtain ⟨r, rfl⟩ := h; rfl
/-- A sum of reals is real. -/
theorem Rl.add {x y : EReal} (hx : Rl x) (hy : Rl y) : Rl (x + y) := by
  obtain ⟨a, rfl⟩ := hx; obtain ⟨b, rfl⟩ := hy; exact ⟨a + b, (EReal.coe_add _ _).symm⟩
/-- A difference of reals is real. -/
theorem Rl.sub {x y : EReal} (hx : Rl x) (hy : Rl y) : Rl (x - y) := by
  obtain ⟨a, rfl⟩ := hx; obtain ⟨b, rfl⟩ := hy; exact ⟨a - b, (EReal.coe_sub _ _).symm⟩
/-- A product of reals is real. -/
theorem Rl.mul {x y : EReal} (hx : Rl x) (hy : Rl y) : Rl (x * y) := by
  obtain ⟨a, rfl⟩ := hx; obtain ⟨b, rfl⟩ := hy; exact ⟨a * b, (EReal.coe_mul _ _).symm⟩
/-- A finite sum of reals is real. -/
theorem Rl.sum {ι : Type} {s : Finset ι} {f : ι → EReal} (h : ∀ i, Rl (f i)) : Rl (∑ i ∈ s, f i) := by
  choose g hg using h
  exact ⟨∑ i ∈ s, g i, by simp only [hg, coe_sum]⟩
/-- The logistic function of a real is real. -/
theorem Rl.logistic {x : EReal} (hx : Rl x) : Rl (Ideal.logistic x) := by
  obtain ⟨a, rfl⟩ := hx; exact ⟨_, Ideal.logistic_coe a⟩
/-- The swish of a real is real. -/
theorem Rl.swish {x : EReal} (hx : Rl x) : Rl (swish x) := hx.mul hx.logistic

/-- An extended real is a real number, or its square is plus infinity. -/
theorem sq_nonneg_or (x : EReal) : (∃ r : ℝ, x = (r : EReal)) ∨ x * x = ⊤ := by
  induction x with
  | bot => exact .inr EReal.bot_mul_bot
  | top => exact .inr EReal.top_mul_top
  | coe r => exact .inl ⟨r, rfl⟩

/-- A square is never minus infinity. -/
theorem sq_ne_bot (x : EReal) : x * x ≠ ⊥ := by
  induction x with
  | bot => rw [EReal.bot_mul_bot]; exact top_ne_bot
  | top => rw [EReal.top_mul_top]; exact top_ne_bot
  | coe r => rw [← EReal.coe_mul]; exact EReal.coe_ne_bot _

/-- A finite sum of squares is never minus infinity. -/
theorem sum_sq_ne_bot {ι : Type} (s : Finset ι) (f : ι → EReal) : ∑ i ∈ s, f i * f i ≠ ⊥ := by
  classical
  induction s using Finset.induction_on with
  | empty => rw [Finset.sum_empty]; exact EReal.zero_ne_bot
  | insert a s ha ih =>
    rw [Finset.sum_insert ha]
    exact EReal.add_ne_bot_iff.2 ⟨sq_ne_bot _, ih⟩

/-- A row normalised with real gains is a row of reals, whatever the row holds: where an entry is infinite the sum of
    squares is infinite and the row is scaled by zero. -/
theorem Rl.rms {row g : Fin 1024 → EReal} (hg : ∀ c, Rl (g c)) (n : Fin 1024) : Rl (rms row g n) := by
  obtain ⟨e, he, hee⟩ := eps_pos
  refine Rl.mul ?_ (hg n)
  by_cases hr : ∀ c, Rl (row c)
  · refine (hr n).mul ?_
    choose f hf using hr
    refine ⟨(Real.sqrt ((∑ k, f k * f k) * (1 / 1024) + e))⁻¹, ?_⟩
    have hs : (∑ k, row k * row k) = ((∑ k, f k * f k : ℝ) : EReal) := by
      simp only [hf, ← EReal.coe_mul, coe_sum]
    have hp : 0 < (∑ k, f k * f k) * (1 / 1024) + e := by
      have : 0 ≤ ∑ k, f k * f k := Finset.sum_nonneg fun k _ => mul_self_nonneg _
      positivity
    rw [hs, c1024, c1024_eq, Ideal.div_coe (by norm_num), eps, hee, ← EReal.coe_mul, ← EReal.coe_add, Ideal.rsqrt_coe,
      if_neg (by linarith), if_neg (by linarith)]
  · obtain ⟨c, hc⟩ := not_forall.1 hr
    have ht : row c * row c = ⊤ := (sq_nonneg_or (row c)).resolve_left hc
    have hs : (∑ k, row k * row k) = ⊤ := by
      rw [← Finset.add_sum_erase _ _ (Finset.mem_univ c), ht]
      exact EReal.top_add_of_ne_bot (sum_sq_ne_bot _ _)
    refine ⟨0, ?_⟩
    rw [hs, c1024, c1024_eq, Ideal.div_coe (by norm_num), EReal.top_mul_coe_of_pos (by norm_num), eps, hee, EReal.top_add_coe, Ideal.rsqrt_top,
      mul_zero, EReal.coe_zero]

/-- The weights the recurrence depends on are real numbers: the first gain, and the projection's columns that make the
    queries, the forget gate and the values. -/
structure Wts.IsReal (W : Wts) : Prop where
  lng : ∀ c, Rl (W.lng c)
  win : ∀ c (n : Fin 7168), 3072 ≤ n.val → n.val < 6144 → Rl (W.win c n)

variable {W : Wts} {xr : ℕ → Fin 1024 → EReal} (hW : W.IsReal)

include hW in
/-- The projection's entries that make the queries, the forget gate and the values are real numbers. -/
theorem z_real (t : ℕ) (o : ℕ) (ho : o ≤ 6144) (h0 : 3072 ≤ o) (h1 : o ≤ 5120) (c : Fin 1024) : Rl (z W xr t (col o ho c)) :=
  Rl.sum fun k => (Rl.rms hW.lng k).mul (hW.win k _ (by simp only [col]; omega) (by simp only [col]; omega))

/-- The lower bound lies between zero and one, or is minus infinity: so where a logit is plus infinity or both are minus
    infinity. -/
theorem lb_cases (W : Wts) (c : Fin 1024) : (∃ l : ℝ, 0 ≤ l ∧ l ≤ 1 ∧ lb W c = (l : EReal)) ∨ lb W c = ⊥ := by
  unfold lb lmax
  have one : Ideal.exp ((0 : ℝ) : EReal) = ((1 : ℝ) : EReal) := by rw [Ideal.exp_coe, Real.exp_zero]
  have d0 : Ideal.div 0 0 = ⊥ := by simp [Ideal.div]
  generalize W.lg 0 c = p
  generalize W.lg 1 c = q
  induction p with
  | bot =>
    induction q with
    | bot => right; simp [Ideal.exp_bot, add_zero, d0]
    | top => right; simp [Ideal.exp_bot, add_zero, d0]
    | coe b =>
      refine .inl ⟨0, le_rfl, zero_le_one, ?_⟩
      rw [max_eq_right bot_le, EReal.bot_sub, Ideal.exp_bot, ← EReal.coe_sub, sub_self, one, zero_add, Ideal.div_coe one_ne_zero, zero_mul,
        EReal.coe_zero]
  | top =>
    right
    rw [max_eq_left le_top, EReal.sub_top, EReal.sub_top, Ideal.exp_bot, add_zero, d0]
  | coe a =>
    induction q with
    | bot =>
      refine .inl ⟨1, zero_le_one, le_rfl, ?_⟩
      rw [max_eq_left bot_le, EReal.bot_sub, Ideal.exp_bot, ← EReal.coe_sub, sub_self, one, add_zero, Ideal.div_coe one_ne_zero, ← EReal.coe_mul]
      norm_num
    | top =>
      right
      rw [max_eq_right le_top, EReal.sub_top, EReal.sub_top, Ideal.exp_bot, add_zero, d0]
    | coe b =>
      left
      have hm : max (a : EReal) (b : EReal) = ((max a b : ℝ) : EReal) := (EReal.coe_strictMono.monotone.map_max).symm
      have ea := Real.exp_pos (a - max a b)
      have eb := Real.exp_pos (b - max a b)
      refine ⟨Real.exp (a - max a b) * (1 / (Real.exp (a - max a b) + Real.exp (b - max a b))), by positivity, ?_, ?_⟩
      · rw [mul_one_div, div_le_one (by positivity)]; linarith
      · rw [hm, ← EReal.coe_sub, ← EReal.coe_sub, Ideal.exp_coe, Ideal.exp_coe, ← EReal.coe_add, Ideal.div_coe (by positivity),
          ← EReal.coe_mul]

/-- A lower bound that is not minus infinity lies between zero and one. -/
theorem lb_real {c : Fin 1024} (hl : lb W c ≠ ⊥) : ∃ l : ℝ, 0 ≤ l ∧ l ≤ 1 ∧ lb W c = (l : EReal) := (lb_cases W c).resolve_right hl

/-- One less minus infinity. -/
theorem one_sub_bot : (1 : EReal) - ⊥ = ⊤ := by rw [← EReal.coe_one, EReal.coe_sub_bot]

/-- Where the lower bound is minus infinity, so is the forget gate. -/
theorem fg_bot {c : Fin 1024} (hl : lb W c = ⊥) (t : ℕ) : fg W xr t c = ⊥ := by rw [fg, hl, EReal.bot_add]
/-- Where the lower bound is minus infinity, so is the forget gate's logarithm. -/
theorem lf_bot {c : Fin 1024} (hl : lb W c = ⊥) (t : ℕ) : lf W xr t c = ⊥ := by rw [lf, fg_bot hl, Ideal.log_bot]
/-- Where the lower bound is minus infinity, so are the summed logarithms. -/
theorem cum_bot {c : Fin 1024} (hl : lb W c = ⊥) (t : ℕ) : cum W xr t c = ⊥ := by rw [cum, Finset.sum_range_succ, lf_bot hl, EReal.add_bot]

include hW in
/-- Where the lower bound is minus infinity, the keys are plus infinity. -/
theorem key_top {c : Fin 1024} (hl : lb W c = ⊥) (t : ℕ) : key W xr t c = ⊤ := by
  obtain ⟨a, ha⟩ := z_real (xr := xr) hW t 4096 (by omega) (by omega) (by omega) c
  rw [key, hl, ha, one_sub_bot, ← EReal.coe_neg, Ideal.logistic_coe, EReal.top_mul_coe_of_pos]
  have := Real.exp_pos (-(-a))
  positivity

/-- The logistic function of a real number, from the hyperbolic tangent. -/
theorem sig_real (a : ℝ) : (1 + Real.exp (-a))⁻¹ = 1 / 2 * Real.tanh (1 / 2 * a) + 1 / 2 := by
  have h := sig_tanh (a : EReal)
  rw [← EReal.coe_mul, Ideal.tanh_coe, ← EReal.coe_mul, ← EReal.coe_add, Ideal.logistic_coe] at h
  exact (EReal.coe_injective h).symm

include hW in
/-- The forget gate is positive, where the lower bound is real. -/
theorem fg_pos {c : Fin 1024} (hl : lb W c ≠ ⊥) (t : ℕ) : ∃ f : ℝ, 0 < f ∧ fg W xr t c = (f : EReal) := by
  obtain ⟨l, h0, h1, hl⟩ := lb_real hl
  obtain ⟨a, ha⟩ := z_real (xr := xr) hW t 4096 (by omega) (by omega) (by omega) c
  refine ⟨l + (1 - l) * (1 + Real.exp (-a))⁻¹, ?_, ?_⟩
  · have hs : 0 < (1 + Real.exp (-a))⁻¹ := by have := Real.exp_pos (-a); positivity
    have hp : 0 ≤ (1 - l) * (1 + Real.exp (-a))⁻¹ := mul_nonneg (by linarith) hs.le
    rcases h0.eq_or_lt with h | h
    · rw [← h, sub_zero, one_mul, zero_add]; exact hs
    · linarith
  · rw [fg, hl, ha, Ideal.logistic_coe, ← EReal.coe_one, ← EReal.coe_sub, ← EReal.coe_mul, ← EReal.coe_add]

include hW in
/-- Its logarithm is real. -/
theorem lf_real {c : Fin 1024} (hl : lb W c ≠ ⊥) (t : ℕ) : Rl (lf W xr t c) := by
  obtain ⟨f, h0, hf⟩ := fg_pos hW hl t
  exact ⟨Real.log f, by rw [lf, hf, Ideal.log_coe, if_neg (by linarith)]⟩

include hW in
/-- The keys are real, where the lower bound is real. -/
theorem key_real {c : Fin 1024} (hl : lb W c ≠ ⊥) (t : ℕ) : Rl (key W xr t c) := by
  obtain ⟨l, h0, h1, hl⟩ := lb_real hl
  obtain ⟨a, ha⟩ := z_real (xr := xr) hW t 4096 (by omega) (by omega) (by omega) c
  rw [key, hl, ha, ← EReal.coe_neg, ← EReal.coe_one, ← EReal.coe_sub]
  exact Rl.mul ⟨_, rfl⟩ (Rl.logistic ⟨_, rfl⟩)

include hW in
/-- The forget gate as the kernel writes it, around its middle. -/
theorem fg_mid (t : ℕ) (c : Fin 1024) :
    (lb W c + ((1 / 2 : ℝ) : EReal) * (1 - lb W c)) + ((1 / 2 : ℝ) : EReal) * (1 - lb W c)
      * Ideal.tanh (((1 / 2 : ℝ) : EReal) * z W xr t (col 4096 (by omega) c)) = fg W xr t c := by
  by_cases hl : lb W c = ⊥
  · rw [fg_bot hl, hl, EReal.bot_add, EReal.bot_add]
  obtain ⟨l, h0, h1, hl⟩ := lb_real hl
  obtain ⟨a, ha⟩ := z_real (xr := xr) hW t 4096 (by omega) (by omega) (by omega) c
  rw [fg, hl, ha, Ideal.logistic_coe, sig_real, ← EReal.coe_one]
  simp only [← EReal.coe_sub, ← EReal.coe_mul, Ideal.tanh_coe, ← EReal.coe_add]
  congr 1; ring

include hW in
/-- The keys as the kernel writes them, around their middle. -/
theorem key_mid {c : Fin 1024} (hl : lb W c ≠ ⊥) (t : ℕ) :
    ((1 / 2 : ℝ) : EReal) * (1 - lb W c) - ((1 / 2 : ℝ) : EReal) * (1 - lb W c)
      * Ideal.tanh (((1 / 2 : ℝ) : EReal) * z W xr t (col 4096 (by omega) c)) = key W xr t c := by
  obtain ⟨l, h0, h1, hl⟩ := lb_real hl
  obtain ⟨a, ha⟩ := z_real (xr := xr) hW t 4096 (by omega) (by omega) (by omega) c
  rw [key, hl, ha, ← EReal.coe_neg, Ideal.logistic_coe, sig_real, ← EReal.coe_one]
  simp only [← EReal.coe_sub, ← EReal.coe_mul, Ideal.tanh_coe, ← EReal.coe_add]
  congr 1
  rw [mul_neg, Real.tanh_neg]; ring

variable (W xr)
/-- The real logarithms of head `h`. -/
def Lr (h : Fin 8) (t : ℕ) (k : Fin 128) : ℝ := (lf W xr t (ch h k)).toReal
/-- The real keys of head `h`. -/
def Kr (h : Fin 8) (t : ℕ) (k : Fin 128) : ℝ := (key W xr t (ch h k)).toReal
/-- The real queries of head `h`. -/
def Qr (h : Fin 8) (t : ℕ) (k : Fin 128) : ℝ := (qry W xr t (ch h k)).toReal
/-- The real values of head `h`. -/
def Vr (h : Fin 8) (t : ℕ) (k : Fin 128) : ℝ := (vls W xr t (ch h k)).toReal
variable {W xr}

include hW

/-- The logarithms are the real ones, where the lower bound is real. -/
theorem lf_coe (h : Fin 8) (k : Fin 128) (hl : lb W (ch h k) ≠ ⊥) (t : ℕ) : lf W xr t (ch h k) = (Lr W xr h t k : EReal) := (lf_real hW hl t).coe.symm
/-- The keys are the real ones, where the lower bound is real. -/
theorem key_coe (h : Fin 8) (k : Fin 128) (hl : lb W (ch h k) ≠ ⊥) (t : ℕ) : key W xr t (ch h k) = (Kr W xr h t k : EReal) := (key_real hW hl t).coe.symm
/-- The queries are the real ones. -/
theorem qry_coe (h : Fin 8) (t : ℕ) (k : Fin 128) : qry W xr t (ch h k) = (Qr W xr h t k : EReal) :=
  (Rl.swish (z_real hW t 3072 (by omega) (by omega) (by omega) _)).coe.symm
/-- The values are the real ones. -/
theorem vls_coe (h : Fin 8) (t : ℕ) (k : Fin 128) : vls W xr t (ch h k) = (Vr W xr h t k : EReal) := (z_real hW t 5120 (by omega) (by omega) (by omega) _).coe.symm

/-- The summed logarithms are the real ones, where the lower bound is real. -/
theorem cum_coe (h : Fin 8) (k : Fin 128) (hl : lb W (ch h k) ≠ ⊥) (t : ℕ) : cum W xr t (ch h k) = (bR (Lr W xr h) (t + 1) k : EReal) := by
  simp only [cum, bR, lf_coe hW h k hl, coe_sum]

/-- Where the lower bound is minus infinity, the real keys stand at zero: such a channel adds nothing to the readout. -/
theorem Kr_zero (h : Fin 8) (k : Fin 128) (hl : lb W (ch h k) = ⊥) (t : ℕ) : Kr W xr h t k = 0 := by
  rw [Kr, key_top hW hl, EReal.toReal_top]

/-- One channel's share of the readout at step `t` from an earlier step `s`. -/
theorem share_coe (h : Fin 8) (t s : ℕ) (k : Fin 128) :
    qry W xr t (ch h k) * Ideal.exp (cum W xr t (ch h k) - cum W xr s (ch h k)) * key W xr s (ch h k)
      = ((Qr W xr h t k * Real.exp (bR (Lr W xr h) (t + 1) k - bR (Lr W xr h) (s + 1) k) * Kr W xr h s k : ℝ) : EReal) := by
  by_cases hl : lb W (ch h k) = ⊥
  · rw [cum_bot hl, EReal.bot_sub, Ideal.exp_bot, mul_zero, zero_mul, Kr_zero hW h k hl, mul_zero, EReal.coe_zero]
  · rw [cum_coe hW h k hl, cum_coe hW h k hl, qry_coe hW, key_coe hW h k hl, ← EReal.coe_sub, Ideal.exp_coe, ← EReal.coe_mul, ← EReal.coe_mul]

/-- The closed form over the whole sequence is the sum over the steps so far. -/
theorem rd_coe (h : Fin 8) (t : ℕ) (ht : t < 8192) (v : Fin 128) :
    rd W xr t h v = (rdR (Lr W xr h) (Kr W xr h) (Qr W xr h) (Vr W xr h) t v : EReal) := by
  unfold rd rdR
  rw [← sum_upto (fun s => (∑ k, Qr W xr h t k * Real.exp (bR (Lr W xr h) (t + 1) k - bR (Lr W xr h) (s + 1) k) * Kr W xr h s k) * Vr W xr h s v)
    8192 t ht, ← coe_sum]
  refine Finset.sum_congr rfl fun s _ => ?_
  by_cases hs : s.val ≤ t
  · simp only [if_pos hs, share_coe hW, vls_coe hW, ← EReal.coe_mul, coe_sum]
  · simp only [if_neg hs, Ideal.exp_bot, mul_zero, zero_mul, Finset.sum_const_zero, EReal.coe_zero]

end Cert.Layer

end
-- ==== Proof.Args.lean ====
/- The layer's weights and rows as entries of the programs' argument arrays. -/
module

public import proofs.«01_k».proof.Proof.Real
public import Idealize.ShloMosaic.Lib.ValueIdx

@[expose] public section

noncomputable section

namespace Cert.Layer

open Idealize.ShloMosaic

/-- The seventeen argument arrays. -/
structure Arrs where
  a0 : Shape.Idx ⟨3, ![8, 8192, 1024]⟩ → EReal
  a1 : Shape.Idx ⟨4, ![1, 8, 8192, 256]⟩ → EReal
  a2 : Shape.Idx ⟨2, ![1, 1024]⟩ → EReal
  a3 : Shape.Idx ⟨3, ![1, 1024, 7168]⟩ → EReal
  a4 : Shape.Idx ⟨3, ![1, 31, 1024]⟩ → EReal
  a5 : Shape.Idx ⟨2, ![1, 1024]⟩ → EReal
  a6 : Shape.Idx ⟨2, ![1, 1024]⟩ → EReal
  a7 : Shape.Idx ⟨2, ![1, 1024]⟩ → EReal
  a8 : Shape.Idx ⟨3, ![1, 1024, 1024]⟩ → EReal
  a9 : Shape.Idx ⟨2, ![1, 1024]⟩ → EReal
  a10 : Shape.Idx ⟨2, ![2, 1024]⟩ → EReal
  a11 : Shape.Idx ⟨2, ![1, 1024]⟩ → EReal
  a12 : Shape.Idx ⟨3, ![1, 2048, 1024]⟩ → EReal
  a13 : Shape.Idx ⟨2, ![1, 1024]⟩ → EReal
  a14 : Shape.Idx ⟨3, ![1, 1024, 1024]⟩ → EReal
  a15 : Shape.Idx ⟨3, ![1, 256, 1024]⟩ → EReal
  a16 : Shape.Idx ⟨1, ![1024]⟩ → EReal

/-- The weights. -/
def Arrs.wts (A : Arrs) : Wts where
  lng c := A.a2 (ix2 0 c)
  win c n := A.a3 (ix3 0 c n)
  cw j c := A.a4 (ix3 0 j c)
  cb c := A.a5 (ix2 0 c)
  cg c := A.a6 (ix2 0 c)
  ce c := A.a7 (ix2 0 c)
  wp2 c n := A.a8 (ix3 0 c n)
  bp2 c := A.a9 (ix2 0 c)
  lg i c := A.a10 (ix2 i c)
  og c := A.a11 (ix2 0 c)
  wo c n := A.a12 (ix3 0 c n)
  pg c := A.a13 (ix2 0 c)
  wpg c n := A.a14 (ix3 0 c n)
  wpp c n := A.a15 (ix3 0 c n)
  fg c := A.a16 (ix1 c)

/-- Batch row `b` of the stream, zero after its last step. -/
def Arrs.xr (A : Arrs) (b : Fin 8) (t : ℕ) (c : Fin 1024) : EReal := if h : t < 8192 then A.a0 (ix3 b ⟨t, h⟩ c) else 0

/-- Batch row `b` of the projected embedding, zero after its last step. -/
def Arrs.pr (A : Arrs) (b : Fin 8) (t : ℕ) (c : Fin 256) : EReal := if h : t < 8192 then A.a1 (ix4 0 b ⟨t, h⟩ c) else 0

/-- The layer's result array. -/
def Arrs.out (A : Arrs) : Shape.Idx ⟨3, ![8, 8192, 1024]⟩ → EReal := fun i => Layer.out A.wts (A.xr (i 0)) (A.pr (i 0)) (i 1).val (i 2)

/-- The first gain and the projection's columns that make the queries, the forget gate and the values are real. -/
structure Arrs.IsReal (A : Arrs) : Prop where
  r2 : ∀ i, Rl (A.a2 i)
  r3 : ∀ (c : Fin 1024) (n : Fin 7168), 3072 ≤ n.val → n.val < 6144 → Rl (A.a3 (ix3 0 c n))

/-- So are they as the layer's weights. -/
theorem Arrs.IsReal.wts {A : Arrs} (h : A.IsReal) : A.wts.IsReal := ⟨fun _ => h.r2 _, h.r3⟩

end Cert.Layer

end
-- ==== Proof.KerFn.lean ====
/- The kernel body's repeated pieces as functions of the arrays they read: a tap of the causal convolution, a
   channel group's convolution, its normalisation and swish, and one chunk of one head of the gated recurrence. -/
module

public import proofs.«01_k».proof.Proof.Gen.KernelIdeal.Frame.Runs

@[expose] public section

noncomputable section

namespace Cert.Layer

open Idealize.ShloMosaic Cert.KernelIdeal

variable {F : FTy → Type} [FloatOps F]

/-- The logistic function as the kernel computes it, from the hyperbolic tangent. -/
def sigT (s : Shape) (x : FVec F s .f32) : FVec F s .f32 :=
  addf (mulf (broadcast s (Scalar.ofBits .f32 0x3F000000#32)) (tanh (mulf (broadcast s (Scalar.ofBits .f32 0x3F000000#32)) x)))
    (broadcast s (Scalar.ofBits .f32 0x3F000000#32))

/-- One tap of the convolution: the window's rows from `d` on, times the tap's weights. -/
def tap (d : ℕ) (h : S288x128.Slices ![d, 0] S256x128) (acc : FVec F S256x128 .f32) (w : Vec F S1x128 .f32)
    (win : FVec F S288x128 .f32) : FVec F S256x128 .f32 :=
  addf acc (mulf (broadcastTo S256x128 (shapeCast S1x128 w Gen.shapeCasts_S1x128_S1x128) Gen.broadcasts_S1x128_S256x128)
    (extractStridedSlice S256x128 ![d, 0] win h))

/-- The convolution of one channel group: the bias and the 31 taps, over a window of the history and the block. -/
def convV (v : Vec F S288x128 .f32) (bias w0 w1 w2 w3 w4 w5 w6 w7 w8 w9 w10 w11 w12 w13 w14 w15 w16 w17 w18 w19 w20 w21 w22 w23 w24 w25 w26 w27 w28 w29 w30 : Vec F S1x128 .f32) : FVec F S256x128 .f32 :=
  (tap 32 Gen.slices_S288x128_o32_0_S256x128 (tap 24 Gen.slices_S288x128_o24_0_S256x128 (tap 24 Gen.slices_S288x128_o24_0_S256x128 (tap 24 Gen.slices_S288x128_o24_0_S256x128 (tap 24 Gen.slices_S288x128_o24_0_S256x128 (tap 24 Gen.slices_S288x128_o24_0_S256x128 (tap 24 Gen.slices_S288x128_o24_0_S256x128 (tap 24 Gen.slices_S288x128_o24_0_S256x128 (tap 24 Gen.slices_S288x128_o24_0_S256x128 (tap 16 Gen.slices_S288x128_o16_0_S256x128 (tap 16 Gen.slices_S288x128_o16_0_S256x128 (tap 16 Gen.slices_S288x128_o16_0_S256x128 (tap 16 Gen.slices_S288x128_o16_0_S256x128 (tap 16 Gen.slices_S288x128_o16_0_S256x128 (tap 16 Gen.slices_S288x128_o16_0_S256x128 (tap 16 Gen.slices_S288x128_o16_0_S256x128 (tap 16 Gen.slices_S288x128_o16_0_S256x128 (tap 8 Gen.slices_S288x128_o8_0_S256x128 (tap 8 Gen.slices_S288x128_o8_0_S256x128 (tap 8 Gen.slices_S288x128_o8_0_S256x128 (tap 8 Gen.slices_S288x128_o8_0_S256x128 (tap 8 Gen.slices_S288x128_o8_0_S256x128 (tap 8 Gen.slices_S288x128_o8_0_S256x128 (tap 8 Gen.slices_S288x128_o8_0_S256x128 (tap 8 Gen.slices_S288x128_o8_0_S256x128 (tap 0 Gen.slices_S288x128_o0_0_S256x128 (tap 0 Gen.slices_S288x128_o0_0_S256x128 (tap 0 Gen.slices_S288x128_o0_0_S256x128 (tap 0 Gen.slices_S288x128_o0_0_S256x128 (tap 0 Gen.slices_S288x128_o0_0_S256x128 (tap 0 Gen.slices_S288x128_o0_0_S256x128
    (addf (broadcast S256x128 (Scalar.ofBits .f32 0x00000000#32)) (broadcastTo S256x128 (shapeCast S1x128 bias Gen.shapeCasts_S1x128_S1x128) Gen.broadcasts_S1x128_S256x128)) w0 (dynamicRotate 0 286#32 none v Gen.rotates_S288x128_d0))
    w1 (dynamicRotate 0 285#32 none v Gen.rotates_S288x128_d0))
    w2 (dynamicRotate 0 284#32 none v Gen.rotates_S288x128_d0))
    w3 (dynamicRotate 0 283#32 none v Gen.rotates_S288x128_d0))
    w4 (dynamicRotate 0 282#32 none v Gen.rotates_S288x128_d0))
    w5 (dynamicRotate 0 281#32 none v Gen.rotates_S288x128_d0))
    w6 v)
    w7 (dynamicRotate 0 287#32 none v Gen.rotates_S288x128_d0))
    w8 (dynamicRotate 0 286#32 none v Gen.rotates_S288x128_d0))
    w9 (dynamicRotate 0 285#32 none v Gen.rotates_S288x128_d0))
    w10 (dynamicRotate 0 284#32 none v Gen.rotates_S288x128_d0))
    w11 (dynamicRotate 0 283#32 none v Gen.rotates_S288x128_d0))
    w12 (dynamicRotate 0 282#32 none v Gen.rotates_S288x128_d0))
    w13 (dynamicRotate 0 281#32 none v Gen.rotates_S288x128_d0))
    w14 v)
    w15 (dynamicRotate 0 287#32 none v Gen.rotates_S288x128_d0))
    w16 (dynamicRotate 0 286#32 none v Gen.rotates_S288x128_d0))
    w17 (dynamicRotate 0 285#32 none v Gen.rotates_S288x128_d0))
    w18 (dynamicRotate 0 284#32 none v Gen.rotates_S288x128_d0))
    w19 (dynamicRotate 0 283#32 none v Gen.rotates_S288x128_d0))
    w20 (dynamicRotate 0 282#32 none v Gen.rotates_S288x128_d0))
    w21 (dynamicRotate 0 281#32 none v Gen.rotates_S288x128_d0))
    w22 v)
    w23 (dynamicRotate 0 287#32 none v Gen.rotates_S288x128_d0))
    w24 (dynamicRotate 0 286#32 none v Gen.rotates_S288x128_d0))
    w25 (dynamicRotate 0 285#32 none v Gen.rotates_S288x128_d0))
    w26 (dynamicRotate 0 284#32 none v Gen.rotates_S288x128_d0))
    w27 (dynamicRotate 0 283#32 none v Gen.rotates_S288x128_d0))
    w28 (dynamicRotate 0 282#32 none v Gen.rotates_S288x128_d0))
    w29 (dynamicRotate 0 281#32 none v Gen.rotates_S288x128_d0))
    w30 v)

/-- The mean over a group's 128 channels, one entry a row. -/
def meanV (a : FVec F S256x128 .f32) : FVec F S256x1 .f32 :=
  divf (shapeCast S256x1 (multiReduction .add [1] S256 a 0x00000000#32 Gen.reduces_S256x128_S256 (.inl rfl) rfl) Gen.shapeCasts_S256_S256x1)
    (broadcast S256x1 (Scalar.ofBits .f32 0x43000000#32))

/-- A group's normalised rows, before the gain. -/
def normV (a : FVec F S256x128 .f32) : FVec F S256x128 .f32 :=
  mulf a (broadcastTo S256x128 (rsqrt (addf (meanV (mulf a a)) (broadcast S256x1 (Scalar.ofBits .f32 0x358637BD#32)))) Gen.broadcasts_S256x1_S256x128)

/-- A group's rows less their mean. -/
def cenV (a : FVec F S256x128 .f32) : FVec F S256x128 .f32 :=
  subf a (broadcastTo S256x128 (meanV a) Gen.broadcasts_S256x1_S256x128)

/-- Gain and offset of the group normalisation. -/
def affV (a : FVec F S256x128 .f32) (g b : Vec F S1x128 .f32) : FVec F S256x128 .f32 :=
  addf (mulf a (broadcastTo S256x128 (shapeCast S1x128 g Gen.shapeCasts_S1x128_S1x128) Gen.broadcasts_S1x128_S256x128))
    (broadcastTo S256x128 (shapeCast S1x128 b Gen.shapeCasts_S1x128_S1x128) Gen.broadcasts_S1x128_S256x128)

/-- The swish, rounded for the projection. -/
def swishV (a : FVec F S256x128 .f32) : FVec F S256x128 .bf16 :=
  shapeCast S256x128 (truncf .bf16 (mulf a (sigT S256x128 a)) Gen.bitsLt_bf16_f32) Gen.shapeCasts_S256x128_S256x128

/-- One channel group of the convolution branch, up to the projection. -/
def groupV (a : FVec F S256x128 .f32) (g b : Vec F S1x128 .f32) : FVec F S256x128 .bf16 :=
  swishV (affV (normV (cenV a)) g b)

/-- The sum of the rounded logarithms and their remainders within a chunk. -/
def bcV (lg : Vec F S2x1024 .f32) (zf : Vec F S256x1024 .f32) : FVec F S256x1024 .f32 :=
  Gen.k0_pay150 (Gen.k0_pay143 lg zf) (Gen.k0_pay144 lg zf)
    (Gen.k0_pay149 (iota .tc S256x256 32 [0] Gen.iota_S256x256_d0_w32) (iota .tc S256x256 32 [1] Gen.iota_S256x256_d1_w32)
      Gen.k0_pay145 128#32 Gen.k0_pay146 Gen.k0_pay147 Gen.k0_pay148)

/-- Half of the last row of a chunk's summed logarithms. -/
def rrV (b : FVec F S128x128 .f32) : FVec F S1x128 .f32 :=
  mulf (broadcast S1x128 (Scalar.ofBits .f32 0x3F000000#32)) (extractStridedSlice S1x128 ![127, 0] b Gen.slices_S128x128_o127_0_S1x128)

/-- The scaled queries of a chunk. -/
def qtV (b : FVec F S128x128 .f32) (q : Vec F S128x128 .f32) : FVec F S128x128 .f32 :=
  mulf (mulf q (sigT S128x128 q)) (exp (subf b (broadcastTo S128x128 (rrV b) Gen.broadcasts_S1x128_S128x128)))

/-- The scaled keys of a chunk. -/
def ktV (b k : FVec F S128x128 .f32) : FVec F S128x128 .f32 :=
  mulf k (exp (subf (broadcastTo S128x128 (rrV b) Gen.broadcasts_S1x128_S128x128) b))

/-- The masked products of a chunk's queries and keys. -/
def attV (b k : FVec F S128x128 .f32) (q : Vec F S128x128 .f32) : FVec F S128x128 .bf16 :=
  truncf .bf16 (select Gen.k0_pay151
    (matmul dot_S128x128_S128x128_S128x128_1_1_0_0_n_n none (truncf .bf16 (qtV b q) Gen.bitsLt_bf16_f32) (truncf .bf16 (ktV b k) Gen.bitsLt_bf16_f32) (constant S128x128 .f32 0x00000000#32))
    (broadcast S128x128 (Scalar.ofBits .f32 0x00000000#32))) Gen.bitsLt_bf16_f32

/-- A chunk's readout: within the chunk, and of the state before it. -/
def headO (b k : FVec F S128x128 .f32) (q i : Vec F S128x128 .f32) (st : FVec F S128x128 .f32) : FVec F S128x128 .f32 :=
  addf (matmul dot_S128x128_S128x128_S128x128_1_0_0_1_n_n none (attV b k q) (truncf .bf16 i Gen.bitsLt_bf16_f32) (constant S128x128 .f32 0x00000000#32))
    (matmul dot_S128x128_S128x128_S128x128_1_1_0_0_n_n none
      (truncf .bf16 (mulf (qtV b q) (broadcastTo S128x128 (exp (rrV b)) Gen.broadcasts_S1x128_S128x128)) Gen.bitsLt_bf16_f32)
      (truncf .bf16 st Gen.bitsLt_bf16_f32) (constant S128x128 .f32 0x00000000#32))

/-- The state after a chunk. -/
def headSt (b k : FVec F S128x128 .f32) (i : Vec F S128x128 .f32) (st : FVec F S128x128 .f32) : FVec F S128x128 .f32 :=
  addf (mulf st (broadcastTo S128x128 (mulf (exp (rrV b)) (exp (rrV b))) Gen.broadcasts_S1x128_S128x128))
    (matmul dot_S128x128_S128x128_S128x128_0_0_1_1_n_n none (truncf .bf16 i Gen.bitsLt_bf16_f32)
      (truncf .bf16 (mulf (ktV b k) (broadcastTo S128x128 (exp (rrV b)) Gen.broadcasts_S1x128_S128x128)) Gen.bitsLt_bf16_f32)
      (constant S128x128 .f32 0x00000000#32))

/-- A readout's mean square over the head's 128 channels. -/
def msV (o : FVec F S128x128 .f32) : FVec F S128x1 .f32 :=
  divf (shapeCast S128x1 (multiReduction .add [1] S128 (mulf o o) 0x00000000#32 Gen.reduces_S128x128_S128 (.inl rfl) rfl) Gen.shapeCasts_S128_S128x1)
    (broadcast S128x1 (Scalar.ofBits .f32 0x43000000#32))

/-- A readout normalised and gated. -/
def headY (o : FVec F S128x128 .f32) (gam : Vec F S1x128 .f32) (g : Vec F S128x128 .f32) : FVec F S128x128 .bf16 :=
  shapeCast S128x128 (truncf .bf16
    (mulf (mulf (mulf o (broadcastTo S128x128 (rsqrt (addf (msV o) (broadcast S128x1 (Scalar.ofBits .f32 0x358637BD#32)))) Gen.broadcasts_S128x1_S128x128))
        (broadcastTo S128x128 (shapeCast S1x128 gam Gen.shapeCasts_S1x128_S1x128) Gen.broadcasts_S1x128_S128x128))
      (mulf g (sigT S128x128 g))) Gen.bitsLt_bf16_f32) Gen.shapeCasts_S128x128_S128x128

/-- The eight channel groups of the convolution branch, last first, over the history and the block `vb`. -/
def pieces4 (vb : Vec F S288x1024 .f32) (x4 : Vec F S31x1024 .f32) (x5 x6 x7 : Vec F S1x1024 .f32) : List (View.Piece (Elt F) S256x1024 .bf16) :=
  [⟨(Rect.unit ![0, 896] S256x128.size Gen.inb_S256x1024_S256x128_0_896),
      groupV (convV (View.ld vb (Rect.unit ![0, 896] S288x128.size Gen.inb_S288x1024_S288x128_0_896)) (View.ld x5 (Rect.unit ![0, 896] S1x128.size Gen.inb_S1x1024_S1x128_0_896)) (View.ld x4 (Rect.unit ![0, 896] S1x128.size Gen.inb_S31x1024_S1x128_0_896)) (View.ld x4 (Rect.unit ![1, 896] S1x128.size Gen.inb_S31x1024_S1x128_1_896)) (View.ld x4 (Rect.unit ![2, 896] S1x128.size Gen.inb_S31x1024_S1x128_2_896)) (View.ld x4 (Rect.unit ![3, 896] S1x128.size Gen.inb_S31x1024_S1x128_3_896)) (View.ld x4 (Rect.unit ![4, 896] S1x128.size Gen.inb_S31x1024_S1x128_4_896)) (View.ld x4 (Rect.unit ![5, 896] S1x128.size Gen.inb_S31x1024_S1x128_5_896)) (View.ld x4 (Rect.unit ![6, 896] S1x128.size Gen.inb_S31x1024_S1x128_6_896)) (View.ld x4 (Rect.unit ![7, 896] S1x128.size Gen.inb_S31x1024_S1x128_7_896)) (View.ld x4 (Rect.unit ![8, 896] S1x128.size Gen.inb_S31x1024_S1x128_8_896)) (View.ld x4 (Rect.unit ![9, 896] S1x128.size Gen.inb_S31x1024_S1x128_9_896)) (View.ld x4 (Rect.unit ![10, 896] S1x128.size Gen.inb_S31x1024_S1x128_10_896)) (View.ld x4 (Rect.unit ![11, 896] S1x128.size Gen.inb_S31x1024_S1x128_11_896)) (View.ld x4 (Rect.unit ![12, 896] S1x128.size Gen.inb_S31x1024_S1x128_12_896)) (View.ld x4 (Rect.unit ![13, 896] S1x128.size Gen.inb_S31x1024_S1x128_13_896)) (View.ld x4 (Rect.unit ![14, 896] S1x128.size Gen.inb_S31x1024_S1x128_14_896)) (View.ld x4 (Rect.unit ![15, 896] S1x128.size Gen.inb_S31x1024_S1x128_15_896)) (View.ld x4 (Rect.unit ![16, 896] S1x128.size Gen.inb_S31x1024_S1x128_16_896)) (View.ld x4 (Rect.unit ![17, 896] S1x128.size Gen.inb_S31x1024_S1x128_17_896)) (View.ld x4 (Rect.unit ![18, 896] S1x128.size Gen.inb_S31x1024_S1x128_18_896)) (View.ld x4 (Rect.unit ![19, 896] S1x128.size Gen.inb_S31x1024_S1x128_19_896)) (View.ld x4 (Rect.unit ![20, 896] S1x128.size Gen.inb_S31x1024_S1x128_20_896)) (View.ld x4 (Rect.unit ![21, 896] S1x128.size Gen.inb_S31x1024_S1x128_21_896)) (View.ld x4 (Rect.unit ![22, 896] S1x128.size Gen.inb_S31x1024_S1x128_22_896)) (View.ld x4 (Rect.unit ![23, 896] S1x128.size Gen.inb_S31x1024_S1x128_23_896)) (View.ld x4 (Rect.unit ![24, 896] S1x128.size Gen.inb_S31x1024_S1x128_24_896)) (View.ld x4 (Rect.unit ![25, 896] S1x128.size Gen.inb_S31x1024_S1x128_25_896)) (View.ld x4 (Rect.unit ![26, 896] S1x128.size Gen.inb_S31x1024_S1x128_26_896)) (View.ld x4 (Rect.unit ![27, 896] S1x128.size Gen.inb_S31x1024_S1x128_27_896)) (View.ld x4 (Rect.unit ![28, 896] S1x128.size Gen.inb_S31x1024_S1x128_28_896)) (View.ld x4 (Rect.unit ![29, 896] S1x128.size Gen.inb_S31x1024_S1x128_29_896)) (View.ld x4 (Rect.unit ![30, 896] S1x128.size Gen.inb_S31x1024_S1x128_30_896))) (View.ld x6 (Rect.unit ![0, 896] S1x128.size Gen.inb_S1x1024_S1x128_0_896)) (View.ld x7 (Rect.unit ![0, 896] S1x128.size Gen.inb_S1x1024_S1x128_0_896))⟩,
    ⟨(Rect.unit ![0, 768] S256x128.size Gen.inb_S256x1024_S256x128_0_768),
      groupV (convV (View.ld vb (Rect.unit ![0, 768] S288x128.size Gen.inb_S288x1024_S288x128_0_768)) (View.ld x5 (Rect.unit ![0, 768] S1x128.size Gen.inb_S1x1024_S1x128_0_768)) (View.ld x4 (Rect.unit ![0, 768] S1x128.size Gen.inb_S31x1024_S1x128_0_768)) (View.ld x4 (Rect.unit ![1, 768] S1x128.size Gen.inb_S31x1024_S1x128_1_768)) (View.ld x4 (Rect.unit ![2, 768] S1x128.size Gen.inb_S31x1024_S1x128_2_768)) (View.ld x4 (Rect.unit ![3, 768] S1x128.size Gen.inb_S31x1024_S1x128_3_768)) (View.ld x4 (Rect.unit ![4, 768] S1x128.size Gen.inb_S31x1024_S1x128_4_768)) (View.ld x4 (Rect.unit ![5, 768] S1x128.size Gen.inb_S31x1024_S1x128_5_768)) (View.ld x4 (Rect.unit ![6, 768] S1x128.size Gen.inb_S31x1024_S1x128_6_768)) (View.ld x4 (Rect.unit ![7, 768] S1x128.size Gen.inb_S31x1024_S1x128_7_768)) (View.ld x4 (Rect.unit ![8, 768] S1x128.size Gen.inb_S31x1024_S1x128_8_768)) (View.ld x4 (Rect.unit ![9, 768] S1x128.size Gen.inb_S31x1024_S1x128_9_768)) (View.ld x4 (Rect.unit ![10, 768] S1x128.size Gen.inb_S31x1024_S1x128_10_768)) (View.ld x4 (Rect.unit ![11, 768] S1x128.size Gen.inb_S31x1024_S1x128_11_768)) (View.ld x4 (Rect.unit ![12, 768] S1x128.size Gen.inb_S31x1024_S1x128_12_768)) (View.ld x4 (Rect.unit ![13, 768] S1x128.size Gen.inb_S31x1024_S1x128_13_768)) (View.ld x4 (Rect.unit ![14, 768] S1x128.size Gen.inb_S31x1024_S1x128_14_768)) (View.ld x4 (Rect.unit ![15, 768] S1x128.size Gen.inb_S31x1024_S1x128_15_768)) (View.ld x4 (Rect.unit ![16, 768] S1x128.size Gen.inb_S31x1024_S1x128_16_768)) (View.ld x4 (Rect.unit ![17, 768] S1x128.size Gen.inb_S31x1024_S1x128_17_768)) (View.ld x4 (Rect.unit ![18, 768] S1x128.size Gen.inb_S31x1024_S1x128_18_768)) (View.ld x4 (Rect.unit ![19, 768] S1x128.size Gen.inb_S31x1024_S1x128_19_768)) (View.ld x4 (Rect.unit ![20, 768] S1x128.size Gen.inb_S31x1024_S1x128_20_768)) (View.ld x4 (Rect.unit ![21, 768] S1x128.size Gen.inb_S31x1024_S1x128_21_768)) (View.ld x4 (Rect.unit ![22, 768] S1x128.size Gen.inb_S31x1024_S1x128_22_768)) (View.ld x4 (Rect.unit ![23, 768] S1x128.size Gen.inb_S31x1024_S1x128_23_768)) (View.ld x4 (Rect.unit ![24, 768] S1x128.size Gen.inb_S31x1024_S1x128_24_768)) (View.ld x4 (Rect.unit ![25, 768] S1x128.size Gen.inb_S31x1024_S1x128_25_768)) (View.ld x4 (Rect.unit ![26, 768] S1x128.size Gen.inb_S31x1024_S1x128_26_768)) (View.ld x4 (Rect.unit ![27, 768] S1x128.size Gen.inb_S31x1024_S1x128_27_768)) (View.ld x4 (Rect.unit ![28, 768] S1x128.size Gen.inb_S31x1024_S1x128_28_768)) (View.ld x4 (Rect.unit ![29, 768] S1x128.size Gen.inb_S31x1024_S1x128_29_768)) (View.ld x4 (Rect.unit ![30, 768] S1x128.size Gen.inb_S31x1024_S1x128_30_768))) (View.ld x6 (Rect.unit ![0, 768] S1x128.size Gen.inb_S1x1024_S1x128_0_768)) (View.ld x7 (Rect.unit ![0, 768] S1x128.size Gen.inb_S1x1024_S1x128_0_768))⟩,
    ⟨(Rect.unit ![0, 640] S256x128.size Gen.inb_S256x1024_S256x128_0_640),
      groupV (convV (View.ld vb (Rect.unit ![0, 640] S288x128.size Gen.inb_S288x1024_S288x128_0_640)) (View.ld x5 (Rect.unit ![0, 640] S1x128.size Gen.inb_S1x1024_S1x128_0_640)) (View.ld x4 (Rect.unit ![0, 640] S1x128.size Gen.inb_S31x1024_S1x128_0_640)) (View.ld x4 (Rect.unit ![1, 640] S1x128.size Gen.inb_S31x1024_S1x128_1_640)) (View.ld x4 (Rect.unit ![2, 640] S1x128.size Gen.inb_S31x1024_S1x128_2_640)) (View.ld x4 (Rect.unit ![3, 640] S1x128.size Gen.inb_S31x1024_S1x128_3_640)) (View.ld x4 (Rect.unit ![4, 640] S1x128.size Gen.inb_S31x1024_S1x128_4_640)) (View.ld x4 (Rect.unit ![5, 640] S1x128.size Gen.inb_S31x1024_S1x128_5_640)) (View.ld x4 (Rect.unit ![6, 640] S1x128.size Gen.inb_S31x1024_S1x128_6_640)) (View.ld x4 (Rect.unit ![7, 640] S1x128.size Gen.inb_S31x1024_S1x128_7_640)) (View.ld x4 (Rect.unit ![8, 640] S1x128.size Gen.inb_S31x1024_S1x128_8_640)) (View.ld x4 (Rect.unit ![9, 640] S1x128.size Gen.inb_S31x1024_S1x128_9_640)) (View.ld x4 (Rect.unit ![10, 640] S1x128.size Gen.inb_S31x1024_S1x128_10_640)) (View.ld x4 (Rect.unit ![11, 640] S1x128.size Gen.inb_S31x1024_S1x128_11_640)) (View.ld x4 (Rect.unit ![12, 640] S1x128.size Gen.inb_S31x1024_S1x128_12_640)) (View.ld x4 (Rect.unit ![13, 640] S1x128.size Gen.inb_S31x1024_S1x128_13_640)) (View.ld x4 (Rect.unit ![14, 640] S1x128.size Gen.inb_S31x1024_S1x128_14_640)) (View.ld x4 (Rect.unit ![15, 640] S1x128.size Gen.inb_S31x1024_S1x128_15_640)) (View.ld x4 (Rect.unit ![16, 640] S1x128.size Gen.inb_S31x1024_S1x128_16_640)) (View.ld x4 (Rect.unit ![17, 640] S1x128.size Gen.inb_S31x1024_S1x128_17_640)) (View.ld x4 (Rect.unit ![18, 640] S1x128.size Gen.inb_S31x1024_S1x128_18_640)) (View.ld x4 (Rect.unit ![19, 640] S1x128.size Gen.inb_S31x1024_S1x128_19_640)) (View.ld x4 (Rect.unit ![20, 640] S1x128.size Gen.inb_S31x1024_S1x128_20_640)) (View.ld x4 (Rect.unit ![21, 640] S1x128.size Gen.inb_S31x1024_S1x128_21_640)) (View.ld x4 (Rect.unit ![22, 640] S1x128.size Gen.inb_S31x1024_S1x128_22_640)) (View.ld x4 (Rect.unit ![23, 640] S1x128.size Gen.inb_S31x1024_S1x128_23_640)) (View.ld x4 (Rect.unit ![24, 640] S1x128.size Gen.inb_S31x1024_S1x128_24_640)) (View.ld x4 (Rect.unit ![25, 640] S1x128.size Gen.inb_S31x1024_S1x128_25_640)) (View.ld x4 (Rect.unit ![26, 640] S1x128.size Gen.inb_S31x1024_S1x128_26_640)) (View.ld x4 (Rect.unit ![27, 640] S1x128.size Gen.inb_S31x1024_S1x128_27_640)) (View.ld x4 (Rect.unit ![28, 640] S1x128.size Gen.inb_S31x1024_S1x128_28_640)) (View.ld x4 (Rect.unit ![29, 640] S1x128.size Gen.inb_S31x1024_S1x128_29_640)) (View.ld x4 (Rect.unit ![30, 640] S1x128.size Gen.inb_S31x1024_S1x128_30_640))) (View.ld x6 (Rect.unit ![0, 640] S1x128.size Gen.inb_S1x1024_S1x128_0_640)) (View.ld x7 (Rect.unit ![0, 640] S1x128.size Gen.inb_S1x1024_S1x128_0_640))⟩,
    ⟨(Rect.unit ![0, 512] S256x128.size Gen.inb_S256x1024_S256x128_0_512),
      groupV (convV (View.ld vb (Rect.unit ![0, 512] S288x128.size Gen.inb_S288x1024_S288x128_0_512)) (View.ld x5 (Rect.unit ![0, 512] S1x128.size Gen.inb_S1x1024_S1x128_0_512)) (View.ld x4 (Rect.unit ![0, 512] S1x128.size Gen.inb_S31x1024_S1x128_0_512)) (View.ld x4 (Rect.unit ![1, 512] S1x128.size Gen.inb_S31x1024_S1x128_1_512)) (View.ld x4 (Rect.unit ![2, 512] S1x128.size Gen.inb_S31x1024_S1x128_2_512)) (View.ld x4 (Rect.unit ![3, 512] S1x128.size Gen.inb_S31x1024_S1x128_3_512)) (View.ld x4 (Rect.unit ![4, 512] S1x128.size Gen.inb_S31x1024_S1x128_4_512)) (View.ld x4 (Rect.unit ![5, 512] S1x128.size Gen.inb_S31x1024_S1x128_5_512)) (View.ld x4 (Rect.unit ![6, 512] S1x128.size Gen.inb_S31x1024_S1x128_6_512)) (View.ld x4 (Rect.unit ![7, 512] S1x128.size Gen.inb_S31x1024_S1x128_7_512)) (View.ld x4 (Rect.unit ![8, 512] S1x128.size Gen.inb_S31x1024_S1x128_8_512)) (View.ld x4 (Rect.unit ![9, 512] S1x128.size Gen.inb_S31x1024_S1x128_9_512)) (View.ld x4 (Rect.unit ![10, 512] S1x128.size Gen.inb_S31x1024_S1x128_10_512)) (View.ld x4 (Rect.unit ![11, 512] S1x128.size Gen.inb_S31x1024_S1x128_11_512)) (View.ld x4 (Rect.unit ![12, 512] S1x128.size Gen.inb_S31x1024_S1x128_12_512)) (View.ld x4 (Rect.unit ![13, 512] S1x128.size Gen.inb_S31x1024_S1x128_13_512)) (View.ld x4 (Rect.unit ![14, 512] S1x128.size Gen.inb_S31x1024_S1x128_14_512)) (View.ld x4 (Rect.unit ![15, 512] S1x128.size Gen.inb_S31x1024_S1x128_15_512)) (View.ld x4 (Rect.unit ![16, 512] S1x128.size Gen.inb_S31x1024_S1x128_16_512)) (View.ld x4 (Rect.unit ![17, 512] S1x128.size Gen.inb_S31x1024_S1x128_17_512)) (View.ld x4 (Rect.unit ![18, 512] S1x128.size Gen.inb_S31x1024_S1x128_18_512)) (View.ld x4 (Rect.unit ![19, 512] S1x128.size Gen.inb_S31x1024_S1x128_19_512)) (View.ld x4 (Rect.unit ![20, 512] S1x128.size Gen.inb_S31x1024_S1x128_20_512)) (View.ld x4 (Rect.unit ![21, 512] S1x128.size Gen.inb_S31x1024_S1x128_21_512)) (View.ld x4 (Rect.unit ![22, 512] S1x128.size Gen.inb_S31x1024_S1x128_22_512)) (View.ld x4 (Rect.unit ![23, 512] S1x128.size Gen.inb_S31x1024_S1x128_23_512)) (View.ld x4 (Rect.unit ![24, 512] S1x128.size Gen.inb_S31x1024_S1x128_24_512)) (View.ld x4 (Rect.unit ![25, 512] S1x128.size Gen.inb_S31x1024_S1x128_25_512)) (View.ld x4 (Rect.unit ![26, 512] S1x128.size Gen.inb_S31x1024_S1x128_26_512)) (View.ld x4 (Rect.unit ![27, 512] S1x128.size Gen.inb_S31x1024_S1x128_27_512)) (View.ld x4 (Rect.unit ![28, 512] S1x128.size Gen.inb_S31x1024_S1x128_28_512)) (View.ld x4 (Rect.unit ![29, 512] S1x128.size Gen.inb_S31x1024_S1x128_29_512)) (View.ld x4 (Rect.unit ![30, 512] S1x128.size Gen.inb_S31x1024_S1x128_30_512))) (View.ld x6 (Rect.unit ![0, 512] S1x128.size Gen.inb_S1x1024_S1x128_0_512)) (View.ld x7 (Rect.unit ![0, 512] S1x128.size Gen.inb_S1x1024_S1x128_0_512))⟩,
    ⟨(Rect.unit ![0, 384] S256x128.size Gen.inb_S256x1024_S256x128_0_384),
      groupV (convV (View.ld vb (Rect.unit ![0, 384] S288x128.size Gen.inb_S288x1024_S288x128_0_384)) (View.ld x5 (Rect.unit ![0, 384] S1x128.size Gen.inb_S1x1024_S1x128_0_384)) (View.ld x4 (Rect.unit ![0, 384] S1x128.size Gen.inb_S31x1024_S1x128_0_384)) (View.ld x4 (Rect.unit ![1, 384] S1x128.size Gen.inb_S31x1024_S1x128_1_384)) (View.ld x4 (Rect.unit ![2, 384] S1x128.size Gen.inb_S31x1024_S1x128_2_384)) (View.ld x4 (Rect.unit ![3, 384] S1x128.size Gen.inb_S31x1024_S1x128_3_384)) (View.ld x4 (Rect.unit ![4, 384] S1x128.size Gen.inb_S31x1024_S1x128_4_384)) (View.ld x4 (Rect.unit ![5, 384] S1x128.size Gen.inb_S31x1024_S1x128_5_384)) (View.ld x4 (Rect.unit ![6, 384] S1x128.size Gen.inb_S31x1024_S1x128_6_384)) (View.ld x4 (Rect.unit ![7, 384] S1x128.size Gen.inb_S31x1024_S1x128_7_384)) (View.ld x4 (Rect.unit ![8, 384] S1x128.size Gen.inb_S31x1024_S1x128_8_384)) (View.ld x4 (Rect.unit ![9, 384] S1x128.size Gen.inb_S31x1024_S1x128_9_384)) (View.ld x4 (Rect.unit ![10, 384] S1x128.size Gen.inb_S31x1024_S1x128_10_384)) (View.ld x4 (Rect.unit ![11, 384] S1x128.size Gen.inb_S31x1024_S1x128_11_384)) (View.ld x4 (Rect.unit ![12, 384] S1x128.size Gen.inb_S31x1024_S1x128_12_384)) (View.ld x4 (Rect.unit ![13, 384] S1x128.size Gen.inb_S31x1024_S1x128_13_384)) (View.ld x4 (Rect.unit ![14, 384] S1x128.size Gen.inb_S31x1024_S1x128_14_384)) (View.ld x4 (Rect.unit ![15, 384] S1x128.size Gen.inb_S31x1024_S1x128_15_384)) (View.ld x4 (Rect.unit ![16, 384] S1x128.size Gen.inb_S31x1024_S1x128_16_384)) (View.ld x4 (Rect.unit ![17, 384] S1x128.size Gen.inb_S31x1024_S1x128_17_384)) (View.ld x4 (Rect.unit ![18, 384] S1x128.size Gen.inb_S31x1024_S1x128_18_384)) (View.ld x4 (Rect.unit ![19, 384] S1x128.size Gen.inb_S31x1024_S1x128_19_384)) (View.ld x4 (Rect.unit ![20, 384] S1x128.size Gen.inb_S31x1024_S1x128_20_384)) (View.ld x4 (Rect.unit ![21, 384] S1x128.size Gen.inb_S31x1024_S1x128_21_384)) (View.ld x4 (Rect.unit ![22, 384] S1x128.size Gen.inb_S31x1024_S1x128_22_384)) (View.ld x4 (Rect.unit ![23, 384] S1x128.size Gen.inb_S31x1024_S1x128_23_384)) (View.ld x4 (Rect.unit ![24, 384] S1x128.size Gen.inb_S31x1024_S1x128_24_384)) (View.ld x4 (Rect.unit ![25, 384] S1x128.size Gen.inb_S31x1024_S1x128_25_384)) (View.ld x4 (Rect.unit ![26, 384] S1x128.size Gen.inb_S31x1024_S1x128_26_384)) (View.ld x4 (Rect.unit ![27, 384] S1x128.size Gen.inb_S31x1024_S1x128_27_384)) (View.ld x4 (Rect.unit ![28, 384] S1x128.size Gen.inb_S31x1024_S1x128_28_384)) (View.ld x4 (Rect.unit ![29, 384] S1x128.size Gen.inb_S31x1024_S1x128_29_384)) (View.ld x4 (Rect.unit ![30, 384] S1x128.size Gen.inb_S31x1024_S1x128_30_384))) (View.ld x6 (Rect.unit ![0, 384] S1x128.size Gen.inb_S1x1024_S1x128_0_384)) (View.ld x7 (Rect.unit ![0, 384] S1x128.size Gen.inb_S1x1024_S1x128_0_384))⟩,
    ⟨(Rect.unit ![0, 256] S256x128.size Gen.inb_S256x1024_S256x128_0_256),
      groupV (convV (View.ld vb (Rect.unit ![0, 256] S288x128.size Gen.inb_S288x1024_S288x128_0_256)) (View.ld x5 (Rect.unit ![0, 256] S1x128.size Gen.inb_S1x1024_S1x128_0_256)) (View.ld x4 (Rect.unit ![0, 256] S1x128.size Gen.inb_S31x1024_S1x128_0_256)) (View.ld x4 (Rect.unit ![1, 256] S1x128.size Gen.inb_S31x1024_S1x128_1_256)) (View.ld x4 (Rect.unit ![2, 256] S1x128.size Gen.inb_S31x1024_S1x128_2_256)) (View.ld x4 (Rect.unit ![3, 256] S1x128.size Gen.inb_S31x1024_S1x128_3_256)) (View.ld x4 (Rect.unit ![4, 256] S1x128.size Gen.inb_S31x1024_S1x128_4_256)) (View.ld x4 (Rect.unit ![5, 256] S1x128.size Gen.inb_S31x1024_S1x128_5_256)) (View.ld x4 (Rect.unit ![6, 256] S1x128.size Gen.inb_S31x1024_S1x128_6_256)) (View.ld x4 (Rect.unit ![7, 256] S1x128.size Gen.inb_S31x1024_S1x128_7_256)) (View.ld x4 (Rect.unit ![8, 256] S1x128.size Gen.inb_S31x1024_S1x128_8_256)) (View.ld x4 (Rect.unit ![9, 256] S1x128.size Gen.inb_S31x1024_S1x128_9_256)) (View.ld x4 (Rect.unit ![10, 256] S1x128.size Gen.inb_S31x1024_S1x128_10_256)) (View.ld x4 (Rect.unit ![11, 256] S1x128.size Gen.inb_S31x1024_S1x128_11_256)) (View.ld x4 (Rect.unit ![12, 256] S1x128.size Gen.inb_S31x1024_S1x128_12_256)) (View.ld x4 (Rect.unit ![13, 256] S1x128.size Gen.inb_S31x1024_S1x128_13_256)) (View.ld x4 (Rect.unit ![14, 256] S1x128.size Gen.inb_S31x1024_S1x128_14_256)) (View.ld x4 (Rect.unit ![15, 256] S1x128.size Gen.inb_S31x1024_S1x128_15_256)) (View.ld x4 (Rect.unit ![16, 256] S1x128.size Gen.inb_S31x1024_S1x128_16_256)) (View.ld x4 (Rect.unit ![17, 256] S1x128.size Gen.inb_S31x1024_S1x128_17_256)) (View.ld x4 (Rect.unit ![18, 256] S1x128.size Gen.inb_S31x1024_S1x128_18_256)) (View.ld x4 (Rect.unit ![19, 256] S1x128.size Gen.inb_S31x1024_S1x128_19_256)) (View.ld x4 (Rect.unit ![20, 256] S1x128.size Gen.inb_S31x1024_S1x128_20_256)) (View.ld x4 (Rect.unit ![21, 256] S1x128.size Gen.inb_S31x1024_S1x128_21_256)) (View.ld x4 (Rect.unit ![22, 256] S1x128.size Gen.inb_S31x1024_S1x128_22_256)) (View.ld x4 (Rect.unit ![23, 256] S1x128.size Gen.inb_S31x1024_S1x128_23_256)) (View.ld x4 (Rect.unit ![24, 256] S1x128.size Gen.inb_S31x1024_S1x128_24_256)) (View.ld x4 (Rect.unit ![25, 256] S1x128.size Gen.inb_S31x1024_S1x128_25_256)) (View.ld x4 (Rect.unit ![26, 256] S1x128.size Gen.inb_S31x1024_S1x128_26_256)) (View.ld x4 (Rect.unit ![27, 256] S1x128.size Gen.inb_S31x1024_S1x128_27_256)) (View.ld x4 (Rect.unit ![28, 256] S1x128.size Gen.inb_S31x1024_S1x128_28_256)) (View.ld x4 (Rect.unit ![29, 256] S1x128.size Gen.inb_S31x1024_S1x128_29_256)) (View.ld x4 (Rect.unit ![30, 256] S1x128.size Gen.inb_S31x1024_S1x128_30_256))) (View.ld x6 (Rect.unit ![0, 256] S1x128.size Gen.inb_S1x1024_S1x128_0_256)) (View.ld x7 (Rect.unit ![0, 256] S1x128.size Gen.inb_S1x1024_S1x128_0_256))⟩,
    ⟨(Rect.unit ![0, 128] S256x128.size Gen.inb_S256x1024_S256x128_0_128),
      groupV (convV (View.ld vb (Rect.unit ![0, 128] S288x128.size Gen.inb_S288x1024_S288x128_0_128)) (View.ld x5 (Rect.unit ![0, 128] S1x128.size Gen.inb_S1x1024_S1x128_0_128)) (View.ld x4 (Rect.unit ![0, 128] S1x128.size Gen.inb_S31x1024_S1x128_0_128)) (View.ld x4 (Rect.unit ![1, 128] S1x128.size Gen.inb_S31x1024_S1x128_1_128)) (View.ld x4 (Rect.unit ![2, 128] S1x128.size Gen.inb_S31x1024_S1x128_2_128)) (View.ld x4 (Rect.unit ![3, 128] S1x128.size Gen.inb_S31x1024_S1x128_3_128)) (View.ld x4 (Rect.unit ![4, 128] S1x128.size Gen.inb_S31x1024_S1x128_4_128)) (View.ld x4 (Rect.unit ![5, 128] S1x128.size Gen.inb_S31x1024_S1x128_5_128)) (View.ld x4 (Rect.unit ![6, 128] S1x128.size Gen.inb_S31x1024_S1x128_6_128)) (View.ld x4 (Rect.unit ![7, 128] S1x128.size Gen.inb_S31x1024_S1x128_7_128)) (View.ld x4 (Rect.unit ![8, 128] S1x128.size Gen.inb_S31x1024_S1x128_8_128)) (View.ld x4 (Rect.unit ![9, 128] S1x128.size Gen.inb_S31x1024_S1x128_9_128)) (View.ld x4 (Rect.unit ![10, 128] S1x128.size Gen.inb_S31x1024_S1x128_10_128)) (View.ld x4 (Rect.unit ![11, 128] S1x128.size Gen.inb_S31x1024_S1x128_11_128)) (View.ld x4 (Rect.unit ![12, 128] S1x128.size Gen.inb_S31x1024_S1x128_12_128)) (View.ld x4 (Rect.unit ![13, 128] S1x128.size Gen.inb_S31x1024_S1x128_13_128)) (View.ld x4 (Rect.unit ![14, 128] S1x128.size Gen.inb_S31x1024_S1x128_14_128)) (View.ld x4 (Rect.unit ![15, 128] S1x128.size Gen.inb_S31x1024_S1x128_15_128)) (View.ld x4 (Rect.unit ![16, 128] S1x128.size Gen.inb_S31x1024_S1x128_16_128)) (View.ld x4 (Rect.unit ![17, 128] S1x128.size Gen.inb_S31x1024_S1x128_17_128)) (View.ld x4 (Rect.unit ![18, 128] S1x128.size Gen.inb_S31x1024_S1x128_18_128)) (View.ld x4 (Rect.unit ![19, 128] S1x128.size Gen.inb_S31x1024_S1x128_19_128)) (View.ld x4 (Rect.unit ![20, 128] S1x128.size Gen.inb_S31x1024_S1x128_20_128)) (View.ld x4 (Rect.unit ![21, 128] S1x128.size Gen.inb_S31x1024_S1x128_21_128)) (View.ld x4 (Rect.unit ![22, 128] S1x128.size Gen.inb_S31x1024_S1x128_22_128)) (View.ld x4 (Rect.unit ![23, 128] S1x128.size Gen.inb_S31x1024_S1x128_23_128)) (View.ld x4 (Rect.unit ![24, 128] S1x128.size Gen.inb_S31x1024_S1x128_24_128)) (View.ld x4 (Rect.unit ![25, 128] S1x128.size Gen.inb_S31x1024_S1x128_25_128)) (View.ld x4 (Rect.unit ![26, 128] S1x128.size Gen.inb_S31x1024_S1x128_26_128)) (View.ld x4 (Rect.unit ![27, 128] S1x128.size Gen.inb_S31x1024_S1x128_27_128)) (View.ld x4 (Rect.unit ![28, 128] S1x128.size Gen.inb_S31x1024_S1x128_28_128)) (View.ld x4 (Rect.unit ![29, 128] S1x128.size Gen.inb_S31x1024_S1x128_29_128)) (View.ld x4 (Rect.unit ![30, 128] S1x128.size Gen.inb_S31x1024_S1x128_30_128))) (View.ld x6 (Rect.unit ![0, 128] S1x128.size Gen.inb_S1x1024_S1x128_0_128)) (View.ld x7 (Rect.unit ![0, 128] S1x128.size Gen.inb_S1x1024_S1x128_0_128))⟩,
    ⟨(Rect.unit ![0, 0] S256x128.size Gen.inb_S256x1024_S256x128_0_0),
      groupV (convV (View.ld vb (Rect.unit ![0, 0] S288x128.size Gen.inb_S288x1024_S288x128_0_0)) (View.ld x5 (Rect.unit ![0, 0] S1x128.size Gen.inb_S1x1024_S1x128_0_0)) (View.ld x4 (Rect.unit ![0, 0] S1x128.size Gen.inb_S31x1024_S1x128_0_0)) (View.ld x4 (Rect.unit ![1, 0] S1x128.size Gen.inb_S31x1024_S1x128_1_0)) (View.ld x4 (Rect.unit ![2, 0] S1x128.size Gen.inb_S31x1024_S1x128_2_0)) (View.ld x4 (Rect.unit ![3, 0] S1x128.size Gen.inb_S31x1024_S1x128_3_0)) (View.ld x4 (Rect.unit ![4, 0] S1x128.size Gen.inb_S31x1024_S1x128_4_0)) (View.ld x4 (Rect.unit ![5, 0] S1x128.size Gen.inb_S31x1024_S1x128_5_0)) (View.ld x4 (Rect.unit ![6, 0] S1x128.size Gen.inb_S31x1024_S1x128_6_0)) (View.ld x4 (Rect.unit ![7, 0] S1x128.size Gen.inb_S31x1024_S1x128_7_0)) (View.ld x4 (Rect.unit ![8, 0] S1x128.size Gen.inb_S31x1024_S1x128_8_0)) (View.ld x4 (Rect.unit ![9, 0] S1x128.size Gen.inb_S31x1024_S1x128_9_0)) (View.ld x4 (Rect.unit ![10, 0] S1x128.size Gen.inb_S31x1024_S1x128_10_0)) (View.ld x4 (Rect.unit ![11, 0] S1x128.size Gen.inb_S31x1024_S1x128_11_0)) (View.ld x4 (Rect.unit ![12, 0] S1x128.size Gen.inb_S31x1024_S1x128_12_0)) (View.ld x4 (Rect.unit ![13, 0] S1x128.size Gen.inb_S31x1024_S1x128_13_0)) (View.ld x4 (Rect.unit ![14, 0] S1x128.size Gen.inb_S31x1024_S1x128_14_0)) (View.ld x4 (Rect.unit ![15, 0] S1x128.size Gen.inb_S31x1024_S1x128_15_0)) (View.ld x4 (Rect.unit ![16, 0] S1x128.size Gen.inb_S31x1024_S1x128_16_0)) (View.ld x4 (Rect.unit ![17, 0] S1x128.size Gen.inb_S31x1024_S1x128_17_0)) (View.ld x4 (Rect.unit ![18, 0] S1x128.size Gen.inb_S31x1024_S1x128_18_0)) (View.ld x4 (Rect.unit ![19, 0] S1x128.size Gen.inb_S31x1024_S1x128_19_0)) (View.ld x4 (Rect.unit ![20, 0] S1x128.size Gen.inb_S31x1024_S1x128_20_0)) (View.ld x4 (Rect.unit ![21, 0] S1x128.size Gen.inb_S31x1024_S1x128_21_0)) (View.ld x4 (Rect.unit ![22, 0] S1x128.size Gen.inb_S31x1024_S1x128_22_0)) (View.ld x4 (Rect.unit ![23, 0] S1x128.size Gen.inb_S31x1024_S1x128_23_0)) (View.ld x4 (Rect.unit ![24, 0] S1x128.size Gen.inb_S31x1024_S1x128_24_0)) (View.ld x4 (Rect.unit ![25, 0] S1x128.size Gen.inb_S31x1024_S1x128_25_0)) (View.ld x4 (Rect.unit ![26, 0] S1x128.size Gen.inb_S31x1024_S1x128_26_0)) (View.ld x4 (Rect.unit ![27, 0] S1x128.size Gen.inb_S31x1024_S1x128_27_0)) (View.ld x4 (Rect.unit ![28, 0] S1x128.size Gen.inb_S31x1024_S1x128_28_0)) (View.ld x4 (Rect.unit ![29, 0] S1x128.size Gen.inb_S31x1024_S1x128_29_0)) (View.ld x4 (Rect.unit ![30, 0] S1x128.size Gen.inb_S31x1024_S1x128_30_0))) (View.ld x6 (Rect.unit ![0, 0] S1x128.size Gen.inb_S1x1024_S1x128_0_0)) (View.ld x7 (Rect.unit ![0, 0] S1x128.size Gen.inb_S1x1024_S1x128_0_0))⟩]

/-- The gated linear unit of the block, from the projection `z`. -/
def gluV (z : Vec F S256x7168 .f32) : FVec F S256x1024 .f32 :=
  Gen.k0_pay8 (View.ld z (Rect.unit ![0, 0] S256x1024.size Gen.inb_S256x7168_S256x1024_0_0)) (Gen.k0_pay6 (View.ld z (Rect.unit ![0, 1024] S256x1024.size Gen.inb_S256x7168_S256x1024_0_1024))) Gen.k0_pay7

/-- The recurrence's summed logarithms, and its keys, from the projection `z`. -/
def bcZ (z : Vec F S256x7168 .f32) (x10 : Vec F S2x1024 .f32) : FVec F S256x1024 .f32 := bcV (View.ld x10 (Rect.unit ![0, 0] S2x1024.size Gen.inb_S2x1024_S2x1024_0_0)) (View.ld z (Rect.unit ![0, 4096] S256x1024.size Gen.inb_S256x7168_S256x1024_0_4096))
/-- The recurrence's keys, from the projection `z`. -/
def kinZ (z : Vec F S256x7168 .f32) (x10 : Vec F S2x1024 .f32) : FVec F S256x1024 .f32 := Gen.k0_pay141 (View.ld x10 (Rect.unit ![0, 0] S2x1024.size Gen.inb_S2x1024_S2x1024_0_0)) (View.ld z (Rect.unit ![0, 4096] S256x1024.size Gen.inb_S256x7168_S256x1024_0_4096))

/-- Head 0: the state before the block, after its first chunk and after its second; the two chunks' outputs. -/
def s0_0 (s : Vec F S1x128x128 .f32) : FVec F S128x128 .f32 := shapeCast S128x128 s Gen.shapeCasts_S1x128x128_S128x128
/-- Head 0's state after the block's first chunk. -/
def s1_0 (z : Vec F S256x7168 .f32) (x10 : Vec F S2x1024 .f32) (s : Vec F S1x128x128 .f32) : FVec F S128x128 .f32 :=
  headSt (extractStridedSlice S128x128 ![0, 0] (bcZ z x10) Gen.slices_S256x1024_o0_0_S128x128) (extractStridedSlice S128x128 ![0, 0] (kinZ z x10) Gen.slices_S256x1024_o0_0_S128x128) (View.ld z (Rect.unit ![0, 5120] S128x128.size Gen.inb_S256x7168_S128x128_0_5120)) (s0_0 s)
/-- Head 0's state after the block's second chunk. -/
def s2_0 (z : Vec F S256x7168 .f32) (x10 : Vec F S2x1024 .f32) (s : Vec F S1x128x128 .f32) : FVec F S128x128 .f32 :=
  headSt (extractStridedSlice S128x128 ![128, 0] (bcZ z x10) Gen.slices_S256x1024_o128_0_S128x128) (extractStridedSlice S128x128 ![128, 0] (kinZ z x10) Gen.slices_S256x1024_o128_0_S128x128) (View.ld z (Rect.unit ![128, 5120] S128x128.size Gen.inb_S256x7168_S128x128_128_5120)) (s1_0 z x10 s)
/-- Head 0's outputs in the block's first chunk. -/
def y0_0 (z : Vec F S256x7168 .f32) (x10 : Vec F S2x1024 .f32) (x11 : Vec F S1x1024 .f32) (s : Vec F S1x128x128 .f32) : FVec F S128x128 .bf16 :=
  headY (headO (extractStridedSlice S128x128 ![0, 0] (bcZ z x10) Gen.slices_S256x1024_o0_0_S128x128) (extractStridedSlice S128x128 ![0, 0] (kinZ z x10) Gen.slices_S256x1024_o0_0_S128x128) (View.ld z (Rect.unit ![0, 3072] S128x128.size Gen.inb_S256x7168_S128x128_0_3072)) (View.ld z (Rect.unit ![0, 5120] S128x128.size Gen.inb_S256x7168_S128x128_0_5120)) (s0_0 s)) (View.ld x11 (Rect.unit ![0, 0] S1x128.size Gen.inb_S1x1024_S1x128_0_0)) (View.ld z (Rect.unit ![0, 6144] S128x128.size Gen.inb_S256x7168_S128x128_0_6144))
/-- Head 0's outputs in the block's second chunk. -/
def y1_0 (z : Vec F S256x7168 .f32) (x10 : Vec F S2x1024 .f32) (x11 : Vec F S1x1024 .f32) (s : Vec F S1x128x128 .f32) : FVec F S128x128 .bf16 :=
  headY (headO (extractStridedSlice S128x128 ![128, 0] (bcZ z x10) Gen.slices_S256x1024_o128_0_S128x128) (extractStridedSlice S128x128 ![128, 0] (kinZ z x10) Gen.slices_S256x1024_o128_0_S128x128) (View.ld z (Rect.unit ![128, 3072] S128x128.size Gen.inb_S256x7168_S128x128_128_3072)) (View.ld z (Rect.unit ![128, 5120] S128x128.size Gen.inb_S256x7168_S128x128_128_5120)) (s1_0 z x10 s)) (View.ld x11 (Rect.unit ![0, 0] S1x128.size Gen.inb_S1x1024_S1x128_0_0)) (View.ld z (Rect.unit ![128, 6144] S128x128.size Gen.inb_S256x7168_S128x128_128_6144))

/-- Head 1: the state before the block, after its first chunk and after its second; the two chunks' outputs. -/
def s0_1 (s : Vec F S1x128x128 .f32) : FVec F S128x128 .f32 := shapeCast S128x128 s Gen.shapeCasts_S1x128x128_S128x128
/-- Head 1's state after the block's first chunk. -/
def s1_1 (z : Vec F S256x7168 .f32) (x10 : Vec F S2x1024 .f32) (s : Vec F S1x128x128 .f32) : FVec F S128x128 .f32 :=
  headSt (extractStridedSlice S128x128 ![0, 128] (bcZ z x10) Gen.slices_S256x1024_o0_128_S128x128) (extractStridedSlice S128x128 ![0, 128] (kinZ z x10) Gen.slices_S256x1024_o0_128_S128x128) (View.ld z (Rect.unit ![0, 5248] S128x128.size Gen.inb_S256x7168_S128x128_0_5248)) (s0_1 s)
/-- Head 1's state after the block's second chunk. -/
def s2_1 (z : Vec F S256x7168 .f32) (x10 : Vec F S2x1024 .f32) (s : Vec F S1x128x128 .f32) : FVec F S128x128 .f32 :=
  headSt (extractStridedSlice S128x128 ![128, 128] (bcZ z x10) Gen.slices_S256x1024_o128_128_S128x128) (extractStridedSlice S128x128 ![128, 128] (kinZ z x10) Gen.slices_S256x1024_o128_128_S128x128) (View.ld z (Rect.unit ![128, 5248] S128x128.size Gen.inb_S256x7168_S128x128_128_5248)) (s1_1 z x10 s)
/-- Head 1's outputs in the block's first chunk. -/
def y0_1 (z : Vec F S256x7168 .f32) (x10 : Vec F S2x1024 .f32) (x11 : Vec F S1x1024 .f32) (s : Vec F S1x128x128 .f32) : FVec F S128x128 .bf16 :=
  headY (headO (extractStridedSlice S128x128 ![0, 128] (bcZ z x10) Gen.slices_S256x1024_o0_128_S128x128) (extractStridedSlice S128x128 ![0, 128] (kinZ z x10) Gen.slices_S256x1024_o0_128_S128x128) (View.ld z (Rect.unit ![0, 3200] S128x128.size Gen.inb_S256x7168_S128x128_0_3200)) (View.ld z (Rect.unit ![0, 5248] S128x128.size Gen.inb_S256x7168_S128x128_0_5248)) (s0_1 s)) (View.ld x11 (Rect.unit ![0, 128] S1x128.size Gen.inb_S1x1024_S1x128_0_128)) (View.ld z (Rect.unit ![0, 6272] S128x128.size Gen.inb_S256x7168_S128x128_0_6272))
/-- Head 1's outputs in the block's second chunk. -/
def y1_1 (z : Vec F S256x7168 .f32) (x10 : Vec F S2x1024 .f32) (x11 : Vec F S1x1024 .f32) (s : Vec F S1x128x128 .f32) : FVec F S128x128 .bf16 :=
  headY (headO (extractStridedSlice S128x128 ![128, 128] (bcZ z x10) Gen.slices_S256x1024_o128_128_S128x128) (extractStridedSlice S128x128 ![128, 128] (kinZ z x10) Gen.slices_S256x1024_o128_128_S128x128) (View.ld z (Rect.unit ![128, 3200] S128x128.size Gen.inb_S256x7168_S128x128_128_3200)) (View.ld z (Rect.unit ![128, 5248] S128x128.size Gen.inb_S256x7168_S128x128_128_5248)) (s1_1 z x10 s)) (View.ld x11 (Rect.unit ![0, 128] S1x128.size Gen.inb_S1x1024_S1x128_0_128)) (View.ld z (Rect.unit ![128, 6272] S128x128.size Gen.inb_S256x7168_S128x128_128_6272))

/-- Head 2: the state before the block, after its first chunk and after its second; the two chunks' outputs. -/
def s0_2 (s : Vec F S1x128x128 .f32) : FVec F S128x128 .f32 := shapeCast S128x128 s Gen.shapeCasts_S1x128x128_S128x128
/-- Head 2's state after the block's first chunk. -/
def s1_2 (z : Vec F S256x7168 .f32) (x10 : Vec F S2x1024 .f32) (s : Vec F S1x128x128 .f32) : FVec F S128x128 .f32 :=
  headSt (extractStridedSlice S128x128 ![0, 256] (bcZ z x10) Gen.slices_S256x1024_o0_256_S128x128) (extractStridedSlice S128x128 ![0, 256] (kinZ z x10) Gen.slices_S256x1024_o0_256_S128x128) (View.ld z (Rect.unit ![0, 5376] S128x128.size Gen.inb_S256x7168_S128x128_0_5376)) (s0_2 s)
/-- Head 2's state after the block's second chunk. -/
def s2_2 (z : Vec F S256x7168 .f32) (x10 : Vec F S2x1024 .f32) (s : Vec F S1x128x128 .f32) : FVec F S128x128 .f32 :=
  headSt (extractStridedSlice S128x128 ![128, 256] (bcZ z x10) Gen.slices_S256x1024_o128_256_S128x128) (extractStridedSlice S128x128 ![128, 256] (kinZ z x10) Gen.slices_S256x1024_o128_256_S128x128) (View.ld z (Rect.unit ![128, 5376] S128x128.size Gen.inb_S256x7168_S128x128_128_5376)) (s1_2 z x10 s)
/-- Head 2's outputs in the block's first chunk. -/
def y0_2 (z : Vec F S256x7168 .f32) (x10 : Vec F S2x1024 .f32) (x11 : Vec F S1x1024 .f32) (s : Vec F S1x128x128 .f32) : FVec F S128x128 .bf16 :=
  headY (headO (extractStridedSlice S128x128 ![0, 256] (bcZ z x10) Gen.slices_S256x1024_o0_256_S128x128) (extractStridedSlice S128x128 ![0, 256] (kinZ z x10) Gen.slices_S256x1024_o0_256_S128x128) (View.ld z (Rect.unit ![0, 3328] S128x128.size Gen.inb_S256x7168_S128x128_0_3328)) (View.ld z (Rect.unit ![0, 5376] S128x128.size Gen.inb_S256x7168_S128x128_0_5376)) (s0_2 s)) (View.ld x11 (Rect.unit ![0, 256] S1x128.size Gen.inb_S1x1024_S1x128_0_256)) (View.ld z (Rect.unit ![0, 6400] S128x128.size Gen.inb_S256x7168_S128x128_0_6400))
/-- Head 2's outputs in the block's second chunk. -/
def y1_2 (z : Vec F S256x7168 .f32) (x10 : Vec F S2x1024 .f32) (x11 : Vec F S1x1024 .f32) (s : Vec F S1x128x128 .f32) : FVec F S128x128 .bf16 :=
  headY (headO (extractStridedSlice S128x128 ![128, 256] (bcZ z x10) Gen.slices_S256x1024_o128_256_S128x128) (extractStridedSlice S128x128 ![128, 256] (kinZ z x10) Gen.slices_S256x1024_o128_256_S128x128) (View.ld z (Rect.unit ![128, 3328] S128x128.size Gen.inb_S256x7168_S128x128_128_3328)) (View.ld z (Rect.unit ![128, 5376] S128x128.size Gen.inb_S256x7168_S128x128_128_5376)) (s1_2 z x10 s)) (View.ld x11 (Rect.unit ![0, 256] S1x128.size Gen.inb_S1x1024_S1x128_0_256)) (View.ld z (Rect.unit ![128, 6400] S128x128.size Gen.inb_S256x7168_S128x128_128_6400))

/-- Head 3: the state before the block, after its first chunk and after its second; the two chunks' outputs. -/
def s0_3 (s : Vec F S1x128x128 .f32) : FVec F S128x128 .f32 := shapeCast S128x128 s Gen.shapeCasts_S1x128x128_S128x128
/-- Head 3's state after the block's first chunk. -/
def s1_3 (z : Vec F S256x7168 .f32) (x10 : Vec F S2x1024 .f32) (s : Vec F S1x128x128 .f32) : FVec F S128x128 .f32 :=
  headSt (extractStridedSlice S128x128 ![0, 384] (bcZ z x10) Gen.slices_S256x1024_o0_384_S128x128) (extractStridedSlice S128x128 ![0, 384] (kinZ z x10) Gen.slices_S256x1024_o0_384_S128x128) (View.ld z (Rect.unit ![0, 5504] S128x128.size Gen.inb_S256x7168_S128x128_0_5504)) (s0_3 s)
/-- Head 3's state after the block's second chunk. -/
def s2_3 (z : Vec F S256x7168 .f32) (x10 : Vec F S2x1024 .f32) (s : Vec F S1x128x128 .f32) : FVec F S128x128 .f32 :=
  headSt (extractStridedSlice S128x128 ![128, 384] (bcZ z x10) Gen.slices_S256x1024_o128_384_S128x128) (extractStridedSlice S128x128 ![128, 384] (kinZ z x10) Gen.slices_S256x1024_o128_384_S128x128) (View.ld z (Rect.unit ![128, 5504] S128x128.size Gen.inb_S256x7168_S128x128_128_5504)) (s1_3 z x10 s)
/-- Head 3's outputs in the block's first chunk. -/
def y0_3 (z : Vec F S256x7168 .f32) (x10 : Vec F S2x1024 .f32) (x11 : Vec F S1x1024 .f32) (s : Vec F S1x128x128 .f32) : FVec F S128x128 .bf16 :=
  headY (headO (extractStridedSlice S128x128 ![0, 384] (bcZ z x10) Gen.slices_S256x1024_o0_384_S128x128) (extractStridedSlice S128x128 ![0, 384] (kinZ z x10) Gen.slices_S256x1024_o0_384_S128x128) (View.ld z (Rect.unit ![0, 3456] S128x128.size Gen.inb_S256x7168_S128x128_0_3456)) (View.ld z (Rect.unit ![0, 5504] S128x128.size Gen.inb_S256x7168_S128x128_0_5504)) (s0_3 s)) (View.ld x11 (Rect.unit ![0, 384] S1x128.size Gen.inb_S1x1024_S1x128_0_384)) (View.ld z (Rect.unit ![0, 6528] S128x128.size Gen.inb_S256x7168_S128x128_0_6528))
/-- Head 3's outputs in the block's second chunk. -/
def y1_3 (z : Vec F S256x7168 .f32) (x10 : Vec F S2x1024 .f32) (x11 : Vec F S1x1024 .f32) (s : Vec F S1x128x128 .f32) : FVec F S128x128 .bf16 :=
  headY (headO (extractStridedSlice S128x128 ![128, 384] (bcZ z x10) Gen.slices_S256x1024_o128_384_S128x128) (extractStridedSlice S128x128 ![128, 384] (kinZ z x10) Gen.slices_S256x1024_o128_384_S128x128) (View.ld z (Rect.unit ![128, 3456] S128x128.size Gen.inb_S256x7168_S128x128_128_3456)) (View.ld z (Rect.unit ![128, 5504] S128x128.size Gen.inb_S256x7168_S128x128_128_5504)) (s1_3 z x10 s)) (View.ld x11 (Rect.unit ![0, 384] S1x128.size Gen.inb_S1x1024_S1x128_0_384)) (View.ld z (Rect.unit ![128, 6528] S128x128.size Gen.inb_S256x7168_S128x128_128_6528))

/-- Head 4: the state before the block, after its first chunk and after its second; the two chunks' outputs. -/
def s0_4 (s : Vec F S1x128x128 .f32) : FVec F S128x128 .f32 := shapeCast S128x128 s Gen.shapeCasts_S1x128x128_S128x128
/-- Head 4's state after the block's first chunk. -/
def s1_4 (z : Vec F S256x7168 .f32) (x10 : Vec F S2x1024 .f32) (s : Vec F S1x128x128 .f32) : FVec F S128x128 .f32 :=
  headSt (extractStridedSlice S128x128 ![0, 512] (bcZ z x10) Gen.slices_S256x1024_o0_512_S128x128) (extractStridedSlice S128x128 ![0, 512] (kinZ z x10) Gen.slices_S256x1024_o0_512_S128x128) (View.ld z (Rect.unit ![0, 5632] S128x128.size Gen.inb_S256x7168_S128x128_0_5632)) (s0_4 s)
/-- Head 4's state after the block's second chunk. -/
def s2_4 (z : Vec F S256x7168 .f32) (x10 : Vec F S2x1024 .f32) (s : Vec F S1x128x128 .f32) : FVec F S128x128 .f32 :=
  headSt (extractStridedSlice S128x128 ![128, 512] (bcZ z x10) Gen.slices_S256x1024_o128_512_S128x128) (extractStridedSlice S128x128 ![128, 512] (kinZ z x10) Gen.slices_S256x1024_o128_512_S128x128) (View.ld z (Rect.unit ![128, 5632] S128x128.size Gen.inb_S256x7168_S128x128_128_5632)) (s1_4 z x10 s)
/-- Head 4's outputs in the block's first chunk. -/
def y0_4 (z : Vec F S256x7168 .f32) (x10 : Vec F S2x1024 .f32) (x11 : Vec F S1x1024 .f32) (s : Vec F S1x128x128 .f32) : FVec F S128x128 .bf16 :=
  headY (headO (extractStridedSlice S128x128 ![0, 512] (bcZ z x10) Gen.slices_S256x1024_o0_512_S128x128) (extractStridedSlice S128x128 ![0, 512] (kinZ z x10) Gen.slices_S256x1024_o0_512_S128x128) (View.ld z (Rect.unit ![0, 3584] S128x128.size Gen.inb_S256x7168_S128x128_0_3584)) (View.ld z (Rect.unit ![0, 5632] S128x128.size Gen.inb_S256x7168_S128x128_0_5632)) (s0_4 s)) (View.ld x11 (Rect.unit ![0, 512] S1x128.size Gen.inb_S1x1024_S1x128_0_512)) (View.ld z (Rect.unit ![0, 6656] S128x128.size Gen.inb_S256x7168_S128x128_0_6656))
/-- Head 4's outputs in the block's second chunk. -/
def y1_4 (z : Vec F S256x7168 .f32) (x10 : Vec F S2x1024 .f32) (x11 : Vec F S1x1024 .f32) (s : Vec F S1x128x128 .f32) : FVec F S128x128 .bf16 :=
  headY (headO (extractStridedSlice S128x128 ![128, 512] (bcZ z x10) Gen.slices_S256x1024_o128_512_S128x128) (extractStridedSlice S128x128 ![128, 512] (kinZ z x10) Gen.slices_S256x1024_o128_512_S128x128) (View.ld z (Rect.unit ![128, 3584] S128x128.size Gen.inb_S256x7168_S128x128_128_3584)) (View.ld z (Rect.unit ![128, 5632] S128x128.size Gen.inb_S256x7168_S128x128_128_5632)) (s1_4 z x10 s)) (View.ld x11 (Rect.unit ![0, 512] S1x128.size Gen.inb_S1x1024_S1x128_0_512)) (View.ld z (Rect.unit ![128, 6656] S128x128.size Gen.inb_S256x7168_S128x128_128_6656))

/-- Head 5: the state before the block, after its first chunk and after its second; the two chunks' outputs. -/
def s0_5 (s : Vec F S1x128x128 .f32) : FVec F S128x128 .f32 := shapeCast S128x128 s Gen.shapeCasts_S1x128x128_S128x128
/-- Head 5's state after the block's first chunk. -/
def s1_5 (z : Vec F S256x7168 .f32) (x10 : Vec F S2x1024 .f32) (s : Vec F S1x128x128 .f32) : FVec F S128x128 .f32 :=
  headSt (extractStridedSlice S128x128 ![0, 640] (bcZ z x10) Gen.slices_S256x1024_o0_640_S128x128) (extractStridedSlice S128x128 ![0, 640] (kinZ z x10) Gen.slices_S256x1024_o0_640_S128x128) (View.ld z (Rect.unit ![0, 5760] S128x128.size Gen.inb_S256x7168_S128x128_0_5760)) (s0_5 s)
/-- Head 5's state after the block's second chunk. -/
def s2_5 (z : Vec F S256x7168 .f32) (x10 : Vec F S2x1024 .f32) (s : Vec F S1x128x128 .f32) : FVec F S128x128 .f32 :=
  headSt (extractStridedSlice S128x128 ![128, 640] (bcZ z x10) Gen.slices_S256x1024_o128_640_S128x128) (extractStridedSlice S128x128 ![128, 640] (kinZ z x10) Gen.slices_S256x1024_o128_640_S128x128) (View.ld z (Rect.unit ![128, 5760] S128x128.size Gen.inb_S256x7168_S128x128_128_5760)) (s1_5 z x10 s)
/-- Head 5's outputs in the block's first chunk. -/
def y0_5 (z : Vec F S256x7168 .f32) (x10 : Vec F S2x1024 .f32) (x11 : Vec F S1x1024 .f32) (s : Vec F S1x128x128 .f32) : FVec F S128x128 .bf16 :=
  headY (headO (extractStridedSlice S128x128 ![0, 640] (bcZ z x10) Gen.slices_S256x1024_o0_640_S128x128) (extractStridedSlice S128x128 ![0, 640] (kinZ z x10) Gen.slices_S256x1024_o0_640_S128x128) (View.ld z (Rect.unit ![0, 3712] S128x128.size Gen.inb_S256x7168_S128x128_0_3712)) (View.ld z (Rect.unit ![0, 5760] S128x128.size Gen.inb_S256x7168_S128x128_0_5760)) (s0_5 s)) (View.ld x11 (Rect.unit ![0, 640] S1x128.size Gen.inb_S1x1024_S1x128_0_640)) (View.ld z (Rect.unit ![0, 6784] S128x128.size Gen.inb_S256x7168_S128x128_0_6784))
/-- Head 5's outputs in the block's second chunk. -/
def y1_5 (z : Vec F S256x7168 .f32) (x10 : Vec F S2x1024 .f32) (x11 : Vec F S1x1024 .f32) (s : Vec F S1x128x128 .f32) : FVec F S128x128 .bf16 :=
  headY (headO (extractStridedSlice S128x128 ![128, 640] (bcZ z x10) Gen.slices_S256x1024_o128_640_S128x128) (extractStridedSlice S128x128 ![128, 640] (kinZ z x10) Gen.slices_S256x1024_o128_640_S128x128) (View.ld z (Rect.unit ![128, 3712] S128x128.size Gen.inb_S256x7168_S128x128_128_3712)) (View.ld z (Rect.unit ![128, 5760] S128x128.size Gen.inb_S256x7168_S128x128_128_5760)) (s1_5 z x10 s)) (View.ld x11 (Rect.unit ![0, 640] S1x128.size Gen.inb_S1x1024_S1x128_0_640)) (View.ld z (Rect.unit ![128, 6784] S128x128.size Gen.inb_S256x7168_S128x128_128_6784))

/-- Head 6: the state before the block, after its first chunk and after its second; the two chunks' outputs. -/
def s0_6 (s : Vec F S1x128x128 .f32) : FVec F S128x128 .f32 := shapeCast S128x128 s Gen.shapeCasts_S1x128x128_S128x128
/-- Head 6's state after the block's first chunk. -/
def s1_6 (z : Vec F S256x7168 .f32) (x10 : Vec F S2x1024 .f32) (s : Vec F S1x128x128 .f32) : FVec F S128x128 .f32 :=
  headSt (extractStridedSlice S128x128 ![0, 768] (bcZ z x10) Gen.slices_S256x1024_o0_768_S128x128) (extractStridedSlice S128x128 ![0, 768] (kinZ z x10) Gen.slices_S256x1024_o0_768_S128x128) (View.ld z (Rect.unit ![0, 5888] S128x128.size Gen.inb_S256x7168_S128x128_0_5888)) (s0_6 s)
/-- Head 6's state after the block's second chunk. -/
def s2_6 (z : Vec F S256x7168 .f32) (x10 : Vec F S2x1024 .f32) (s : Vec F S1x128x128 .f32) : FVec F S128x128 .f32 :=
  headSt (extractStridedSlice S128x128 ![128, 768] (bcZ z x10) Gen.slices_S256x1024_o128_768_S128x128) (extractStridedSlice S128x128 ![128, 768] (kinZ z x10) Gen.slices_S256x1024_o128_768_S128x128) (View.ld z (Rect.unit ![128, 5888] S128x128.size Gen.inb_S256x7168_S128x128_128_5888)) (s1_6 z x10 s)
/-- Head 6's outputs in the block's first chunk. -/
def y0_6 (z : Vec F S256x7168 .f32) (x10 : Vec F S2x1024 .f32) (x11 : Vec F S1x1024 .f32) (s : Vec F S1x128x128 .f32) : FVec F S128x128 .bf16 :=
  headY (headO (extractStridedSlice S128x128 ![0, 768] (bcZ z x10) Gen.slices_S256x1024_o0_768_S128x128) (extractStridedSlice S128x128 ![0, 768] (kinZ z x10) Gen.slices_S256x1024_o0_768_S128x128) (View.ld z (Rect.unit ![0, 3840] S128x128.size Gen.inb_S256x7168_S128x128_0_3840)) (View.ld z (Rect.unit ![0, 5888] S128x128.size Gen.inb_S256x7168_S128x128_0_5888)) (s0_6 s)) (View.ld x11 (Rect.unit ![0, 768] S1x128.size Gen.inb_S1x1024_S1x128_0_768)) (View.ld z (Rect.unit ![0, 6912] S128x128.size Gen.inb_S256x7168_S128x128_0_6912))
/-- Head 6's outputs in the block's second chunk. -/
def y1_6 (z : Vec F S256x7168 .f32) (x10 : Vec F S2x1024 .f32) (x11 : Vec F S1x1024 .f32) (s : Vec F S1x128x128 .f32) : FVec F S128x128 .bf16 :=
  headY (headO (extractStridedSlice S128x128 ![128, 768] (bcZ z x10) Gen.slices_S256x1024_o128_768_S128x128) (extractStridedSlice S128x128 ![128, 768] (kinZ z x10) Gen.slices_S256x1024_o128_768_S128x128) (View.ld z (Rect.unit ![128, 3840] S128x128.size Gen.inb_S256x7168_S128x128_128_3840)) (View.ld z (Rect.unit ![128, 5888] S128x128.size Gen.inb_S256x7168_S128x128_128_5888)) (s1_6 z x10 s)) (View.ld x11 (Rect.unit ![0, 768] S1x128.size Gen.inb_S1x1024_S1x128_0_768)) (View.ld z (Rect.unit ![128, 6912] S128x128.size Gen.inb_S256x7168_S128x128_128_6912))

/-- Head 7: the state before the block, after its first chunk and after its second; the two chunks' outputs. -/
def s0_7 (s : Vec F S1x128x128 .f32) : FVec F S128x128 .f32 := shapeCast S128x128 s Gen.shapeCasts_S1x128x128_S128x128
/-- Head 7's state after the block's first chunk. -/
def s1_7 (z : Vec F S256x7168 .f32) (x10 : Vec F S2x1024 .f32) (s : Vec F S1x128x128 .f32) : FVec F S128x128 .f32 :=
  headSt (extractStridedSlice S128x128 ![0, 896] (bcZ z x10) Gen.slices_S256x1024_o0_896_S128x128) (extractStridedSlice S128x128 ![0, 896] (kinZ z x10) Gen.slices_S256x1024_o0_896_S128x128) (View.ld z (Rect.unit ![0, 6016] S128x128.size Gen.inb_S256x7168_S128x128_0_6016)) (s0_7 s)
/-- Head 7's state after the block's second chunk. -/
def s2_7 (z : Vec F S256x7168 .f32) (x10 : Vec F S2x1024 .f32) (s : Vec F S1x128x128 .f32) : FVec F S128x128 .f32 :=
  headSt (extractStridedSlice S128x128 ![128, 896] (bcZ z x10) Gen.slices_S256x1024_o128_896_S128x128) (extractStridedSlice S128x128 ![128, 896] (kinZ z x10) Gen.slices_S256x1024_o128_896_S128x128) (View.ld z (Rect.unit ![128, 6016] S128x128.size Gen.inb_S256x7168_S128x128_128_6016)) (s1_7 z x10 s)
/-- Head 7's outputs in the block's first chunk. -/
def y0_7 (z : Vec F S256x7168 .f32) (x10 : Vec F S2x1024 .f32) (x11 : Vec F S1x1024 .f32) (s : Vec F S1x128x128 .f32) : FVec F S128x128 .bf16 :=
  headY (headO (extractStridedSlice S128x128 ![0, 896] (bcZ z x10) Gen.slices_S256x1024_o0_896_S128x128) (extractStridedSlice S128x128 ![0, 896] (kinZ z x10) Gen.slices_S256x1024_o0_896_S128x128) (View.ld z (Rect.unit ![0, 3968] S128x128.size Gen.inb_S256x7168_S128x128_0_3968)) (View.ld z (Rect.unit ![0, 6016] S128x128.size Gen.inb_S256x7168_S128x128_0_6016)) (s0_7 s)) (View.ld x11 (Rect.unit ![0, 896] S1x128.size Gen.inb_S1x1024_S1x128_0_896)) (View.ld z (Rect.unit ![0, 7040] S128x128.size Gen.inb_S256x7168_S128x128_0_7040))
/-- Head 7's outputs in the block's second chunk. -/
def y1_7 (z : Vec F S256x7168 .f32) (x10 : Vec F S2x1024 .f32) (x11 : Vec F S1x1024 .f32) (s : Vec F S1x128x128 .f32) : FVec F S128x128 .bf16 :=
  headY (headO (extractStridedSlice S128x128 ![128, 896] (bcZ z x10) Gen.slices_S256x1024_o128_896_S128x128) (extractStridedSlice S128x128 ![128, 896] (kinZ z x10) Gen.slices_S256x1024_o128_896_S128x128) (View.ld z (Rect.unit ![128, 3968] S128x128.size Gen.inb_S256x7168_S128x128_128_3968)) (View.ld z (Rect.unit ![128, 6016] S128x128.size Gen.inb_S256x7168_S128x128_128_6016)) (s1_7 z x10 s)) (View.ld x11 (Rect.unit ![0, 896] S1x128.size Gen.inb_S1x1024_S1x128_0_896)) (View.ld z (Rect.unit ![128, 7040] S128x128.size Gen.inb_S256x7168_S128x128_128_7040))

/-- The mixed outputs, last first: each head's two chunks and the convolution branch's projection. -/
def pieces3 (cv : Vec F S256x1024 .bf16) (z : Vec F S256x7168 .f32) (x8 : Vec F S1024x1024 .bf16) (x9 : Vec F S1x1024 .f32)
    (x10 : Vec F S2x1024 .f32) (x11 : Vec F S1x1024 .f32) (t0 t1 t2 t3 t4 t5 t6 t7 : Vec F S1x128x128 .f32) : List (View.Piece (Elt F) S256x2048 .bf16) :=
  [⟨(Rect.unit ![128, 1920] S128x128.size Gen.inb_S256x2048_S128x128_128_1920), y1_7 z x10 x11 t7⟩,
    ⟨(Rect.unit ![0, 1920] S128x128.size Gen.inb_S256x2048_S128x128_0_1920), y0_7 z x10 x11 t7⟩,
    ⟨(Rect.unit ![128, 1792] S128x128.size Gen.inb_S256x2048_S128x128_128_1792), y1_6 z x10 x11 t6⟩,
    ⟨(Rect.unit ![0, 1792] S128x128.size Gen.inb_S256x2048_S128x128_0_1792), y0_6 z x10 x11 t6⟩,
    ⟨(Rect.unit ![128, 1664] S128x128.size Gen.inb_S256x2048_S128x128_128_1664), y1_5 z x10 x11 t5⟩,
    ⟨(Rect.unit ![0, 1664] S128x128.size Gen.inb_S256x2048_S128x128_0_1664), y0_5 z x10 x11 t5⟩,
    ⟨(Rect.unit ![128, 1536] S128x128.size Gen.inb_S256x2048_S128x128_128_1536), y1_4 z x10 x11 t4⟩,
    ⟨(Rect.unit ![0, 1536] S128x128.size Gen.inb_S256x2048_S128x128_0_1536), y0_4 z x10 x11 t4⟩,
    ⟨(Rect.unit ![128, 1408] S128x128.size Gen.inb_S256x2048_S128x128_128_1408), y1_3 z x10 x11 t3⟩,
    ⟨(Rect.unit ![0, 1408] S128x128.size Gen.inb_S256x2048_S128x128_0_1408), y0_3 z x10 x11 t3⟩,
    ⟨(Rect.unit ![128, 1280] S128x128.size Gen.inb_S256x2048_S128x128_128_1280), y1_2 z x10 x11 t2⟩,
    ⟨(Rect.unit ![0, 1280] S128x128.size Gen.inb_S256x2048_S128x128_0_1280), y0_2 z x10 x11 t2⟩,
    ⟨(Rect.unit ![128, 1152] S128x128.size Gen.inb_S256x2048_S128x128_128_1152), y1_1 z x10 x11 t1⟩,
    ⟨(Rect.unit ![0, 1152] S128x128.size Gen.inb_S256x2048_S128x128_0_1152), y0_1 z x10 x11 t1⟩,
    ⟨(Rect.unit ![128, 1024] S128x128.size Gen.inb_S256x2048_S128x128_128_1024), y1_0 z x10 x11 t0⟩,
    ⟨(Rect.unit ![0, 1024] S128x128.size Gen.inb_S256x2048_S128x128_0_1024), y0_0 z x10 x11 t0⟩,
    ⟨(Rect.unit ![0, 0] S256x1024.size Gen.inb_S256x2048_S256x1024_0_0), Gen.k0_pay137 (Gen.k0_pay136 (View.ld cv (Rect.unit ![0, 0] S256x1024.size Gen.inb_S256x1024_S256x1024_0_0)) (View.ld x8 (Rect.unit ![0, 0] S1024x1024.size Gen.inb_S1024x1024_S1024x1024_0_0)) (View.ld x9 (Rect.unit ![0, 0] S1x1024.size Gen.inb_S1x1024_S1x1024_0_0)) (View.ld z (Rect.unit ![0, 2048] S256x1024.size Gen.inb_S256x7168_S256x1024_0_2048)))⟩]

/-- The eight heads' states after the block, last first. -/
def pieces2 (z : Vec F S256x7168 .f32) (x10 : Vec F S2x1024 .f32) (t0 t1 t2 t3 t4 t5 t6 t7 : Vec F S1x128x128 .f32) : List (View.Piece (Elt F) S8x128x128 .f32) :=
  [⟨(Rect.unit ![7, 0, 0] S1x128x128.size Gen.inb_S8x128x128_S1x128x128_7_0_0), shapeCast S1x128x128 (s2_7 z x10 t7) Gen.shapeCasts_S128x128_S1x128x128⟩,
    ⟨(Rect.unit ![6, 0, 0] S1x128x128.size Gen.inb_S8x128x128_S1x128x128_6_0_0), shapeCast S1x128x128 (s2_6 z x10 t6) Gen.shapeCasts_S128x128_S1x128x128⟩,
    ⟨(Rect.unit ![5, 0, 0] S1x128x128.size Gen.inb_S8x128x128_S1x128x128_5_0_0), shapeCast S1x128x128 (s2_5 z x10 t5) Gen.shapeCasts_S128x128_S1x128x128⟩,
    ⟨(Rect.unit ![4, 0, 0] S1x128x128.size Gen.inb_S8x128x128_S1x128x128_4_0_0), shapeCast S1x128x128 (s2_4 z x10 t4) Gen.shapeCasts_S128x128_S1x128x128⟩,
    ⟨(Rect.unit ![3, 0, 0] S1x128x128.size Gen.inb_S8x128x128_S1x128x128_3_0_0), shapeCast S1x128x128 (s2_3 z x10 t3) Gen.shapeCasts_S128x128_S1x128x128⟩,
    ⟨(Rect.unit ![2, 0, 0] S1x128x128.size Gen.inb_S8x128x128_S1x128x128_2_0_0), shapeCast S1x128x128 (s2_2 z x10 t2) Gen.shapeCasts_S128x128_S1x128x128⟩,
    ⟨(Rect.unit ![1, 0, 0] S1x128x128.size Gen.inb_S8x128x128_S1x128x128_1_0_0), shapeCast S1x128x128 (s2_1 z x10 t1) Gen.shapeCasts_S128x128_S1x128x128⟩,
    ⟨(Rect.unit ![0, 0, 0] S1x128x128.size Gen.inb_S8x128x128_S1x128x128_0_0_0), shapeCast S1x128x128 (s2_0 z x10 t0) Gen.shapeCasts_S128x128_S1x128x128⟩]

/-- The residual stream after the mixers' output projection. -/
def hV (x0 : Vec F S1x256x1024 .f32) (y : Vec F S256x2048 .bf16) (x12 : Vec F S2048x1024 .bf16) : FVec F S256x1024 .f32 :=
  Gen.k0_pay324 (Gen.k0_pay4 (View.ld x0 (Rect.unit ![0, 0, 0] S1x256x1024.size Gen.inb_S1x256x1024_S1x256x1024_0_0_0))) (View.ld y (Rect.unit ![0, 0] S256x2048.size Gen.inb_S256x2048_S256x2048_0_0)) (View.ld x12 (Rect.unit ![0, 0] S2048x1024.size Gen.inb_S2048x1024_S2048x1024_0_0))

/-- The block's result. -/
def outV (x0 : Vec F S1x256x1024 .f32) (x1 : Vec F S1x256x256 .f32) (y : Vec F S256x2048 .bf16) (x12 : Vec F S2048x1024 .bf16)
    (x13 : Vec F S1x1024 .f32) (x14 : Vec F S1024x1024 .bf16) (x15 : Vec F S256x1024 .bf16) (x16 : Vec F S1x1024 .f32) : FVec F S1x256x1024 .f32 :=
  Gen.k0_pay1 (Gen.k0_pay329 (hV x0 y x12)
    (Gen.k0_pay325 (View.ld x1 (Rect.unit ![0, 0, 0] S1x256x256.size Gen.inb_S1x256x256_S1x256x256_0_0_0)) (View.ld x15 (Rect.unit ![0, 0] S256x1024.size Gen.inb_S256x1024_S256x1024_0_0)))
    (Gen.k0_pay326 (View.ld x13 (Rect.unit ![0, 0] S1x1024.size Gen.inb_S1x1024_S1x1024_0_0)))
    (Gen.k0_pay327 (Gen.k0_pay4 (View.ld x0 (Rect.unit ![0, 0, 0] S1x256x1024.size Gen.inb_S1x256x1024_S1x256x1024_0_0_0))) (View.ld y (Rect.unit ![0, 0] S256x2048.size Gen.inb_S256x2048_S256x2048_0_0)) (View.ld x12 (Rect.unit ![0, 0] S2048x1024.size Gen.inb_S2048x1024_S2048x1024_0_0)))
    Gen.k0_pay328 (View.ld x14 (Rect.unit ![0, 0] S1024x1024.size Gen.inb_S1024x1024_S1024x1024_0_0)) (View.ld x16 (Rect.unit ![0, 0] S1x1024.size Gen.inb_S1x1024_S1x1024_0_0)))

/-- The block's projection. -/
def zV (x0 : Vec F S1x256x1024 .f32) (x2 : Vec F S1x1024 .f32) (x3 : Vec F S1024x7168 .bf16) : FVec F S256x7168 .f32 :=
  Gen.k0_pay5 (View.ld x0 (Rect.unit ![0, 0, 0] S1x256x1024.size Gen.inb_S1x256x1024_S1x256x1024_0_0_0)) (View.ld x2 (Rect.unit ![0, 0] S1x1024.size Gen.inb_S1x1024_S1x1024_0_0)) (View.ld x3 (Rect.unit ![0, 0] S1024x7168.size Gen.inb_S1024x7168_S1024x7168_0_0))
end Cert.Layer

end
-- ==== Proof.KerRead.lean ====
/- The kernel's arrays read at an index: each is the layer's quantity at the block's time step and channel. -/
module

public import proofs.«01_k».proof.Proof.KerFn
public import proofs.«01_k».proof.Proof.Real

@[expose] public section

set_option maxRecDepth 16384

noncomputable section

namespace Cert.Layer

open Idealize.ShloMosaic Cert.KernelIdeal Cert.KernelIdeal.Gen

/-- The kernel's logistic at an element, in the printed constants. -/
theorem sig_half (x : EReal) : Ideal.ofBits .f32 1056964608#32 * Ideal.tanh (Ideal.ofBits .f32 1056964608#32 * x)
    + Ideal.ofBits .f32 1056964608#32 = Ideal.logistic x := by
  rw [← sig_tanh, ← half_eq]

/-- The word of one. -/
theorem one_eq : Ideal.ofBits .f32 1065353216#32 = 1 := by
  simp [Ideal.ofBits, Ideal.ieee]
  rw [← EReal.coe_mul, ← EReal.coe_one]
  norm_num

/-- The arrays a block reads, tied to the weights, the batch row's stream and its per-layer embedding from step `T0` on. -/
structure Ties (W : Wts) (xr : ℕ → Fin 1024 → EReal) (pr : ℕ → Fin 256 → EReal) (T0 : ℕ)
    (x0 : Vec Ideal S1x256x1024 .f32) (x1 : Vec Ideal S1x256x256 .f32) (x2 : Vec Ideal S1x1024 .f32) (x3 : Vec Ideal S1024x7168 .bf16)
    (x4 : Vec Ideal S31x1024 .f32) (x5 x6 x7 : Vec Ideal S1x1024 .f32) (x8 : Vec Ideal S1024x1024 .bf16) (x9 : Vec Ideal S1x1024 .f32)
    (x10 : Vec Ideal S2x1024 .f32) (x11 : Vec Ideal S1x1024 .f32) (x12 : Vec Ideal S2048x1024 .bf16) (x13 : Vec Ideal S1x1024 .f32)
    (x14 : Vec Ideal S1024x1024 .bf16) (x15 : Vec Ideal S256x1024 .bf16) (x16 : Vec Ideal S1x1024 .f32) : Prop where
  h0 : ∀ (r : Fin 256) (c : Fin 1024), x0 (ix3 0 r c) = xr (T0 + r) c
  h1 : ∀ (r : Fin 256) (c : Fin 256), x1 (ix3 0 r c) = pr (T0 + r) c
  h2 : ∀ c : Fin 1024, x2 (ix2 0 c) = W.lng c
  h3 : ∀ (c : Fin 1024) (n : Fin 7168), x3 (ix2 c n) = W.win c n
  h4 : ∀ (j : Fin 31) (c : Fin 1024), x4 (ix2 j c) = W.cw j c
  h5 : ∀ c : Fin 1024, x5 (ix2 0 c) = W.cb c
  h6 : ∀ c : Fin 1024, x6 (ix2 0 c) = W.cg c
  h7 : ∀ c : Fin 1024, x7 (ix2 0 c) = W.ce c
  h8 : ∀ (c : Fin 1024) (n : Fin 1024), x8 (ix2 c n) = W.wp2 c n
  h9 : ∀ c : Fin 1024, x9 (ix2 0 c) = W.bp2 c
  h10 : ∀ (i : Fin 2) (c : Fin 1024), x10 (ix2 i c) = W.lg i c
  h11 : ∀ c : Fin 1024, x11 (ix2 0 c) = W.og c
  h12 : ∀ (c : Fin 2048) (n : Fin 1024), x12 (ix2 c n) = W.wo c n
  h13 : ∀ c : Fin 1024, x13 (ix2 0 c) = W.pg c
  h14 : ∀ (c : Fin 1024) (n : Fin 1024), x14 (ix2 c n) = W.wpg c n
  h15 : ∀ (c : Fin 256) (n : Fin 1024), x15 (ix2 c n) = W.wpp c n
  h16 : ∀ c : Fin 1024, x16 (ix2 0 c) = W.fg c

variable {W : Wts} {xr : ℕ → Fin 1024 → EReal} {pr : ℕ → Fin 256 → EReal} {T0 : ℕ}
  {x0 : Vec Ideal S1x256x1024 .f32} {x1 : Vec Ideal S1x256x256 .f32} {x2 : Vec Ideal S1x1024 .f32} {x3 : Vec Ideal S1024x7168 .bf16}
  {x4 : Vec Ideal S31x1024 .f32} {x5 x6 x7 : Vec Ideal S1x1024 .f32} {x8 : Vec Ideal S1024x1024 .bf16} {x9 : Vec Ideal S1x1024 .f32}
  {x10 : Vec Ideal S2x1024 .f32} {x11 : Vec Ideal S1x1024 .f32} {x12 : Vec Ideal S2048x1024 .bf16} {x13 : Vec Ideal S1x1024 .f32}
  {x14 : Vec Ideal S1024x1024 .bf16} {x15 : Vec Ideal S256x1024 .bf16} {x16 : Vec Ideal S1x1024 .f32}
  (H : Ties W xr pr T0 x0 x1 x2 x3 x4 x5 x6 x7 x8 x9 x10 x11 x12 x13 x14 x15 x16)

include H in
/-- The projection. -/
theorem zV_read (r : Fin 256) (n : Fin 7168) : zV x0 x2 x3 (ix2 r n) = z W xr (T0 + r) n := by
  unfold zV k0_pay5 k0_pay4
  pointwise
  simp only [H.h0, H.h2, H.h3]
  rfl

/-- The gated linear unit. -/
theorem gluV_read {Z : Vec Ideal S256x7168 .f32} (hZ : ∀ r n, Z (ix2 r n) = z W xr (T0 + r.val) n) (r : Fin 256) (l : Fin 1024) :
    gluV Z (ix2 r l) = glu W xr (T0 + r) l := by
  unfold gluV k0_pay6 k0_pay7 k0_pay8
  pointwise
  have e : col 0 (by omega) l = ⟨l.val, by omega⟩ := Fin.ext (Nat.zero_add _)
  rw [sig_half, hZ, hZ, glu, e]
  rfl

/-- A gated linear unit counted from 32 steps before the sequence, zero there. -/
def gluH (W : Wts) (xr : ℕ → Fin 1024 → EReal) (n : ℕ) (c : Fin 1024) : EReal := if n < 32 then 0 else glu W xr (n - 32) c

/-- The convolution's history is the padded gated unit, two rows on. -/
theorem gluH_two (n : ℕ) (c : Fin 1024) : gluH W xr (n + 2) c = gluP W xr n c := by
  unfold gluH gluP
  by_cases h : n < 30
  · rw [if_pos h, if_pos (by omega)]
  · rw [if_neg h, if_neg (by omega)]; congr 1

/-- The convolution of one channel group at a row and a lane. -/
theorem convV_read (v : Vec Ideal S288x128 .f32) (bias : Vec Ideal S1x128 .f32) (w : Fin 31 → Vec Ideal S1x128 .f32) (r : Fin 256) (l : Fin 128) :
    convV v bias (w 0) (w 1) (w 2) (w 3) (w 4) (w 5) (w 6) (w 7) (w 8) (w 9) (w 10) (w 11) (w 12) (w 13) (w 14) (w 15) (w 16) (w 17) (w 18)
      (w 19) (w 20) (w 21) (w 22) (w 23) (w 24) (w 25) (w 26) (w 27) (w 28) (w 29) (w 30) (ix2 r l)
      = bias (ix2 0 l) + ∑ j : Fin 31, w j (ix2 0 l) * v (ix2 ⟨r.val + 2 + j.val, by omega⟩ l) := by
  unfold convV tap
  pointwise
  obtain ⟨g, hg⟩ : ∃ g : ℕ → EReal, ∀ (n : ℕ) (h : n < 288), v (ix2 ⟨n, h⟩ l) = g n :=
    ⟨fun n => if h : n < 288 then v (ix2 ⟨n, h⟩ l) else 0, fun n h => by dsimp only; rw [dif_pos h]⟩
  obtain ⟨u, hu⟩ : ∃ u : ℕ → EReal, ∀ j : Fin 31, w j (ix2 0 l) = u j.val :=
    ⟨fun j => if h : j < 31 then w ⟨j, h⟩ (ix2 0 l) else 0, fun j => by dsimp only; rw [dif_pos j.isLt]⟩
  simp only [hg, hu]
  rw [Fin.sum_univ_eq_sum_range (fun j => u j * g (r.val + 2 + j)) 31]
  simp only [Finset.sum_range_succ, Finset.sum_range_zero, zero_add, ← add_assoc]
  rw [
    show (r.val + 288 - 286) % 288 = r.val + 2 + 0 by omega,
    show (r.val + 288 - 285) % 288 = r.val + 2 + 1 by omega,
    show (r.val + 288 - 284) % 288 = r.val + 2 + 2 by omega,
    show (r.val + 288 - 283) % 288 = r.val + 2 + 3 by omega,
    show (r.val + 288 - 282) % 288 = r.val + 2 + 4 by omega,
    show (r.val + 288 - 281) % 288 = r.val + 2 + 5 by omega,
    show (8 + r.val + 288 - 287) % 288 = r.val + 2 + 7 by omega,
    show (8 + r.val + 288 - 286) % 288 = r.val + 2 + 8 by omega,
    show (8 + r.val + 288 - 285) % 288 = r.val + 2 + 9 by omega,
    show (8 + r.val + 288 - 284) % 288 = r.val + 2 + 10 by omega,
    show (8 + r.val + 288 - 283) % 288 = r.val + 2 + 11 by omega,
    show (8 + r.val + 288 - 282) % 288 = r.val + 2 + 12 by omega,
    show (8 + r.val + 288 - 281) % 288 = r.val + 2 + 13 by omega,
    show (16 + r.val + 288 - 287) % 288 = r.val + 2 + 15 by omega,
    show (16 + r.val + 288 - 286) % 288 = r.val + 2 + 16 by omega,
    show (16 + r.val + 288 - 285) % 288 = r.val + 2 + 17 by omega,
    show (16 + r.val + 288 - 284) % 288 = r.val + 2 + 18 by omega,
    show (16 + r.val + 288 - 283) % 288 = r.val + 2 + 19 by omega,
    show (16 + r.val + 288 - 282) % 288 = r.val + 2 + 20 by omega,
    show (16 + r.val + 288 - 281) % 288 = r.val + 2 + 21 by omega,
    show (24 + r.val + 288 - 287) % 288 = r.val + 2 + 23 by omega,
    show (24 + r.val + 288 - 286) % 288 = r.val + 2 + 24 by omega,
    show (24 + r.val + 288 - 285) % 288 = r.val + 2 + 25 by omega,
    show (24 + r.val + 288 - 284) % 288 = r.val + 2 + 26 by omega,
    show (24 + r.val + 288 - 283) % 288 = r.val + 2 + 27 by omega,
    show (24 + r.val + 288 - 282) % 288 = r.val + 2 + 28 by omega,
    show (24 + r.val + 288 - 281) % 288 = r.val + 2 + 29 by omega,
    show 8 + r.val = r.val + 2 + 6 by omega,
    show 16 + r.val = r.val + 2 + 14 by omega,
    show 24 + r.val = r.val + 2 + 22 by omega,
    show 32 + r.val = r.val + 2 + 30 by omega]
  rfl

/-- One channel group of the convolution branch. -/
theorem groupV_read {a : FVec Ideal S256x128 .f32} {ga be : Vec Ideal S1x128 .f32} (g : Fin 8)
    (ha : ∀ r k, a (ix2 r k) = conv W xr (T0 + r.val) (ch g k)) (hg : ∀ k, ga (ix2 0 k) = W.cg (ch g k))
    (hb : ∀ k, be (ix2 0 k) = W.ce (ch g k)) (r : Fin 256) (l : Fin 128) :
    groupV a ga be (ix2 r l) = cvb W xr (T0 + r) (ch g l) := by
  unfold groupV swishV affV normV cenV meanV sigT
  pointwise
  rw [sig_half]
  simp only [ha, hg, hb]
  unfold cvb
  rw [grp_ch, lane_ch]
  rfl

/-- The convolution branch's gated output. -/
theorem pw_read {cv : Vec Ideal S256x1024 .bf16} {Z : Vec Ideal S256x7168 .f32} (hc : ∀ r c, cv (ix2 r c) = cvb W xr (T0 + r.val) c)
    (h8 : ∀ (c : Fin 1024) (n : Fin 1024), x8 (ix2 c n) = W.wp2 c n) (h9 : ∀ c : Fin 1024, x9 (ix2 0 c) = W.bp2 c)
    (hZ : ∀ r n, Z (ix2 r n) = z W xr (T0 + r.val) n) (r : Fin 256) (l : Fin 1024) :
    k0_pay137 (k0_pay136 (View.ld cv (Rect.unit ![0, 0] S256x1024.size inb_S256x1024_S256x1024_0_0))
      (View.ld x8 (Rect.unit ![0, 0] S1024x1024.size inb_S1024x1024_S1024x1024_0_0))
      (View.ld x9 (Rect.unit ![0, 0] S1x1024.size inb_S1x1024_S1x1024_0_0))
      (View.ld Z (Rect.unit ![0, 2048] S256x1024.size inb_S256x7168_S256x1024_0_2048))) (ix2 r l) = yc W xr (T0 + r) l := by
  unfold k0_pay137 k0_pay136
  pointwise
  simp only [sig_half, hc, h8, h9, hZ]
  rfl

/-- The residual stream after the mixers. -/
theorem hV_read {Y : Vec Ideal S256x2048 .bf16} (h0 : ∀ (r : Fin 256) (c : Fin 1024), x0 (ix3 0 r c) = xr (T0 + r) c)
    (hY : ∀ r c, Y (ix2 r c) = cat W xr (T0 + r.val) c) (h12 : ∀ (c : Fin 2048) (n : Fin 1024), x12 (ix2 c n) = W.wo c n)
    (r : Fin 256) (l : Fin 1024) : hV x0 Y x12 (ix2 r l) = hres W xr (T0 + r) l := by
  unfold hV k0_pay324 k0_pay4
  pointwise
  simp only [h0, hY, h12]
  rfl

include H in
/-- The block's result. -/
theorem outV_read {Y : Vec Ideal S256x2048 .bf16} (hY : ∀ r c, Y (ix2 r c) = cat W xr (T0 + r.val) c) (r : Fin 256) (l : Fin 1024) :
    outV x0 x1 Y x12 x13 x14 x15 x16 (ix3 0 r l) = out W xr pr (T0 + r) l := by
  have e : k0_pay327 (k0_pay4 (View.ld x0 (Rect.unit ![0, 0, 0] S1x256x1024.size inb_S1x256x1024_S1x256x1024_0_0_0)))
      (View.ld Y (Rect.unit ![0, 0] S256x2048.size inb_S256x2048_S256x2048_0_0))
      (View.ld x12 (Rect.unit ![0, 0] S2048x1024.size inb_S2048x1024_S2048x1024_0_0)) (ix2 r 0)
      = Ideal.div (∑ k, hres W xr (T0 + r) k * hres W xr (T0 + r) k) c1024 := by
    show (fun h : FVec Ideal S256x1024 .f32 => divf (shapeCast S256x1 (multiReduction .add [1] S256 (mulf h h) 0x00000000#32 reduces_S256x1024_S256 (.inl rfl) rfl) shapeCasts_S256_S256x1)
      (broadcast S256x1 (Scalar.ofBits .f32 0x44800000#32))) (hV x0 Y x12) (ix2 r 0) = _
    have hh : ∀ k, hV x0 Y x12 (ix2 r k) = hres W xr (T0 + r) k := fun k => hV_read H.h0 hY H.h12 r k
    generalize hV x0 Y x12 = h at hh
    pointwise
    simp only [hh]
    rfl
  have hh : ∀ k, hV x0 Y x12 (ix2 r k) = hres W xr (T0 + r) k := fun k => hV_read H.h0 hY H.h12 r k
  unfold outV
  generalize k0_pay327 (F := Ideal) _ _ _ = ms at e ⊢
  generalize hV x0 Y x12 = h at hh
  unfold k0_pay1 k0_pay329 k0_pay325 k0_pay326 k0_pay328
  pointwise
  simp only [sig_half, hh, e, H.h1, H.h13, H.h14, H.h15, H.h16]
  rfl

end Cert.Layer

end
-- ==== Proof.Ties.lean ====
/- A grid point's input blocks are the argument arrays' entries. -/
module

public import proofs.«01_k».proof.Proof.Args
public import proofs.«01_k».proof.Proof.KerRead
public import Idealize.ShloMosaic.Lib.ValueLayout
public import proofs.«01_k».proof.Proof.Gen.KernelIdeal.Value

@[expose] public section

set_option maxRecDepth 16384

noncomputable section

namespace Cert.Layer

open Idealize.ShloMosaic Idealize.ShloMosaic.TcCoe Cert.KernelIdeal Cert.KernelIdeal.Gen

variable (m : (ℓ : Loc nD τ sig) → Buf (Elt Ideal) ℓ) (c : Dev nD)

/-- The kernel program's argument arrays. -/
def arrs : Arrs where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)
  a15 := m ((c : Thread nD τ).loc main_arg15)
  a16 := m ((c : Thread nD τ).loc main_arg16)

/-- The first window's block of point `t`: batch row `t / 32`, time block `t % 32`. -/
theorem index0 : ∀ t : Fin cfg0.N, win0_0.index t (0 : Fin 3) = t.val / 32 ∧ win0_0.index t (1 : Fin 3) = t.val % 32 ∧ win0_0.index t (2 : Fin 3) = 0 :=
  (by decide +kernel : ∀ t : Fin grid0.N, _)

/-- The second window's block of point `t`. -/
theorem index1 : ∀ t : Fin cfg0.N, win0_1.index t (0 : Fin 3) = t.val / 32 ∧ win0_1.index t (1 : Fin 3) = t.val % 32 ∧ win0_1.index t (2 : Fin 3) = 0 :=
  (by decide +kernel : ∀ t : Fin grid0.N, _)

/-- The point's batch row. -/
def bat (t : Fin cfg0.N) : Fin 8 := ⟨t.val / 32, by have := lt_of_lt_of_eq t.isLt N_0; omega⟩

/-- Input block 0 at a grid point: the stream. -/
theorem ties0 (t : Fin cfg0.N) (r : Fin 256) (l : Fin 1024) : iblk m c 0 t (ix3 0 r l) = (arrs m c).xr (bat t) (256 * (t.val % 32) + r.val) l := by
  obtain ⟨e0, e1, e2⟩ := index0 t
  have ht := lt_of_lt_of_eq t.isLt N_0
  unfold Arrs.xr
  rw [dif_pos (by omega)]
  show V m c main_arg0 (((cfg0.win 0).blk t).view.emb (ix3 0 r l)) = m ((c : Thread nD τ).loc main_arg0) _
  rw [V_main_arg0]
  refine congrArg _ (funext fun a => Fin.ext ?_)
  match a with
  | ⟨0, _⟩ => show win0_0.index t (0 : Fin 3) * 1 + 1 * 0 = t.val / 32; omega
  | ⟨1, _⟩ => show win0_0.index t (1 : Fin 3) * 256 + 1 * r.val = 256 * (t.val % 32) + r.val; omega
  | ⟨2, _⟩ => show win0_0.index t (2 : Fin 3) * 1024 + 1 * l.val = l.val; omega

/-- Input block 1 at a grid point: the projected embedding. -/
theorem ties1 (t : Fin cfg0.N) (r : Fin 256) (l : Fin 256) : iblk m c 1 t (ix3 0 r l) = (arrs m c).pr (bat t) (256 * (t.val % 32) + r.val) l := by
  obtain ⟨e0, e1, e2⟩ := index1 t
  have ht := lt_of_lt_of_eq t.isLt N_0
  unfold Arrs.pr
  rw [dif_pos (by omega)]
  show shapeCast S8x8192x256 (m ((c : Thread nD τ).loc main_arg1)) shapeCasts_S1x8x8192x256_S8x8192x256 (((cfg0.win 1).blk t).view.emb (ix3 0 r l)) = m ((c : Thread nD τ).loc main_arg1) _
  have e : ((cfg0.win 1).blk t).view.emb (ix3 0 r l) = ix3 (bat t) ⟨256 * (t.val % 32) + r.val, by omega⟩ l := by
    refine funext fun a => Fin.ext ?_
    match a with
    | ⟨0, _⟩ => show win0_1.index t (0 : Fin 3) * 1 + 1 * 0 = t.val / 32; omega
    | ⟨1, _⟩ => show win0_1.index t (1 : Fin 3) * 256 + 1 * r.val = 256 * (t.val % 32) + r.val; omega
    | ⟨2, _⟩ => show win0_1.index t (2 : Fin 3) * 256 + 1 * l.val = l.val; omega
  rw [e]
  exact ValueIdx.shapeCast_1abc_abc_apply _ _ _ _ _

/-- Input block 2 at a grid point: the first norm's gain. -/
theorem ties2 (t : Fin cfg0.N) (l : Fin 1024) : iblk m c 2 t (ix2 0 l) = (arrs m c).wts.lng l := by
  show shapeCast S1x1024 (shapeCast S1024 (m ((c : Thread nD τ).loc main_arg2)) shapeCasts_S1x1024_S1024) shapeCasts_S1024_S1x1024 (((cfg0.win 2).blk t).view.emb (ix2 0 l)) = _
  have e : ((cfg0.win 2).blk t).view.emb (ix2 0 l) = (ix2 0 l : Shape.Idx ⟨2, ![1, 1024]⟩) := by
    refine funext fun a => Fin.ext ?_
    match a with
    | ⟨0, _⟩ => exact (Nat.zero_add _).trans (Nat.one_mul _)
    | ⟨1, _⟩ => exact (Nat.zero_add _).trans (Nat.one_mul _)
  rw [e]
  exact (ValueIdx.shapeCast_a_1a_apply _ _ _ _).trans (ValueIdx.shapeCast_1a_a_apply _ _ _)

/-- Input block 3 at a grid point: the combined projection. -/
theorem ties3 (t : Fin cfg0.N) (r : Fin 1024) (l : Fin 7168) : iblk m c 3 t (ix2 r l) = (arrs m c).wts.win r l := by
  show truncf (F := Ideal) .bf16 (shapeCast S1024x7168 (m ((c : Thread nD τ).loc main_arg3)) shapeCasts_S1x1024x7168_S1024x7168) bitsLt_bf16_f32 (((cfg0.win 3).blk t).view.emb (ix2 r l)) = _
  have e : ((cfg0.win 3).blk t).view.emb (ix2 r l) = (ix2 r l : Shape.Idx ⟨2, ![1024, 7168]⟩) := by
    refine funext fun a => Fin.ext ?_
    match a with
    | ⟨0, _⟩ => exact (Nat.zero_add _).trans (Nat.one_mul _)
    | ⟨1, _⟩ => exact (Nat.zero_add _).trans (Nat.one_mul _)
  rw [e]
  exact ValueIdx.shapeCast_1ab_ab_apply _ _ _ _

/-- Input block 4 at a grid point: the convolution's weights. -/
theorem ties4 (t : Fin cfg0.N) (r : Fin 31) (l : Fin 1024) : iblk m c 4 t (ix2 r l) = (arrs m c).wts.cw r l := by
  show shapeCast S31x1024 (m ((c : Thread nD τ).loc main_arg4)) shapeCasts_S1x31x1024_S31x1024 (((cfg0.win 4).blk t).view.emb (ix2 r l)) = _
  have e : ((cfg0.win 4).blk t).view.emb (ix2 r l) = (ix2 r l : Shape.Idx ⟨2, ![31, 1024]⟩) := by
    refine funext fun a => Fin.ext ?_
    match a with
    | ⟨0, _⟩ => exact (Nat.zero_add _).trans (Nat.one_mul _)
    | ⟨1, _⟩ => exact (Nat.zero_add _).trans (Nat.one_mul _)
  rw [e]
  exact ValueIdx.shapeCast_1ab_ab_apply _ _ _ _

/-- Input block 5 at a grid point: the convolution's bias. -/
theorem ties5 (t : Fin cfg0.N) (l : Fin 1024) : iblk m c 5 t (ix2 0 l) = (arrs m c).wts.cb l := by
  show shapeCast S1x1024 (shapeCast S1024 (m ((c : Thread nD τ).loc main_arg5)) shapeCasts_S1x1024_S1024) shapeCasts_S1024_S1x1024 (((cfg0.win 5).blk t).view.emb (ix2 0 l)) = _
  have e : ((cfg0.win 5).blk t).view.emb (ix2 0 l) = (ix2 0 l : Shape.Idx ⟨2, ![1, 1024]⟩) := by
    refine funext fun a => Fin.ext ?_
    match a with
    | ⟨0, _⟩ => exact (Nat.zero_add _).trans (Nat.one_mul _)
    | ⟨1, _⟩ => exact (Nat.zero_add _).trans (Nat.one_mul _)
  rw [e]
  exact (ValueIdx.shapeCast_a_1a_apply _ _ _ _).trans (ValueIdx.shapeCast_1a_a_apply _ _ _)

/-- Input block 6 at a grid point: the group norm's gain. -/
theorem ties6 (t : Fin cfg0.N) (l : Fin 1024) : iblk m c 6 t (ix2 0 l) = (arrs m c).wts.cg l := by
  show shapeCast S1x1024 (shapeCast S1024 (m ((c : Thread nD τ).loc main_arg6)) shapeCasts_S1x1024_S1024) shapeCasts_S1024_S1x1024 (((cfg0.win 6).blk t).view.emb (ix2 0 l)) = _
  have e : ((cfg0.win 6).blk t).view.emb (ix2 0 l) = (ix2 0 l : Shape.Idx ⟨2, ![1, 1024]⟩) := by
    refine funext fun a => Fin.ext ?_
    match a with
    | ⟨0, _⟩ => exact (Nat.zero_add _).trans (Nat.one_mul _)
    | ⟨1, _⟩ => exact (Nat.zero_add _).trans (Nat.one_mul _)
  rw [e]
  exact (ValueIdx.shapeCast_a_1a_apply _ _ _ _).trans (ValueIdx.shapeCast_1a_a_apply _ _ _)

/-- Input block 7 at a grid point: the group norm's offset. -/
theorem ties7 (t : Fin cfg0.N) (l : Fin 1024) : iblk m c 7 t (ix2 0 l) = (arrs m c).wts.ce l := by
  show shapeCast S1x1024 (shapeCast S1024 (m ((c : Thread nD τ).loc main_arg7)) shapeCasts_S1x1024_S1024) shapeCasts_S1024_S1x1024 (((cfg0.win 7).blk t).view.emb (ix2 0 l)) = _
  have e : ((cfg0.win 7).blk t).view.emb (ix2 0 l) = (ix2 0 l : Shape.Idx ⟨2, ![1, 1024]⟩) := by
    refine funext fun a => Fin.ext ?_
    match a with
    | ⟨0, _⟩ => exact (Nat.zero_add _).trans (Nat.one_mul _)
    | ⟨1, _⟩ => exact (Nat.zero_add _).trans (Nat.one_mul _)
  rw [e]
  exact (ValueIdx.shapeCast_a_1a_apply _ _ _ _).trans (ValueIdx.shapeCast_1a_a_apply _ _ _)

/-- Input block 8 at a grid point: the convolution branch's projection. -/
theorem ties8 (t : Fin cfg0.N) (r : Fin 1024) (l : Fin 1024) : iblk m c 8 t (ix2 r l) = (arrs m c).wts.wp2 r l := by
  show truncf (F := Ideal) .bf16 (shapeCast S1024x1024 (m ((c : Thread nD τ).loc main_arg8)) shapeCasts_S1x1024x1024_S1024x1024) bitsLt_bf16_f32 (((cfg0.win 8).blk t).view.emb (ix2 r l)) = _
  have e : ((cfg0.win 8).blk t).view.emb (ix2 r l) = (ix2 r l : Shape.Idx ⟨2, ![1024, 1024]⟩) := by
    refine funext fun a => Fin.ext ?_
    match a with
    | ⟨0, _⟩ => exact (Nat.zero_add _).trans (Nat.one_mul _)
    | ⟨1, _⟩ => exact (Nat.zero_add _).trans (Nat.one_mul _)
  rw [e]
  exact ValueIdx.shapeCast_1ab_ab_apply _ _ _ _

/-- Input block 9 at a grid point: that projection's bias. -/
theorem ties9 (t : Fin cfg0.N) (l : Fin 1024) : iblk m c 9 t (ix2 0 l) = (arrs m c).wts.bp2 l := by
  show shapeCast S1x1024 (shapeCast S1024 (m ((c : Thread nD τ).loc main_arg9)) shapeCasts_S1x1024_S1024) shapeCasts_S1024_S1x1024 (((cfg0.win 9).blk t).view.emb (ix2 0 l)) = _
  have e : ((cfg0.win 9).blk t).view.emb (ix2 0 l) = (ix2 0 l : Shape.Idx ⟨2, ![1, 1024]⟩) := by
    refine funext fun a => Fin.ext ?_
    match a with
    | ⟨0, _⟩ => exact (Nat.zero_add _).trans (Nat.one_mul _)
    | ⟨1, _⟩ => exact (Nat.zero_add _).trans (Nat.one_mul _)
  rw [e]
  exact (ValueIdx.shapeCast_a_1a_apply _ _ _ _).trans (ValueIdx.shapeCast_1a_a_apply _ _ _)

/-- Input block 10 at a grid point: the logits. -/
theorem ties10 (t : Fin cfg0.N) (r : Fin 2) (l : Fin 1024) : iblk m c 10 t (ix2 r l) = (arrs m c).wts.lg r l := by
  show V m c main_arg10 (((cfg0.win 10).blk t).view.emb (ix2 r l)) = _
  have e : ((cfg0.win 10).blk t).view.emb (ix2 r l) = (ix2 r l : Shape.Idx ⟨2, ![2, 1024]⟩) := by
    refine funext fun a => Fin.ext ?_
    match a with
    | ⟨0, _⟩ => exact (Nat.zero_add _).trans (Nat.one_mul _)
    | ⟨1, _⟩ => exact (Nat.zero_add _).trans (Nat.one_mul _)
  rw [e]
  exact congrFun (V_main_arg10 m c) _

/-- Input block 11 at a grid point: the heads' gain. -/
theorem ties11 (t : Fin cfg0.N) (l : Fin 1024) : iblk m c 11 t (ix2 0 l) = (arrs m c).wts.og l := by
  show shapeCast S1x1024 (shapeCast S1024 (m ((c : Thread nD τ).loc main_arg11)) shapeCasts_S1x1024_S1024) shapeCasts_S1024_S1x1024 (((cfg0.win 11).blk t).view.emb (ix2 0 l)) = _
  have e : ((cfg0.win 11).blk t).view.emb (ix2 0 l) = (ix2 0 l : Shape.Idx ⟨2, ![1, 1024]⟩) := by
    refine funext fun a => Fin.ext ?_
    match a with
    | ⟨0, _⟩ => exact (Nat.zero_add _).trans (Nat.one_mul _)
    | ⟨1, _⟩ => exact (Nat.zero_add _).trans (Nat.one_mul _)
  rw [e]
  exact (ValueIdx.shapeCast_a_1a_apply _ _ _ _).trans (ValueIdx.shapeCast_1a_a_apply _ _ _)

/-- Input block 12 at a grid point: the output projection. -/
theorem ties12 (t : Fin cfg0.N) (r : Fin 2048) (l : Fin 1024) : iblk m c 12 t (ix2 r l) = (arrs m c).wts.wo r l := by
  show truncf (F := Ideal) .bf16 (shapeCast S2048x1024 (m ((c : Thread nD τ).loc main_arg12)) shapeCasts_S1x2048x1024_S2048x1024) bitsLt_bf16_f32 (((cfg0.win 12).blk t).view.emb (ix2 r l)) = _
  have e : ((cfg0.win 12).blk t).view.emb (ix2 r l) = (ix2 r l : Shape.Idx ⟨2, ![2048, 1024]⟩) := by
    refine funext fun a => Fin.ext ?_
    match a with
    | ⟨0, _⟩ => exact (Nat.zero_add _).trans (Nat.one_mul _)
    | ⟨1, _⟩ => exact (Nat.zero_add _).trans (Nat.one_mul _)
  rw [e]
  exact ValueIdx.shapeCast_1ab_ab_apply _ _ _ _

/-- Input block 13 at a grid point: the embedding norm's gain. -/
theorem ties13 (t : Fin cfg0.N) (l : Fin 1024) : iblk m c 13 t (ix2 0 l) = (arrs m c).wts.pg l := by
  show shapeCast S1x1024 (shapeCast S1024 (m ((c : Thread nD τ).loc main_arg13)) shapeCasts_S1x1024_S1024) shapeCasts_S1024_S1x1024 (((cfg0.win 13).blk t).view.emb (ix2 0 l)) = _
  have e : ((cfg0.win 13).blk t).view.emb (ix2 0 l) = (ix2 0 l : Shape.Idx ⟨2, ![1, 1024]⟩) := by
    refine funext fun a => Fin.ext ?_
    match a with
    | ⟨0, _⟩ => exact (Nat.zero_add _).trans (Nat.one_mul _)
    | ⟨1, _⟩ => exact (Nat.zero_add _).trans (Nat.one_mul _)
  rw [e]
  exact (ValueIdx.shapeCast_a_1a_apply _ _ _ _).trans (ValueIdx.shapeCast_1a_a_apply _ _ _)

/-- Input block 14 at a grid point: the embedding gate's projection. -/
theorem ties14 (t : Fin cfg0.N) (r : Fin 1024) (l : Fin 1024) : iblk m c 14 t (ix2 r l) = (arrs m c).wts.wpg r l := by
  show truncf (F := Ideal) .bf16 (shapeCast S1024x1024 (m ((c : Thread nD τ).loc main_arg14)) shapeCasts_S1x1024x1024_S1024x1024) bitsLt_bf16_f32 (((cfg0.win 14).blk t).view.emb (ix2 r l)) = _
  have e : ((cfg0.win 14).blk t).view.emb (ix2 r l) = (ix2 r l : Shape.Idx ⟨2, ![1024, 1024]⟩) := by
    refine funext fun a => Fin.ext ?_
    match a with
    | ⟨0, _⟩ => exact (Nat.zero_add _).trans (Nat.one_mul _)
    | ⟨1, _⟩ => exact (Nat.zero_add _).trans (Nat.one_mul _)
  rw [e]
  exact ValueIdx.shapeCast_1ab_ab_apply _ _ _ _

/-- Input block 15 at a grid point: the embedding's projection. -/
theorem ties15 (t : Fin cfg0.N) (r : Fin 256) (l : Fin 1024) : iblk m c 15 t (ix2 r l) = (arrs m c).wts.wpp r l := by
  show truncf (F := Ideal) .bf16 (shapeCast S256x1024 (m ((c : Thread nD τ).loc main_arg15)) shapeCasts_S1x256x1024_S256x1024) bitsLt_bf16_f32 (((cfg0.win 15).blk t).view.emb (ix2 r l)) = _
  have e : ((cfg0.win 15).blk t).view.emb (ix2 r l) = (ix2 r l : Shape.Idx ⟨2, ![256, 1024]⟩) := by
    refine funext fun a => Fin.ext ?_
    match a with
    | ⟨0, _⟩ => exact (Nat.zero_add _).trans (Nat.one_mul _)
    | ⟨1, _⟩ => exact (Nat.zero_add _).trans (Nat.one_mul _)
  rw [e]
  exact ValueIdx.shapeCast_1ab_ab_apply _ _ _ _

/-- Input block 16 at a grid point: the last norm's gain. -/
theorem ties16 (t : Fin cfg0.N) (l : Fin 1024) : iblk m c 16 t (ix2 0 l) = (arrs m c).wts.fg l := by
  show shapeCast S1x1024 (m ((c : Thread nD τ).loc main_arg16)) shapeCasts_S1024_S1x1024 (((cfg0.win 16).blk t).view.emb (ix2 0 l)) = _
  have e : ((cfg0.win 16).blk t).view.emb (ix2 0 l) = (ix2 0 l : Shape.Idx ⟨2, ![1, 1024]⟩) := by
    refine funext fun a => Fin.ext ?_
    match a with
    | ⟨0, _⟩ => exact (Nat.zero_add _).trans (Nat.one_mul _)
    | ⟨1, _⟩ => exact (Nat.zero_add _).trans (Nat.one_mul _)
  rw [e]
  exact ValueIdx.shapeCast_a_1a_apply _ _ _ _

/-- Every input block of a point, tied to the arguments. -/
theorem ties (t : Fin cfg0.N) : Ties (arrs m c).wts ((arrs m c).xr (bat t)) ((arrs m c).pr (bat t)) (256 * (t.val % 32))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) where
  h0 := ties0 m c t
  h1 := ties1 m c t
  h2 := ties2 m c t
  h3 := ties3 m c t
  h4 := ties4 m c t
  h5 := ties5 m c t
  h6 := ties6 m c t
  h7 := ties7 m c t
  h8 := ties8 m c t
  h9 := ties9 m c t
  h10 := ties10 m c t
  h11 := ties11 m c t
  h12 := ties12 m c t
  h13 := ties13 m c t
  h14 := ties14 m c t
  h15 := ties15 m c t
  h16 := ties16 m c t

end Cert.Layer

end
-- ==== Proof.KerHead.lean ====
/- The gated recurrence's arrays read at an index: the summed logarithms, the keys, and a chunk's readout and state. -/
module

public import proofs.«01_k».proof.Proof.KerRead

@[expose] public section

set_option maxRecDepth 16384

noncomputable section

namespace Cert.Layer

open Idealize.ShloMosaic Cert.KernelIdeal Cert.KernelIdeal.Gen

variable {W : Wts} {xr : ℕ → Fin 1024 → EReal} {T0 : ℕ} {x10 : Vec Ideal S2x1024 .f32} {Z : Vec Ideal S256x7168 .f32}

/-- The maximum of two entries, from minus infinity on. -/
theorem max_two (f : Fin 2 → EReal) : Finset.univ.fold max (Ideal.ofBits .f32 4286578688#32) f = max (f 0) (f 1) := by
  have hb : Ideal.ofBits .f32 4286578688#32 = ⊥ := by simp [Ideal.ofBits, Ideal.ieee]
  rw [hb, show (Finset.univ : Finset (Fin 2)) = {0, 1} from rfl, Finset.fold_insert (by decide), Finset.fold_singleton, max_bot_right]

/-- The lower bound, as the kernel computes it. -/
theorem lb_read (h10 : ∀ (i : Fin 2) (c : Fin 1024), x10 (ix2 i c) = W.lg i c) (l : Fin 1024) :
    k0_pay138 (View.ld x10 (Rect.unit ![0, 0] S2x1024.size inb_S2x1024_S2x1024_0_0)) (ix2 0 l) = lb W l := by
  unfold k0_pay138
  pointwise
  simp only [h10]
  rw [max_two, Fin.sum_univ_two]
  rfl

/-- Half of one less the lower bound. -/
theorem half_read (h10 : ∀ (i : Fin 2) (c : Fin 1024), x10 (ix2 i c) = W.lg i c) (l : Fin 1024) :
    k0_pay139 (View.ld x10 (Rect.unit ![0, 0] S2x1024.size inb_S2x1024_S2x1024_0_0)) (ix2 0 l) = ((1 / 2 : ℝ) : EReal) * (1 - lb W l) := by
  rw [← lb_read h10]
  unfold k0_pay139
  generalize k0_pay138 (F := Ideal) _ = a
  pointwise
  rw [half_eq]

/-- The hyperbolic tangent of half the forget projection. -/
theorem tanh_read (hZ : ∀ r n, Z (ix2 r n) = z W xr (T0 + r.val) n) (r : Fin 256) (l : Fin 1024) :
    k0_pay140 (View.ld Z (Rect.unit ![0, 4096] S256x1024.size inb_S256x7168_S256x1024_0_4096)) (ix2 r l)
      = Ideal.tanh (((1 / 2 : ℝ) : EReal) * z W xr (T0 + r) (col 4096 (by omega) l)) := by
  unfold k0_pay140
  pointwise
  rw [half_eq, hZ]
  rfl

/-- The word of a row's chunk, by the printed floor division. -/
theorem chunk_word (r : Fin 256) : Scalar.select
              (IntOp.andi
                (IntOp.cmpi CmpIPredicate.ne
                  (IntOp.subi (BitVec.setWidth 32 (IntOp.cmpi CmpIPredicate.sgt (BitVec.ofNat 32 r.val) 0#32))
                    (BitVec.setWidth 32 (IntOp.cmpi CmpIPredicate.slt (BitVec.ofNat 32 r.val) 0#32)))
                  (Scalar.subi (Scalar.extui (Scalar.cmpi CmpIPredicate.sgt 128#32 0#32))
                    (Scalar.extui (Scalar.cmpi CmpIPredicate.slt 128#32 0#32))))
                (IntOp.cmpi CmpIPredicate.ne (IntOp.remsi ArithUnit.vector (BitVec.ofNat 32 r.val) 128#32) 0#32))
              (IntOp.subi (IntOp.divsi ArithUnit.vector (BitVec.ofNat 32 r.val) 128#32) 1#32)
              (IntOp.divsi ArithUnit.vector (BitVec.ofNat 32 r.val) 128#32) = BitVec.ofNat 32 (r.val / 128) := by
  revert r
  decide

/-- The mask: an earlier or the same row of the same chunk. -/
theorem mask_word (r x : Fin 256) : (IntOp.andi (IntOp.cmpi CmpIPredicate.sge (BitVec.ofNat 32 r.val) (BitVec.ofNat 32 x.val))
            (IntOp.cmpi CmpIPredicate.eq (BitVec.ofNat 32 (r.val / 128)) (BitVec.ofNat 32 (x.val / 128))))
      = BitVec.ofBool (decide (x.val ≤ r.val ∧ r.val / 128 = x.val / 128)) := by
  rw [WordCmp.cmpi_sge_ofNat (by omega) (by omega), WordCmp.cmpi_eq_eq]
  have e : (BitVec.ofNat 32 (r.val / 128) = BitVec.ofNat 32 (x.val / 128)) ↔ r.val / 128 = x.val / 128 := by
    constructor
    · intro h
      have := congrArg BitVec.toNat h
      rw [BitVec.toNat_ofNat, BitVec.toNat_ofNat] at this
      omega
    · intro h; rw [h]
  simp only [e]
  by_cases h1 : x.val ≤ r.val <;> by_cases h2 : r.val / 128 = x.val / 128 <;> simp [h1, h2] <;> rfl

/-- The causal mask: an earlier or the same row. -/
theorem causal_word (r x : Fin 128) : IntOp.cmpi CmpIPredicate.sge (BitVec.ofNat 32 r.val) (BitVec.ofNat 32 x.val)
      = BitVec.ofBool (decide (x.val ≤ r.val)) := by
  rw [WordCmp.cmpi_sge_ofNat (by omega) (by omega)]

variable (hW : W.IsReal)

include hW

/-- The forget gate's logarithm, as the kernel computes it. -/
theorem log_read (h10 : ∀ (i : Fin 2) (c : Fin 1024), x10 (ix2 i c) = W.lg i c) (hZ : ∀ r n, Z (ix2 r n) = z W xr (T0 + r.val) n)
    (r : Fin 256) (l : Fin 1024) :
    k0_pay142 (View.ld x10 (Rect.unit ![0, 0] S2x1024.size inb_S2x1024_S2x1024_0_0))
      (View.ld Z (Rect.unit ![0, 4096] S256x1024.size inb_S256x7168_S256x1024_0_4096)) (ix2 r l) = lf W xr (T0 + r) l := by
  have e := fg_mid (xr := xr) hW (T0 + r) l
  rw [← lb_read h10] at e
  rw [lb_read h10, ← half_read h10, ← tanh_read hZ, ← lb_read h10] at e
  rw [lf, ← e]
  unfold k0_pay142
  generalize k0_pay138 (F := Ideal) _ = a
  generalize k0_pay139 (F := Ideal) _ = b
  generalize k0_pay140 (F := Ideal) _ = c
  pointwise

/-- The keys, where the lower bound is real. -/
theorem kinZ_read (h10 : ∀ (i : Fin 2) (c : Fin 1024), x10 (ix2 i c) = W.lg i c) (hZ : ∀ r n, Z (ix2 r n) = z W xr (T0 + r.val) n)
    {l : Fin 1024} (hb : lb W l ≠ ⊥) (r : Fin 256) : kinZ Z x10 (ix2 r l) = key W xr (T0 + r) l := by
  rw [← key_mid hW hb, ← half_read h10, ← tanh_read hZ]
  unfold kinZ k0_pay141
  generalize k0_pay139 (F := Ideal) _ = b
  generalize k0_pay140 (F := Ideal) _ = c
  pointwise

/-- The logarithms summed within a chunk: as the kernel adds them, first themselves and then what their rounding leaves. -/
theorem bcZ_two (h10 : ∀ (i : Fin 2) (c : Fin 1024), x10 (ix2 i c) = W.lg i c) (hZ : ∀ r n, Z (ix2 r n) = z W xr (T0 + r.val) n)
    (r : Fin 256) (l : Fin 1024) : bcZ Z x10 (ix2 r l)
      = (∑ x : Fin 256, if x.val ≤ r.val ∧ r.val / 128 = x.val / 128 then lf W xr (T0 + x) l else 0)
        + ∑ x : Fin 256, if x.val ≤ r.val ∧ r.val / 128 = x.val / 128 then lf W xr (T0 + x) l - lf W xr (T0 + x) l else 0 := by
  have hl := fun x => log_read hW h10 hZ x l
  unfold bcZ bcV k0_pay144 k0_pay143
  generalize k0_pay142 (F := Ideal) _ _ = a at hl ⊢
  unfold k0_pay145 k0_pay146 k0_pay147 k0_pay148 k0_pay149 k0_pay150
  pointwise
  simp only [chunk_word, mask_word, Scalar.select_ofBool, decide_eq_true_eq, hl]

/-- The logarithms summed within a chunk, where the lower bound is real. -/
theorem bcZ_sum (h10 : ∀ (i : Fin 2) (c : Fin 1024), x10 (ix2 i c) = W.lg i c) (hZ : ∀ r n, Z (ix2 r n) = z W xr (T0 + r.val) n)
    {l : Fin 1024} (hb : lb W l ≠ ⊥) (r : Fin 256) : bcZ Z x10 (ix2 r l)
      = ∑ x : Fin 256, if x.val ≤ r.val ∧ r.val / 128 = x.val / 128 then lf W xr (T0 + x) l else 0 := by
  have h0 : ∀ x : Fin 256, lf W xr (T0 + x) l - lf W xr (T0 + x) l = 0 := fun x => by
    obtain ⟨a, ha⟩ := lf_real (xr := xr) hW hb (T0 + x)
    rw [ha, ← EReal.coe_sub, sub_self, EReal.coe_zero]
  rw [bcZ_two hW h10 hZ]
  simp only [h0, ite_self, Finset.sum_const_zero, add_zero]

/-- The logarithms summed within a chunk are minus infinity where the lower bound is. -/
theorem bcZ_bot (h10 : ∀ (i : Fin 2) (c : Fin 1024), x10 (ix2 i c) = W.lg i c) (hZ : ∀ r n, Z (ix2 r n) = z W xr (T0 + r.val) n)
    {l : Fin 1024} (hb : lb W l = ⊥) (r : Fin 256) : bcZ Z x10 (ix2 r l) = ⊥ := by
  rw [bcZ_two hW h10 hZ, ← Finset.add_sum_erase _ _ (Finset.mem_univ r), if_pos ⟨le_rfl, rfl⟩, lf_bot hb, EReal.bot_add, EReal.bot_add]

/-- The logarithms summed within a chunk, as a difference of the sums from the sequence's start, where the lower
    bound is real. -/
theorem bcZ_read (h10 : ∀ (i : Fin 2) (c : Fin 1024), x10 (ix2 i c) = W.lg i c) (hZ : ∀ r n, Z (ix2 r n) = z W xr (T0 + r.val) n)
    (r : Fin 256) (c0 : ℕ) (j : ℕ) (hj : j < 128) (hr : r.val = c0 + j) (hc : c0 = 0 ∨ c0 = 128) (h : Fin 8) (k : Fin 128)
    (hb : lb W (ch h k) ≠ ⊥) :
    bcZ Z x10 (ix2 r (ch h k)) = ((bR (Lr W xr h) (T0 + c0 + j + 1) k - bR (Lr W xr h) (T0 + c0) k : ℝ) : EReal) := by
  rw [bcZ_sum hW h10 hZ hb, show T0 + c0 + j + 1 = (T0 + c0) + (j + 1) by omega]
  unfold bR
  rw [Finset.sum_range_add, add_sub_cancel_left]
  simp only [lf_coe hW h k hb]
  rw [Fin.sum_univ_eq_sum_range (fun x => if x ≤ r.val ∧ r.val / 128 = x / 128 then ((Lr W xr h (T0 + x) k : ℝ) : EReal) else 0) 256,
    ← coe_sum]
  have e : ∑ x ∈ Finset.range (j + 1), ((Lr W xr h (T0 + c0 + x) k : ℝ) : EReal)
      = ∑ x ∈ (Finset.range (j + 1)).map (addLeftEmbedding c0), ((Lr W xr h (T0 + x) k : ℝ) : EReal) := by
    rw [Finset.sum_map]
    exact Finset.sum_congr rfl fun x _ => by rw [addLeftEmbedding_apply, add_assoc]
  rw [e, ← Finset.sum_subset (s₁ := (Finset.range (j + 1)).map (addLeftEmbedding c0)) (s₂ := Finset.range 256)]
  · refine Finset.sum_congr rfl fun x hx => ?_
    obtain ⟨y, hy, rfl⟩ := Finset.mem_map.1 hx
    have := Finset.mem_range.1 hy
    rw [addLeftEmbedding_apply, if_pos (by omega)]
  · intro x hx
    obtain ⟨y, hy, rfl⟩ := Finset.mem_map.1 hx
    have := Finset.mem_range.1 hy
    rw [addLeftEmbedding_apply]; exact Finset.mem_range.2 (by omega)
  · intro x hx hn
    have h256 := Finset.mem_range.1 hx
    rw [if_neg]
    rintro ⟨h1, h2⟩
    exact hn (Finset.mem_map.2 ⟨x - c0, Finset.mem_range.2 (by omega), by rw [addLeftEmbedding_apply]; omega⟩)

omit hW

/-- What a chunk's summed logarithms `b` and keys `k` hold: a channel's real ones, or else the logarithms are minus infinity
    and the channel's real keys stand at zero. -/
def Cols (b k : FVec Ideal S128x128 .f32) (L K : ℕ → Fin 128 → ℝ) (C0 : ℕ) : Prop :=
  ∀ l : Fin 128, (∀ j : Fin 128, b (ix2 j l) = ((bR L (C0 + j.val + 1) l - bR L C0 l : ℝ) : EReal) ∧ k (ix2 j l) = (K (C0 + j.val) l : EReal))
    ∨ ((∀ j : Fin 128, b (ix2 j l) = ⊥) ∧ ∀ t, K t l = 0)

/-- The state stands at zero in a channel without keys. -/
theorem stR_keyless (L K V : ℕ → Fin 128 → ℝ) (T : ℕ) (v l : Fin 128) (h : ∀ t, K t l = 0) : stR L K V T v l = 0 := by
  simp only [stR, h, mul_zero, Finset.sum_const_zero]

/-- The logarithms' middle: half of their sum over the chunk. -/
def midR (L : ℕ → Fin 128 → ℝ) (C0 : ℕ) (l : Fin 128) : ℝ := 1 / 2 * (bR L (C0 + (127 : Fin 128).val + 1) l - bR L C0 l)

/-- Half of minus infinity. -/
theorem half_bot : ((1 / 2 : ℝ) : EReal) * ⊥ = ⊥ := EReal.coe_mul_bot_of_pos (by norm_num)

section cols
variable {b k : FVec Ideal S128x128 .f32} {L K : ℕ → Fin 128 → ℝ} {C0 : ℕ} (hc : Cols b k L K C0)
include hc

/-- One channel's product of a scaled query and a scaled key. -/
theorem Cols.pair (u : ℝ) (j s l : Fin 128) :
    (u : EReal) * Ideal.exp (b (ix2 j l) - ((1 / 2 : ℝ) : EReal) * b (ix2 127 l))
        * (k (ix2 s l) * Ideal.exp (((1 / 2 : ℝ) : EReal) * b (ix2 127 l) - b (ix2 s l)))
      = ((u * Real.exp ((bR L (C0 + j.val + 1) l - bR L C0 l) - midR L C0 l)
        * (K (C0 + s.val) l * Real.exp (midR L C0 l - (bR L (C0 + s.val + 1) l - bR L C0 l))) : ℝ) : EReal) := by
  rcases hc l with h | ⟨hb, hK⟩
  · simp only [(h _).1, (h _).2, ← EReal.coe_mul, ← EReal.coe_sub, Ideal.exp_coe]
    rfl
  · simp only [hb, hK, half_bot, EReal.bot_sub, Ideal.exp_bot, mul_zero, zero_mul, EReal.coe_zero]

/-- One channel's share of the readout from the state before the chunk. -/
theorem Cols.past (V : ℕ → Fin 128 → ℝ) (u : ℝ) (j v l : Fin 128) :
    (u : EReal) * Ideal.exp (b (ix2 j l) - ((1 / 2 : ℝ) : EReal) * b (ix2 127 l)) * Ideal.exp (((1 / 2 : ℝ) : EReal) * b (ix2 127 l))
        * (stR L K V C0 v l : EReal)
      = ((u * Real.exp ((bR L (C0 + j.val + 1) l - bR L C0 l) - midR L C0 l) * Real.exp (midR L C0 l) * stR L K V C0 v l : ℝ) : EReal) := by
  rcases hc l with h | ⟨hb, hK⟩
  · simp only [(h _).1, ← EReal.coe_mul, ← EReal.coe_sub, Ideal.exp_coe]
    rfl
  · simp only [hb, stR_keyless L K V C0 v l hK, mul_zero, EReal.coe_zero]

/-- One channel of the state before the chunk, decayed by the chunk. -/
theorem Cols.old (V : ℕ → Fin 128 → ℝ) (v l : Fin 128) :
    (stR L K V C0 v l : EReal) * (Ideal.exp (((1 / 2 : ℝ) : EReal) * b (ix2 127 l)) * Ideal.exp (((1 / 2 : ℝ) : EReal) * b (ix2 127 l)))
      = ((stR L K V C0 v l * (Real.exp (midR L C0 l) * Real.exp (midR L C0 l)) : ℝ) : EReal) := by
  rcases hc l with h | ⟨hb, hK⟩
  · simp only [(h _).1, ← EReal.coe_mul, Ideal.exp_coe]
    rfl
  · simp only [stR_keyless L K V C0 v l hK, zero_mul, EReal.coe_zero]

/-- One channel of a step's addition to the state. -/
theorem Cols.new (u : ℝ) (s l : Fin 128) :
    (u : EReal) * (k (ix2 s l) * Ideal.exp (((1 / 2 : ℝ) : EReal) * b (ix2 127 l) - b (ix2 s l)) * Ideal.exp (((1 / 2 : ℝ) : EReal) * b (ix2 127 l)))
      = ((u * (K (C0 + s.val) l * Real.exp (midR L C0 l - (bR L (C0 + s.val + 1) l - bR L C0 l)) * Real.exp (midR L C0 l)) : ℝ) : EReal) := by
  rcases hc l with h | ⟨hb, hK⟩
  · simp only [(h _).1, (h _).2, ← EReal.coe_mul, ← EReal.coe_sub, Ideal.exp_coe]
    rfl
  · simp only [hb, hK, half_bot, Ideal.exp_bot, mul_zero, zero_mul, EReal.coe_zero]

end cols

/-- A chunk's readout, over real numbers. -/
theorem headO_read {b k : FVec Ideal S128x128 .f32} {q i : Vec Ideal S128x128 .f32} {st : FVec Ideal S128x128 .f32}
    (L K Q V : ℕ → Fin 128 → ℝ) (C0 : ℕ) (hc : Cols b k L K C0)
    (hq : ∀ (j l : Fin 128), q (ix2 j l) * Ideal.logistic (q (ix2 j l)) = (Q (C0 + j.val) l : EReal))
    (hi : ∀ (j l : Fin 128), i (ix2 j l) = (V (C0 + j.val) l : EReal))
    (hst : ∀ (v k : Fin 128), st (ix2 v k) = (stR L K V C0 v k : EReal)) (j v : Fin 128) :
    headO b k q i st (ix2 j v) = (rdR L K Q V (C0 + j.val) v : EReal) := by
  rw [← chunkO L K Q V C0 (midR L C0) j v]
  unfold headO attV qtV ktV rrV sigT k0_pay151
  pointwise
  simp only [sig_half]
  simp only [hq, hi, hst, half_eq, hc.pair, hc.past, causal_word, Scalar.select_ofBool, decide_eq_true_eq, ← EReal.coe_mul,
    coe_sum, ← EReal.coe_zero, ← apply_ite (fun x : ℝ => (x : EReal)), ← EReal.coe_add]

/-- A chunk's state, over real numbers. -/
theorem headSt_read {b k : FVec Ideal S128x128 .f32} {i : Vec Ideal S128x128 .f32} {st : FVec Ideal S128x128 .f32}
    (L K V : ℕ → Fin 128 → ℝ) (C0 : ℕ) (hc : Cols b k L K C0)
    (hi : ∀ (j l : Fin 128), i (ix2 j l) = (V (C0 + j.val) l : EReal))
    (hst : ∀ (v k : Fin 128), st (ix2 v k) = (stR L K V C0 v k : EReal)) (v l : Fin 128) :
    headSt b k i st (ix2 v l) = (stR L K V (C0 + 128) v l : EReal) := by
  rw [← chunkSt L K V C0 (midR L C0) v l
    (by unfold midR; rw [show (127 : Fin 128).val = 127 from rfl]; ring)]
  unfold headSt ktV rrV
  pointwise
  simp only [hi, hst, half_eq, hc.old, hc.new, coe_sum, ← EReal.coe_add]

/-- A head's normalised and gated readout. -/
theorem headY_read {o : FVec Ideal S128x128 .f32} {gam : Vec Ideal S1x128 .f32} {g : Vec Ideal S128x128 .f32} (C0 : ℕ) (h : Fin 8)
    (ho : ∀ (j v : Fin 128), o (ix2 j v) = rd W xr (C0 + j.val) h v) (hgam : ∀ v : Fin 128, gam (ix2 0 v) = W.og (ch h v))
    (hg : ∀ (j v : Fin 128), g (ix2 j v) = z W xr (C0 + j.val) (col 6144 (by omega) (ch h v))) (j v : Fin 128) :
    headY o gam g (ix2 j v) = yh W xr (C0 + j.val) h v := by
  unfold headY msV sigT
  pointwise
  rw [sig_half]
  simp only [ho, hgam, hg]
  rfl

end Cert.Layer

end
-- ==== Proof.Blk4.lean ====
/- What a block's lists of stores hold, element by element: the convolution branch, the mixed outputs and the states. -/
module

public import proofs.«01_k».proof.Proof.KerHead

@[expose] public section

set_option maxRecDepth 16384

noncomputable section

namespace Cert.Layer

open Idealize.ShloMosaic Cert.KernelIdeal Cert.KernelIdeal.Gen

variable {W : Wts} {xr : ℕ → Fin 1024 → EReal} {pr : ℕ → Fin 256 → EReal} {T0 : ℕ}
  {x0 : Vec Ideal S1x256x1024 .f32} {x1 : Vec Ideal S1x256x256 .f32} {x2 : Vec Ideal S1x1024 .f32} {x3 : Vec Ideal S1024x7168 .bf16}
  {x4 : Vec Ideal S31x1024 .f32} {x5 x6 x7 : Vec Ideal S1x1024 .f32} {x8 : Vec Ideal S1024x1024 .bf16} {x9 : Vec Ideal S1x1024 .f32}
  {x10 : Vec Ideal S2x1024 .f32} {x11 : Vec Ideal S1x1024 .f32} {x12 : Vec Ideal S2048x1024 .bf16} {x13 : Vec Ideal S1x1024 .f32}
  {x14 : Vec Ideal S1024x1024 .bf16} {x15 : Vec Ideal S256x1024 .bf16} {x16 : Vec Ideal S1x1024 .f32}
  (H : Ties W xr pr T0 x0 x1 x2 x3 x4 x5 x6 x7 x8 x9 x10 x11 x12 x13 x14 x15 x16)

/-- A unit rectangle of a matrix read at a row and a column. -/
theorem ld_two {α : EltTy → Type} {e : EltTy} {n m n' m' : ℕ} (X : Shape.Idx ⟨2, ![n, m]⟩ → α e) (a b : ℕ)
    (inb : ∀ i, (![a, b] : Fin 2 → ℕ) i + (![n', m'] : Fin 2 → ℕ) i ≤ (![n, m] : Fin 2 → ℕ) i) (r : Fin n') (l : Fin m') (h1 : a + r.val < n) (h2 : b + l.val < m) :
    View.ld X (Rect.unit (s := ⟨2, ![n, m]⟩) ![a, b] ![n', m'] inb) (ix2 r l) = X (ix2 ⟨a + r.val, h1⟩ ⟨b + l.val, h2⟩) := by
  refine congrArg X (funext fun i => Fin.ext ?_)
  match i with
  | ⟨0, _⟩ => exact congrArg (a + ·) (Nat.one_mul _)
  | ⟨1, _⟩ => exact congrArg (b + ·) (Nat.one_mul _)

include H in
/-- One group's stored rows. -/
theorem grp_piece {vb : Vec Ideal S288x1024 .f32} (hvb : ∀ r c, vb (ix2 r c) = gluH W xr (T0 + r.val) c) (g : Fin 8) (o : ℕ) (ho : o = 128 * g.val)
    (iv : ∀ i, (![0, o] : Fin 2 → ℕ) i + S288x128.size i ≤ S288x1024.size i)
    (i4 : ∀ (j : Fin 31) i, (![j.val, o] : Fin 2 → ℕ) i + S1x128.size i ≤ S31x1024.size i)
    (i5 : ∀ i, (![0, o] : Fin 2 → ℕ) i + S1x128.size i ≤ S1x1024.size i) (r : Fin 256) (l : Fin 128) :
    groupV (convV (View.ld vb (Rect.unit ![0, o] S288x128.size iv)) (View.ld x5 (Rect.unit ![0, o] S1x128.size i5))

      (View.ld x4 (Rect.unit ![0, o] S1x128.size (i4 0))) (View.ld x4 (Rect.unit ![1, o] S1x128.size (i4 1))) (View.ld x4 (Rect.unit ![2, o] S1x128.size (i4 2))) (View.ld x4 (Rect.unit ![3, o] S1x128.size (i4 3))) (View.ld x4 (Rect.unit ![4, o] S1x128.size (i4 4))) (View.ld x4 (Rect.unit ![5, o] S1x128.size (i4 5))) (View.ld x4 (Rect.unit ![6, o] S1x128.size (i4 6))) (View.ld x4 (Rect.unit ![7, o] S1x128.size (i4 7))) (View.ld x4 (Rect.unit ![8, o] S1x128.size (i4 8))) (View.ld x4 (Rect.unit ![9, o] S1x128.size (i4 9))) (View.ld x4 (Rect.unit ![10, o] S1x128.size (i4 10))) (View.ld x4 (Rect.unit ![11, o] S1x128.size (i4 11))) (View.ld x4 (Rect.unit ![12, o] S1x128.size (i4 12))) (View.ld x4 (Rect.unit ![13, o] S1x128.size (i4 13))) (View.ld x4 (Rect.unit ![14, o] S1x128.size (i4 14))) (View.ld x4 (Rect.unit ![15, o] S1x128.size (i4 15))) (View.ld x4 (Rect.unit ![16, o] S1x128.size (i4 16))) (View.ld x4 (Rect.unit ![17, o] S1x128.size (i4 17))) (View.ld x4 (Rect.unit ![18, o] S1x128.size (i4 18))) (View.ld x4 (Rect.unit ![19, o] S1x128.size (i4 19))) (View.ld x4 (Rect.unit ![20, o] S1x128.size (i4 20))) (View.ld x4 (Rect.unit ![21, o] S1x128.size (i4 21))) (View.ld x4 (Rect.unit ![22, o] S1x128.size (i4 22))) (View.ld x4 (Rect.unit ![23, o] S1x128.size (i4 23))) (View.ld x4 (Rect.unit ![24, o] S1x128.size (i4 24))) (View.ld x4 (Rect.unit ![25, o] S1x128.size (i4 25))) (View.ld x4 (Rect.unit ![26, o] S1x128.size (i4 26))) (View.ld x4 (Rect.unit ![27, o] S1x128.size (i4 27))) (View.ld x4 (Rect.unit ![28, o] S1x128.size (i4 28))) (View.ld x4 (Rect.unit ![29, o] S1x128.size (i4 29))) (View.ld x4 (Rect.unit ![30, o] S1x128.size (i4 30))))
      (View.ld x6 (Rect.unit ![0, o] S1x128.size i5)) (View.ld x7 (Rect.unit ![0, o] S1x128.size i5)) (ix2 r l) = cvb W xr (T0 + r) (ch g l) := by
  subst ho
  refine groupV_read g (fun r k => ?_) (fun k => ?_) (fun k => ?_) r l
  · refine (convV_read _ _ (fun j => View.ld x4 (Rect.unit ![j.val, 128 * g.val] S1x128.size (i4 j))) r k).trans ?_
    unfold conv
    refine congrArg₂ (· + ·) ?_ (Finset.sum_congr rfl fun j _ => congrArg₂ (· * ·) ?_ ?_)
    · exact (ld_two (α := Elt Ideal) x5 0 (128 * g.val) i5 0 k (by omega) (by omega)).trans (H.h5 (ch g k))
    · refine (ld_two (α := Elt Ideal) x4 j.val (128 * g.val) (i4 j) 0 k (by omega) (by omega)).trans ?_
      exact H.h4 j (ch g k)
    · refine (ld_two (α := Elt Ideal) vb 0 (128 * g.val) iv ⟨r.val + 2 + j.val, by omega⟩ k (by show 0 + (r.val + 2 + j.val) < 288; omega) (by omega)).trans ?_
      refine (hvb _ (ch g k)).trans ?_
      rw [← gluH_two]
      congr 1
      show T0 + (0 + (r.val + 2 + j.val)) = T0 + r.val + j.val + 2
      omega
  · exact (ld_two (α := Elt Ideal) x6 0 (128 * g.val) i5 0 k (by omega) (by omega)).trans (H.h6 (ch g k))
  · exact (ld_two (α := Elt Ideal) x7 0 (128 * g.val) i5 0 k (by omega) (by omega)).trans (H.h7 (ch g k))

/-- The convolution branch at equal steps and channels. -/
theorem cvb_congr {t t' : ℕ} {c c' : Fin 1024} (ht : t = t') (hc : c = c') : cvb W xr t c = cvb W xr t' c' := by rw [ht, hc]

include H in
/-- The convolution branch's scratch after its eight stores. -/
theorem pieces4_canon {vb : Vec Ideal S288x1024 .f32} (hvb : ∀ r c, vb (ix2 r c) = gluH W xr (T0 + r.val) c) (r : Fin 256) (c : Fin 1024) :
    View.canon (pieces4 vb x4 x5 x6 x7) (ix2 r c) = cvb W xr (T0 + r) c := by
  refine View.canon_apply_of_pieces (Val := Elt Ideal) (show Vec Ideal S256x1024 .bf16 from fun y => cvb W xr (T0 + (y 0).val) (y 1)) _ ?_ _ ?_
  swap
  · exact View.cover_of_tiledL (s := S256x1024) _ S256x128.size (by sl_kernel_rfl) _
  intro p hp
  simp only [pieces4, List.mem_cons, List.not_mem_nil, or_false] at hp
  rcases hp with rfl | rfl | rfl | rfl | rfl | rfl | rfl | rfl
  · intro x
    obtain ⟨r, l, rfl⟩ : ∃ (r : Fin 256) (l : Fin 128), x = ix2 r l := ⟨x 0, x 1, eq_ix2 x⟩
    exact (grp_piece H hvb 7 896 rfl inb_S288x1024_S288x128_0_896 (by decide) inb_S1x1024_S1x128_0_896 r l).trans
      (cvb_congr (show T0 + r.val = T0 + (0 + 1 * r.val) by omega) (Fin.ext (show 128 * 7 + l.val = 896 + 1 * l.val by omega)))
  · intro x
    obtain ⟨r, l, rfl⟩ : ∃ (r : Fin 256) (l : Fin 128), x = ix2 r l := ⟨x 0, x 1, eq_ix2 x⟩
    exact (grp_piece H hvb 6 768 rfl inb_S288x1024_S288x128_0_768 (by decide) inb_S1x1024_S1x128_0_768 r l).trans
      (cvb_congr (show T0 + r.val = T0 + (0 + 1 * r.val) by omega) (Fin.ext (show 128 * 6 + l.val = 768 + 1 * l.val by omega)))
  · intro x
    obtain ⟨r, l, rfl⟩ : ∃ (r : Fin 256) (l : Fin 128), x = ix2 r l := ⟨x 0, x 1, eq_ix2 x⟩
    exact (grp_piece H hvb 5 640 rfl inb_S288x1024_S288x128_0_640 (by decide) inb_S1x1024_S1x128_0_640 r l).trans
      (cvb_congr (show T0 + r.val = T0 + (0 + 1 * r.val) by omega) (Fin.ext (show 128 * 5 + l.val = 640 + 1 * l.val by omega)))
  · intro x
    obtain ⟨r, l, rfl⟩ : ∃ (r : Fin 256) (l : Fin 128), x = ix2 r l := ⟨x 0, x 1, eq_ix2 x⟩
    exact (grp_piece H hvb 4 512 rfl inb_S288x1024_S288x128_0_512 (by decide) inb_S1x1024_S1x128_0_512 r l).trans
      (cvb_congr (show T0 + r.val = T0 + (0 + 1 * r.val) by omega) (Fin.ext (show 128 * 4 + l.val = 512 + 1 * l.val by omega)))
  · intro x
    obtain ⟨r, l, rfl⟩ : ∃ (r : Fin 256) (l : Fin 128), x = ix2 r l := ⟨x 0, x 1, eq_ix2 x⟩
    exact (grp_piece H hvb 3 384 rfl inb_S288x1024_S288x128_0_384 (by decide) inb_S1x1024_S1x128_0_384 r l).trans
      (cvb_congr (show T0 + r.val = T0 + (0 + 1 * r.val) by omega) (Fin.ext (show 128 * 3 + l.val = 384 + 1 * l.val by omega)))
  · intro x
    obtain ⟨r, l, rfl⟩ : ∃ (r : Fin 256) (l : Fin 128), x = ix2 r l := ⟨x 0, x 1, eq_ix2 x⟩
    exact (grp_piece H hvb 2 256 rfl inb_S288x1024_S288x128_0_256 (by decide) inb_S1x1024_S1x128_0_256 r l).trans
      (cvb_congr (show T0 + r.val = T0 + (0 + 1 * r.val) by omega) (Fin.ext (show 128 * 2 + l.val = 256 + 1 * l.val by omega)))
  · intro x
    obtain ⟨r, l, rfl⟩ : ∃ (r : Fin 256) (l : Fin 128), x = ix2 r l := ⟨x 0, x 1, eq_ix2 x⟩
    exact (grp_piece H hvb 1 128 rfl inb_S288x1024_S288x128_0_128 (by decide) inb_S1x1024_S1x128_0_128 r l).trans
      (cvb_congr (show T0 + r.val = T0 + (0 + 1 * r.val) by omega) (Fin.ext (show 128 * 1 + l.val = 128 + 1 * l.val by omega)))
  · intro x
    obtain ⟨r, l, rfl⟩ : ∃ (r : Fin 256) (l : Fin 128), x = ix2 r l := ⟨x 0, x 1, eq_ix2 x⟩
    exact (grp_piece H hvb 0 0 rfl inb_S288x1024_S288x128_0_0 (by decide) inb_S1x1024_S1x128_0_0 r l).trans
      (cvb_congr (show T0 + r.val = T0 + (0 + 1 * r.val) by omega) (Fin.ext (show 128 * 0 + l.val = 0 + 1 * l.val by omega)))

end Cert.Layer

end
-- ==== Proof.Blk3.lean ====
/- What a block's lists of stores hold, element by element: the mixed outputs and the states. -/
module

public import proofs.«01_k».proof.Proof.Blk4
public import Idealize.ShloMosaic.Lib.Pipeline.CanonAppend

@[expose] public section

set_option maxRecDepth 16384

noncomputable section

namespace Cert.Layer

open Idealize.ShloMosaic Cert.KernelIdeal Cert.KernelIdeal.Gen

variable {W : Wts} {xr : ℕ → Fin 1024 → EReal} {T0 : ℕ} {x8 : Vec Ideal S1024x1024 .bf16} {x9 : Vec Ideal S1x1024 .f32}
  {x10 : Vec Ideal S2x1024 .f32} {x11 : Vec Ideal S1x1024 .f32} {Z : Vec Ideal S256x7168 .f32} {cv : Vec Ideal S256x1024 .bf16}

/-- A slice of a matrix read at a row and a column. -/
theorem slice_two {α : Type} {n m n' m' : ℕ} (X : Shape.Idx ⟨2, ![n, m]⟩ → α) (a b : ℕ)
    (hs : (⟨2, ![n, m]⟩ : Shape).Slices ![a, b] ⟨2, ![n', m']⟩) (r : Fin n') (l : Fin m') (h1 : a + r.val < n) (h2 : b + l.val < m) :
    extractStridedSlice ⟨2, ![n', m']⟩ ![a, b] X hs (ix2 r l) = X (ix2 ⟨a + r.val, h1⟩ ⟨b + l.val, h2⟩) := by
  refine congrArg X (funext fun i => Fin.ext ?_)
  match i with
  | ⟨0, _⟩ => rfl
  | ⟨1, _⟩ => rfl

variable (hW : W.IsReal) (h10 : ∀ (i : Fin 2) (c : Fin 1024), x10 (ix2 i c) = W.lg i c)
  (hZ : ∀ r n, Z (ix2 r n) = z W xr (T0 + r.val) n)

include hW h10 hZ

/-- A chunk's summed logarithms, where the lower bound is real. -/
theorem chunk_b (h : Fin 8) (o c0 : ℕ) (ho : o = 128 * h.val) (hc : c0 = 0 ∨ c0 = 128) (hs : S256x1024.Slices ![c0, o] S128x128) (j k : Fin 128)
    (hb : lb W (ch h k) ≠ ⊥) :
    extractStridedSlice S128x128 ![c0, o] (bcZ Z x10) hs (ix2 j k)
      = ((bR (Lr W xr h) (T0 + c0 + j.val + 1) k - bR (Lr W xr h) (T0 + c0) k : ℝ) : EReal) := by
  subst ho
  refine (slice_two (bcZ Z x10) c0 (128 * h.val) hs j k (by omega) (by omega)).trans ?_
  exact bcZ_read hW h10 hZ ⟨c0 + j.val, by omega⟩ c0 j.val j.isLt rfl hc h k hb

/-- A chunk's keys, where the lower bound is real. -/
theorem chunk_k (h : Fin 8) (o c0 : ℕ) (ho : o = 128 * h.val) (hc : c0 = 0 ∨ c0 = 128) (hs : S256x1024.Slices ![c0, o] S128x128) (j k : Fin 128)
    (hb : lb W (ch h k) ≠ ⊥) :
    extractStridedSlice S128x128 ![c0, o] (kinZ Z x10) hs (ix2 j k) = (Kr W xr h (T0 + c0 + j.val) k : EReal) := by
  subst ho
  refine (slice_two (kinZ Z x10) c0 (128 * h.val) hs j k (by omega) (by omega)).trans ?_
  refine (kinZ_read hW h10 hZ hb ⟨c0 + j.val, by omega⟩).trans ?_
  rw [key_coe hW h k hb]
  exact congrArg (fun n => ((Kr W xr h n k : ℝ) : EReal)) (Nat.add_assoc _ _ _).symm

/-- A chunk's summed logarithms and keys, channel by channel. -/
theorem chunk_cols (h : Fin 8) (o c0 : ℕ) (ho : o = 128 * h.val) (hc : c0 = 0 ∨ c0 = 128) (hs : S256x1024.Slices ![c0, o] S128x128) :
    Cols (extractStridedSlice S128x128 ![c0, o] (bcZ Z x10) hs) (extractStridedSlice S128x128 ![c0, o] (kinZ Z x10) hs)
      (Lr W xr h) (Kr W xr h) (T0 + c0) := by
  intro l
  by_cases hb : lb W (ch h l) = ⊥
  · refine .inr ⟨fun j => ?_, Kr_zero hW h l hb⟩
    subst ho
    refine (slice_two (bcZ Z x10) c0 (128 * h.val) hs j l (by omega) (by omega)).trans ?_
    exact bcZ_bot hW h10 hZ (l := ch h l) hb ⟨c0 + j.val, by omega⟩
  · exact .inl fun j => ⟨chunk_b hW h10 hZ h o c0 ho hc hs j l hb, chunk_k hW h10 hZ h o c0 ho hc hs j l hb⟩

omit hW h10 in
/-- A chunk of the projections. -/
theorem chunk_z (h : Fin 8) (q o c0 : ℕ) (hq : q ≤ 6144) (ho : o = q + 128 * h.val) (hc : c0 = 0 ∨ c0 = 128)
    (inb : ∀ i, (![c0, o] : Fin 2 → ℕ) i + S128x128.size i ≤ S256x7168.size i) (j k : Fin 128) :
    View.ld Z (Rect.unit ![c0, o] S128x128.size inb) (ix2 j k) = z W xr (T0 + c0 + j.val) (col q hq (ch h k)) := by
  subst ho
  refine (ld_two (α := Elt Ideal) Z c0 (q + 128 * h.val) inb j k (by omega) (by omega)).trans ?_
  refine (hZ _ _).trans ?_
  congr 1
  · exact (Nat.add_assoc _ _ _).symm
  · exact Fin.ext (Nat.add_assoc _ _ _)

/-- A chunk's values. -/
theorem chunk_v (h : Fin 8) (o c0 : ℕ) (ho : o = 5120 + 128 * h.val) (hc : c0 = 0 ∨ c0 = 128)
    (inb : ∀ i, (![c0, o] : Fin 2 → ℕ) i + S128x128.size i ≤ S256x7168.size i) (j k : Fin 128) :
    View.ld Z (Rect.unit ![c0, o] S128x128.size inb) (ix2 j k) = (Vr W xr h (T0 + c0 + j.val) k : EReal) :=
  (chunk_z hZ h 5120 o c0 (by omega) ho hc inb j k).trans (vls_coe hW h _ k)

/-- A chunk's queries. -/
theorem chunk_q (h : Fin 8) (o c0 : ℕ) (ho : o = 3072 + 128 * h.val) (hc : c0 = 0 ∨ c0 = 128)
    (inb : ∀ i, (![c0, o] : Fin 2 → ℕ) i + S128x128.size i ≤ S256x7168.size i) (j k : Fin 128) :
    View.ld Z (Rect.unit ![c0, o] S128x128.size inb) (ix2 j k) * Ideal.logistic (View.ld Z (Rect.unit ![c0, o] S128x128.size inb) (ix2 j k))
      = (Qr W xr h (T0 + c0 + j.val) k : EReal) := by
  rw [chunk_z hZ h 3072 o c0 (by omega) ho hc inb j k, ← qry_coe hW]
  rfl

/-- A chunk's step of a head's state. -/
theorem chunk_st (h : Fin 8) (o v c0 : ℕ) (ho : o = 128 * h.val) (hv : v = 5120 + 128 * h.val) (hc : c0 = 0 ∨ c0 = 128)
    (hs : S256x1024.Slices ![c0, o] S128x128) (inb : ∀ i, (![c0, v] : Fin 2 → ℕ) i + S128x128.size i ≤ S256x7168.size i)
    {st : FVec Ideal S128x128 .f32} (hst : ∀ v k : Fin 128, st (ix2 v k) = (stR (Lr W xr h) (Kr W xr h) (Vr W xr h) (T0 + c0) v k : EReal)) (a b : Fin 128) :
    headSt (extractStridedSlice S128x128 ![c0, o] (bcZ Z x10) hs) (extractStridedSlice S128x128 ![c0, o] (kinZ Z x10) hs)
      (View.ld Z (Rect.unit ![c0, v] S128x128.size inb)) st (ix2 a b) = (stR (Lr W xr h) (Kr W xr h) (Vr W xr h) (T0 + c0 + 128) a b : EReal) :=
  headSt_read _ _ _ (T0 + c0) (chunk_cols hW h10 hZ h o c0 ho hc hs) (chunk_v hW h10 hZ h v c0 hv hc inb) hst a b

/-- A chunk's outputs of a head. -/
theorem chunk_y (h11 : ∀ c : Fin 1024, x11 (ix2 0 c) = W.og c) (hT : T0 + 256 ≤ 8192) (h : Fin 8) (o q v g c0 : ℕ) (ho : o = 128 * h.val)
    (hq : q = 3072 + 128 * h.val) (hv : v = 5120 + 128 * h.val) (hg : g = 6144 + 128 * h.val) (hc : c0 = 0 ∨ c0 = 128)
    (hs : S256x1024.Slices ![c0, o] S128x128) (iq : ∀ i, (![c0, q] : Fin 2 → ℕ) i + S128x128.size i ≤ S256x7168.size i)
    (iv : ∀ i, (![c0, v] : Fin 2 → ℕ) i + S128x128.size i ≤ S256x7168.size i) (ig : ∀ i, (![c0, g] : Fin 2 → ℕ) i + S128x128.size i ≤ S256x7168.size i)
    (i11 : ∀ i, (![0, o] : Fin 2 → ℕ) i + S1x128.size i ≤ S1x1024.size i) {st : FVec Ideal S128x128 .f32}
    (hst : ∀ v k : Fin 128, st (ix2 v k) = (stR (Lr W xr h) (Kr W xr h) (Vr W xr h) (T0 + c0) v k : EReal)) (j w : Fin 128) :
    headY (headO (extractStridedSlice S128x128 ![c0, o] (bcZ Z x10) hs) (extractStridedSlice S128x128 ![c0, o] (kinZ Z x10) hs)
      (View.ld Z (Rect.unit ![c0, q] S128x128.size iq)) (View.ld Z (Rect.unit ![c0, v] S128x128.size iv)) st)
      (View.ld x11 (Rect.unit ![0, o] S1x128.size i11)) (View.ld Z (Rect.unit ![c0, g] S128x128.size ig)) (ix2 j w) = yh W xr (T0 + c0 + j.val) h w := by
  refine headY_read (T0 + c0) h (fun j w => ?_) (fun w => ?_) (fun j w => ?_) j w
  · refine (headO_read _ _ _ _ (T0 + c0) (chunk_cols hW h10 hZ h o c0 ho hc hs) (chunk_q hW h10 hZ h q c0 hq hc iq)
      (chunk_v hW h10 hZ h v c0 hv hc iv) hst j w).trans (rd_coe hW h _ (by omega) w).symm
  · subst ho
    exact (ld_two (α := Elt Ideal) x11 0 (128 * h.val) i11 0 w (by omega) (by omega)).trans (h11 (ch h w))
  · exact chunk_z hZ h 6144 g c0 (by omega) hg hc ig j w

omit hW h10 hZ in
/-- A head's state without its leading axis. -/
theorem state_read {f : Fin 128 → Fin 128 → EReal} {t : Vec Ideal S1x128x128 .f32} (ht : ∀ v k : Fin 128, t (ix3 0 v k) = f v k) (v k : Fin 128) :
    shapeCast S128x128 t shapeCasts_S1x128x128_S128x128 (ix2 v k) = f v k := by
  rw [← ht]
  pointwise

omit hW h10 hZ in
/-- A head's state with a leading axis. -/
theorem state_cast {f : Fin 128 → Fin 128 → EReal} {t : Vec Ideal S128x128 .f32} (ht : ∀ v k : Fin 128, t (ix2 v k) = f v k) (v k : Fin 128) :
    shapeCast S1x128x128 t shapeCasts_S128x128_S1x128x128 (ix3 0 v k) = f v k := by
  rw [← ht]
  pointwise

/-- Head 0's state after the block's first chunk, from the real state before the block. -/
theorem s1_0_read {t : Vec Ideal S1x128x128 .f32} (ht : ∀ v k : Fin 128, t (ix3 0 v k) = (stR (Lr W xr 0) (Kr W xr 0) (Vr W xr 0) T0 v k : EReal)) (v k : Fin 128) :
    s1_0 Z x10 t (ix2 v k) = (stR (Lr W xr 0) (Kr W xr 0) (Vr W xr 0) (T0 + 128) v k : EReal) :=
  chunk_st hW h10 hZ 0 0 5120 0 rfl rfl (.inl rfl) slices_S256x1024_o0_0_S128x128 inb_S256x7168_S128x128_0_5120 (state_read ht) v k
/-- Head 0's state after the block's second chunk, from the real state before the block. -/
theorem s2_0_read {t : Vec Ideal S1x128x128 .f32} (ht : ∀ v k : Fin 128, t (ix3 0 v k) = (stR (Lr W xr 0) (Kr W xr 0) (Vr W xr 0) T0 v k : EReal)) (v k : Fin 128) :
    s2_0 Z x10 t (ix2 v k) = (stR (Lr W xr 0) (Kr W xr 0) (Vr W xr 0) (T0 + 256) v k : EReal) :=
  chunk_st hW h10 hZ 0 0 5120 128 rfl rfl (.inr rfl) slices_S256x1024_o128_0_S128x128 inb_S256x7168_S128x128_128_5120 (s1_0_read hW h10 hZ ht) v k
/-- Head 0's outputs in the block's first chunk are the layer's. -/
theorem y0_0_read (h11 : ∀ c : Fin 1024, x11 (ix2 0 c) = W.og c) (hT : T0 + 256 ≤ 8192) {t : Vec Ideal S1x128x128 .f32}
    (ht : ∀ v k : Fin 128, t (ix3 0 v k) = (stR (Lr W xr 0) (Kr W xr 0) (Vr W xr 0) T0 v k : EReal)) (j w : Fin 128) :
    y0_0 Z x10 x11 t (ix2 j w) = yh W xr (T0 + 0 + j.val) 0 w :=
  chunk_y hW h10 hZ h11 hT 0 0 3072 5120 6144 0 rfl rfl rfl rfl (.inl rfl) slices_S256x1024_o0_0_S128x128 inb_S256x7168_S128x128_0_3072
    inb_S256x7168_S128x128_0_5120 inb_S256x7168_S128x128_0_6144 inb_S1x1024_S1x128_0_0 (state_read ht) j w
/-- Head 0's outputs in the block's second chunk are the layer's. -/
theorem y1_0_read (h11 : ∀ c : Fin 1024, x11 (ix2 0 c) = W.og c) (hT : T0 + 256 ≤ 8192) {t : Vec Ideal S1x128x128 .f32}
    (ht : ∀ v k : Fin 128, t (ix3 0 v k) = (stR (Lr W xr 0) (Kr W xr 0) (Vr W xr 0) T0 v k : EReal)) (j w : Fin 128) :
    y1_0 Z x10 x11 t (ix2 j w) = yh W xr (T0 + 128 + j.val) 0 w :=
  chunk_y hW h10 hZ h11 hT 0 0 3072 5120 6144 128 rfl rfl rfl rfl (.inr rfl) slices_S256x1024_o128_0_S128x128 inb_S256x7168_S128x128_128_3072
    inb_S256x7168_S128x128_128_5120 inb_S256x7168_S128x128_128_6144 inb_S1x1024_S1x128_0_0 (s1_0_read hW h10 hZ ht) j w
/-- Head 1's state after the block's first chunk, from the real state before the block. -/
theorem s1_1_read {t : Vec Ideal S1x128x128 .f32} (ht : ∀ v k : Fin 128, t (ix3 0 v k) = (stR (Lr W xr 1) (Kr W xr 1) (Vr W xr 1) T0 v k : EReal)) (v k : Fin 128) :
    s1_1 Z x10 t (ix2 v k) = (stR (Lr W xr 1) (Kr W xr 1) (Vr W xr 1) (T0 + 128) v k : EReal) :=
  chunk_st hW h10 hZ 1 128 5248 0 rfl rfl (.inl rfl) slices_S256x1024_o0_128_S128x128 inb_S256x7168_S128x128_0_5248 (state_read ht) v k
/-- Head 1's state after the block's second chunk, from the real state before the block. -/
theorem s2_1_read {t : Vec Ideal S1x128x128 .f32} (ht : ∀ v k : Fin 128, t (ix3 0 v k) = (stR (Lr W xr 1) (Kr W xr 1) (Vr W xr 1) T0 v k : EReal)) (v k : Fin 128) :
    s2_1 Z x10 t (ix2 v k) = (stR (Lr W xr 1) (Kr W xr 1) (Vr W xr 1) (T0 + 256) v k : EReal) :=
  chunk_st hW h10 hZ 1 128 5248 128 rfl rfl (.inr rfl) slices_S256x1024_o128_128_S128x128 inb_S256x7168_S128x128_128_5248 (s1_1_read hW h10 hZ ht) v k
/-- Head 1's outputs in the block's first chunk are the layer's. -/
theorem y0_1_read (h11 : ∀ c : Fin 1024, x11 (ix2 0 c) = W.og c) (hT : T0 + 256 ≤ 8192) {t : Vec Ideal S1x128x128 .f32}
    (ht : ∀ v k : Fin 128, t (ix3 0 v k) = (stR (Lr W xr 1) (Kr W xr 1) (Vr W xr 1) T0 v k : EReal)) (j w : Fin 128) :
    y0_1 Z x10 x11 t (ix2 j w) = yh W xr (T0 + 0 + j.val) 1 w :=
  chunk_y hW h10 hZ h11 hT 1 128 3200 5248 6272 0 rfl rfl rfl rfl (.inl rfl) slices_S256x1024_o0_128_S128x128 inb_S256x7168_S128x128_0_3200
    inb_S256x7168_S128x128_0_5248 inb_S256x7168_S128x128_0_6272 inb_S1x1024_S1x128_0_128 (state_read ht) j w
/-- Head 1's outputs in the block's second chunk are the layer's. -/
theorem y1_1_read (h11 : ∀ c : Fin 1024, x11 (ix2 0 c) = W.og c) (hT : T0 + 256 ≤ 8192) {t : Vec Ideal S1x128x128 .f32}
    (ht : ∀ v k : Fin 128, t (ix3 0 v k) = (stR (Lr W xr 1) (Kr W xr 1) (Vr W xr 1) T0 v k : EReal)) (j w : Fin 128) :
    y1_1 Z x10 x11 t (ix2 j w) = yh W xr (T0 + 128 + j.val) 1 w :=
  chunk_y hW h10 hZ h11 hT 1 128 3200 5248 6272 128 rfl rfl rfl rfl (.inr rfl) slices_S256x1024_o128_128_S128x128 inb_S256x7168_S128x128_128_3200
    inb_S256x7168_S128x128_128_5248 inb_S256x7168_S128x128_128_6272 inb_S1x1024_S1x128_0_128 (s1_1_read hW h10 hZ ht) j w
/-- Head 2's state after the block's first chunk, from the real state before the block. -/
theorem s1_2_read {t : Vec Ideal S1x128x128 .f32} (ht : ∀ v k : Fin 128, t (ix3 0 v k) = (stR (Lr W xr 2) (Kr W xr 2) (Vr W xr 2) T0 v k : EReal)) (v k : Fin 128) :
    s1_2 Z x10 t (ix2 v k) = (stR (Lr W xr 2) (Kr W xr 2) (Vr W xr 2) (T0 + 128) v k : EReal) :=
  chunk_st hW h10 hZ 2 256 5376 0 rfl rfl (.inl rfl) slices_S256x1024_o0_256_S128x128 inb_S256x7168_S128x128_0_5376 (state_read ht) v k
/-- Head 2's state after the block's second chunk, from the real state before the block. -/
theorem s2_2_read {t : Vec Ideal S1x128x128 .f32} (ht : ∀ v k : Fin 128, t (ix3 0 v k) = (stR (Lr W xr 2) (Kr W xr 2) (Vr W xr 2) T0 v k : EReal)) (v k : Fin 128) :
    s2_2 Z x10 t (ix2 v k) = (stR (Lr W xr 2) (Kr W xr 2) (Vr W xr 2) (T0 + 256) v k : EReal) :=
  chunk_st hW h10 hZ 2 256 5376 128 rfl rfl (.inr rfl) slices_S256x1024_o128_256_S128x128 inb_S256x7168_S128x128_128_5376 (s1_2_read hW h10 hZ ht) v k
/-- Head 2's outputs in the block's first chunk are the layer's. -/
theorem y0_2_read (h11 : ∀ c : Fin 1024, x11 (ix2 0 c) = W.og c) (hT : T0 + 256 ≤ 8192) {t : Vec Ideal S1x128x128 .f32}
    (ht : ∀ v k : Fin 128, t (ix3 0 v k) = (stR (Lr W xr 2) (Kr W xr 2) (Vr W xr 2) T0 v k : EReal)) (j w : Fin 128) :
    y0_2 Z x10 x11 t (ix2 j w) = yh W xr (T0 + 0 + j.val) 2 w :=
  chunk_y hW h10 hZ h11 hT 2 256 3328 5376 6400 0 rfl rfl rfl rfl (.inl rfl) slices_S256x1024_o0_256_S128x128 inb_S256x7168_S128x128_0_3328
    inb_S256x7168_S128x128_0_5376 inb_S256x7168_S128x128_0_6400 inb_S1x1024_S1x128_0_256 (state_read ht) j w
/-- Head 2's outputs in the block's second chunk are the layer's. -/
theorem y1_2_read (h11 : ∀ c : Fin 1024, x11 (ix2 0 c) = W.og c) (hT : T0 + 256 ≤ 8192) {t : Vec Ideal S1x128x128 .f32}
    (ht : ∀ v k : Fin 128, t (ix3 0 v k) = (stR (Lr W xr 2) (Kr W xr 2) (Vr W xr 2) T0 v k : EReal)) (j w : Fin 128) :
    y1_2 Z x10 x11 t (ix2 j w) = yh W xr (T0 + 128 + j.val) 2 w :=
  chunk_y hW h10 hZ h11 hT 2 256 3328 5376 6400 128 rfl rfl rfl rfl (.inr rfl) slices_S256x1024_o128_256_S128x128 inb_S256x7168_S128x128_128_3328
    inb_S256x7168_S128x128_128_5376 inb_S256x7168_S128x128_128_6400 inb_S1x1024_S1x128_0_256 (s1_2_read hW h10 hZ ht) j w
/-- Head 3's state after the block's first chunk, from the real state before the block. -/
theorem s1_3_read {t : Vec Ideal S1x128x128 .f32} (ht : ∀ v k : Fin 128, t (ix3 0 v k) = (stR (Lr W xr 3) (Kr W xr 3) (Vr W xr 3) T0 v k : EReal)) (v k : Fin 128) :
    s1_3 Z x10 t (ix2 v k) = (stR (Lr W xr 3) (Kr W xr 3) (Vr W xr 3) (T0 + 128) v k : EReal) :=
  chunk_st hW h10 hZ 3 384 5504 0 rfl rfl (.inl rfl) slices_S256x1024_o0_384_S128x128 inb_S256x7168_S128x128_0_5504 (state_read ht) v k
/-- Head 3's state after the block's second chunk, from the real state before the block. -/
theorem s2_3_read {t : Vec Ideal S1x128x128 .f32} (ht : ∀ v k : Fin 128, t (ix3 0 v k) = (stR (Lr W xr 3) (Kr W xr 3) (Vr W xr 3) T0 v k : EReal)) (v k : Fin 128) :
    s2_3 Z x10 t (ix2 v k) = (stR (Lr W xr 3) (Kr W xr 3) (Vr W xr 3) (T0 + 256) v k : EReal) :=
  chunk_st hW h10 hZ 3 384 5504 128 rfl rfl (.inr rfl) slices_S256x1024_o128_384_S128x128 inb_S256x7168_S128x128_128_5504 (s1_3_read hW h10 hZ ht) v k
/-- Head 3's outputs in the block's first chunk are the layer's. -/
theorem y0_3_read (h11 : ∀ c : Fin 1024, x11 (ix2 0 c) = W.og c) (hT : T0 + 256 ≤ 8192) {t : Vec Ideal S1x128x128 .f32}
    (ht : ∀ v k : Fin 128, t (ix3 0 v k) = (stR (Lr W xr 3) (Kr W xr 3) (Vr W xr 3) T0 v k : EReal)) (j w : Fin 128) :
    y0_3 Z x10 x11 t (ix2 j w) = yh W xr (T0 + 0 + j.val) 3 w :=
  chunk_y hW h10 hZ h11 hT 3 384 3456 5504 6528 0 rfl rfl rfl rfl (.inl rfl) slices_S256x1024_o0_384_S128x128 inb_S256x7168_S128x128_0_3456
    inb_S256x7168_S128x128_0_5504 inb_S256x7168_S128x128_0_6528 inb_S1x1024_S1x128_0_384 (state_read ht) j w
/-- Head 3's outputs in the block's second chunk are the layer's. -/
theorem y1_3_read (h11 : ∀ c : Fin 1024, x11 (ix2 0 c) = W.og c) (hT : T0 + 256 ≤ 8192) {t : Vec Ideal S1x128x128 .f32}
    (ht : ∀ v k : Fin 128, t (ix3 0 v k) = (stR (Lr W xr 3) (Kr W xr 3) (Vr W xr 3) T0 v k : EReal)) (j w : Fin 128) :
    y1_3 Z x10 x11 t (ix2 j w) = yh W xr (T0 + 128 + j.val) 3 w :=
  chunk_y hW h10 hZ h11 hT 3 384 3456 5504 6528 128 rfl rfl rfl rfl (.inr rfl) slices_S256x1024_o128_384_S128x128 inb_S256x7168_S128x128_128_3456
    inb_S256x7168_S128x128_128_5504 inb_S256x7168_S128x128_128_6528 inb_S1x1024_S1x128_0_384 (s1_3_read hW h10 hZ ht) j w
/-- Head 4's state after the block's first chunk, from the real state before the block. -/
theorem s1_4_read {t : Vec Ideal S1x128x128 .f32} (ht : ∀ v k : Fin 128, t (ix3 0 v k) = (stR (Lr W xr 4) (Kr W xr 4) (Vr W xr 4) T0 v k : EReal)) (v k : Fin 128) :
    s1_4 Z x10 t (ix2 v k) = (stR (Lr W xr 4) (Kr W xr 4) (Vr W xr 4) (T0 + 128) v k : EReal) :=
  chunk_st hW h10 hZ 4 512 5632 0 rfl rfl (.inl rfl) slices_S256x1024_o0_512_S128x128 inb_S256x7168_S128x128_0_5632 (state_read ht) v k
/-- Head 4's state after the block's second chunk, from the real state before the block. -/
theorem s2_4_read {t : Vec Ideal S1x128x128 .f32} (ht : ∀ v k : Fin 128, t (ix3 0 v k) = (stR (Lr W xr 4) (Kr W xr 4) (Vr W xr 4) T0 v k : EReal)) (v k : Fin 128) :
    s2_4 Z x10 t (ix2 v k) = (stR (Lr W xr 4) (Kr W xr 4) (Vr W xr 4) (T0 + 256) v k : EReal) :=
  chunk_st hW h10 hZ 4 512 5632 128 rfl rfl (.inr rfl) slices_S256x1024_o128_512_S128x128 inb_S256x7168_S128x128_128_5632 (s1_4_read hW h10 hZ ht) v k
/-- Head 4's outputs in the block's first chunk are the layer's. -/
theorem y0_4_read (h11 : ∀ c : Fin 1024, x11 (ix2 0 c) = W.og c) (hT : T0 + 256 ≤ 8192) {t : Vec Ideal S1x128x128 .f32}
    (ht : ∀ v k : Fin 128, t (ix3 0 v k) = (stR (Lr W xr 4) (Kr W xr 4) (Vr W xr 4) T0 v k : EReal)) (j w : Fin 128) :
    y0_4 Z x10 x11 t (ix2 j w) = yh W xr (T0 + 0 + j.val) 4 w :=
  chunk_y hW h10 hZ h11 hT 4 512 3584 5632 6656 0 rfl rfl rfl rfl (.inl rfl) slices_S256x1024_o0_512_S128x128 inb_S256x7168_S128x128_0_3584
    inb_S256x7168_S128x128_0_5632 inb_S256x7168_S128x128_0_6656 inb_S1x1024_S1x128_0_512 (state_read ht) j w
/-- Head 4's outputs in the block's second chunk are the layer's. -/
theorem y1_4_read (h11 : ∀ c : Fin 1024, x11 (ix2 0 c) = W.og c) (hT : T0 + 256 ≤ 8192) {t : Vec Ideal S1x128x128 .f32}
    (ht : ∀ v k : Fin 128, t (ix3 0 v k) = (stR (Lr W xr 4) (Kr W xr 4) (Vr W xr 4) T0 v k : EReal)) (j w : Fin 128) :
    y1_4 Z x10 x11 t (ix2 j w) = yh W xr (T0 + 128 + j.val) 4 w :=
  chunk_y hW h10 hZ h11 hT 4 512 3584 5632 6656 128 rfl rfl rfl rfl (.inr rfl) slices_S256x1024_o128_512_S128x128 inb_S256x7168_S128x128_128_3584
    inb_S256x7168_S128x128_128_5632 inb_S256x7168_S128x128_128_6656 inb_S1x1024_S1x128_0_512 (s1_4_read hW h10 hZ ht) j w
/-- Head 5's state after the block's first chunk, from the real state before the block. -/
theorem s1_5_read {t : Vec Ideal S1x128x128 .f32} (ht : ∀ v k : Fin 128, t (ix3 0 v k) = (stR (Lr W xr 5) (Kr W xr 5) (Vr W xr 5) T0 v k : EReal)) (v k : Fin 128) :
    s1_5 Z x10 t (ix2 v k) = (stR (Lr W xr 5) (Kr W xr 5) (Vr W xr 5) (T0 + 128) v k : EReal) :=
  chunk_st hW h10 hZ 5 640 5760 0 rfl rfl (.inl rfl) slices_S256x1024_o0_640_S128x128 inb_S256x7168_S128x128_0_5760 (state_read ht) v k
/-- Head 5's state after the block's second chunk, from the real state before the block. -/
theorem s2_5_read {t : Vec Ideal S1x128x128 .f32} (ht : ∀ v k : Fin 128, t (ix3 0 v k) = (stR (Lr W xr 5) (Kr W xr 5) (Vr W xr 5) T0 v k : EReal)) (v k : Fin 128) :
    s2_5 Z x10 t (ix2 v k) = (stR (Lr W xr 5) (Kr W xr 5) (Vr W xr 5) (T0 + 256) v k : EReal) :=
  chunk_st hW h10 hZ 5 640 5760 128 rfl rfl (.inr rfl) slices_S256x1024_o128_640_S128x128 inb_S256x7168_S128x128_128_5760 (s1_5_read hW h10 hZ ht) v k
/-- Head 5's outputs in the block's first chunk are the layer's. -/
theorem y0_5_read (h11 : ∀ c : Fin 1024, x11 (ix2 0 c) = W.og c) (hT : T0 + 256 ≤ 8192) {t : Vec Ideal S1x128x128 .f32}
    (ht : ∀ v k : Fin 128, t (ix3 0 v k) = (stR (Lr W xr 5) (Kr W xr 5) (Vr W xr 5) T0 v k : EReal)) (j w : Fin 128) :
    y0_5 Z x10 x11 t (ix2 j w) = yh W xr (T0 + 0 + j.val) 5 w :=
  chunk_y hW h10 hZ h11 hT 5 640 3712 5760 6784 0 rfl rfl rfl rfl (.inl rfl) slices_S256x1024_o0_640_S128x128 inb_S256x7168_S128x128_0_3712
    inb_S256x7168_S128x128_0_5760 inb_S256x7168_S128x128_0_6784 inb_S1x1024_S1x128_0_640 (state_read ht) j w
/-- Head 5's outputs in the block's second chunk are the layer's. -/
theorem y1_5_read (h11 : ∀ c : Fin 1024, x11 (ix2 0 c) = W.og c) (hT : T0 + 256 ≤ 8192) {t : Vec Ideal S1x128x128 .f32}
    (ht : ∀ v k : Fin 128, t (ix3 0 v k) = (stR (Lr W xr 5) (Kr W xr 5) (Vr W xr 5) T0 v k : EReal)) (j w : Fin 128) :
    y1_5 Z x10 x11 t (ix2 j w) = yh W xr (T0 + 128 + j.val) 5 w :=
  chunk_y hW h10 hZ h11 hT 5 640 3712 5760 6784 128 rfl rfl rfl rfl (.inr rfl) slices_S256x1024_o128_640_S128x128 inb_S256x7168_S128x128_128_3712
    inb_S256x7168_S128x128_128_5760 inb_S256x7168_S128x128_128_6784 inb_S1x1024_S1x128_0_640 (s1_5_read hW h10 hZ ht) j w
/-- Head 6's state after the block's first chunk, from the real state before the block. -/
theorem s1_6_read {t : Vec Ideal S1x128x128 .f32} (ht : ∀ v k : Fin 128, t (ix3 0 v k) = (stR (Lr W xr 6) (Kr W xr 6) (Vr W xr 6) T0 v k : EReal)) (v k : Fin 128) :
    s1_6 Z x10 t (ix2 v k) = (stR (Lr W xr 6) (Kr W xr 6) (Vr W xr 6) (T0 + 128) v k : EReal) :=
  chunk_st hW h10 hZ 6 768 5888 0 rfl rfl (.inl rfl) slices_S256x1024_o0_768_S128x128 inb_S256x7168_S128x128_0_5888 (state_read ht) v k
/-- Head 6's state after the block's second chunk, from the real state before the block. -/
theorem s2_6_read {t : Vec Ideal S1x128x128 .f32} (ht : ∀ v k : Fin 128, t (ix3 0 v k) = (stR (Lr W xr 6) (Kr W xr 6) (Vr W xr 6) T0 v k : EReal)) (v k : Fin 128) :
    s2_6 Z x10 t (ix2 v k) = (stR (Lr W xr 6) (Kr W xr 6) (Vr W xr 6) (T0 + 256) v k : EReal) :=
  chunk_st hW h10 hZ 6 768 5888 128 rfl rfl (.inr rfl) slices_S256x1024_o128_768_S128x128 inb_S256x7168_S128x128_128_5888 (s1_6_read hW h10 hZ ht) v k
/-- Head 6's outputs in the block's first chunk are the layer's. -/
theorem y0_6_read (h11 : ∀ c : Fin 1024, x11 (ix2 0 c) = W.og c) (hT : T0 + 256 ≤ 8192) {t : Vec Ideal S1x128x128 .f32}
    (ht : ∀ v k : Fin 128, t (ix3 0 v k) = (stR (Lr W xr 6) (Kr W xr 6) (Vr W xr 6) T0 v k : EReal)) (j w : Fin 128) :
    y0_6 Z x10 x11 t (ix2 j w) = yh W xr (T0 + 0 + j.val) 6 w :=
  chunk_y hW h10 hZ h11 hT 6 768 3840 5888 6912 0 rfl rfl rfl rfl (.inl rfl) slices_S256x1024_o0_768_S128x128 inb_S256x7168_S128x128_0_3840
    inb_S256x7168_S128x128_0_5888 inb_S256x7168_S128x128_0_6912 inb_S1x1024_S1x128_0_768 (state_read ht) j w
/-- Head 6's outputs in the block's second chunk are the layer's. -/
theorem y1_6_read (h11 : ∀ c : Fin 1024, x11 (ix2 0 c) = W.og c) (hT : T0 + 256 ≤ 8192) {t : Vec Ideal S1x128x128 .f32}
    (ht : ∀ v k : Fin 128, t (ix3 0 v k) = (stR (Lr W xr 6) (Kr W xr 6) (Vr W xr 6) T0 v k : EReal)) (j w : Fin 128) :
    y1_6 Z x10 x11 t (ix2 j w) = yh W xr (T0 + 128 + j.val) 6 w :=
  chunk_y hW h10 hZ h11 hT 6 768 3840 5888 6912 128 rfl rfl rfl rfl (.inr rfl) slices_S256x1024_o128_768_S128x128 inb_S256x7168_S128x128_128_3840
    inb_S256x7168_S128x128_128_5888 inb_S256x7168_S128x128_128_6912 inb_S1x1024_S1x128_0_768 (s1_6_read hW h10 hZ ht) j w
/-- Head 7's state after the block's first chunk, from the real state before the block. -/
theorem s1_7_read {t : Vec Ideal S1x128x128 .f32} (ht : ∀ v k : Fin 128, t (ix3 0 v k) = (stR (Lr W xr 7) (Kr W xr 7) (Vr W xr 7) T0 v k : EReal)) (v k : Fin 128) :
    s1_7 Z x10 t (ix2 v k) = (stR (Lr W xr 7) (Kr W xr 7) (Vr W xr 7) (T0 + 128) v k : EReal) :=
  chunk_st hW h10 hZ 7 896 6016 0 rfl rfl (.inl rfl) slices_S256x1024_o0_896_S128x128 inb_S256x7168_S128x128_0_6016 (state_read ht) v k
/-- Head 7's state after the block's second chunk, from the real state before the block. -/
theorem s2_7_read {t : Vec Ideal S1x128x128 .f32} (ht : ∀ v k : Fin 128, t (ix3 0 v k) = (stR (Lr W xr 7) (Kr W xr 7) (Vr W xr 7) T0 v k : EReal)) (v k : Fin 128) :
    s2_7 Z x10 t (ix2 v k) = (stR (Lr W xr 7) (Kr W xr 7) (Vr W xr 7) (T0 + 256) v k : EReal) :=
  chunk_st hW h10 hZ 7 896 6016 128 rfl rfl (.inr rfl) slices_S256x1024_o128_896_S128x128 inb_S256x7168_S128x128_128_6016 (s1_7_read hW h10 hZ ht) v k
/-- Head 7's outputs in the block's first chunk are the layer's. -/
theorem y0_7_read (h11 : ∀ c : Fin 1024, x11 (ix2 0 c) = W.og c) (hT : T0 + 256 ≤ 8192) {t : Vec Ideal S1x128x128 .f32}
    (ht : ∀ v k : Fin 128, t (ix3 0 v k) = (stR (Lr W xr 7) (Kr W xr 7) (Vr W xr 7) T0 v k : EReal)) (j w : Fin 128) :
    y0_7 Z x10 x11 t (ix2 j w) = yh W xr (T0 + 0 + j.val) 7 w :=
  chunk_y hW h10 hZ h11 hT 7 896 3968 6016 7040 0 rfl rfl rfl rfl (.inl rfl) slices_S256x1024_o0_896_S128x128 inb_S256x7168_S128x128_0_3968
    inb_S256x7168_S128x128_0_6016 inb_S256x7168_S128x128_0_7040 inb_S1x1024_S1x128_0_896 (state_read ht) j w
/-- Head 7's outputs in the block's second chunk are the layer's. -/
theorem y1_7_read (h11 : ∀ c : Fin 1024, x11 (ix2 0 c) = W.og c) (hT : T0 + 256 ≤ 8192) {t : Vec Ideal S1x128x128 .f32}
    (ht : ∀ v k : Fin 128, t (ix3 0 v k) = (stR (Lr W xr 7) (Kr W xr 7) (Vr W xr 7) T0 v k : EReal)) (j w : Fin 128) :
    y1_7 Z x10 x11 t (ix2 j w) = yh W xr (T0 + 128 + j.val) 7 w :=
  chunk_y hW h10 hZ h11 hT 7 896 3968 6016 7040 128 rfl rfl rfl rfl (.inr rfl) slices_S256x1024_o128_896_S128x128 inb_S256x7168_S128x128_128_3968
    inb_S256x7168_S128x128_128_6016 inb_S256x7168_S128x128_128_7040 inb_S1x1024_S1x128_0_896 (s1_7_read hW h10 hZ ht) j w

omit hW h10 hZ in
/-- A channel of the convolution branch among the joined channels. -/
theorem cat_left {t t' : ℕ} {c : Fin 2048} {l : Fin 1024} (ht : t = t') (hc : c.val = l.val) : yc W xr t l = cat W xr t' c := by
  subst ht
  unfold cat
  rw [dif_pos (by omega)]
  exact congrArg _ (Fin.ext hc.symm)

omit hW h10 hZ in
/-- A channel of a head among the joined channels. -/
theorem cat_right {t t' : ℕ} {c : Fin 2048} {h : Fin 8} {l : Fin 128} (ht : t = t') (hc : c.val = 1024 + (128 * h.val + l.val)) : yh W xr t h l = cat W xr t' c := by
  subst ht
  unfold cat
  rw [dif_neg (by omega)]
  congr 1
  · exact Fin.ext (show h.val = (c.val - 1024) / 128 by omega)
  · exact Fin.ext (show l.val = (c.val - 1024) % 128 by omega)

variable {t0 t1 t2 t3 t4 t5 t6 t7 : Vec Ideal S1x128x128 .f32}
    (ht0 : ∀ v k : Fin 128, t0 (ix3 0 v k) = (stR (Lr W xr 0) (Kr W xr 0) (Vr W xr 0) T0 v k : EReal))
    (ht1 : ∀ v k : Fin 128, t1 (ix3 0 v k) = (stR (Lr W xr 1) (Kr W xr 1) (Vr W xr 1) T0 v k : EReal))
    (ht2 : ∀ v k : Fin 128, t2 (ix3 0 v k) = (stR (Lr W xr 2) (Kr W xr 2) (Vr W xr 2) T0 v k : EReal))
    (ht3 : ∀ v k : Fin 128, t3 (ix3 0 v k) = (stR (Lr W xr 3) (Kr W xr 3) (Vr W xr 3) T0 v k : EReal))
    (ht4 : ∀ v k : Fin 128, t4 (ix3 0 v k) = (stR (Lr W xr 4) (Kr W xr 4) (Vr W xr 4) T0 v k : EReal))
    (ht5 : ∀ v k : Fin 128, t5 (ix3 0 v k) = (stR (Lr W xr 5) (Kr W xr 5) (Vr W xr 5) T0 v k : EReal))
    (ht6 : ∀ v k : Fin 128, t6 (ix3 0 v k) = (stR (Lr W xr 6) (Kr W xr 6) (Vr W xr 6) T0 v k : EReal))
    (ht7 : ∀ v k : Fin 128, t7 (ix3 0 v k) = (stR (Lr W xr 7) (Kr W xr 7) (Vr W xr 7) T0 v k : EReal))

include ht0 ht1 ht2 ht3 ht4 ht5 ht6 ht7

/-- The scratch of the mixed outputs after its stores. -/
theorem pieces3_canon (h8 : ∀ (c : Fin 1024) (n : Fin 1024), x8 (ix2 c n) = W.wp2 c n) (h9 : ∀ c : Fin 1024, x9 (ix2 0 c) = W.bp2 c)
    (h11 : ∀ c : Fin 1024, x11 (ix2 0 c) = W.og c) (hT : T0 + 256 ≤ 8192) (hcv : ∀ r c, cv (ix2 r c) = cvb W xr (T0 + r.val) c)
    (r : Fin 256) (c : Fin 2048) : View.canon (pieces3 cv Z x8 x9 x10 x11 t0 t1 t2 t3 t4 t5 t6 t7) (ix2 r c) = cat W xr (T0 + r) c := by
  refine View.canon_apply_of_pieces (Val := Elt Ideal) (show Vec Ideal S256x2048 .bf16 from fun y => cat W xr (T0 + (y 0).val) (y 1)) _ ?_ _ ?_
  swap
  · exact View.cover_of_tiledBy (s := S256x2048) _ S128x128.size (by sl_kernel_rfl) _
  intro p hp
  simp only [pieces3, List.mem_cons, List.not_mem_nil, or_false] at hp
  rcases hp with rfl | rfl | rfl | rfl | rfl | rfl | rfl | rfl | rfl | rfl | rfl | rfl | rfl | rfl | rfl | rfl | rfl
  · intro x
    obtain ⟨r, l, rfl⟩ : ∃ (r : Fin 128) (l : Fin 128), x = ix2 r l := ⟨x 0, x 1, eq_ix2 x⟩
    exact (y1_7_read hW h10 hZ h11 hT ht7 r l).trans (cat_right (show T0 + 128 + r.val = T0 + (128 + 1 * r.val) by omega)
      (show 1920 + 1 * l.val = 1024 + (128 * 7 + l.val) by omega))
  · intro x
    obtain ⟨r, l, rfl⟩ : ∃ (r : Fin 128) (l : Fin 128), x = ix2 r l := ⟨x 0, x 1, eq_ix2 x⟩
    exact (y0_7_read hW h10 hZ h11 hT ht7 r l).trans (cat_right (show T0 + 0 + r.val = T0 + (0 + 1 * r.val) by omega)
      (show 1920 + 1 * l.val = 1024 + (128 * 7 + l.val) by omega))
  · intro x
    obtain ⟨r, l, rfl⟩ : ∃ (r : Fin 128) (l : Fin 128), x = ix2 r l := ⟨x 0, x 1, eq_ix2 x⟩
    exact (y1_6_read hW h10 hZ h11 hT ht6 r l).trans (cat_right (show T0 + 128 + r.val = T0 + (128 + 1 * r.val) by omega)
      (show 1792 + 1 * l.val = 1024 + (128 * 6 + l.val) by omega))
  · intro x
    obtain ⟨r, l, rfl⟩ : ∃ (r : Fin 128) (l : Fin 128), x = ix2 r l := ⟨x 0, x 1, eq_ix2 x⟩
    exact (y0_6_read hW h10 hZ h11 hT ht6 r l).trans (cat_right (show T0 + 0 + r.val = T0 + (0 + 1 * r.val) by omega)
      (show 1792 + 1 * l.val = 1024 + (128 * 6 + l.val) by omega))
  · intro x
    obtain ⟨r, l, rfl⟩ : ∃ (r : Fin 128) (l : Fin 128), x = ix2 r l := ⟨x 0, x 1, eq_ix2 x⟩
    exact (y1_5_read hW h10 hZ h11 hT ht5 r l).trans (cat_right (show T0 + 128 + r.val = T0 + (128 + 1 * r.val) by omega)
      (show 1664 + 1 * l.val = 1024 + (128 * 5 + l.val) by omega))
  · intro x
    obtain ⟨r, l, rfl⟩ : ∃ (r : Fin 128) (l : Fin 128), x = ix2 r l := ⟨x 0, x 1, eq_ix2 x⟩
    exact (y0_5_read hW h10 hZ h11 hT ht5 r l).trans (cat_right (show T0 + 0 + r.val = T0 + (0 + 1 * r.val) by omega)
      (show 1664 + 1 * l.val = 1024 + (128 * 5 + l.val) by omega))
  · intro x
    obtain ⟨r, l, rfl⟩ : ∃ (r : Fin 128) (l : Fin 128), x = ix2 r l := ⟨x 0, x 1, eq_ix2 x⟩
    exact (y1_4_read hW h10 hZ h11 hT ht4 r l).trans (cat_right (show T0 + 128 + r.val = T0 + (128 + 1 * r.val) by omega)
      (show 1536 + 1 * l.val = 1024 + (128 * 4 + l.val) by omega))
  · intro x
    obtain ⟨r, l, rfl⟩ : ∃ (r : Fin 128) (l : Fin 128), x = ix2 r l := ⟨x 0, x 1, eq_ix2 x⟩
    exact (y0_4_read hW h10 hZ h11 hT ht4 r l).trans (cat_right (show T0 + 0 + r.val = T0 + (0 + 1 * r.val) by omega)
      (show 1536 + 1 * l.val = 1024 + (128 * 4 + l.val) by omega))
  · intro x
    obtain ⟨r, l, rfl⟩ : ∃ (r : Fin 128) (l : Fin 128), x = ix2 r l := ⟨x 0, x 1, eq_ix2 x⟩
    exact (y1_3_read hW h10 hZ h11 hT ht3 r l).trans (cat_right (show T0 + 128 + r.val = T0 + (128 + 1 * r.val) by omega)
      (show 1408 + 1 * l.val = 1024 + (128 * 3 + l.val) by omega))
  · intro x
    obtain ⟨r, l, rfl⟩ : ∃ (r : Fin 128) (l : Fin 128), x = ix2 r l := ⟨x 0, x 1, eq_ix2 x⟩
    exact (y0_3_read hW h10 hZ h11 hT ht3 r l).trans (cat_right (show T0 + 0 + r.val = T0 + (0 + 1 * r.val) by omega)
      (show 1408 + 1 * l.val = 1024 + (128 * 3 + l.val) by omega))
  · intro x
    obtain ⟨r, l, rfl⟩ : ∃ (r : Fin 128) (l : Fin 128), x = ix2 r l := ⟨x 0, x 1, eq_ix2 x⟩
    exact (y1_2_read hW h10 hZ h11 hT ht2 r l).trans (cat_right (show T0 + 128 + r.val = T0 + (128 + 1 * r.val) by omega)
      (show 1280 + 1 * l.val = 1024 + (128 * 2 + l.val) by omega))
  · intro x
    obtain ⟨r, l, rfl⟩ : ∃ (r : Fin 128) (l : Fin 128), x = ix2 r l := ⟨x 0, x 1, eq_ix2 x⟩
    exact (y0_2_read hW h10 hZ h11 hT ht2 r l).trans (cat_right (show T0 + 0 + r.val = T0 + (0 + 1 * r.val) by omega)
      (show 1280 + 1 * l.val = 1024 + (128 * 2 + l.val) by omega))
  · intro x
    obtain ⟨r, l, rfl⟩ : ∃ (r : Fin 128) (l : Fin 128), x = ix2 r l := ⟨x 0, x 1, eq_ix2 x⟩
    exact (y1_1_read hW h10 hZ h11 hT ht1 r l).trans (cat_right (show T0 + 128 + r.val = T0 + (128 + 1 * r.val) by omega)
      (show 1152 + 1 * l.val = 1024 + (128 * 1 + l.val) by omega))
  · intro x
    obtain ⟨r, l, rfl⟩ : ∃ (r : Fin 128) (l : Fin 128), x = ix2 r l := ⟨x 0, x 1, eq_ix2 x⟩
    exact (y0_1_read hW h10 hZ h11 hT ht1 r l).trans (cat_right (show T0 + 0 + r.val = T0 + (0 + 1 * r.val) by omega)
      (show 1152 + 1 * l.val = 1024 + (128 * 1 + l.val) by omega))
  · intro x
    obtain ⟨r, l, rfl⟩ : ∃ (r : Fin 128) (l : Fin 128), x = ix2 r l := ⟨x 0, x 1, eq_ix2 x⟩
    exact (y1_0_read hW h10 hZ h11 hT ht0 r l).trans (cat_right (show T0 + 128 + r.val = T0 + (128 + 1 * r.val) by omega)
      (show 1024 + 1 * l.val = 1024 + (128 * 0 + l.val) by omega))
  · intro x
    obtain ⟨r, l, rfl⟩ : ∃ (r : Fin 128) (l : Fin 128), x = ix2 r l := ⟨x 0, x 1, eq_ix2 x⟩
    exact (y0_0_read hW h10 hZ h11 hT ht0 r l).trans (cat_right (show T0 + 0 + r.val = T0 + (0 + 1 * r.val) by omega)
      (show 1024 + 1 * l.val = 1024 + (128 * 0 + l.val) by omega))
  · intro x
    obtain ⟨r, l, rfl⟩ : ∃ (r : Fin 256) (l : Fin 1024), x = ix2 r l := ⟨x 0, x 1, eq_ix2 x⟩
    exact (pw_read hcv h8 h9 hZ r l).trans (cat_left (show T0 + r.val = T0 + (0 + 1 * r.val) by omega) (show 0 + 1 * l.val = l.val by omega))

/-- The states' scratch after its stores, whatever was stored before. -/
theorem pieces2_canon (L : List (View.Piece (Elt Ideal) S8x128x128 .f32)) (h : Fin 8) (v k : Fin 128) :
    View.canon (pieces2 Z x10 t0 t1 t2 t3 t4 t5 t6 t7 ++ L) (ix3 h v k) = (stR (Lr W xr h) (Kr W xr h) (Vr W xr h) (T0 + 256) v k : EReal) := by
  refine View.canon_append_of_pieces (Val := Elt Ideal)
    (show Vec Ideal S8x128x128 .f32 from fun y => ((stR (Lr W xr (y 0)) (Kr W xr (y 0)) (Vr W xr (y 0)) (T0 + 256) (y 1) (y 2) : ℝ) : EReal)) _ _ ?_ _ ?_
  swap
  · exact View.cover_of_tiledL (s := S8x128x128) _ S1x128x128.size (by sl_kernel_rfl) _
  intro p hp
  simp only [pieces2, List.mem_cons, List.not_mem_nil, or_false] at hp
  have e : ∀ (h h' : Fin 8) (v v' k k' : Fin 128), h = h' → v = v' → k = k' →
      ((stR (Lr W xr h) (Kr W xr h) (Vr W xr h) (T0 + 256) v k : ℝ) : EReal) = ((stR (Lr W xr h') (Kr W xr h') (Vr W xr h') (T0 + 256) v' k' : ℝ) : EReal) := by
    rintro _ _ _ _ _ _ rfl rfl rfl
    rfl
  rcases hp with rfl | rfl | rfl | rfl | rfl | rfl | rfl | rfl
  · intro x
    obtain ⟨a, r, l, rfl⟩ : ∃ (a : Fin 1) (r : Fin 128) (l : Fin 128), x = ix3 a r l := ⟨x 0, x 1, x 2, eq_ix3 x⟩
    obtain rfl : a = 0 := Subsingleton.elim _ _
    exact (state_cast (f := fun v k => ((stR (Lr W xr 7) (Kr W xr 7) (Vr W xr 7) (T0 + 256) v k : ℝ) : EReal)) (s2_7_read hW h10 hZ ht7) r l).trans
      (e _ _ _ _ _ _ (Fin.ext (show 7 = 7 + 1 * 0 by omega)) (Fin.ext (show r.val = 0 + 1 * r.val by omega)) (Fin.ext (show l.val = 0 + 1 * l.val by omega)))
  · intro x
    obtain ⟨a, r, l, rfl⟩ : ∃ (a : Fin 1) (r : Fin 128) (l : Fin 128), x = ix3 a r l := ⟨x 0, x 1, x 2, eq_ix3 x⟩
    obtain rfl : a = 0 := Subsingleton.elim _ _
    exact (state_cast (f := fun v k => ((stR (Lr W xr 6) (Kr W xr 6) (Vr W xr 6) (T0 + 256) v k : ℝ) : EReal)) (s2_6_read hW h10 hZ ht6) r l).trans
      (e _ _ _ _ _ _ (Fin.ext (show 6 = 6 + 1 * 0 by omega)) (Fin.ext (show r.val = 0 + 1 * r.val by omega)) (Fin.ext (show l.val = 0 + 1 * l.val by omega)))
  · intro x
    obtain ⟨a, r, l, rfl⟩ : ∃ (a : Fin 1) (r : Fin 128) (l : Fin 128), x = ix3 a r l := ⟨x 0, x 1, x 2, eq_ix3 x⟩
    obtain rfl : a = 0 := Subsingleton.elim _ _
    exact (state_cast (f := fun v k => ((stR (Lr W xr 5) (Kr W xr 5) (Vr W xr 5) (T0 + 256) v k : ℝ) : EReal)) (s2_5_read hW h10 hZ ht5) r l).trans
      (e _ _ _ _ _ _ (Fin.ext (show 5 = 5 + 1 * 0 by omega)) (Fin.ext (show r.val = 0 + 1 * r.val by omega)) (Fin.ext (show l.val = 0 + 1 * l.val by omega)))
  · intro x
    obtain ⟨a, r, l, rfl⟩ : ∃ (a : Fin 1) (r : Fin 128) (l : Fin 128), x = ix3 a r l := ⟨x 0, x 1, x 2, eq_ix3 x⟩
    obtain rfl : a = 0 := Subsingleton.elim _ _
    exact (state_cast (f := fun v k => ((stR (Lr W xr 4) (Kr W xr 4) (Vr W xr 4) (T0 + 256) v k : ℝ) : EReal)) (s2_4_read hW h10 hZ ht4) r l).trans
      (e _ _ _ _ _ _ (Fin.ext (show 4 = 4 + 1 * 0 by omega)) (Fin.ext (show r.val = 0 + 1 * r.val by omega)) (Fin.ext (show l.val = 0 + 1 * l.val by omega)))
  · intro x
    obtain ⟨a, r, l, rfl⟩ : ∃ (a : Fin 1) (r : Fin 128) (l : Fin 128), x = ix3 a r l := ⟨x 0, x 1, x 2, eq_ix3 x⟩
    obtain rfl : a = 0 := Subsingleton.elim _ _
    exact (state_cast (f := fun v k => ((stR (Lr W xr 3) (Kr W xr 3) (Vr W xr 3) (T0 + 256) v k : ℝ) : EReal)) (s2_3_read hW h10 hZ ht3) r l).trans
      (e _ _ _ _ _ _ (Fin.ext (show 3 = 3 + 1 * 0 by omega)) (Fin.ext (show r.val = 0 + 1 * r.val by omega)) (Fin.ext (show l.val = 0 + 1 * l.val by omega)))
  · intro x
    obtain ⟨a, r, l, rfl⟩ : ∃ (a : Fin 1) (r : Fin 128) (l : Fin 128), x = ix3 a r l := ⟨x 0, x 1, x 2, eq_ix3 x⟩
    obtain rfl : a = 0 := Subsingleton.elim _ _
    exact (state_cast (f := fun v k => ((stR (Lr W xr 2) (Kr W xr 2) (Vr W xr 2) (T0 + 256) v k : ℝ) : EReal)) (s2_2_read hW h10 hZ ht2) r l).trans
      (e _ _ _ _ _ _ (Fin.ext (show 2 = 2 + 1 * 0 by omega)) (Fin.ext (show r.val = 0 + 1 * r.val by omega)) (Fin.ext (show l.val = 0 + 1 * l.val by omega)))
  · intro x
    obtain ⟨a, r, l, rfl⟩ : ∃ (a : Fin 1) (r : Fin 128) (l : Fin 128), x = ix3 a r l := ⟨x 0, x 1, x 2, eq_ix3 x⟩
    obtain rfl : a = 0 := Subsingleton.elim _ _
    exact (state_cast (f := fun v k => ((stR (Lr W xr 1) (Kr W xr 1) (Vr W xr 1) (T0 + 256) v k : ℝ) : EReal)) (s2_1_read hW h10 hZ ht1) r l).trans
      (e _ _ _ _ _ _ (Fin.ext (show 1 = 1 + 1 * 0 by omega)) (Fin.ext (show r.val = 0 + 1 * r.val by omega)) (Fin.ext (show l.val = 0 + 1 * l.val by omega)))
  · intro x
    obtain ⟨a, r, l, rfl⟩ : ∃ (a : Fin 1) (r : Fin 128) (l : Fin 128), x = ix3 a r l := ⟨x 0, x 1, x 2, eq_ix3 x⟩
    obtain rfl : a = 0 := Subsingleton.elim _ _
    exact (state_cast (f := fun v k => ((stR (Lr W xr 0) (Kr W xr 0) (Vr W xr 0) (T0 + 256) v k : ℝ) : EReal)) (s2_0_read hW h10 hZ ht0) r l).trans
      (e _ _ _ _ _ _ (Fin.ext (show 0 = 0 + 1 * 0 by omega)) (Fin.ext (show r.val = 0 + 1 * r.val by omega)) (Fin.ext (show l.val = 0 + 1 * l.val by omega)))

end Cert.Layer

end
-- ==== Proof.Store.lean ====
/- What lists of stores hold at an index, and the rows of the convolution's window. -/
module

public import proofs.«01_k».proof.Proof.Blk3

@[expose] public section

set_option maxRecDepth 16384

noncomputable section

namespace Cert.Layer

open Idealize.ShloMosaic Cert.KernelIdeal Cert.KernelIdeal.Gen

/-- The origin of a matrix. -/
theorem zeros2 : (![0, 0] : Fin 2 → ℕ) = fun _ => 0 := by
  funext a
  match a with
  | ⟨0, _⟩ => rfl
  | ⟨1, _⟩ => rfl

/-- The origin of an array of three axes. -/
theorem zeros3 : (![0, 0, 0] : Fin 3 → ℕ) = fun _ => 0 := by
  funext a
  match a with
  | ⟨0, _⟩ => rfl
  | ⟨1, _⟩ => rfl
  | ⟨2, _⟩ => rfl

/-- The last store into a matrix, read at an index it covers. -/
theorem canon_two {e : EltTy} {n m n' m' : ℕ} (a b : ℕ) (inb : ∀ i, (![a, b] : Fin 2 → ℕ) i + (![n', m'] : Fin 2 → ℕ) i ≤ (![n, m] : Fin 2 → ℕ) i)
    (w : Shape.Idx ⟨2, ![n', m']⟩ → Elt Ideal e) (L : List (View.Piece (Elt Ideal) ⟨2, ![n, m]⟩ e)) (i : Fin n) (j : Fin m) (r : Fin n') (l : Fin m')
    (hi : i.val = a + r.val) (hj : j.val = b + l.val) :
    View.canon ((⟨Rect.unit (s := ⟨2, ![n, m]⟩) ![a, b] ![n', m'] inb, w⟩ : View.Piece (Elt Ideal) ⟨2, ![n, m]⟩ e) :: L) (ix2 i j) = w (ix2 r l) := by
  refine Eq.trans (congrArg _ (funext fun q => Fin.ext ?_))
    (View.canon_cons_emb (Val := Elt Ideal) (Rect.unit (s := ⟨2, ![n, m]⟩) ![a, b] ![n', m'] inb) w L (ix2 r l))
  match q with
  | ⟨0, _⟩ => exact hi.trans (congrArg (a + ·) (Nat.one_mul _).symm)
  | ⟨1, _⟩ => exact hj.trans (congrArg (b + ·) (Nat.one_mul _).symm)

/-- A head's rectangle of the states, read. -/
theorem ld_three (a : ℕ) (h : Fin 8) (ha : h.val = a) (X : Vec Ideal S8x128x128 .f32)
    (inb : ∀ i, (![a, 0, 0] : Fin 3 → ℕ) i + S1x128x128.size i ≤ S8x128x128.size i) (v k : Fin 128) :
    View.ld X (Rect.unit ![a, 0, 0] S1x128x128.size inb) (ix3 0 v k) = X (ix3 h v k) := by
  refine congrArg X (funext fun i => Fin.ext ?_)
  match i with
  | ⟨0, _⟩ => exact ha.symm
  | ⟨1, _⟩ => exact (Nat.zero_add _).trans (Nat.one_mul _)
  | ⟨2, _⟩ => exact (Nat.zero_add _).trans (Nat.one_mul _)

/-- A store into one head's state leaves the others. -/
theorem canon_skip (a : ℕ) (inb : ∀ i, (![a, 0, 0] : Fin 3 → ℕ) i + S1x128x128.size i ≤ S8x128x128.size i) (w : Vec Ideal S1x128x128 .f32)
    (L : List (View.Piece (Elt Ideal) S8x128x128 .f32)) (h : Fin 8) (v k : Fin 128) (ha : a < h.val) :
    View.canon ((⟨Rect.unit ![a, 0, 0] S1x128x128.size inb, w⟩ : View.Piece (Elt Ideal) S8x128x128 .f32) :: L) (ix3 h v k) = View.canon L (ix3 h v k) := by
  refine View.canon_cons_of_not_mem (Val := Elt Ideal) _ _ fun hm => ?_
  have e : h.val < a + 1 := ((Rect.mem_set_unit (inb := inb)).mp hm 0).2
  omega

variable {W : Wts} {xr : ℕ → Fin 1024 → EReal} {T0 : ℕ}

/-- The history at equal steps and channels. -/
theorem gluH_congr {t t' : ℕ} {c c' : Fin 1024} (ht : t = t') (hc : c = c') : gluH W xr t c = gluH W xr t' c' := by rw [ht, hc]

/-- The window's rows from the 33rd on are the block's. -/
theorem rows_new {w : Vec Ideal S256x1024 .f32} (hw : ∀ r l, w (ix2 r l) = glu W xr (T0 + r.val) l) (L : List (View.Piece (Elt Ideal) S288x1024 .f32))
    (r : Fin 288) (l : Fin 1024) (hr : 32 ≤ r.val) :
    View.canon ((⟨Rect.unit ![32, 0] S256x1024.size inb_S288x1024_S256x1024_32_0, w⟩ : View.Piece (Elt Ideal) S288x1024 .f32) :: L) (ix2 r l)
      = gluH W xr (T0 + r) l := by
  refine (canon_two 32 0 inb_S288x1024_S256x1024_32_0 w L r l ⟨r.val - 32, by omega⟩ l (by show r.val = 32 + (r.val - 32); omega) (Nat.zero_add _).symm).trans ?_
  rw [hw]
  unfold gluH
  rw [if_neg (by omega)]
  exact congrArg (fun t => glu W xr t l) (show T0 + (r.val - 32) = T0 + r.val - 32 by omega)

/-- The block's rows are among the last 256. -/
theorem rows_mem (r : Fin 288) (l : Fin 1024) (hr : 32 ≤ r.val) :
    (ix2 r l : Shape.Idx S288x1024) ∈ (Rect.unit (s := S288x1024) ![32, 0] S256x1024.size inb_S288x1024_S256x1024_32_0).set := by
  rw [Rect.mem_set_unit]
  intro a
  match a with
  | ⟨0, _⟩ => exact ⟨hr, r.isLt⟩
  | ⟨1, _⟩ => exact ⟨Nat.zero_le _, l.isLt⟩

/-- A row of the history lies outside the block's own rows. -/
theorem rows_not_mem (r : Fin 288) (l : Fin 1024) (hr : r.val < 32) :
    (ix2 r l : Shape.Idx S288x1024) ∉ (Rect.unit (s := S288x1024) ![32, 0] S256x1024.size inb_S288x1024_S256x1024_32_0).set := fun hm =>
  absurd ((Rect.mem_set_unit (inb := inb_S288x1024_S256x1024_32_0)).mp hm 0).1 (Nat.not_le.mpr hr)

/-- The window's first rows are those stored before. -/
theorem rows_old (w : Vec Ideal S256x1024 .f32) (L : List (View.Piece (Elt Ideal) S288x1024 .f32)) (r : Fin 288) (l : Fin 1024) (hr : r.val < 32) :
    View.canon ((⟨Rect.unit ![32, 0] S256x1024.size inb_S288x1024_S256x1024_32_0, w⟩ : View.Piece (Elt Ideal) S288x1024 .f32) :: L) (ix2 r l)
      = View.canon L (ix2 r l) :=
  View.canon_cons_of_not_mem (Val := Elt Ideal) _ _ (rows_not_mem r l hr)

/-- The window's first rows are those it held. -/
theorem rows_keep {κ : Kind} {sp : Space} (v : View sig κ sp S288x1024 .f32) (f : v.ty.Contents (Elt Ideal)) (w : Vec Ideal S256x1024 .f32) (r : Fin 288) (l : Fin 1024)
    (hr : r.val < 32) :
    v.read (Elt Ideal) (v.writes (Elt Ideal) f [(⟨Rect.unit ![32, 0] S256x1024.size inb_S288x1024_S256x1024_32_0, w⟩ : View.Piece (Elt Ideal) S288x1024 .f32)]) (ix2 r l)
      = v.read (Elt Ideal) f (ix2 r l) :=
  View.read_writes_apply_of_forall_not_mem _ _ _ _ (fun p hp => by rw [List.mem_singleton.mp hp]; exact rows_not_mem r l hr)

/-- A list of one store, searched. -/
theorem exists_single {S : Shape} {e : EltTy} (p : View.Piece (Elt Ideal) S e) (y : S.Idx) (h : y ∈ p.1.set) : ∃ q ∈ [p], y ∈ q.1.set :=
  ⟨p, List.mem_singleton_self p, h⟩

/-- The window's rows from the 33rd on are the block's, over what it held. -/
theorem rows_write {κ : Kind} {sp : Space} (v : View sig κ sp S288x1024 .f32) (f : v.ty.Contents (Elt Ideal)) {w : Vec Ideal S256x1024 .f32}
    (hw : ∀ r l, w (ix2 r l) = glu W xr (T0 + r.val) l) (r : Fin 288) (l : Fin 1024) (hr : 32 ≤ r.val) :
    v.read (Elt Ideal) (v.writes (Elt Ideal) f [(⟨Rect.unit ![32, 0] S256x1024.size inb_S288x1024_S256x1024_32_0, w⟩ : View.Piece (Elt Ideal) S288x1024 .f32)]) (ix2 r l)
      = gluH W xr (T0 + r) l := by
  rw [View.read_writes_apply_eq_canon (Val := Elt Ideal) v f]
  · exact rows_new hw [] r l hr
  · exact exists_single _ _ (rows_mem r l hr)

/-- The history a batch row begins with is zero. -/
theorem pay2_read (r : Fin 32) (l : Fin 1024) : k0_pay2 (F := Ideal) (ix2 r l) = 0 := by
  unfold k0_pay2
  pointwise

/-- The state a batch row begins with is zero. -/
theorem pay3_read (h : Fin 8) (v k : Fin 128) : k0_pay3 (F := Ideal) (ix3 h v k) = ((0 : ℝ) : EReal) := by
  unfold k0_pay3
  pointwise
  exact EReal.coe_zero.symm

/-- The history handed on, read. -/
theorem pay135_read (x : Vec Ideal S32x1024 .f32) (r : Fin 32) (l : Fin 1024) : k0_pay135 x (ix2 r l) = x (ix2 r l) := by
  unfold k0_pay135
  pointwise

/-- The state before the first step is zero. -/
theorem stR_zero (L K V : ℕ → Fin 128 → ℝ) (v k : Fin 128) : stR L K V 0 v k = 0 := by
  unfold stR
  exact Finset.sum_range_zero _

end Cert.Layer

end
-- ==== Proof.CaseA.lean ====
/- The first grid point of a batch row (case A, where the history and the states begin at zero): what its stores leave, as the functions of the arrays it reads. -/
module
public import proofs.«01_k».proof.Proof.KerFn
public import proofs.«01_k».proof.Proof.Gen.KernelIdeal.Frame
@[expose] public section
set_option maxRecDepth 65536
set_option maxHeartbeats 2000000
noncomputable section
namespace Cert.Layer.CaseA
open Idealize.ShloMosaic Cert.KernelIdeal Cert.KernelIdeal.Gen
variable {F : FTy → Type} [FloatOps F]
variable (c : Dev nD) (i : grid0.Coords)
  (arg2 : Memref sig .tc .vmem S1x256x1024 .f32) (harg2 : arg2.IsWhole)
  (arg3 : Memref sig .tc .vmem S1x256x256 .f32) (harg3 : arg3.IsWhole)
  (arg4 : Memref sig .tc .vmem S1x1024 .f32) (harg4 : arg4.IsWhole)
  (arg5 : Memref sig .tc .vmem S1024x7168 .bf16) (harg5 : arg5.IsWhole)
  (arg6 : Memref sig .tc .vmem S31x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S2x1024 .f32) (harg12 : arg12.IsWhole)
  (arg13 : Memref sig .tc .vmem S1x1024 .f32) (harg13 : arg13.IsWhole)
  (arg14 : Memref sig .tc .vmem S2048x1024 .bf16) (harg14 : arg14.IsWhole)
  (arg15 : Memref sig .tc .vmem S1x1024 .f32) (harg15 : arg15.IsWhole)
  (arg16 : Memref sig .tc .vmem S1024x1024 .bf16) (harg16 : arg16.IsWhole)
  (arg17 : Memref sig .tc .vmem S256x1024 .bf16) (harg17 : arg17.IsWhole)
  (arg18 : Memref sig .tc .vmem S1x1024 .f32) (harg18 : arg18.IsWhole)
  (arg19 : Memref sig .tc .vmem S1x256x1024 .f32) (harg19 : arg19.IsWhole)
  (arg20 : Memref sig .tc .vmem S256x7168 .f32) (harg20 : arg20.IsWhole)
  (arg21 : Memref sig .tc .vmem S288x1024 .f32) (harg21 : arg21.IsWhole)
  (arg22 : Memref sig .tc .vmem S8x128x128 .f32) (harg22 : arg22.IsWhole)
  (arg23 : Memref sig .tc .vmem S256x2048 .bf16) (harg23 : arg23.IsWhole)
  (arg24 : Memref sig .tc .vmem S256x1024 .bf16) (harg24 : arg24.IsWhole)
  (x0 : Vec F S1x256x1024 .f32)
  (x1 : Vec F S1x256x256 .f32)
  (x2 : Vec F S1x1024 .f32)
  (x3 : Vec F S1024x7168 .bf16)
  (x4 : Vec F S31x1024 .f32)
  (x5 : Vec F S1x1024 .f32)
  (x6 : Vec F S1x1024 .f32)
  (x7 : Vec F S1x1024 .f32)
  (x8 : Vec F S1024x1024 .bf16)
  (x9 : Vec F S1x1024 .f32)
  (x10 : Vec F S2x1024 .f32)
  (x11 : Vec F S1x1024 .f32)
  (x12 : Vec F S2048x1024 .bf16)
  (x13 : Vec F S1x1024 .f32)
  (x14 : Vec F S1024x1024 .bf16)
  (x15 : Vec F S256x1024 .bf16)
  (x16 : Vec F S1x1024 .f32)

/-- The projection's scratch holds the projection. -/
theorem l0 : (kernelRun0_A.sl.HS0_1 c arg2 harg2 arg4 harg4 arg5 harg5 x0 x2 x3) = [⟨Rect.unit ![0, 0] S256x7168.size inb_S256x7168_S256x7168_0_0, zV (arg2.view.read (Elt F) (harg2.unread x0)) (arg4.view.read (Elt F) (harg4.unread x2)) (arg5.view.read (Elt F) (harg5.unread x3))⟩] := rfl

/-- The convolution's window after the block's rows are stored. -/
theorem l1 : (kernelRun0_A.sl.HS1_2 c arg2 harg2 arg4 harg4 arg5 harg5 arg20 x0 x2 x3) = (⟨Rect.unit ![32, 0] S256x1024.size inb_S288x1024_S256x1024_32_0, gluV (arg20.view.read (Elt F) (arg20.view.writes (Elt F) arg20.view.junk (kernelRun0_A.sl.HS0_1 c arg2 harg2 arg4 harg4 arg5 harg5 x0 x2 x3)))⟩ : View.Piece (Elt F) S288x1024 .f32) :: [⟨Rect.unit ![0, 0] S32x1024.size inb_S288x1024_S32x1024_0_0, k0_pay2⟩] := rfl

/-- The convolution branch's rows. -/
theorem l4 : (kernelRun0_A.sl.HS4_8 c arg2 harg2 arg4 harg4 arg5 harg5 arg6 harg6 arg7 harg7 arg8 harg8 arg9 harg9 arg20 arg21 x0 x2 x3 x4 x5 x6 x7) = pieces4 (arg21.view.read (Elt F) (arg21.view.writes (Elt F) arg21.view.junk (kernelRun0_A.sl.HS1_2 c arg2 harg2 arg4 harg4 arg5 harg5 arg20 x0 x2 x3))) (arg6.view.read (Elt F) (harg6.unread x4)) (arg7.view.read (Elt F) (harg7.unread x5)) (arg8.view.read (Elt F) (harg8.unread x6)) (arg9.view.read (Elt F) (harg9.unread x7)) := rfl

/-- The mixed outputs. -/
theorem l3 : (kernelRun0_A.sl.HS3_17 c arg2 harg2 arg4 harg4 arg5 harg5 arg6 harg6 arg7 harg7 arg8 harg8 arg9 harg9 arg10 harg10 arg11 harg11 arg12 harg12 arg13 harg13 arg20 arg21 arg22 arg24 x0 x2 x3 x4 x5 x6 x7 x8 x9 x10 x11) = pieces3 (arg24.view.read (Elt F) (arg24.view.writes (Elt F) arg24.view.junk (kernelRun0_A.sl.HS4_8 c arg2 harg2 arg4 harg4 arg5 harg5 arg6 harg6 arg7 harg7 arg8 harg8 arg9 harg9 arg20 arg21 x0 x2 x3 x4 x5 x6 x7))) (arg20.view.read (Elt F) (arg20.view.writes (Elt F) arg20.view.junk (kernelRun0_A.sl.HS0_1 c arg2 harg2 arg4 harg4 arg5 harg5 x0 x2 x3))) (arg10.view.read (Elt F) (harg10.unread x8)) (arg11.view.read (Elt F) (harg11.unread x9)) (arg12.view.read (Elt F) (harg12.unread x10)) (arg13.view.read (Elt F) (harg13.unread x11)) (View.ld (arg22.view.read (Elt F) (arg22.view.writes (Elt F) arg22.view.junk (kernelRun0_A.sl.HS2_1 ))) (Rect.unit ![0, 0, 0] S1x128x128.size inb_S8x128x128_S1x128x128_0_0_0)) (View.ld (arg22.view.read (Elt F) (arg22.view.writes (Elt F) arg22.view.junk (kernelRun0_A.sl.HS2_2 c arg2 harg2 arg4 harg4 arg5 harg5 arg12 harg12 arg20 arg22 x0 x2 x3 x10))) (Rect.unit ![1, 0, 0] S1x128x128.size inb_S8x128x128_S1x128x128_1_0_0)) (View.ld (arg22.view.read (Elt F) (arg22.view.writes (Elt F) arg22.view.junk (kernelRun0_A.sl.HS2_3 c arg2 harg2 arg4 harg4 arg5 harg5 arg12 harg12 arg20 arg22 x0 x2 x3 x10))) (Rect.unit ![2, 0, 0] S1x128x128.size inb_S8x128x128_S1x128x128_2_0_0)) (View.ld (arg22.view.read (Elt F) (arg22.view.writes (Elt F) arg22.view.junk (kernelRun0_A.sl.HS2_4 c arg2 harg2 arg4 harg4 arg5 harg5 arg12 harg12 arg20 arg22 x0 x2 x3 x10))) (Rect.unit ![3, 0, 0] S1x128x128.size inb_S8x128x128_S1x128x128_3_0_0)) (View.ld (arg22.view.read (Elt F) (arg22.view.writes (Elt F) arg22.view.junk (kernelRun0_A.sl.HS2_5 c arg2 harg2 arg4 harg4 arg5 harg5 arg12 harg12 arg20 arg22 x0 x2 x3 x10))) (Rect.unit ![4, 0, 0] S1x128x128.size inb_S8x128x128_S1x128x128_4_0_0)) (View.ld (arg22.view.read (Elt F) (arg22.view.writes (Elt F) arg22.view.junk (kernelRun0_A.sl.HS2_6 c arg2 harg2 arg4 harg4 arg5 harg5 arg12 harg12 arg20 arg22 x0 x2 x3 x10))) (Rect.unit ![5, 0, 0] S1x128x128.size inb_S8x128x128_S1x128x128_5_0_0)) (View.ld (arg22.view.read (Elt F) (arg22.view.writes (Elt F) arg22.view.junk (kernelRun0_A.sl.HS2_7 c arg2 harg2 arg4 harg4 arg5 harg5 arg12 harg12 arg20 arg22 x0 x2 x3 x10))) (Rect.unit ![6, 0, 0] S1x128x128.size inb_S8x128x128_S1x128x128_6_0_0)) (View.ld (arg22.view.read (Elt F) (arg22.view.writes (Elt F) arg22.view.junk (kernelRun0_A.sl.HS2_8 c arg2 harg2 arg4 harg4 arg5 harg5 arg12 harg12 arg20 arg22 x0 x2 x3 x10))) (Rect.unit ![7, 0, 0] S1x128x128.size inb_S8x128x128_S1x128x128_7_0_0)) := rfl

/-- The states start at zero. -/
theorem l2_1 : kernelRun0_A.sl.HS2_1 = [(⟨Rect.unit ![0, 0, 0] S8x128x128.size inb_S8x128x128_S8x128x128_0_0_0, k0_pay3⟩ : View.Piece (Elt F) S8x128x128 .f32)] := rfl

/-- The state list after head 0. -/
theorem l2_2 : (kernelRun0_A.sl.HS2_2 c arg2 harg2 arg4 harg4 arg5 harg5 arg12 harg12 arg20 arg22 x0 x2 x3 x10) = ⟨Rect.unit ![0, 0, 0] S1x128x128.size inb_S8x128x128_S1x128x128_0_0_0, shapeCast S1x128x128 (s2_0 (arg20.view.read (Elt F) (arg20.view.writes (Elt F) arg20.view.junk (kernelRun0_A.sl.HS0_1 c arg2 harg2 arg4 harg4 arg5 harg5 x0 x2 x3))) (arg12.view.read (Elt F) (harg12.unread x10)) (View.ld (arg22.view.read (Elt F) (arg22.view.writes (Elt F) arg22.view.junk (kernelRun0_A.sl.HS2_1 ))) (Rect.unit ![0, 0, 0] S1x128x128.size inb_S8x128x128_S1x128x128_0_0_0))) shapeCasts_S128x128_S1x128x128⟩ :: kernelRun0_A.sl.HS2_1 := rfl

/-- The state list after head 1. -/
theorem l2_3 : (kernelRun0_A.sl.HS2_3 c arg2 harg2 arg4 harg4 arg5 harg5 arg12 harg12 arg20 arg22 x0 x2 x3 x10) = ⟨Rect.unit ![1, 0, 0] S1x128x128.size inb_S8x128x128_S1x128x128_1_0_0, shapeCast S1x128x128 (s2_1 (arg20.view.read (Elt F) (arg20.view.writes (Elt F) arg20.view.junk (kernelRun0_A.sl.HS0_1 c arg2 harg2 arg4 harg4 arg5 harg5 x0 x2 x3))) (arg12.view.read (Elt F) (harg12.unread x10)) (View.ld (arg22.view.read (Elt F) (arg22.view.writes (Elt F) arg22.view.junk (kernelRun0_A.sl.HS2_2 c arg2 harg2 arg4 harg4 arg5 harg5 arg12 harg12 arg20 arg22 x0 x2 x3 x10))) (Rect.unit ![1, 0, 0] S1x128x128.size inb_S8x128x128_S1x128x128_1_0_0))) shapeCasts_S128x128_S1x128x128⟩ :: (kernelRun0_A.sl.HS2_2 c arg2 harg2 arg4 harg4 arg5 harg5 arg12 harg12 arg20 arg22 x0 x2 x3 x10) := rfl

/-- The state list after head 2. -/
theorem l2_4 : (kernelRun0_A.sl.HS2_4 c arg2 harg2 arg4 harg4 arg5 harg5 arg12 harg12 arg20 arg22 x0 x2 x3 x10) = ⟨Rect.unit ![2, 0, 0] S1x128x128.size inb_S8x128x128_S1x128x128_2_0_0, shapeCast S1x128x128 (s2_2 (arg20.view.read (Elt F) (arg20.view.writes (Elt F) arg20.view.junk (kernelRun0_A.sl.HS0_1 c arg2 harg2 arg4 harg4 arg5 harg5 x0 x2 x3))) (arg12.view.read (Elt F) (harg12.unread x10)) (View.ld (arg22.view.read (Elt F) (arg22.view.writes (Elt F) arg22.view.junk (kernelRun0_A.sl.HS2_3 c arg2 harg2 arg4 harg4 arg5 harg5 arg12 harg12 arg20 arg22 x0 x2 x3 x10))) (Rect.unit ![2, 0, 0] S1x128x128.size inb_S8x128x128_S1x128x128_2_0_0))) shapeCasts_S128x128_S1x128x128⟩ :: (kernelRun0_A.sl.HS2_3 c arg2 harg2 arg4 harg4 arg5 harg5 arg12 harg12 arg20 arg22 x0 x2 x3 x10) := rfl

/-- The state list after head 3. -/
theorem l2_5 : (kernelRun0_A.sl.HS2_5 c arg2 harg2 arg4 harg4 arg5 harg5 arg12 harg12 arg20 arg22 x0 x2 x3 x10) = ⟨Rect.unit ![3, 0, 0] S1x128x128.size inb_S8x128x128_S1x128x128_3_0_0, shapeCast S1x128x128 (s2_3 (arg20.view.read (Elt F) (arg20.view.writes (Elt F) arg20.view.junk (kernelRun0_A.sl.HS0_1 c arg2 harg2 arg4 harg4 arg5 harg5 x0 x2 x3))) (arg12.view.read (Elt F) (harg12.unread x10)) (View.ld (arg22.view.read (Elt F) (arg22.view.writes (Elt F) arg22.view.junk (kernelRun0_A.sl.HS2_4 c arg2 harg2 arg4 harg4 arg5 harg5 arg12 harg12 arg20 arg22 x0 x2 x3 x10))) (Rect.unit ![3, 0, 0] S1x128x128.size inb_S8x128x128_S1x128x128_3_0_0))) shapeCasts_S128x128_S1x128x128⟩ :: (kernelRun0_A.sl.HS2_4 c arg2 harg2 arg4 harg4 arg5 harg5 arg12 harg12 arg20 arg22 x0 x2 x3 x10) := rfl

/-- The state list after head 4. -/
theorem l2_6 : (kernelRun0_A.sl.HS2_6 c arg2 harg2 arg4 harg4 arg5 harg5 arg12 harg12 arg20 arg22 x0 x2 x3 x10) = ⟨Rect.unit ![4, 0, 0] S1x128x128.size inb_S8x128x128_S1x128x128_4_0_0, shapeCast S1x128x128 (s2_4 (arg20.view.read (Elt F) (arg20.view.writes (Elt F) arg20.view.junk (kernelRun0_A.sl.HS0_1 c arg2 harg2 arg4 harg4 arg5 harg5 x0 x2 x3))) (arg12.view.read (Elt F) (harg12.unread x10)) (View.ld (arg22.view.read (Elt F) (arg22.view.writes (Elt F) arg22.view.junk (kernelRun0_A.sl.HS2_5 c arg2 harg2 arg4 harg4 arg5 harg5 arg12 harg12 arg20 arg22 x0 x2 x3 x10))) (Rect.unit ![4, 0, 0] S1x128x128.size inb_S8x128x128_S1x128x128_4_0_0))) shapeCasts_S128x128_S1x128x128⟩ :: (kernelRun0_A.sl.HS2_5 c arg2 harg2 arg4 harg4 arg5 harg5 arg12 harg12 arg20 arg22 x0 x2 x3 x10) := rfl

/-- The state list after head 5. -/
theorem l2_7 : (kernelRun0_A.sl.HS2_7 c arg2 harg2 arg4 harg4 arg5 harg5 arg12 harg12 arg20 arg22 x0 x2 x3 x10) = ⟨Rect.unit ![5, 0, 0] S1x128x128.size inb_S8x128x128_S1x128x128_5_0_0, shapeCast S1x128x128 (s2_5 (arg20.view.read (Elt F) (arg20.view.writes (Elt F) arg20.view.junk (kernelRun0_A.sl.HS0_1 c arg2 harg2 arg4 harg4 arg5 harg5 x0 x2 x3))) (arg12.view.read (Elt F) (harg12.unread x10)) (View.ld (arg22.view.read (Elt F) (arg22.view.writes (Elt F) arg22.view.junk (kernelRun0_A.sl.HS2_6 c arg2 harg2 arg4 harg4 arg5 harg5 arg12 harg12 arg20 arg22 x0 x2 x3 x10))) (Rect.unit ![5, 0, 0] S1x128x128.size inb_S8x128x128_S1x128x128_5_0_0))) shapeCasts_S128x128_S1x128x128⟩ :: (kernelRun0_A.sl.HS2_6 c arg2 harg2 arg4 harg4 arg5 harg5 arg12 harg12 arg20 arg22 x0 x2 x3 x10) := rfl

/-- The state list after head 6. -/
theorem l2_8 : (kernelRun0_A.sl.HS2_8 c arg2 harg2 arg4 harg4 arg5 harg5 arg12 harg12 arg20 arg22 x0 x2 x3 x10) = ⟨Rect.unit ![6, 0, 0] S1x128x128.size inb_S8x128x128_S1x128x128_6_0_0, shapeCast S1x128x128 (s2_6 (arg20.view.read (Elt F) (arg20.view.writes (Elt F) arg20.view.junk (kernelRun0_A.sl.HS0_1 c arg2 harg2 arg4 harg4 arg5 harg5 x0 x2 x3))) (arg12.view.read (Elt F) (harg12.unread x10)) (View.ld (arg22.view.read (Elt F) (arg22.view.writes (Elt F) arg22.view.junk (kernelRun0_A.sl.HS2_7 c arg2 harg2 arg4 harg4 arg5 harg5 arg12 harg12 arg20 arg22 x0 x2 x3 x10))) (Rect.unit ![6, 0, 0] S1x128x128.size inb_S8x128x128_S1x128x128_6_0_0))) shapeCasts_S128x128_S1x128x128⟩ :: (kernelRun0_A.sl.HS2_7 c arg2 harg2 arg4 harg4 arg5 harg5 arg12 harg12 arg20 arg22 x0 x2 x3 x10) := rfl

variable (hc0 : cond0_0 i)

/-- The result's stores. -/
theorem r17 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16).1 = [⟨Rect.unit ![0, 0, 0] S1x256x1024.size inb_S1x256x1024_S1x256x1024_0_0_0, outV (arg2.view.read (Elt F) (harg2.unread x0)) (arg3.view.read (Elt F) (harg3.unread x1)) (arg23.view.read (Elt F) (arg23.view.writes (Elt F) arg23.view.junk (kernelRun0_A.sl.HS3_17 c arg2 harg2 arg4 harg4 arg5 harg5 arg6 harg6 arg7 harg7 arg8 harg8 arg9 harg9 arg10 harg10 arg11 harg11 arg12 harg12 arg13 harg13 arg20 arg21 arg22 arg24 x0 x2 x3 x4 x5 x6 x7 x8 x9 x10 x11))) (arg14.view.read (Elt F) (harg14.unread x12)) (arg15.view.read (Elt F) (harg15.unread x13)) (arg16.view.read (Elt F) (harg16.unread x14)) (arg17.view.read (Elt F) (harg17.unread x15)) (arg18.view.read (Elt F) (harg18.unread x16))⟩] := rfl

/-- The window's stores: the last 32 rows move to its head. -/
theorem rs1 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16).2.1 = (⟨Rect.unit ![0, 0] S32x1024.size inb_S288x1024_S32x1024_0_0, k0_pay135 (View.ld (arg21.view.read (Elt F) (arg21.view.writes (Elt F) arg21.view.junk (kernelRun0_A.sl.HS1_2 c arg2 harg2 arg4 harg4 arg5 harg5 arg20 x0 x2 x3))) (Rect.unit ![256, 0] S32x1024.size inb_S288x1024_S32x1024_256_0))⟩ : View.Piece (Elt F) S288x1024 .f32) :: (kernelRun0_A.sl.HS1_2 c arg2 harg2 arg4 harg4 arg5 harg5 arg20 x0 x2 x3) := rfl

/-- The states' stores. -/
theorem rs2 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16).2.2.1 = pieces2 (arg20.view.read (Elt F) (arg20.view.writes (Elt F) arg20.view.junk (kernelRun0_A.sl.HS0_1 c arg2 harg2 arg4 harg4 arg5 harg5 x0 x2 x3))) (arg12.view.read (Elt F) (harg12.unread x10)) (View.ld (arg22.view.read (Elt F) (arg22.view.writes (Elt F) arg22.view.junk (kernelRun0_A.sl.HS2_1 ))) (Rect.unit ![0, 0, 0] S1x128x128.size inb_S8x128x128_S1x128x128_0_0_0)) (View.ld (arg22.view.read (Elt F) (arg22.view.writes (Elt F) arg22.view.junk (kernelRun0_A.sl.HS2_2 c arg2 harg2 arg4 harg4 arg5 harg5 arg12 harg12 arg20 arg22 x0 x2 x3 x10))) (Rect.unit ![1, 0, 0] S1x128x128.size inb_S8x128x128_S1x128x128_1_0_0)) (View.ld (arg22.view.read (Elt F) (arg22.view.writes (Elt F) arg22.view.junk (kernelRun0_A.sl.HS2_3 c arg2 harg2 arg4 harg4 arg5 harg5 arg12 harg12 arg20 arg22 x0 x2 x3 x10))) (Rect.unit ![2, 0, 0] S1x128x128.size inb_S8x128x128_S1x128x128_2_0_0)) (View.ld (arg22.view.read (Elt F) (arg22.view.writes (Elt F) arg22.view.junk (kernelRun0_A.sl.HS2_4 c arg2 harg2 arg4 harg4 arg5 harg5 arg12 harg12 arg20 arg22 x0 x2 x3 x10))) (Rect.unit ![3, 0, 0] S1x128x128.size inb_S8x128x128_S1x128x128_3_0_0)) (View.ld (arg22.view.read (Elt F) (arg22.view.writes (Elt F) arg22.view.junk (kernelRun0_A.sl.HS2_5 c arg2 harg2 arg4 harg4 arg5 harg5 arg12 harg12 arg20 arg22 x0 x2 x3 x10))) (Rect.unit ![4, 0, 0] S1x128x128.size inb_S8x128x128_S1x128x128_4_0_0)) (View.ld (arg22.view.read (Elt F) (arg22.view.writes (Elt F) arg22.view.junk (kernelRun0_A.sl.HS2_6 c arg2 harg2 arg4 harg4 arg5 harg5 arg12 harg12 arg20 arg22 x0 x2 x3 x10))) (Rect.unit ![5, 0, 0] S1x128x128.size inb_S8x128x128_S1x128x128_5_0_0)) (View.ld (arg22.view.read (Elt F) (arg22.view.writes (Elt F) arg22.view.junk (kernelRun0_A.sl.HS2_7 c arg2 harg2 arg4 harg4 arg5 harg5 arg12 harg12 arg20 arg22 x0 x2 x3 x10))) (Rect.unit ![6, 0, 0] S1x128x128.size inb_S8x128x128_S1x128x128_6_0_0)) (View.ld (arg22.view.read (Elt F) (arg22.view.writes (Elt F) arg22.view.junk (kernelRun0_A.sl.HS2_8 c arg2 harg2 arg4 harg4 arg5 harg5 arg12 harg12 arg20 arg22 x0 x2 x3 x10))) (Rect.unit ![7, 0, 0] S1x128x128.size inb_S8x128x128_S1x128x128_7_0_0)) ++ kernelRun0_A.sl.HS2_1 := rfl

end Cert.Layer.CaseA
end
-- ==== Proof.BlockA.lean ====
/- The first grid point of a batch row (case A, where the history and the states begin at zero): the block's result and what it hands to the next point, element by element. -/
module

public import proofs.«01_k».proof.Proof.Store
public import proofs.«01_k».proof.Proof.CaseA

@[expose] public section

set_option maxRecDepth 65536

noncomputable section

namespace Cert.Layer.CaseA

open Idealize.ShloMosaic Cert.KernelIdeal Cert.KernelIdeal.Gen

variable (c : Dev nD) (i : grid0.Coords)
  (arg2 : Memref sig .tc .vmem S1x256x1024 .f32) (harg2 : arg2.IsWhole)
  (arg3 : Memref sig .tc .vmem S1x256x256 .f32) (harg3 : arg3.IsWhole)
  (arg4 : Memref sig .tc .vmem S1x1024 .f32) (harg4 : arg4.IsWhole)
  (arg5 : Memref sig .tc .vmem S1024x7168 .bf16) (harg5 : arg5.IsWhole)
  (arg6 : Memref sig .tc .vmem S31x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S2x1024 .f32) (harg12 : arg12.IsWhole)
  (arg13 : Memref sig .tc .vmem S1x1024 .f32) (harg13 : arg13.IsWhole)
  (arg14 : Memref sig .tc .vmem S2048x1024 .bf16) (harg14 : arg14.IsWhole)
  (arg15 : Memref sig .tc .vmem S1x1024 .f32) (harg15 : arg15.IsWhole)
  (arg16 : Memref sig .tc .vmem S1024x1024 .bf16) (harg16 : arg16.IsWhole)
  (arg17 : Memref sig .tc .vmem S256x1024 .bf16) (harg17 : arg17.IsWhole)
  (arg18 : Memref sig .tc .vmem S1x1024 .f32) (harg18 : arg18.IsWhole)
  (arg19 : Memref sig .tc .vmem S1x256x1024 .f32) (harg19 : arg19.IsWhole)
  (arg20 : Memref sig .tc .vmem S256x7168 .f32) (harg20 : arg20.IsWhole)
  (arg21 : Memref sig .tc .vmem S288x1024 .f32) (harg21 : arg21.IsWhole)
  (arg22 : Memref sig .tc .vmem S8x128x128 .f32) (harg22 : arg22.IsWhole)
  (arg23 : Memref sig .tc .vmem S256x2048 .bf16) (harg23 : arg23.IsWhole)
  (arg24 : Memref sig .tc .vmem S256x1024 .bf16) (harg24 : arg24.IsWhole)
  (x0 : Vec Ideal S1x256x1024 .f32)
  (x1 : Vec Ideal S1x256x256 .f32)
  (x2 : Vec Ideal S1x1024 .f32)
  (x3 : Vec Ideal S1024x7168 .bf16)
  (x4 : Vec Ideal S31x1024 .f32)
  (x5 : Vec Ideal S1x1024 .f32)
  (x6 : Vec Ideal S1x1024 .f32)
  (x7 : Vec Ideal S1x1024 .f32)
  (x8 : Vec Ideal S1024x1024 .bf16)
  (x9 : Vec Ideal S1x1024 .f32)
  (x10 : Vec Ideal S2x1024 .f32)
  (x11 : Vec Ideal S1x1024 .f32)
  (x12 : Vec Ideal S2048x1024 .bf16)
  (x13 : Vec Ideal S1x1024 .f32)
  (x14 : Vec Ideal S1024x1024 .bf16)
  (x15 : Vec Ideal S256x1024 .bf16)
  (x16 : Vec Ideal S1x1024 .f32) (hc0 : cond0_0 i)

variable {W : Wts} {xr : ℕ → Fin 1024 → EReal} {pr : ℕ → Fin 256 → EReal} {T0 : ℕ}
  (H : Ties W xr pr T0 x0 x1 x2 x3 x4 x5 x6 x7 x8 x9 x10 x11 x12 x13 x14 x15 x16)

include H

/-- The projections' scratch. -/
theorem z_read (r : Fin 256) (n : Fin 7168) : (arg20.view.read (Elt Ideal) (arg20.view.writes (Elt Ideal) arg20.view.junk (kernelRun0_A.sl.HS0_1 c arg2 harg2 arg4 harg4 arg5 harg5 x0 x2 x3))) (ix2 r n) = z W xr (T0 + r) n := by
  rw [View.read_writes_junk_apply_eq_canon, l0, Memref.IsWhole.read_unread, Memref.IsWhole.read_unread, Memref.IsWhole.read_unread]
  exact (congrFun (View.canon_unit_zero zeros2 _ _) _).trans (zV_read H r n)

/-- The convolution's window: no history, then the block's rows. -/
theorem vb_read (h0 : T0 = 0) (r : Fin 288) (l : Fin 1024) : (arg21.view.read (Elt Ideal) (arg21.view.writes (Elt Ideal) arg21.view.junk (kernelRun0_A.sl.HS1_2 c arg2 harg2 arg4 harg4 arg5 harg5 arg20 x0 x2 x3))) (ix2 r l) = gluH W xr (T0 + r) l := by
  rw [View.read_writes_junk_apply_eq_canon, l1]
  by_cases hr : 32 ≤ r.val
  · exact rows_new (gluV_read (by intro r n; apply z_read; assumption)) _ r l hr
  · refine (rows_old _ _ r l (by omega)).trans ?_
    refine (canon_two 0 0 _ _ _ r l ⟨r.val, by omega⟩ l (by simp) (by simp)).trans ?_
    refine (pay2_read _ l).trans ?_
    unfold gluH
    rw [if_pos (by omega)]

variable (h0 : T0 = 0)
include h0

/-- The convolution branch's scratch. -/
theorem cv_read (r : Fin 256) (l : Fin 1024) : (arg24.view.read (Elt Ideal) (arg24.view.writes (Elt Ideal) arg24.view.junk (kernelRun0_A.sl.HS4_8 c arg2 harg2 arg4 harg4 arg5 harg5 arg6 harg6 arg7 harg7 arg8 harg8 arg9 harg9 arg20 arg21 x0 x2 x3 x4 x5 x6 x7))) (ix2 r l) = cvb W xr (T0 + r) l := by
  rw [View.read_writes_junk_apply_eq_canon, l4, Memref.IsWhole.read_unread, Memref.IsWhole.read_unread, Memref.IsWhole.read_unread, Memref.IsWhole.read_unread]
  exact pieces4_canon H (by intro r c; apply vb_read <;> assumption) r l

/-- Head 0's state before the block. -/
theorem st0_read (v k : Fin 128) : (View.ld (arg22.view.read (Elt Ideal) (arg22.view.writes (Elt Ideal) arg22.view.junk (kernelRun0_A.sl.HS2_1 (F := Ideal)))) (Rect.unit ![0, 0, 0] S1x128x128.size inb_S8x128x128_S1x128x128_0_0_0)) (ix3 0 v k) = (stR (Lr W xr 0) (Kr W xr 0) (Vr W xr 0) T0 v k : EReal) := by
  rw [ld_three 0 0 rfl, View.read_writes_junk_apply_eq_canon]
  rw [l2_1, View.canon_unit_zero zeros3, h0, stR_zero]
  exact pay3_read _ _ _

/-- Head 1's state before the block. -/
theorem st1_read (v k : Fin 128) : (View.ld (arg22.view.read (Elt Ideal) (arg22.view.writes (Elt Ideal) arg22.view.junk (kernelRun0_A.sl.HS2_2 c arg2 harg2 arg4 harg4 arg5 harg5 arg12 harg12 arg20 arg22 x0 x2 x3 x10))) (Rect.unit ![1, 0, 0] S1x128x128.size inb_S8x128x128_S1x128x128_1_0_0)) (ix3 0 v k) = (stR (Lr W xr 1) (Kr W xr 1) (Vr W xr 1) T0 v k : EReal) := by
  rw [ld_three 1 1 rfl, View.read_writes_junk_apply_eq_canon]
  rw [l2_2, canon_skip 0 _ _ _ _ _ _ (by decide)]
  rw [l2_1, View.canon_unit_zero zeros3, h0, stR_zero]
  exact pay3_read _ _ _

/-- Head 2's state before the block. -/
theorem st2_read (v k : Fin 128) : (View.ld (arg22.view.read (Elt Ideal) (arg22.view.writes (Elt Ideal) arg22.view.junk (kernelRun0_A.sl.HS2_3 c arg2 harg2 arg4 harg4 arg5 harg5 arg12 harg12 arg20 arg22 x0 x2 x3 x10))) (Rect.unit ![2, 0, 0] S1x128x128.size inb_S8x128x128_S1x128x128_2_0_0)) (ix3 0 v k) = (stR (Lr W xr 2) (Kr W xr 2) (Vr W xr 2) T0 v k : EReal) := by
  rw [ld_three 2 2 rfl, View.read_writes_junk_apply_eq_canon]
  rw [l2_3, canon_skip 1 _ _ _ _ _ _ (by decide)]
  rw [l2_2, canon_skip 0 _ _ _ _ _ _ (by decide)]
  rw [l2_1, View.canon_unit_zero zeros3, h0, stR_zero]
  exact pay3_read _ _ _

/-- Head 3's state before the block. -/
theorem st3_read (v k : Fin 128) : (View.ld (arg22.view.read (Elt Ideal) (arg22.view.writes (Elt Ideal) arg22.view.junk (kernelRun0_A.sl.HS2_4 c arg2 harg2 arg4 harg4 arg5 harg5 arg12 harg12 arg20 arg22 x0 x2 x3 x10))) (Rect.unit ![3, 0, 0] S1x128x128.size inb_S8x128x128_S1x128x128_3_0_0)) (ix3 0 v k) = (stR (Lr W xr 3) (Kr W xr 3) (Vr W xr 3) T0 v k : EReal) := by
  rw [ld_three 3 3 rfl, View.read_writes_junk_apply_eq_canon]
  rw [l2_4, canon_skip 2 _ _ _ _ _ _ (by decide)]
  rw [l2_3, canon_skip 1 _ _ _ _ _ _ (by decide)]
  rw [l2_2, canon_skip 0 _ _ _ _ _ _ (by decide)]
  rw [l2_1, View.canon_unit_zero zeros3, h0, stR_zero]
  exact pay3_read _ _ _

/-- Head 4's state before the block. -/
theorem st4_read (v k : Fin 128) : (View.ld (arg22.view.read (Elt Ideal) (arg22.view.writes (Elt Ideal) arg22.view.junk (kernelRun0_A.sl.HS2_5 c arg2 harg2 arg4 harg4 arg5 harg5 arg12 harg12 arg20 arg22 x0 x2 x3 x10))) (Rect.unit ![4, 0, 0] S1x128x128.size inb_S8x128x128_S1x128x128_4_0_0)) (ix3 0 v k) = (stR (Lr W xr 4) (Kr W xr 4) (Vr W xr 4) T0 v k : EReal) := by
  rw [ld_three 4 4 rfl, View.read_writes_junk_apply_eq_canon]
  rw [l2_5, canon_skip 3 _ _ _ _ _ _ (by decide)]
  rw [l2_4, canon_skip 2 _ _ _ _ _ _ (by decide)]
  rw [l2_3, canon_skip 1 _ _ _ _ _ _ (by decide)]
  rw [l2_2, canon_skip 0 _ _ _ _ _ _ (by decide)]
  rw [l2_1, View.canon_unit_zero zeros3, h0, stR_zero]
  exact pay3_read _ _ _

/-- Head 5's state before the block. -/
theorem st5_read (v k : Fin 128) : (View.ld (arg22.view.read (Elt Ideal) (arg22.view.writes (Elt Ideal) arg22.view.junk (kernelRun0_A.sl.HS2_6 c arg2 harg2 arg4 harg4 arg5 harg5 arg12 harg12 arg20 arg22 x0 x2 x3 x10))) (Rect.unit ![5, 0, 0] S1x128x128.size inb_S8x128x128_S1x128x128_5_0_0)) (ix3 0 v k) = (stR (Lr W xr 5) (Kr W xr 5) (Vr W xr 5) T0 v k : EReal) := by
  rw [ld_three 5 5 rfl, View.read_writes_junk_apply_eq_canon]
  rw [l2_6, canon_skip 4 _ _ _ _ _ _ (by decide)]
  rw [l2_5, canon_skip 3 _ _ _ _ _ _ (by decide)]
  rw [l2_4, canon_skip 2 _ _ _ _ _ _ (by decide)]
  rw [l2_3, canon_skip 1 _ _ _ _ _ _ (by decide)]
  rw [l2_2, canon_skip 0 _ _ _ _ _ _ (by decide)]
  rw [l2_1, View.canon_unit_zero zeros3, h0, stR_zero]
  exact pay3_read _ _ _

/-- Head 6's state before the block. -/
theorem st6_read (v k : Fin 128) : (View.ld (arg22.view.read (Elt Ideal) (arg22.view.writes (Elt Ideal) arg22.view.junk (kernelRun0_A.sl.HS2_7 c arg2 harg2 arg4 harg4 arg5 harg5 arg12 harg12 arg20 arg22 x0 x2 x3 x10))) (Rect.unit ![6, 0, 0] S1x128x128.size inb_S8x128x128_S1x128x128_6_0_0)) (ix3 0 v k) = (stR (Lr W xr 6) (Kr W xr 6) (Vr W xr 6) T0 v k : EReal) := by
  rw [ld_three 6 6 rfl, View.read_writes_junk_apply_eq_canon]
  rw [l2_7, canon_skip 5 _ _ _ _ _ _ (by decide)]
  rw [l2_6, canon_skip 4 _ _ _ _ _ _ (by decide)]
  rw [l2_5, canon_skip 3 _ _ _ _ _ _ (by decide)]
  rw [l2_4, canon_skip 2 _ _ _ _ _ _ (by decide)]
  rw [l2_3, canon_skip 1 _ _ _ _ _ _ (by decide)]
  rw [l2_2, canon_skip 0 _ _ _ _ _ _ (by decide)]
  rw [l2_1, View.canon_unit_zero zeros3, h0, stR_zero]
  exact pay3_read _ _ _

/-- Head 7's state before the block. -/
theorem st7_read (v k : Fin 128) : (View.ld (arg22.view.read (Elt Ideal) (arg22.view.writes (Elt Ideal) arg22.view.junk (kernelRun0_A.sl.HS2_8 c arg2 harg2 arg4 harg4 arg5 harg5 arg12 harg12 arg20 arg22 x0 x2 x3 x10))) (Rect.unit ![7, 0, 0] S1x128x128.size inb_S8x128x128_S1x128x128_7_0_0)) (ix3 0 v k) = (stR (Lr W xr 7) (Kr W xr 7) (Vr W xr 7) T0 v k : EReal) := by
  rw [ld_three 7 7 rfl, View.read_writes_junk_apply_eq_canon]
  rw [l2_8, canon_skip 6 _ _ _ _ _ _ (by decide)]
  rw [l2_7, canon_skip 5 _ _ _ _ _ _ (by decide)]
  rw [l2_6, canon_skip 4 _ _ _ _ _ _ (by decide)]
  rw [l2_5, canon_skip 3 _ _ _ _ _ _ (by decide)]
  rw [l2_4, canon_skip 2 _ _ _ _ _ _ (by decide)]
  rw [l2_3, canon_skip 1 _ _ _ _ _ _ (by decide)]
  rw [l2_2, canon_skip 0 _ _ _ _ _ _ (by decide)]
  rw [l2_1, View.canon_unit_zero zeros3, h0, stR_zero]
  exact pay3_read _ _ _

variable (hW : W.IsReal) (hT : T0 + 256 ≤ 8192)
include hW

/-- The states after the block. -/
theorem sout2_read (h : Fin 8) (v k : Fin 128) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 (ix3 h v k) = (stR (Lr W xr h) (Kr W xr h) (Vr W xr h) (T0 + 256) v k : EReal) := by
  unfold sout0_A_2
  rw [View.read_writes_junk_apply_eq_canon, rs2, Memref.IsWhole.read_unread]
  exact pieces2_canon hW (ht0 := by intro v k; apply st0_read <;> assumption) (ht1 := by intro v k; apply st1_read <;> assumption) (ht2 := by intro v k; apply st2_read <;> assumption) (ht3 := by intro v k; apply st3_read <;> assumption) (ht4 := by intro v k; apply st4_read <;> assumption) (ht5 := by intro v k; apply st5_read <;> assumption) (ht6 := by intro v k; apply st6_read <;> assumption) (ht7 := by intro v k; apply st7_read <;> assumption) H.h10 (by intro r n; apply z_read; assumption) _ h v k

/-- The window's head after the block: the last 32 rows. -/
theorem sout1_read (r : Fin 32) (l : Fin 1024) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 (ix2 ⟨r.val, by omega⟩ l) = gluH W xr (T0 + 256 + r) l := by
  unfold sout0_A_1
  rw [View.read_writes_junk_apply_eq_canon, rs1]
  refine (canon_two 0 0 _ _ _ _ _ r l (by simp) (by simp)).trans ?_
  refine (pay135_read _ r l).trans ?_
  refine (ld_two (α := Elt Ideal) _ 256 0 _ r l (by omega) (by omega)).trans ?_
  rw [View.read_writes_junk_apply_eq_canon, l1]
  refine (rows_new (T0 := T0) (W := W) (xr := xr) (gluV_read (by intro r n; apply z_read; assumption)) _ _ _ (by show 32 ≤ 256 + r.val; omega)).trans ?_
  exact gluH_congr (show T0 + (256 + r.val) = T0 + 256 + r.val by omega) (Fin.ext (Nat.zero_add _))

include hT

/-- The mixed outputs' scratch. -/
theorem y_read (r : Fin 256) (l : Fin 2048) : (arg23.view.read (Elt Ideal) (arg23.view.writes (Elt Ideal) arg23.view.junk (kernelRun0_A.sl.HS3_17 c arg2 harg2 arg4 harg4 arg5 harg5 arg6 harg6 arg7 harg7 arg8 harg8 arg9 harg9 arg10 harg10 arg11 harg11 arg12 harg12 arg13 harg13 arg20 arg21 arg22 arg24 x0 x2 x3 x4 x5 x6 x7 x8 x9 x10 x11))) (ix2 r l) = cat W xr (T0 + r) l := by
  rw [View.read_writes_junk_apply_eq_canon, l3, Memref.IsWhole.read_unread, Memref.IsWhole.read_unread, Memref.IsWhole.read_unread, Memref.IsWhole.read_unread]
  exact pieces3_canon hW (ht0 := by intro v k; apply st0_read <;> assumption) (ht1 := by intro v k; apply st1_read <;> assumption) (ht2 := by intro v k; apply st2_read <;> assumption) (ht3 := by intro v k; apply st3_read <;> assumption) (ht4 := by intro v k; apply st4_read <;> assumption) (ht5 := by intro v k; apply st5_read <;> assumption) (ht6 := by intro v k; apply st6_read <;> assumption) (ht7 := by intro v k; apply st7_read <;> assumption) H.h10 (by intro r n; apply z_read; assumption) H.h8 H.h9 H.h11 hT (by intro r c; apply cv_read <;> assumption) r l

/-- The block's result. -/
theorem out_read (r : Fin 256) (l : Fin 1024) : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 (ix3 0 r l) = out W xr pr (T0 + r) l := by
  unfold out0_A_17
  rw [View.read_writes_junk_apply_eq_canon, r17, Memref.IsWhole.read_unread, Memref.IsWhole.read_unread, Memref.IsWhole.read_unread, Memref.IsWhole.read_unread, Memref.IsWhole.read_unread, Memref.IsWhole.read_unread, Memref.IsWhole.read_unread]
  exact (congrFun (View.canon_unit_zero zeros3 _ _) _).trans (outV_read H (by intro r c; apply y_read <;> assumption) r l)

end Cert.Layer.CaseA

end
-- ==== Proof.CaseB.lean ====
/- A later grid point of a batch row (case B, with the history and the states the point before left): what its stores leave, as the functions of the arrays it reads. -/
module
public import proofs.«01_k».proof.Proof.KerFn
public import proofs.«01_k».proof.Proof.Gen.KernelIdeal.Frame
@[expose] public section
set_option maxRecDepth 65536
set_option maxHeartbeats 2000000
noncomputable section
namespace Cert.Layer.CaseB
open Idealize.ShloMosaic Cert.KernelIdeal Cert.KernelIdeal.Gen
variable {F : FTy → Type} [FloatOps F]
variable (c : Dev nD) (i : grid0.Coords)
  (arg2 : Memref sig .tc .vmem S1x256x1024 .f32) (harg2 : arg2.IsWhole)
  (arg3 : Memref sig .tc .vmem S1x256x256 .f32) (harg3 : arg3.IsWhole)
  (arg4 : Memref sig .tc .vmem S1x1024 .f32) (harg4 : arg4.IsWhole)
  (arg5 : Memref sig .tc .vmem S1024x7168 .bf16) (harg5 : arg5.IsWhole)
  (arg6 : Memref sig .tc .vmem S31x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S2x1024 .f32) (harg12 : arg12.IsWhole)
  (arg13 : Memref sig .tc .vmem S1x1024 .f32) (harg13 : arg13.IsWhole)
  (arg14 : Memref sig .tc .vmem S2048x1024 .bf16) (harg14 : arg14.IsWhole)
  (arg15 : Memref sig .tc .vmem S1x1024 .f32) (harg15 : arg15.IsWhole)
  (arg16 : Memref sig .tc .vmem S1024x1024 .bf16) (harg16 : arg16.IsWhole)
  (arg17 : Memref sig .tc .vmem S256x1024 .bf16) (harg17 : arg17.IsWhole)
  (arg18 : Memref sig .tc .vmem S1x1024 .f32) (harg18 : arg18.IsWhole)
  (arg19 : Memref sig .tc .vmem S1x256x1024 .f32) (harg19 : arg19.IsWhole)
  (arg20 : Memref sig .tc .vmem S256x7168 .f32) (harg20 : arg20.IsWhole)
  (arg21 : Memref sig .tc .vmem S288x1024 .f32) (harg21 : arg21.IsWhole)
  (arg22 : Memref sig .tc .vmem S8x128x128 .f32) (harg22 : arg22.IsWhole)
  (arg23 : Memref sig .tc .vmem S256x2048 .bf16) (harg23 : arg23.IsWhole)
  (arg24 : Memref sig .tc .vmem S256x1024 .bf16) (harg24 : arg24.IsWhole)
  (x0 : Vec F S1x256x1024 .f32)
  (x1 : Vec F S1x256x256 .f32)
  (x2 : Vec F S1x1024 .f32)
  (x3 : Vec F S1024x7168 .bf16)
  (x4 : Vec F S31x1024 .f32)
  (x5 : Vec F S1x1024 .f32)
  (x6 : Vec F S1x1024 .f32)
  (x7 : Vec F S1x1024 .f32)
  (x8 : Vec F S1024x1024 .bf16)
  (x9 : Vec F S1x1024 .f32)
  (x10 : Vec F S2x1024 .f32)
  (x11 : Vec F S1x1024 .f32)
  (x12 : Vec F S2048x1024 .bf16)
  (x13 : Vec F S1x1024 .f32)
  (x14 : Vec F S1024x1024 .bf16)
  (x15 : Vec F S256x1024 .bf16)
  (x16 : Vec F S1x1024 .f32)
  (xs1 : Vec F S288x1024 .f32) (xs2 : Vec F S8x128x128 .f32)

/-- The projection's scratch holds the projection. -/
theorem l0 : (kernelRun0_B.sl.HS0_1 c arg2 harg2 arg4 harg4 arg5 harg5 x0 x2 x3) = [⟨Rect.unit ![0, 0] S256x7168.size inb_S256x7168_S256x7168_0_0, zV (arg2.view.read (Elt F) (harg2.unread x0)) (arg4.view.read (Elt F) (harg4.unread x2)) (arg5.view.read (Elt F) (harg5.unread x3))⟩] := rfl

/-- The convolution's window after the block's rows are stored. -/
theorem l1 : (kernelRun0_B.sl.HS1_1 c arg2 harg2 arg4 harg4 arg5 harg5 arg20 x0 x2 x3) = (⟨Rect.unit ![32, 0] S256x1024.size inb_S288x1024_S256x1024_32_0, gluV (arg20.view.read (Elt F) (arg20.view.writes (Elt F) arg20.view.junk (kernelRun0_B.sl.HS0_1 c arg2 harg2 arg4 harg4 arg5 harg5 x0 x2 x3)))⟩ : View.Piece (Elt F) S288x1024 .f32) :: [] := rfl

/-- The convolution branch's rows. -/
theorem l4 : (kernelRun0_B.sl.HS4_8 c arg2 harg2 arg4 harg4 arg5 harg5 arg6 harg6 arg7 harg7 arg8 harg8 arg9 harg9 arg20 arg21 harg21 x0 x2 x3 x4 x5 x6 x7 xs1) = pieces4 (arg21.view.read (Elt F) (arg21.view.writes (Elt F) (harg21.unread xs1) (kernelRun0_B.sl.HS1_1 c arg2 harg2 arg4 harg4 arg5 harg5 arg20 x0 x2 x3))) (arg6.view.read (Elt F) (harg6.unread x4)) (arg7.view.read (Elt F) (harg7.unread x5)) (arg8.view.read (Elt F) (harg8.unread x6)) (arg9.view.read (Elt F) (harg9.unread x7)) := rfl

/-- The mixed outputs. -/
theorem l3 : (kernelRun0_B.sl.HS3_17 c arg2 harg2 arg4 harg4 arg5 harg5 arg6 harg6 arg7 harg7 arg8 harg8 arg9 harg9 arg10 harg10 arg11 harg11 arg12 harg12 arg13 harg13 arg20 arg21 harg21 arg22 harg22 arg24 x0 x2 x3 x4 x5 x6 x7 x8 x9 x10 x11 xs1 xs2) = pieces3 (arg24.view.read (Elt F) (arg24.view.writes (Elt F) arg24.view.junk (kernelRun0_B.sl.HS4_8 c arg2 harg2 arg4 harg4 arg5 harg5 arg6 harg6 arg7 harg7 arg8 harg8 arg9 harg9 arg20 arg21 harg21 x0 x2 x3 x4 x5 x6 x7 xs1))) (arg20.view.read (Elt F) (arg20.view.writes (Elt F) arg20.view.junk (kernelRun0_B.sl.HS0_1 c arg2 harg2 arg4 harg4 arg5 harg5 x0 x2 x3))) (arg10.view.read (Elt F) (harg10.unread x8)) (arg11.view.read (Elt F) (harg11.unread x9)) (arg12.view.read (Elt F) (harg12.unread x10)) (arg13.view.read (Elt F) (harg13.unread x11)) (View.ld (arg22.view.read (Elt F) (harg22.unread xs2)) (Rect.unit ![0, 0, 0] S1x128x128.size inb_S8x128x128_S1x128x128_0_0_0)) (View.ld (arg22.view.read (Elt F) (harg22.unread xs2)) (Rect.unit ![1, 0, 0] S1x128x128.size inb_S8x128x128_S1x128x128_1_0_0)) (View.ld (arg22.view.read (Elt F) (harg22.unread xs2)) (Rect.unit ![2, 0, 0] S1x128x128.size inb_S8x128x128_S1x128x128_2_0_0)) (View.ld (arg22.view.read (Elt F) (harg22.unread xs2)) (Rect.unit ![3, 0, 0] S1x128x128.size inb_S8x128x128_S1x128x128_3_0_0)) (View.ld (arg22.view.read (Elt F) (harg22.unread xs2)) (Rect.unit ![4, 0, 0] S1x128x128.size inb_S8x128x128_S1x128x128_4_0_0)) (View.ld (arg22.view.read (Elt F) (harg22.unread xs2)) (Rect.unit ![5, 0, 0] S1x128x128.size inb_S8x128x128_S1x128x128_5_0_0)) (View.ld (arg22.view.read (Elt F) (harg22.unread xs2)) (Rect.unit ![6, 0, 0] S1x128x128.size inb_S8x128x128_S1x128x128_6_0_0)) (View.ld (arg22.view.read (Elt F) (harg22.unread xs2)) (Rect.unit ![7, 0, 0] S1x128x128.size inb_S8x128x128_S1x128x128_7_0_0)) := rfl

variable (hc0 : ¬cond0_0 i)

/-- The result's stores. -/
theorem r17 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs1 xs2).1 = [⟨Rect.unit ![0, 0, 0] S1x256x1024.size inb_S1x256x1024_S1x256x1024_0_0_0, outV (arg2.view.read (Elt F) (harg2.unread x0)) (arg3.view.read (Elt F) (harg3.unread x1)) (arg23.view.read (Elt F) (arg23.view.writes (Elt F) arg23.view.junk (kernelRun0_B.sl.HS3_17 c arg2 harg2 arg4 harg4 arg5 harg5 arg6 harg6 arg7 harg7 arg8 harg8 arg9 harg9 arg10 harg10 arg11 harg11 arg12 harg12 arg13 harg13 arg20 arg21 harg21 arg22 harg22 arg24 x0 x2 x3 x4 x5 x6 x7 x8 x9 x10 x11 xs1 xs2))) (arg14.view.read (Elt F) (harg14.unread x12)) (arg15.view.read (Elt F) (harg15.unread x13)) (arg16.view.read (Elt F) (harg16.unread x14)) (arg17.view.read (Elt F) (harg17.unread x15)) (arg18.view.read (Elt F) (harg18.unread x16))⟩] := rfl

/-- The window's stores: the last 32 rows move to its head. -/
theorem rs1 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs1 xs2).2.1 = (⟨Rect.unit ![0, 0] S32x1024.size inb_S288x1024_S32x1024_0_0, k0_pay135 (View.ld (arg21.view.read (Elt F) (arg21.view.writes (Elt F) arg21.view.junk (kernelRun0_B.sl.HS1_1 c arg2 harg2 arg4 harg4 arg5 harg5 arg20 x0 x2 x3))) (Rect.unit ![256, 0] S32x1024.size inb_S288x1024_S32x1024_256_0))⟩ : View.Piece (Elt F) S288x1024 .f32) :: (kernelRun0_B.sl.HS1_1 c arg2 harg2 arg4 harg4 arg5 harg5 arg20 x0 x2 x3) := rfl

/-- The states' stores. -/
theorem rs2 : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs1 xs2).2.2.1 = pieces2 (arg20.view.read (Elt F) (arg20.view.writes (Elt F) arg20.view.junk (kernelRun0_B.sl.HS0_1 c arg2 harg2 arg4 harg4 arg5 harg5 x0 x2 x3))) (arg12.view.read (Elt F) (harg12.unread x10)) (View.ld (arg22.view.read (Elt F) (harg22.unread xs2)) (Rect.unit ![0, 0, 0] S1x128x128.size inb_S8x128x128_S1x128x128_0_0_0)) (View.ld (arg22.view.read (Elt F) (harg22.unread xs2)) (Rect.unit ![1, 0, 0] S1x128x128.size inb_S8x128x128_S1x128x128_1_0_0)) (View.ld (arg22.view.read (Elt F) (harg22.unread xs2)) (Rect.unit ![2, 0, 0] S1x128x128.size inb_S8x128x128_S1x128x128_2_0_0)) (View.ld (arg22.view.read (Elt F) (harg22.unread xs2)) (Rect.unit ![3, 0, 0] S1x128x128.size inb_S8x128x128_S1x128x128_3_0_0)) (View.ld (arg22.view.read (Elt F) (harg22.unread xs2)) (Rect.unit ![4, 0, 0] S1x128x128.size inb_S8x128x128_S1x128x128_4_0_0)) (View.ld (arg22.view.read (Elt F) (harg22.unread xs2)) (Rect.unit ![5, 0, 0] S1x128x128.size inb_S8x128x128_S1x128x128_5_0_0)) (View.ld (arg22.view.read (Elt F) (harg22.unread xs2)) (Rect.unit ![6, 0, 0] S1x128x128.size inb_S8x128x128_S1x128x128_6_0_0)) (View.ld (arg22.view.read (Elt F) (harg22.unread xs2)) (Rect.unit ![7, 0, 0] S1x128x128.size inb_S8x128x128_S1x128x128_7_0_0)) := rfl

end Cert.Layer.CaseB
end
-- ==== Proof.BlockB.lean ====
/- A later grid point of a batch row (case B, with the history and the states the point before left): the block's result and what it hands to the next point, element by element. -/
module

public import proofs.«01_k».proof.Proof.Store
public import proofs.«01_k».proof.Proof.CaseB

@[expose] public section

set_option maxRecDepth 65536

noncomputable section

namespace Cert.Layer.CaseB

open Idealize.ShloMosaic Cert.KernelIdeal Cert.KernelIdeal.Gen

variable (c : Dev nD) (i : grid0.Coords)
  (arg2 : Memref sig .tc .vmem S1x256x1024 .f32) (harg2 : arg2.IsWhole)
  (arg3 : Memref sig .tc .vmem S1x256x256 .f32) (harg3 : arg3.IsWhole)
  (arg4 : Memref sig .tc .vmem S1x1024 .f32) (harg4 : arg4.IsWhole)
  (arg5 : Memref sig .tc .vmem S1024x7168 .bf16) (harg5 : arg5.IsWhole)
  (arg6 : Memref sig .tc .vmem S31x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1024x1024 .bf16) (harg10 : arg10.IsWhole)
  (arg11 : Memref sig .tc .vmem S1x1024 .f32) (harg11 : arg11.IsWhole)
  (arg12 : Memref sig .tc .vmem S2x1024 .f32) (harg12 : arg12.IsWhole)
  (arg13 : Memref sig .tc .vmem S1x1024 .f32) (harg13 : arg13.IsWhole)
  (arg14 : Memref sig .tc .vmem S2048x1024 .bf16) (harg14 : arg14.IsWhole)
  (arg15 : Memref sig .tc .vmem S1x1024 .f32) (harg15 : arg15.IsWhole)
  (arg16 : Memref sig .tc .vmem S1024x1024 .bf16) (harg16 : arg16.IsWhole)
  (arg17 : Memref sig .tc .vmem S256x1024 .bf16) (harg17 : arg17.IsWhole)
  (arg18 : Memref sig .tc .vmem S1x1024 .f32) (harg18 : arg18.IsWhole)
  (arg19 : Memref sig .tc .vmem S1x256x1024 .f32) (harg19 : arg19.IsWhole)
  (arg20 : Memref sig .tc .vmem S256x7168 .f32) (harg20 : arg20.IsWhole)
  (arg21 : Memref sig .tc .vmem S288x1024 .f32) (harg21 : arg21.IsWhole)
  (arg22 : Memref sig .tc .vmem S8x128x128 .f32) (harg22 : arg22.IsWhole)
  (arg23 : Memref sig .tc .vmem S256x2048 .bf16) (harg23 : arg23.IsWhole)
  (arg24 : Memref sig .tc .vmem S256x1024 .bf16) (harg24 : arg24.IsWhole)
  (x0 : Vec Ideal S1x256x1024 .f32)
  (x1 : Vec Ideal S1x256x256 .f32)
  (x2 : Vec Ideal S1x1024 .f32)
  (x3 : Vec Ideal S1024x7168 .bf16)
  (x4 : Vec Ideal S31x1024 .f32)
  (x5 : Vec Ideal S1x1024 .f32)
  (x6 : Vec Ideal S1x1024 .f32)
  (x7 : Vec Ideal S1x1024 .f32)
  (x8 : Vec Ideal S1024x1024 .bf16)
  (x9 : Vec Ideal S1x1024 .f32)
  (x10 : Vec Ideal S2x1024 .f32)
  (x11 : Vec Ideal S1x1024 .f32)
  (x12 : Vec Ideal S2048x1024 .bf16)
  (x13 : Vec Ideal S1x1024 .f32)
  (x14 : Vec Ideal S1024x1024 .bf16)
  (x15 : Vec Ideal S256x1024 .bf16)
  (x16 : Vec Ideal S1x1024 .f32)
  (xs1 : Vec Ideal S288x1024 .f32) (xs2 : Vec Ideal S8x128x128 .f32) (hc0 : ¬cond0_0 i)

variable {W : Wts} {xr : ℕ → Fin 1024 → EReal} {pr : ℕ → Fin 256 → EReal} {T0 : ℕ}
  (H : Ties W xr pr T0 x0 x1 x2 x3 x4 x5 x6 x7 x8 x9 x10 x11 x12 x13 x14 x15 x16)

include H

/-- The projections' scratch. -/
theorem z_read (r : Fin 256) (n : Fin 7168) : (arg20.view.read (Elt Ideal) (arg20.view.writes (Elt Ideal) arg20.view.junk (kernelRun0_B.sl.HS0_1 c arg2 harg2 arg4 harg4 arg5 harg5 x0 x2 x3))) (ix2 r n) = z W xr (T0 + r) n := by
  rw [View.read_writes_junk_apply_eq_canon, l0, Memref.IsWhole.read_unread, Memref.IsWhole.read_unread, Memref.IsWhole.read_unread]
  exact (congrFun (View.canon_unit_zero zeros2 _ _) _).trans (zV_read H r n)

/-- The convolution's window: the history, then the block's rows. -/
theorem vb_read (hs1 : ∀ (r : Fin 32) (c : Fin 1024), xs1 (ix2 ⟨r.val, by omega⟩ c) = gluH W xr (T0 + r.val) c) (r : Fin 288) (l : Fin 1024) :
    (arg21.view.read (Elt Ideal) (arg21.view.writes (Elt Ideal) (harg21.unread xs1) (kernelRun0_B.sl.HS1_1 c arg2 harg2 arg4 harg4 arg5 harg5 arg20 x0 x2 x3))) (ix2 r l) = gluH W xr (T0 + r) l := by
  rw [l1]
  by_cases hr : 32 ≤ r.val
  · refine rows_write _ _ ?_ r l hr
    intro r l
    refine gluV_read ?_ r l
    intro r n
    apply z_read
    assumption
  · refine (rows_keep _ _ _ r l (by omega)).trans ?_
    rw [Memref.IsWhole.read_unread]
    exact hs1 ⟨r.val, by omega⟩ l

variable (hs1 : ∀ (r : Fin 32) (c : Fin 1024), xs1 (ix2 ⟨r.val, by omega⟩ c) = gluH W xr (T0 + r.val) c)
  (hs2 : ∀ (h : Fin 8) (v k : Fin 128), xs2 (ix3 h v k) = (stR (Lr W xr h) (Kr W xr h) (Vr W xr h) T0 v k : EReal))
include hs1 hs2

/-- The convolution branch's scratch. -/
theorem cv_read (r : Fin 256) (l : Fin 1024) : (arg24.view.read (Elt Ideal) (arg24.view.writes (Elt Ideal) arg24.view.junk (kernelRun0_B.sl.HS4_8 c arg2 harg2 arg4 harg4 arg5 harg5 arg6 harg6 arg7 harg7 arg8 harg8 arg9 harg9 arg20 arg21 harg21 x0 x2 x3 x4 x5 x6 x7 xs1))) (ix2 r l) = cvb W xr (T0 + r) l := by
  rw [View.read_writes_junk_apply_eq_canon, l4, Memref.IsWhole.read_unread, Memref.IsWhole.read_unread, Memref.IsWhole.read_unread, Memref.IsWhole.read_unread]
  exact pieces4_canon H (by intro r c; apply vb_read <;> assumption) r l

/-- Head 0's state before the block. -/
theorem st0_read (v k : Fin 128) : (View.ld (arg22.view.read (Elt Ideal) (harg22.unread xs2)) (Rect.unit ![0, 0, 0] S1x128x128.size inb_S8x128x128_S1x128x128_0_0_0)) (ix3 0 v k) = (stR (Lr W xr 0) (Kr W xr 0) (Vr W xr 0) T0 v k : EReal) := by
  rw [ld_three 0 0 rfl, Memref.IsWhole.read_unread]
  exact hs2 0 v k

/-- Head 1's state before the block. -/
theorem st1_read (v k : Fin 128) : (View.ld (arg22.view.read (Elt Ideal) (harg22.unread xs2)) (Rect.unit ![1, 0, 0] S1x128x128.size inb_S8x128x128_S1x128x128_1_0_0)) (ix3 0 v k) = (stR (Lr W xr 1) (Kr W xr 1) (Vr W xr 1) T0 v k : EReal) := by
  rw [ld_three 1 1 rfl, Memref.IsWhole.read_unread]
  exact hs2 1 v k

/-- Head 2's state before the block. -/
theorem st2_read (v k : Fin 128) : (View.ld (arg22.view.read (Elt Ideal) (harg22.unread xs2)) (Rect.unit ![2, 0, 0] S1x128x128.size inb_S8x128x128_S1x128x128_2_0_0)) (ix3 0 v k) = (stR (Lr W xr 2) (Kr W xr 2) (Vr W xr 2) T0 v k : EReal) := by
  rw [ld_three 2 2 rfl, Memref.IsWhole.read_unread]
  exact hs2 2 v k

/-- Head 3's state before the block. -/
theorem st3_read (v k : Fin 128) : (View.ld (arg22.view.read (Elt Ideal) (harg22.unread xs2)) (Rect.unit ![3, 0, 0] S1x128x128.size inb_S8x128x128_S1x128x128_3_0_0)) (ix3 0 v k) = (stR (Lr W xr 3) (Kr W xr 3) (Vr W xr 3) T0 v k : EReal) := by
  rw [ld_three 3 3 rfl, Memref.IsWhole.read_unread]
  exact hs2 3 v k

/-- Head 4's state before the block. -/
theorem st4_read (v k : Fin 128) : (View.ld (arg22.view.read (Elt Ideal) (harg22.unread xs2)) (Rect.unit ![4, 0, 0] S1x128x128.size inb_S8x128x128_S1x128x128_4_0_0)) (ix3 0 v k) = (stR (Lr W xr 4) (Kr W xr 4) (Vr W xr 4) T0 v k : EReal) := by
  rw [ld_three 4 4 rfl, Memref.IsWhole.read_unread]
  exact hs2 4 v k

/-- Head 5's state before the block. -/
theorem st5_read (v k : Fin 128) : (View.ld (arg22.view.read (Elt Ideal) (harg22.unread xs2)) (Rect.unit ![5, 0, 0] S1x128x128.size inb_S8x128x128_S1x128x128_5_0_0)) (ix3 0 v k) = (stR (Lr W xr 5) (Kr W xr 5) (Vr W xr 5) T0 v k : EReal) := by
  rw [ld_three 5 5 rfl, Memref.IsWhole.read_unread]
  exact hs2 5 v k

/-- Head 6's state before the block. -/
theorem st6_read (v k : Fin 128) : (View.ld (arg22.view.read (Elt Ideal) (harg22.unread xs2)) (Rect.unit ![6, 0, 0] S1x128x128.size inb_S8x128x128_S1x128x128_6_0_0)) (ix3 0 v k) = (stR (Lr W xr 6) (Kr W xr 6) (Vr W xr 6) T0 v k : EReal) := by
  rw [ld_three 6 6 rfl, Memref.IsWhole.read_unread]
  exact hs2 6 v k

/-- Head 7's state before the block. -/
theorem st7_read (v k : Fin 128) : (View.ld (arg22.view.read (Elt Ideal) (harg22.unread xs2)) (Rect.unit ![7, 0, 0] S1x128x128.size inb_S8x128x128_S1x128x128_7_0_0)) (ix3 0 v k) = (stR (Lr W xr 7) (Kr W xr 7) (Vr W xr 7) T0 v k : EReal) := by
  rw [ld_three 7 7 rfl, Memref.IsWhole.read_unread]
  exact hs2 7 v k

variable (hW : W.IsReal) (hT : T0 + 256 ≤ 8192)
include hW

/-- The states after the block. -/
theorem sout2_read (h : Fin 8) (v k : Fin 128) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs1 xs2 (ix3 h v k) = (stR (Lr W xr h) (Kr W xr h) (Vr W xr h) (T0 + 256) v k : EReal) := by
  unfold sout0_B_2
  rw [View.read_writes_junk_apply_eq_canon, rs2, Memref.IsWhole.read_unread]
  exact pieces2_canon hW (ht0 := by intro v k; apply st0_read <;> assumption) (ht1 := by intro v k; apply st1_read <;> assumption) (ht2 := by intro v k; apply st2_read <;> assumption) (ht3 := by intro v k; apply st3_read <;> assumption) (ht4 := by intro v k; apply st4_read <;> assumption) (ht5 := by intro v k; apply st5_read <;> assumption) (ht6 := by intro v k; apply st6_read <;> assumption) (ht7 := by intro v k; apply st7_read <;> assumption) H.h10 (by intro r n; apply z_read; assumption) [] h v k

/-- The window's head after the block: the last 32 rows. -/
theorem sout1_read (r : Fin 32) (l : Fin 1024) : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs1 xs2 (ix2 ⟨r.val, by omega⟩ l) = gluH W xr (T0 + 256 + r) l := by
  unfold sout0_B_1
  rw [View.read_writes_junk_apply_eq_canon, rs1]
  refine (canon_two 0 0 _ _ _ _ _ r l (by simp) (by simp)).trans ?_
  refine (pay135_read _ r l).trans ?_
  refine (ld_two (α := Elt Ideal) _ 256 0 _ r l (by omega) (by omega)).trans ?_
  rw [View.read_writes_junk_apply_eq_canon, l1]
  refine (rows_new (T0 := T0) (W := W) (xr := xr) (gluV_read (by intro r n; apply z_read; assumption)) _ _ _ (by show 32 ≤ 256 + r.val; omega)).trans ?_
  exact gluH_congr (show T0 + (256 + r.val) = T0 + 256 + r.val by omega) (Fin.ext (Nat.zero_add _))

include hT

/-- The mixed outputs' scratch. -/
theorem y_read (r : Fin 256) (l : Fin 2048) : (arg23.view.read (Elt Ideal) (arg23.view.writes (Elt Ideal) arg23.view.junk (kernelRun0_B.sl.HS3_17 c arg2 harg2 arg4 harg4 arg5 harg5 arg6 harg6 arg7 harg7 arg8 harg8 arg9 harg9 arg10 harg10 arg11 harg11 arg12 harg12 arg13 harg13 arg20 arg21 harg21 arg22 harg22 arg24 x0 x2 x3 x4 x5 x6 x7 x8 x9 x10 x11 xs1 xs2))) (ix2 r l) = cat W xr (T0 + r) l := by
  rw [View.read_writes_junk_apply_eq_canon, l3, Memref.IsWhole.read_unread, Memref.IsWhole.read_unread, Memref.IsWhole.read_unread, Memref.IsWhole.read_unread]
  exact pieces3_canon hW (ht0 := by intro v k; apply st0_read <;> assumption) (ht1 := by intro v k; apply st1_read <;> assumption) (ht2 := by intro v k; apply st2_read <;> assumption) (ht3 := by intro v k; apply st3_read <;> assumption) (ht4 := by intro v k; apply st4_read <;> assumption) (ht5 := by intro v k; apply st5_read <;> assumption) (ht6 := by intro v k; apply st6_read <;> assumption) (ht7 := by intro v k; apply st7_read <;> assumption) H.h10 (by intro r n; apply z_read; assumption) H.h8 H.h9 H.h11 hT (by intro r c; apply cv_read <;> assumption) r l

/-- The block's result. -/
theorem out_read (r : Fin 256) (l : Fin 1024) : out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 xs1 xs2 (ix3 0 r l) = out W xr pr (T0 + r) l := by
  unfold out0_B_17
  rw [View.read_writes_junk_apply_eq_canon, r17, Memref.IsWhole.read_unread, Memref.IsWhole.read_unread, Memref.IsWhole.read_unread, Memref.IsWhole.read_unread, Memref.IsWhole.read_unread, Memref.IsWhole.read_unread, Memref.IsWhole.read_unread]
  exact (congrFun (View.canon_unit_zero zeros3 _ _) _).trans (outV_read H (by intro r c; apply y_read <;> assumption) r l)

end Cert.Layer.CaseB

end
-- ==== Proof.Fold.lean ====
/- The grid's points in order: what each leaves in its output block and in the two carried scratch buffers, and from that
   the kernel's result array. -/
module

public import proofs.«01_k».proof.Proof.Ties
public import proofs.«01_k».proof.Proof.BlockA
public import proofs.«01_k».proof.Proof.BlockB

@[expose] public section

noncomputable section

namespace Cert.Layer

open Idealize.ShloMosaic Idealize.ShloMosaic.TcCoe Cert.KernelIdeal Cert.KernelIdeal.Gen

/-- The contents after a point hold the layer at steps `T0 … T0 + 255`: the output block its result, the history the last
    steps of the gated linear unit, the states the recurrence's state after the block. -/
structure Holds (W : Wts) (xr : ℕ → Fin 1024 → EReal) (pr : ℕ → Fin 256 → EReal) (T0 : ℕ)
    (o : Vec Ideal S1x256x1024 .f32 × Vec Ideal S288x1024 .f32 × Vec Ideal S8x128x128 .f32) : Prop where
  res : ∀ (r : Fin 256) (l : Fin 1024), o.1 (ix3 0 r l) = out W xr pr (T0 + r) l
  hist : ∀ (r : Fin 32) (l : Fin 1024), o.2.1 (ix2 ⟨r.val, by omega⟩ l) = gluH W xr (T0 + 256 + r) l
  state : ∀ (h : Fin 8) (v k : Fin 128), o.2.2 (ix3 h v k) = (stR (Lr W xr h) (Kr W xr h) (Vr W xr h) (T0 + 256) v k : EReal)

variable (m : (ℓ : Loc nD τ sig) → Buf (Elt Ideal) ℓ) (c : Dev nD)

/-- The first point of a batch row. -/
theorem holds_first (hA : (arrs m c).IsReal) (t : Fin cfg0.N) (h0 : t.val % 32 = 0) :
    Holds (arrs m c).wts ((arrs m c).xr (bat t)) ((arrs m c).pr (bat t)) (256 * (t.val % 32)) (outsAt0 m c t.val t.isLt) := by
  have H := ties m c t
  have hT : 256 * (t.val % 32) = 0 := by omega
  have hW := hA.wts
  rw [outsAt0_A m c t h0]
  refine ⟨fun r l => ?_, fun r l => ?_, fun h v k => ?_⟩
  · dsimp only
    apply CaseA.out_read <;> first | assumption | omega
  · dsimp only
    apply CaseA.sout1_read <;> assumption
  · dsimp only
    apply CaseA.sout2_read <;> assumption

/-- A later point of a batch row, from the point before. -/
theorem holds_next (hA : (arrs m c).IsReal) (t : Fin cfg0.N) (h0 : ¬ t.val % 32 = 0)
    (hs1 : ∀ (r : Fin 32) (l : Fin 1024), (outsAt0 m c (t.val - 1) (Nat.lt_of_le_of_lt (Nat.sub_le _ _) t.isLt)).2.1 (ix2 ⟨r.val, by omega⟩ l)
      = gluH (arrs m c).wts ((arrs m c).xr (bat t)) (256 * (t.val % 32) + r.val) l)
    (hs2 : ∀ (h : Fin 8) (v k : Fin 128), (outsAt0 m c (t.val - 1) (Nat.lt_of_le_of_lt (Nat.sub_le _ _) t.isLt)).2.2 (ix3 h v k)
      = (stR (Lr (arrs m c).wts ((arrs m c).xr (bat t)) h) (Kr (arrs m c).wts ((arrs m c).xr (bat t)) h) (Vr (arrs m c).wts ((arrs m c).xr (bat t)) h) (256 * (t.val % 32)) v k : EReal)) :
    Holds (arrs m c).wts ((arrs m c).xr (bat t)) ((arrs m c).pr (bat t)) (256 * (t.val % 32)) (outsAt0 m c t.val t.isLt) := by
  have H := ties m c t
  have hW := hA.wts
  have hT : 256 * (t.val % 32) + 256 ≤ 8192 := by omega
  rw [outsAt0_B m c t h0]
  refine ⟨fun r l => ?_, fun r l => ?_, fun h v k => ?_⟩
  · dsimp only
    apply CaseB.out_read <;> assumption
  · dsimp only
    apply CaseB.sout1_read <;> assumption
  · dsimp only
    apply CaseB.sout2_read <;> assumption

/-- Every point holds the layer at its own steps. -/
theorem holds (hA : (arrs m c).IsReal) : ∀ (n : ℕ) (hn : n < cfg0.N),
    Holds (arrs m c).wts ((arrs m c).xr (bat ⟨n, hn⟩)) ((arrs m c).pr (bat ⟨n, hn⟩)) (256 * (n % 32)) (outsAt0 m c n hn) := by
  intro n
  induction n with
  | zero => intro hn; exact holds_first m c hA ⟨0, hn⟩ rfl
  | succ n ih =>
    intro hn
    by_cases h0 : (n + 1) % 32 = 0
    · exact holds_first m c hA ⟨n + 1, hn⟩ h0
    · have I := ih (by omega)
      have eb : bat ⟨n, by omega⟩ = bat ⟨n + 1, hn⟩ := by
        apply Fin.ext; show n / 32 = (n + 1) / 32; omega
      have eT : 256 * (n % 32) + 256 = 256 * ((n + 1) % 32) := by omega
      rw [eb] at I
      refine holds_next m c hA ⟨n + 1, hn⟩ h0 (fun r l => ?_) (fun h v k => ?_)
      · exact (I.hist r l).trans (by rw [eT])
      · exact (I.state h v k).trans (by rw [eT])

/-- The kernel's result array is the layer's. -/
theorem G17_eq (hA : (arrs m c).IsReal) : Cert.KernelIdeal.Value.G17 m c = (arrs m c).out := by
  funext i
  have hi0 : (i 0).val < 8 := (i 0).isLt
  have hi1 : (i 1).val < 8192 := (i 1).isLt
  have hi2 : (i 2).val < 1024 := (i 2).isLt
  have hp : Cert.KernelIdeal.Value.pt17Of i < cfg0.N := lt_of_lt_of_eq (b := 256)
    (by show 32 * ((i 0).val / 1 - 0) + 1 * ((i 1).val / 256 - 0) + 1 * ((i 2).val / 1024 - 0) < 256; omega) N_0.symm
  have hv : Cert.KernelIdeal.Value.pt17Of i = 32 * (i 0).val + (i 1).val / 256 := by
    show 32 * ((i 0).val / 1 - 0) + 1 * ((i 1).val / 256 - 0) + 1 * ((i 2).val / 1024 - 0) = _; omega
  unfold Cert.KernelIdeal.Value.G17
  rw [dif_pos hp]
  have e := (Cert.KernelIdeal.Value.outsAt0_sweep m c (Cert.KernelIdeal.Value.pt17Of i) hp).trans
    (Cert.KernelIdeal.Value.fold0_congr m c _ _ _ (by omega) rfl)
  refine (congrFun (congrArg Prod.fst e).symm _).trans ?_
  have el : Cert.KernelIdeal.Value.loc17Of i = ix3 0 ⟨(i 1).val % 256, by omega⟩ ⟨(i 2).val, hi2⟩ := by
    refine funext fun a => Fin.ext ?_
    match a with
    | ⟨0, _⟩ => show (i 0).val % 1 = 0; omega
    | ⟨1, _⟩ => rfl
    | ⟨2, _⟩ => show (i 2).val % 1024 = (i 2).val; omega
  rw [el]
  refine ((holds m c hA _ hp).res _ _).trans ?_
  have eb : bat ⟨Cert.KernelIdeal.Value.pt17Of i, hp⟩ = i 0 := by
    apply Fin.ext; show Cert.KernelIdeal.Value.pt17Of i / 32 = (i 0).val; omega
  have eT : 256 * (Cert.KernelIdeal.Value.pt17Of i % 32) + (i 1).val % 256 = (i 1).val := by omega
  rw [eb]
  show out _ _ _ (256 * (Cert.KernelIdeal.Value.pt17Of i % 32) + (i 1).val % 256) _ = out _ _ _ (i 1).val (i 2)
  rw [eT]
  rfl

end Cert.Layer

end
-- ==== Proof.RefIdx.lean ====
/- The reference program's operations, each read at an index in coordinates from its operands: one lemma per operation, of
   the operation's own number. The padding and the taps of the convolution are in RefConv.lean, the running sums in RefMix.lean, the mask and the join in
   RefOut.lean. -/
module

public import proofs.«01_k».proof.Proof.Args
public import proofs.«01_k».proof.Proof.Gen.ReferenceIdeal.Read

@[expose] public section

noncomputable section

namespace Cert.Layer.Ref

open Idealize.ShloMosaic Cert.ReferenceIdeal Cert.ReferenceIdeal.Read

/-- An index of one coordinate. -/
theorem ix1_ext {n0 : ℕ} {i : Shape.Idx ⟨1, ![n0]⟩} {a : Fin n0} (h0 : (i 0).val = a.val) : i = ix1 a :=
  funext fun d => match d with | ⟨0, _⟩ => Fin.ext h0
/-- An index of two coordinates. -/
theorem ix2_ext {n0 n1 : ℕ} {i : Shape.Idx ⟨2, ![n0, n1]⟩} {a : Fin n0} {b : Fin n1} (h0 : (i 0).val = a.val) (h1 : (i 1).val = b.val) :
    i = ix2 a b :=
  funext fun d => match d with | ⟨0, _⟩ => Fin.ext h0 | ⟨1, _⟩ => Fin.ext h1
/-- An index of three coordinates. -/
theorem ix3_ext {n0 n1 n2 : ℕ} {i : Shape.Idx ⟨3, ![n0, n1, n2]⟩} {a : Fin n0} {b : Fin n1} {c : Fin n2} (h0 : (i 0).val = a.val)
    (h1 : (i 1).val = b.val) (h2 : (i 2).val = c.val) : i = ix3 a b c :=
  funext fun d => match d with | ⟨0, _⟩ => Fin.ext h0 | ⟨1, _⟩ => Fin.ext h1 | ⟨2, _⟩ => Fin.ext h2
/-- An index of four coordinates. -/
theorem ix4_ext {n0 n1 n2 n3 : ℕ} {i : Shape.Idx ⟨4, ![n0, n1, n2, n3]⟩} {a : Fin n0} {b : Fin n1} {c : Fin n2} {d : Fin n3}
    (h0 : (i 0).val = a.val) (h1 : (i 1).val = b.val) (h2 : (i 2).val = c.val) (h3 : (i 3).val = d.val) : i = ix4 a b c d :=
  funext fun d => match d with | ⟨0, _⟩ => Fin.ext h0 | ⟨1, _⟩ => Fin.ext h1 | ⟨2, _⟩ => Fin.ext h2 | ⟨3, _⟩ => Fin.ext h3
/-- An index of five coordinates. -/
theorem ix5_ext {n0 n1 n2 n3 n4 : ℕ} {i : Shape.Idx ⟨5, ![n0, n1, n2, n3, n4]⟩} {a : Fin n0} {b : Fin n1} {c : Fin n2} {d : Fin n3}
    {e : Fin n4} (h0 : (i 0).val = a.val) (h1 : (i 1).val = b.val) (h2 : (i 2).val = c.val) (h3 : (i 3).val = d.val)
    (h4 : (i 4).val = e.val) : i = ix5 a b c d e :=
  funext fun d => match d with
    | ⟨0, _⟩ => Fin.ext h0 | ⟨1, _⟩ => Fin.ext h1 | ⟨2, _⟩ => Fin.ext h2 | ⟨3, _⟩ => Fin.ext h3 | ⟨4, _⟩ => Fin.ext h4

section
variable {s : Shape} (x y : FVec Ideal s .f32) (i : s.Idx)
/-- A product, at an index. -/
theorem mulf_at : mulf x y i = x i * y i := rfl
/-- A sum, at an index. -/
theorem addf_at : addf x y i = x i + y i := rfl
/-- A difference, at an index. -/
theorem subf_at : subf x y i = x i - y i := rfl
/-- A maximum, at an index. -/
theorem maxf_at : maximumf x y i = max (x i) (y i) := rfl
/-- A quotient, at an index. -/
theorem divf_at : Host.divf x y i = Ideal.div (x i) (y i) := rfl
/-- An exponential, at an index. -/
theorem exp_at : Host.exp x i = Ideal.exp (x i) := rfl
/-- A reciprocal root, at an index. -/
theorem rsqrt_at : Host.rsqrt x i = Ideal.rsqrt (x i) := rfl
/-- A logarithm, at an index. -/
theorem log_at : Host.log x i = Ideal.log (x i) := rfl
/-- A negation, at an index. -/
theorem negf_at : Host.negf x i = -(x i) := rfl
end

variable (A : Arrs)

/-- Operation 1 at an index: a constant. -/
theorem v1 (i : S1024.Idx) : val_main_v1 (F := Ideal) i = Ideal.ofBits .f32 0xFF800000#32 := (val_main_v1_apply i).trans rfl

/-- Operation 2 at an index: a maximum. -/
theorem v2 (i : S1024.Idx) : val_main_v2 (F := Ideal) A.a10 i = max (val_main_v1 (F := Ideal) i) (val_main_v0 (F := Ideal) A.a10 i) :=
  maxf_at (val_main_v1 (F := Ideal)) (val_main_v0 (F := Ideal) A.a10) i

/-- Operation 3 at an index: an entry of its operand. -/
theorem v3 (q : Fin 1024) : val_main_v3 (F := Ideal) A.a10 (ix2 0 q) = val_main_v2 (F := Ideal) A.a10 (ix1 q) :=
  (val_main_v3_apply _ _).trans (congrArg (val_main_v2 (F := Ideal) A.a10) (ix1_ext rfl))

/-- Operation 4 at an index: an entry of its operand. -/
theorem v4 (p : Fin 2) (q : Fin 1024) : val_main_v4 (F := Ideal) A.a10 (ix2 p q) = val_main_v3 (F := Ideal) A.a10 (ix2 0 q) :=
  (val_main_v4_apply _ _).trans (congrArg (val_main_v3 (F := Ideal) A.a10) (ix2_ext rfl rfl))

/-- Operation 5 at an index: a difference. -/
theorem v5 (i : S2x1024.Idx) : val_main_v5 (F := Ideal) A.a10 i = A.a10 i - val_main_v4 (F := Ideal) A.a10 i :=
  subf_at (A.a10) (val_main_v4 (F := Ideal) A.a10) i

/-- Operation 6 at an index: an exponential. -/
theorem v6 (i : S2x1024.Idx) : val_main_v6 (F := Ideal) A.a10 i = Ideal.exp (val_main_v5 (F := Ideal) A.a10 i) :=
  exp_at (val_main_v5 (F := Ideal) A.a10) i

/-- Operation 7 at an index: a sum over one axis. -/
theorem v7 (l : Fin 1024) : val_main_v7 (F := Ideal) A.a10 (ix1 l) = ∑ k : Fin 2, val_main_v6 (F := Ideal) A.a10 (ix2 k l) :=
  (val_main_v7_apply _ _).trans ((congrArg₂ (· + ·) Ideal.ofBits_zero_f32 (Finset.sum_congr rfl fun k _ => congrArg (val_main_v6 (F := Ideal) A.a10) (ix2_ext rfl rfl))).trans (zero_add _))

/-- Operation 8 at an index: an entry of its operand. -/
theorem v8 (q : Fin 1024) : val_main_v8 (F := Ideal) A.a10 (ix2 0 q) = val_main_v7 (F := Ideal) A.a10 (ix1 q) :=
  (val_main_v8_apply _ _).trans (congrArg (val_main_v7 (F := Ideal) A.a10) (ix1_ext rfl))

/-- Operation 9 at an index: an entry of its operand. -/
theorem v9 (p : Fin 2) (q : Fin 1024) : val_main_v9 (F := Ideal) A.a10 (ix2 p q) = val_main_v8 (F := Ideal) A.a10 (ix2 0 q) :=
  (val_main_v9_apply _ _).trans (congrArg (val_main_v8 (F := Ideal) A.a10) (ix2_ext rfl rfl))

/-- Operation 10 at an index: a quotient. -/
theorem v10 (i : S2x1024.Idx) : val_main_v10 (F := Ideal) A.a10 i = Ideal.div (val_main_v6 (F := Ideal) A.a10 i) (val_main_v9 (F := Ideal) A.a10 i) :=
  divf_at (val_main_v6 (F := Ideal) A.a10) (val_main_v9 (F := Ideal) A.a10) i

/-- Operation 12 at an index: an entry of its operand. -/
theorem v12 (l : Fin 1024) : val_main_v12 (F := Ideal) A.a2 (ix1 l) = A.a2 (ix2 0 l) :=
  (val_main_v12_apply _ _).trans (congrArg (A.a2) (ix2_ext rfl (by show (l.val) % 1024 = l.val; omega)))

/-- Operation 13 at an index: a product. -/
theorem v13 (i : S8x8192x1024.Idx) : val_main_v13 (F := Ideal) A.a0 i = A.a0 i * A.a0 i :=
  mulf_at (A.a0) (A.a0) i

/-- Operation 14 at an index: a sum over one axis. -/
theorem v14 (p : Fin 8) (q : Fin 8192) : val_main_v14 (F := Ideal) A.a0 (ix2 p q) = ∑ k : Fin 1024, val_main_v13 (F := Ideal) A.a0 (ix3 p q k) :=
  (val_main_v14_apply _ _).trans ((congrArg₂ (· + ·) Ideal.ofBits_zero_f32 (Finset.sum_congr rfl fun k _ => congrArg (val_main_v13 (F := Ideal) A.a0) (ix3_ext rfl rfl rfl))).trans (zero_add _))

/-- Operation 15 at an index: an entry of its operand. -/
theorem v15 (b : Fin 8) (t : Fin 8192) : val_main_v15 (F := Ideal) A.a0 (ix3 b t 0) = val_main_v14 (F := Ideal) A.a0 (ix2 b t) :=
  (val_main_v15_apply _ _).trans (congrArg (val_main_v14 (F := Ideal) A.a0) (ix2_ext rfl rfl))

/-- Operation 16 at an index: a constant. -/
theorem v16 (i : S8x8192x1.Idx) : val_main_v16 (F := Ideal) i = Ideal.ofBits .f32 0x44800000#32 := (val_main_v16_apply i).trans rfl

/-- Operation 17 at an index: a quotient. -/
theorem v17 (i : S8x8192x1.Idx) : val_main_v17 (F := Ideal) A.a0 i = Ideal.div (val_main_v15 (F := Ideal) A.a0 i) (val_main_v16 (F := Ideal) i) :=
  divf_at (val_main_v15 (F := Ideal) A.a0) (val_main_v16 (F := Ideal)) i

/-- Operation 18 at an index: a constant. -/
theorem v18 (i : S8x8192x1.Idx) : val_main_v18 (F := Ideal) i = Ideal.ofBits .f32 0x358637BD#32 := (val_main_v18_apply i).trans rfl

/-- Operation 19 at an index: a sum. -/
theorem v19 (i : S8x8192x1.Idx) : val_main_v19 (F := Ideal) A.a0 i = val_main_v17 (F := Ideal) A.a0 i + val_main_v18 (F := Ideal) i :=
  addf_at (val_main_v17 (F := Ideal) A.a0) (val_main_v18 (F := Ideal)) i

/-- Operation 20 at an index: a reciprocal root. -/
theorem v20 (i : S8x8192x1.Idx) : val_main_v20 (F := Ideal) A.a0 i = Ideal.rsqrt (val_main_v19 (F := Ideal) A.a0 i) :=
  rsqrt_at (val_main_v19 (F := Ideal) A.a0) i

/-- Operation 21 at an index: an entry of its operand. -/
theorem v21 (b : Fin 8) (t : Fin 8192) (c : Fin 1024) : val_main_v21 (F := Ideal) A.a0 (ix3 b t c) = val_main_v20 (F := Ideal) A.a0 (ix3 b t 0) :=
  (val_main_v21_apply _ _).trans (congrArg (val_main_v20 (F := Ideal) A.a0) (ix3_ext rfl rfl rfl))

/-- Operation 22 at an index: a product. -/
theorem v22 (i : S8x8192x1024.Idx) : val_main_v22 (F := Ideal) A.a0 i = A.a0 i * val_main_v21 (F := Ideal) A.a0 i :=
  mulf_at (A.a0) (val_main_v21 (F := Ideal) A.a0) i

/-- Operation 23 at an index: an entry of its operand. -/
theorem v23 (c : Fin 1024) : val_main_v23 (F := Ideal) A.a2 (ix3 0 0 c) = val_main_v12 (F := Ideal) A.a2 (ix1 c) :=
  (val_main_v23_apply _ _).trans (congrArg (val_main_v12 (F := Ideal) A.a2) (ix1_ext rfl))

/-- Operation 24 at an index: an entry of its operand. -/
theorem v24 (b : Fin 8) (t : Fin 8192) (c : Fin 1024) : val_main_v24 (F := Ideal) A.a2 (ix3 b t c) = val_main_v23 (F := Ideal) A.a2 (ix3 0 0 c) :=
  (val_main_v24_apply _ _).trans (congrArg (val_main_v23 (F := Ideal) A.a2) (ix3_ext rfl rfl rfl))

/-- Operation 25 at an index: a product. -/
theorem v25 (i : S8x8192x1024.Idx) : val_main_v25 (F := Ideal) A.a0 A.a2 i = val_main_v22 (F := Ideal) A.a0 i * val_main_v24 (F := Ideal) A.a2 i :=
  mulf_at (val_main_v22 (F := Ideal) A.a0) (val_main_v24 (F := Ideal) A.a2) i

/-- Operation 26 at an index: an entry of its operand. -/
theorem v26 (p : Fin 1024) (q : Fin 7168) : val_main_v26 (F := Ideal) A.a3 (ix2 p q) = A.a3 (ix3 0 p q) :=
  (val_main_v26_apply _ _).trans (congrArg (A.a3) (ix3_ext rfl (by show (p.val * 7168 + q.val) / 7168 % 1024 = p.val; omega) (by show (p.val * 7168 + q.val) % 7168 = q.val; omega)))

/-- Operation 27 at an index: a sum over one axis. -/
theorem v27 (b : Fin 8) (t : Fin 8192) (c : Fin 7168) : val_main_v27 (F := Ideal) A.a0 A.a2 A.a3 (ix3 b t c) = ∑ k : Fin 1024, val_main_v25 (F := Ideal) A.a0 A.a2 (ix3 b t k) * val_main_v26 (F := Ideal) A.a3 (ix2 k c) :=
  (val_main_v27_apply _ _ _ _).trans (Finset.sum_congr rfl fun k _ => congrArg₂ (· * ·) (congrArg (val_main_v25 (F := Ideal) A.a0 A.a2) (ix3_ext rfl rfl rfl)) (congrArg (val_main_v26 (F := Ideal) A.a3) (ix2_ext rfl rfl)))

/-- Operation 28 at an index: an entry of its operand. -/
theorem v28 (b : Fin 8) (t : Fin 8192) (c : Fin 1024) : val_main_v28 (F := Ideal) A.a0 A.a2 A.a3 (ix3 b t c) = val_main_v27 (F := Ideal) A.a0 A.a2 A.a3 (ix3 b t (col 0 (by omega) c)) :=
  (val_main_v28_apply _ _ _ _).trans (congrArg (val_main_v27 (F := Ideal) A.a0 A.a2 A.a3) (ix3_ext rfl rfl (by show c.val = 0 + c.val; omega)))

/-- Operation 29 at an index: an entry of its operand. -/
theorem v29 (b : Fin 8) (t : Fin 8192) (c : Fin 1024) : val_main_v29 (F := Ideal) A.a0 A.a2 A.a3 (ix3 b t c) = val_main_v27 (F := Ideal) A.a0 A.a2 A.a3 (ix3 b t (col 1024 (by omega) c)) :=
  (val_main_v29_apply _ _ _ _).trans (congrArg (val_main_v27 (F := Ideal) A.a0 A.a2 A.a3) (ix3_ext rfl rfl rfl))

/-- Operation 30 at an index: an entry of its operand. -/
theorem v30 (b : Fin 8) (t : Fin 8192) (c : Fin 1024) : val_main_v30 (F := Ideal) A.a0 A.a2 A.a3 (ix3 b t c) = val_main_v27 (F := Ideal) A.a0 A.a2 A.a3 (ix3 b t (col 2048 (by omega) c)) :=
  (val_main_v30_apply _ _ _ _).trans (congrArg (val_main_v27 (F := Ideal) A.a0 A.a2 A.a3) (ix3_ext rfl rfl rfl))

/-- Operation 31 at an index: an entry of its operand. -/
theorem v31 (b : Fin 8) (t : Fin 8192) (c : Fin 1024) : val_main_v31 (F := Ideal) A.a0 A.a2 A.a3 (ix3 b t c) = val_main_v27 (F := Ideal) A.a0 A.a2 A.a3 (ix3 b t (col 3072 (by omega) c)) :=
  (val_main_v31_apply _ _ _ _).trans (congrArg (val_main_v27 (F := Ideal) A.a0 A.a2 A.a3) (ix3_ext rfl rfl rfl))

/-- Operation 32 at an index: an entry of its operand. -/
theorem v32 (b : Fin 8) (t : Fin 8192) (c : Fin 1024) : val_main_v32 (F := Ideal) A.a0 A.a2 A.a3 (ix3 b t c) = val_main_v27 (F := Ideal) A.a0 A.a2 A.a3 (ix3 b t (col 4096 (by omega) c)) :=
  (val_main_v32_apply _ _ _ _).trans (congrArg (val_main_v27 (F := Ideal) A.a0 A.a2 A.a3) (ix3_ext rfl rfl rfl))

/-- Operation 33 at an index: an entry of its operand. -/
theorem v33 (b : Fin 8) (t : Fin 8192) (c : Fin 1024) : val_main_v33 (F := Ideal) A.a0 A.a2 A.a3 (ix3 b t c) = val_main_v27 (F := Ideal) A.a0 A.a2 A.a3 (ix3 b t (col 5120 (by omega) c)) :=
  (val_main_v33_apply _ _ _ _).trans (congrArg (val_main_v27 (F := Ideal) A.a0 A.a2 A.a3) (ix3_ext rfl rfl rfl))

/-- Operation 34 at an index: an entry of its operand. -/
theorem v34 (b : Fin 8) (t : Fin 8192) (c : Fin 1024) : val_main_v34 (F := Ideal) A.a0 A.a2 A.a3 (ix3 b t c) = val_main_v27 (F := Ideal) A.a0 A.a2 A.a3 (ix3 b t (col 6144 (by omega) c)) :=
  (val_main_v34_apply _ _ _ _).trans (congrArg (val_main_v27 (F := Ideal) A.a0 A.a2 A.a3) (ix3_ext rfl rfl rfl))

/-- Operation 35 at an index: a negation. -/
theorem v35 (i : S8x8192x1024.Idx) : val_main_v35 (F := Ideal) A.a0 A.a2 A.a3 i = -(val_main_v29 (F := Ideal) A.a0 A.a2 A.a3 i) :=
  negf_at (val_main_v29 (F := Ideal) A.a0 A.a2 A.a3) i

/-- Operation 36 at an index: an exponential. -/
theorem v36 (i : S8x8192x1024.Idx) : val_main_v36 (F := Ideal) A.a0 A.a2 A.a3 i = Ideal.exp (val_main_v35 (F := Ideal) A.a0 A.a2 A.a3 i) :=
  exp_at (val_main_v35 (F := Ideal) A.a0 A.a2 A.a3) i

/-- Operation 37 at an index: a constant. -/
theorem v37 (i : S8x8192x1024.Idx) : val_main_v37 (F := Ideal) i = Ideal.ofBits .f32 0x3F800000#32 := (val_main_v37_apply i).trans rfl

/-- Operation 38 at an index: a sum. -/
theorem v38 (i : S8x8192x1024.Idx) : val_main_v38 (F := Ideal) A.a0 A.a2 A.a3 i = val_main_v37 (F := Ideal) i + val_main_v36 (F := Ideal) A.a0 A.a2 A.a3 i :=
  addf_at (val_main_v37 (F := Ideal)) (val_main_v36 (F := Ideal) A.a0 A.a2 A.a3) i

/-- Operation 39 at an index: a constant. -/
theorem v39 (i : S8x8192x1024.Idx) : val_main_v39 (F := Ideal) i = Ideal.ofBits .f32 0x3F800000#32 := (val_main_v39_apply i).trans rfl

/-- Operation 40 at an index: a quotient. -/
theorem v40 (i : S8x8192x1024.Idx) : val_main_v40 (F := Ideal) A.a0 A.a2 A.a3 i = Ideal.div (val_main_v39 (F := Ideal) i) (val_main_v38 (F := Ideal) A.a0 A.a2 A.a3 i) :=
  divf_at (val_main_v39 (F := Ideal)) (val_main_v38 (F := Ideal) A.a0 A.a2 A.a3) i

/-- Operation 41 at an index: a product. -/
theorem v41 (i : S8x8192x1024.Idx) : val_main_v41 (F := Ideal) A.a0 A.a2 A.a3 i = val_main_v28 (F := Ideal) A.a0 A.a2 A.a3 i * val_main_v40 (F := Ideal) A.a0 A.a2 A.a3 i :=
  mulf_at (val_main_v28 (F := Ideal) A.a0 A.a2 A.a3) (val_main_v40 (F := Ideal) A.a0 A.a2 A.a3) i

/-- Operation 263 at an index: an entry of its operand. -/
theorem v263 (i0 : Fin 8) (i1 : Fin 8192) (i2 : Fin 8) (i3 : Fin 128) : val_main_v263 (F := Ideal) A.a0 A.a2 A.a3 A.a4 A.a5 (ix4 i0 i1 i2 i3) = val_main_v262 (F := Ideal) A.a0 A.a2 A.a3 A.a4 A.a5 (ix3 i0 i1 (ch i2 i3)) :=
  (val_main_v263_apply _ _ _ _ _ _).trans (congrArg (val_main_v262 (F := Ideal) A.a0 A.a2 A.a3 A.a4 A.a5) (ix3_ext (by show (((i0.val * 8192 + i1.val) * 8 + i2.val) * 128 + i3.val) / 8388608 = i0.val; omega) (by show (((i0.val * 8192 + i1.val) * 8 + i2.val) * 128 + i3.val) / 1024 % 8192 = i1.val; omega) (by show (((i0.val * 8192 + i1.val) * 8 + i2.val) * 128 + i3.val) % 1024 = 128 * i2.val + i3.val; omega)))

/-- Operation 264 at an index: a sum over one axis. -/
theorem v264 (b : Fin 8) (t : Fin 8192) (c : Fin 8) : val_main_v264 (F := Ideal) A.a0 A.a2 A.a3 A.a4 A.a5 (ix3 b t c) = ∑ k : Fin 128, val_main_v263 (F := Ideal) A.a0 A.a2 A.a3 A.a4 A.a5 (ix4 b t c k) :=
  (val_main_v264_apply _ _ _ _ _ _).trans ((congrArg₂ (· + ·) Ideal.ofBits_zero_f32 (Finset.sum_congr rfl fun k _ => congrArg (val_main_v263 (F := Ideal) A.a0 A.a2 A.a3 A.a4 A.a5) (ix4_ext rfl rfl rfl rfl))).trans (zero_add _))

/-- Operation 265 at an index: an entry of its operand. -/
theorem v265 (i0 : Fin 8) (i1 : Fin 8192) (i2 : Fin 8) : val_main_v265 (F := Ideal) A.a0 A.a2 A.a3 A.a4 A.a5 (ix4 i0 i1 i2 0) = val_main_v264 (F := Ideal) A.a0 A.a2 A.a3 A.a4 A.a5 (ix3 i0 i1 i2) :=
  (val_main_v265_apply _ _ _ _ _ _).trans (congrArg (val_main_v264 (F := Ideal) A.a0 A.a2 A.a3 A.a4 A.a5) (ix3_ext rfl rfl rfl))

/-- Operation 266 at an index: a constant. -/
theorem v266 (i : S8x8192x8x1.Idx) : val_main_v266 (F := Ideal) i = Ideal.ofBits .f32 0x43000000#32 := (val_main_v266_apply i).trans rfl

/-- Operation 267 at an index: a quotient. -/
theorem v267 (i : S8x8192x8x1.Idx) : val_main_v267 (F := Ideal) A.a0 A.a2 A.a3 A.a4 A.a5 i = Ideal.div (val_main_v265 (F := Ideal) A.a0 A.a2 A.a3 A.a4 A.a5 i) (val_main_v266 (F := Ideal) i) :=
  divf_at (val_main_v265 (F := Ideal) A.a0 A.a2 A.a3 A.a4 A.a5) (val_main_v266 (F := Ideal)) i

/-- Operation 268 at an index: an entry of its operand. -/
theorem v268 (i0 : Fin 8) (i1 : Fin 8192) (i2 : Fin 8) (i3 : Fin 128) : val_main_v268 (F := Ideal) A.a0 A.a2 A.a3 A.a4 A.a5 (ix4 i0 i1 i2 i3) = val_main_v267 (F := Ideal) A.a0 A.a2 A.a3 A.a4 A.a5 (ix4 i0 i1 i2 0) :=
  (val_main_v268_apply _ _ _ _ _ _).trans (congrArg (val_main_v267 (F := Ideal) A.a0 A.a2 A.a3 A.a4 A.a5) (ix4_ext rfl rfl rfl rfl))

/-- Operation 269 at an index: a difference. -/
theorem v269 (i : S8x8192x8x128.Idx) : val_main_v269 (F := Ideal) A.a0 A.a2 A.a3 A.a4 A.a5 i = val_main_v263 (F := Ideal) A.a0 A.a2 A.a3 A.a4 A.a5 i - val_main_v268 (F := Ideal) A.a0 A.a2 A.a3 A.a4 A.a5 i :=
  subf_at (val_main_v263 (F := Ideal) A.a0 A.a2 A.a3 A.a4 A.a5) (val_main_v268 (F := Ideal) A.a0 A.a2 A.a3 A.a4 A.a5) i

/-- Operation 270 at an index: a product. -/
theorem v270 (i : S8x8192x8x128.Idx) : val_main_v270 (F := Ideal) A.a0 A.a2 A.a3 A.a4 A.a5 i = val_main_v269 (F := Ideal) A.a0 A.a2 A.a3 A.a4 A.a5 i * val_main_v269 (F := Ideal) A.a0 A.a2 A.a3 A.a4 A.a5 i :=
  mulf_at (val_main_v269 (F := Ideal) A.a0 A.a2 A.a3 A.a4 A.a5) (val_main_v269 (F := Ideal) A.a0 A.a2 A.a3 A.a4 A.a5) i

/-- Operation 271 at an index: a sum over one axis. -/
theorem v271 (b : Fin 8) (t : Fin 8192) (c : Fin 8) : val_main_v271 (F := Ideal) A.a0 A.a2 A.a3 A.a4 A.a5 (ix3 b t c) = ∑ k : Fin 128, val_main_v270 (F := Ideal) A.a0 A.a2 A.a3 A.a4 A.a5 (ix4 b t c k) :=
  (val_main_v271_apply _ _ _ _ _ _).trans ((congrArg₂ (· + ·) Ideal.ofBits_zero_f32 (Finset.sum_congr rfl fun k _ => congrArg (val_main_v270 (F := Ideal) A.a0 A.a2 A.a3 A.a4 A.a5) (ix4_ext rfl rfl rfl rfl))).trans (zero_add _))

/-- Operation 272 at an index: an entry of its operand. -/
theorem v272 (i0 : Fin 8) (i1 : Fin 8192) (i2 : Fin 8) : val_main_v272 (F := Ideal) A.a0 A.a2 A.a3 A.a4 A.a5 (ix4 i0 i1 i2 0) = val_main_v271 (F := Ideal) A.a0 A.a2 A.a3 A.a4 A.a5 (ix3 i0 i1 i2) :=
  (val_main_v272_apply _ _ _ _ _ _).trans (congrArg (val_main_v271 (F := Ideal) A.a0 A.a2 A.a3 A.a4 A.a5) (ix3_ext rfl rfl rfl))

/-- Operation 273 at an index: a constant. -/
theorem v273 (i : S8x8192x8x1.Idx) : val_main_v273 (F := Ideal) i = Ideal.ofBits .f32 0x43000000#32 := (val_main_v273_apply i).trans rfl

/-- Operation 274 at an index: a quotient. -/
theorem v274 (i : S8x8192x8x1.Idx) : val_main_v274 (F := Ideal) A.a0 A.a2 A.a3 A.a4 A.a5 i = Ideal.div (val_main_v272 (F := Ideal) A.a0 A.a2 A.a3 A.a4 A.a5 i) (val_main_v273 (F := Ideal) i) :=
  divf_at (val_main_v272 (F := Ideal) A.a0 A.a2 A.a3 A.a4 A.a5) (val_main_v273 (F := Ideal)) i

/-- Operation 275 at an index: an entry of its operand. -/
theorem v275 (i0 : Fin 8) (i1 : Fin 8192) (i2 : Fin 8) (i3 : Fin 128) : val_main_v275 (F := Ideal) A.a0 A.a2 A.a3 A.a4 A.a5 (ix4 i0 i1 i2 i3) = val_main_v267 (F := Ideal) A.a0 A.a2 A.a3 A.a4 A.a5 (ix4 i0 i1 i2 0) :=
  (val_main_v275_apply _ _ _ _ _ _).trans (congrArg (val_main_v267 (F := Ideal) A.a0 A.a2 A.a3 A.a4 A.a5) (ix4_ext rfl rfl rfl rfl))

/-- Operation 276 at an index: a difference. -/
theorem v276 (i : S8x8192x8x128.Idx) : val_main_v276 (F := Ideal) A.a0 A.a2 A.a3 A.a4 A.a5 i = val_main_v263 (F := Ideal) A.a0 A.a2 A.a3 A.a4 A.a5 i - val_main_v275 (F := Ideal) A.a0 A.a2 A.a3 A.a4 A.a5 i :=
  subf_at (val_main_v263 (F := Ideal) A.a0 A.a2 A.a3 A.a4 A.a5) (val_main_v275 (F := Ideal) A.a0 A.a2 A.a3 A.a4 A.a5) i

/-- Operation 277 at an index: a constant. -/
theorem v277 (i : S8x8192x8x1.Idx) : val_main_v277 (F := Ideal) i = Ideal.ofBits .f32 0x358637BD#32 := (val_main_v277_apply i).trans rfl

/-- Operation 278 at an index: a sum. -/
theorem v278 (i : S8x8192x8x1.Idx) : val_main_v278 (F := Ideal) A.a0 A.a2 A.a3 A.a4 A.a5 i = val_main_v274 (F := Ideal) A.a0 A.a2 A.a3 A.a4 A.a5 i + val_main_v277 (F := Ideal) i :=
  addf_at (val_main_v274 (F := Ideal) A.a0 A.a2 A.a3 A.a4 A.a5) (val_main_v277 (F := Ideal)) i

/-- Operation 279 at an index: a reciprocal root. -/
theorem v279 (i : S8x8192x8x1.Idx) : val_main_v279 (F := Ideal) A.a0 A.a2 A.a3 A.a4 A.a5 i = Ideal.rsqrt (val_main_v278 (F := Ideal) A.a0 A.a2 A.a3 A.a4 A.a5 i) :=
  rsqrt_at (val_main_v278 (F := Ideal) A.a0 A.a2 A.a3 A.a4 A.a5) i

/-- Operation 280 at an index: an entry of its operand. -/
theorem v280 (i0 : Fin 8) (i1 : Fin 8192) (i2 : Fin 8) (i3 : Fin 128) : val_main_v280 (F := Ideal) A.a0 A.a2 A.a3 A.a4 A.a5 (ix4 i0 i1 i2 i3) = val_main_v279 (F := Ideal) A.a0 A.a2 A.a3 A.a4 A.a5 (ix4 i0 i1 i2 0) :=
  (val_main_v280_apply _ _ _ _ _ _).trans (congrArg (val_main_v279 (F := Ideal) A.a0 A.a2 A.a3 A.a4 A.a5) (ix4_ext rfl rfl rfl rfl))

/-- Operation 281 at an index: a product. -/
theorem v281 (i : S8x8192x8x128.Idx) : val_main_v281 (F := Ideal) A.a0 A.a2 A.a3 A.a4 A.a5 i = val_main_v276 (F := Ideal) A.a0 A.a2 A.a3 A.a4 A.a5 i * val_main_v280 (F := Ideal) A.a0 A.a2 A.a3 A.a4 A.a5 i :=
  mulf_at (val_main_v276 (F := Ideal) A.a0 A.a2 A.a3 A.a4 A.a5) (val_main_v280 (F := Ideal) A.a0 A.a2 A.a3 A.a4 A.a5) i

/-- Operation 282 at an index: an entry of its operand. -/
theorem v282 (b : Fin 8) (t : Fin 8192) (c : Fin 1024) : val_main_v282 (F := Ideal) A.a0 A.a2 A.a3 A.a4 A.a5 (ix3 b t c) = val_main_v281 (F := Ideal) A.a0 A.a2 A.a3 A.a4 A.a5 (ix4 b t (grp c) (lane c)) :=
  (val_main_v282_apply _ _ _ _ _ _).trans (congrArg (val_main_v281 (F := Ideal) A.a0 A.a2 A.a3 A.a4 A.a5) (ix4_ext (by show ((b.val * 8192 + t.val) * 1024 + c.val) / 8388608 = b.val; omega) (by show ((b.val * 8192 + t.val) * 1024 + c.val) / 1024 % 8192 = t.val; omega) (by show ((b.val * 8192 + t.val) * 1024 + c.val) / 128 % 8 = c.val / 128; omega) (by show ((b.val * 8192 + t.val) * 1024 + c.val) % 128 = c.val % 128; omega)))

/-- Operation 283 at an index: an entry of its operand. -/
theorem v283 (l : Fin 1024) : val_main_v283 (F := Ideal) A.a6 (ix1 l) = A.a6 (ix2 0 l) :=
  (val_main_v283_apply _ _).trans (congrArg (A.a6) (ix2_ext rfl (by show (l.val) % 1024 = l.val; omega)))

/-- Operation 284 at an index: an entry of its operand. -/
theorem v284 (c : Fin 1024) : val_main_v284 (F := Ideal) A.a6 (ix3 0 0 c) = val_main_v283 (F := Ideal) A.a6 (ix1 c) :=
  (val_main_v284_apply _ _).trans (congrArg (val_main_v283 (F := Ideal) A.a6) (ix1_ext rfl))

/-- Operation 285 at an index: an entry of its operand. -/
theorem v285 (b : Fin 8) (t : Fin 8192) (c : Fin 1024) : val_main_v285 (F := Ideal) A.a6 (ix3 b t c) = val_main_v284 (F := Ideal) A.a6 (ix3 0 0 c) :=
  (val_main_v285_apply _ _).trans (congrArg (val_main_v284 (F := Ideal) A.a6) (ix3_ext rfl rfl rfl))

/-- Operation 286 at an index: a product. -/
theorem v286 (i : S8x8192x1024.Idx) : val_main_v286 (F := Ideal) A.a0 A.a2 A.a3 A.a4 A.a5 A.a6 i = val_main_v282 (F := Ideal) A.a0 A.a2 A.a3 A.a4 A.a5 i * val_main_v285 (F := Ideal) A.a6 i :=
  mulf_at (val_main_v282 (F := Ideal) A.a0 A.a2 A.a3 A.a4 A.a5) (val_main_v285 (F := Ideal) A.a6) i

/-- Operation 287 at an index: an entry of its operand. -/
theorem v287 (l : Fin 1024) : val_main_v287 (F := Ideal) A.a7 (ix1 l) = A.a7 (ix2 0 l) :=
  (val_main_v287_apply _ _).trans (congrArg (A.a7) (ix2_ext rfl (by show (l.val) % 1024 = l.val; omega)))

/-- Operation 288 at an index: an entry of its operand. -/
theorem v288 (c : Fin 1024) : val_main_v288 (F := Ideal) A.a7 (ix3 0 0 c) = val_main_v287 (F := Ideal) A.a7 (ix1 c) :=
  (val_main_v288_apply _ _).trans (congrArg (val_main_v287 (F := Ideal) A.a7) (ix1_ext rfl))

/-- Operation 289 at an index: an entry of its operand. -/
theorem v289 (b : Fin 8) (t : Fin 8192) (c : Fin 1024) : val_main_v289 (F := Ideal) A.a7 (ix3 b t c) = val_main_v288 (F := Ideal) A.a7 (ix3 0 0 c) :=
  (val_main_v289_apply _ _).trans (congrArg (val_main_v288 (F := Ideal) A.a7) (ix3_ext rfl rfl rfl))

/-- Operation 290 at an index: a sum. -/
theorem v290 (i : S8x8192x1024.Idx) : val_main_v290 (F := Ideal) A.a0 A.a2 A.a3 A.a4 A.a5 A.a6 A.a7 i = val_main_v286 (F := Ideal) A.a0 A.a2 A.a3 A.a4 A.a5 A.a6 i + val_main_v289 (F := Ideal) A.a7 i :=
  addf_at (val_main_v286 (F := Ideal) A.a0 A.a2 A.a3 A.a4 A.a5 A.a6) (val_main_v289 (F := Ideal) A.a7) i

/-- Operation 291 at an index: a negation. -/
theorem v291 (i : S8x8192x1024.Idx) : val_main_v291 (F := Ideal) A.a0 A.a2 A.a3 A.a4 A.a5 A.a6 A.a7 i = -(val_main_v290 (F := Ideal) A.a0 A.a2 A.a3 A.a4 A.a5 A.a6 A.a7 i) :=
  negf_at (val_main_v290 (F := Ideal) A.a0 A.a2 A.a3 A.a4 A.a5 A.a6 A.a7) i

/-- Operation 292 at an index: an exponential. -/
theorem v292 (i : S8x8192x1024.Idx) : val_main_v292 (F := Ideal) A.a0 A.a2 A.a3 A.a4 A.a5 A.a6 A.a7 i = Ideal.exp (val_main_v291 (F := Ideal) A.a0 A.a2 A.a3 A.a4 A.a5 A.a6 A.a7 i) :=
  exp_at (val_main_v291 (F := Ideal) A.a0 A.a2 A.a3 A.a4 A.a5 A.a6 A.a7) i

/-- Operation 293 at an index: a constant. -/
theorem v293 (i : S8x8192x1024.Idx) : val_main_v293 (F := Ideal) i = Ideal.ofBits .f32 0x3F800000#32 := (val_main_v293_apply i).trans rfl

/-- Operation 294 at an index: a sum. -/
theorem v294 (i : S8x8192x1024.Idx) : val_main_v294 (F := Ideal) A.a0 A.a2 A.a3 A.a4 A.a5 A.a6 A.a7 i = val_main_v293 (F := Ideal) i + val_main_v292 (F := Ideal) A.a0 A.a2 A.a3 A.a4 A.a5 A.a6 A.a7 i :=
  addf_at (val_main_v293 (F := Ideal)) (val_main_v292 (F := Ideal) A.a0 A.a2 A.a3 A.a4 A.a5 A.a6 A.a7) i

/-- Operation 295 at an index: a constant. -/
theorem v295 (i : S8x8192x1024.Idx) : val_main_v295 (F := Ideal) i = Ideal.ofBits .f32 0x3F800000#32 := (val_main_v295_apply i).trans rfl

/-- Operation 296 at an index: a quotient. -/
theorem v296 (i : S8x8192x1024.Idx) : val_main_v296 (F := Ideal) A.a0 A.a2 A.a3 A.a4 A.a5 A.a6 A.a7 i = Ideal.div (val_main_v295 (F := Ideal) i) (val_main_v294 (F := Ideal) A.a0 A.a2 A.a3 A.a4 A.a5 A.a6 A.a7 i) :=
  divf_at (val_main_v295 (F := Ideal)) (val_main_v294 (F := Ideal) A.a0 A.a2 A.a3 A.a4 A.a5 A.a6 A.a7) i

/-- Operation 297 at an index: a product. -/
theorem v297 (i : S8x8192x1024.Idx) : val_main_v297 (F := Ideal) A.a0 A.a2 A.a3 A.a4 A.a5 A.a6 A.a7 i = val_main_v290 (F := Ideal) A.a0 A.a2 A.a3 A.a4 A.a5 A.a6 A.a7 i * val_main_v296 (F := Ideal) A.a0 A.a2 A.a3 A.a4 A.a5 A.a6 A.a7 i :=
  mulf_at (val_main_v290 (F := Ideal) A.a0 A.a2 A.a3 A.a4 A.a5 A.a6 A.a7) (val_main_v296 (F := Ideal) A.a0 A.a2 A.a3 A.a4 A.a5 A.a6 A.a7) i

/-- Operation 298 at an index: an entry of its operand. -/
theorem v298 (p : Fin 1024) (q : Fin 1024) : val_main_v298 (F := Ideal) A.a8 (ix2 p q) = A.a8 (ix3 0 p q) :=
  (val_main_v298_apply _ _).trans (congrArg (A.a8) (ix3_ext rfl (by show (p.val * 1024 + q.val) / 1024 % 1024 = p.val; omega) (by show (p.val * 1024 + q.val) % 1024 = q.val; omega)))

/-- Operation 299 at an index: a sum over one axis. -/
theorem v299 (b : Fin 8) (t : Fin 8192) (c : Fin 1024) : val_main_v299 (F := Ideal) A.a0 A.a2 A.a3 A.a4 A.a5 A.a6 A.a7 A.a8 (ix3 b t c) = ∑ k : Fin 1024, val_main_v297 (F := Ideal) A.a0 A.a2 A.a3 A.a4 A.a5 A.a6 A.a7 (ix3 b t k) * val_main_v298 (F := Ideal) A.a8 (ix2 k c) :=
  (val_main_v299_apply _ _ _ _ _ _ _ _ _).trans (Finset.sum_congr rfl fun k _ => congrArg₂ (· * ·) (congrArg (val_main_v297 (F := Ideal) A.a0 A.a2 A.a3 A.a4 A.a5 A.a6 A.a7) (ix3_ext rfl rfl rfl)) (congrArg (val_main_v298 (F := Ideal) A.a8) (ix2_ext rfl rfl)))

/-- Operation 300 at an index: an entry of its operand. -/
theorem v300 (l : Fin 1024) : val_main_v300 (F := Ideal) A.a9 (ix1 l) = A.a9 (ix2 0 l) :=
  (val_main_v300_apply _ _).trans (congrArg (A.a9) (ix2_ext rfl (by show (l.val) % 1024 = l.val; omega)))

/-- Operation 301 at an index: an entry of its operand. -/
theorem v301 (c : Fin 1024) : val_main_v301 (F := Ideal) A.a9 (ix3 0 0 c) = val_main_v300 (F := Ideal) A.a9 (ix1 c) :=
  (val_main_v301_apply _ _).trans (congrArg (val_main_v300 (F := Ideal) A.a9) (ix1_ext rfl))

/-- Operation 302 at an index: an entry of its operand. -/
theorem v302 (b : Fin 8) (t : Fin 8192) (c : Fin 1024) : val_main_v302 (F := Ideal) A.a9 (ix3 b t c) = val_main_v301 (F := Ideal) A.a9 (ix3 0 0 c) :=
  (val_main_v302_apply _ _).trans (congrArg (val_main_v301 (F := Ideal) A.a9) (ix3_ext rfl rfl rfl))

/-- Operation 303 at an index: a sum. -/
theorem v303 (i : S8x8192x1024.Idx) : val_main_v303 (F := Ideal) A.a0 A.a2 A.a3 A.a4 A.a5 A.a6 A.a7 A.a8 A.a9 i = val_main_v299 (F := Ideal) A.a0 A.a2 A.a3 A.a4 A.a5 A.a6 A.a7 A.a8 i + val_main_v302 (F := Ideal) A.a9 i :=
  addf_at (val_main_v299 (F := Ideal) A.a0 A.a2 A.a3 A.a4 A.a5 A.a6 A.a7 A.a8) (val_main_v302 (F := Ideal) A.a9) i

/-- Operation 304 at an index: a negation. -/
theorem v304 (i : S8x8192x1024.Idx) : val_main_v304 (F := Ideal) A.a0 A.a2 A.a3 i = -(val_main_v30 (F := Ideal) A.a0 A.a2 A.a3 i) :=
  negf_at (val_main_v30 (F := Ideal) A.a0 A.a2 A.a3) i

/-- Operation 305 at an index: an exponential. -/
theorem v305 (i : S8x8192x1024.Idx) : val_main_v305 (F := Ideal) A.a0 A.a2 A.a3 i = Ideal.exp (val_main_v304 (F := Ideal) A.a0 A.a2 A.a3 i) :=
  exp_at (val_main_v304 (F := Ideal) A.a0 A.a2 A.a3) i

/-- Operation 306 at an index: a constant. -/
theorem v306 (i : S8x8192x1024.Idx) : val_main_v306 (F := Ideal) i = Ideal.ofBits .f32 0x3F800000#32 := (val_main_v306_apply i).trans rfl

/-- Operation 307 at an index: a sum. -/
theorem v307 (i : S8x8192x1024.Idx) : val_main_v307 (F := Ideal) A.a0 A.a2 A.a3 i = val_main_v306 (F := Ideal) i + val_main_v305 (F := Ideal) A.a0 A.a2 A.a3 i :=
  addf_at (val_main_v306 (F := Ideal)) (val_main_v305 (F := Ideal) A.a0 A.a2 A.a3) i

/-- Operation 308 at an index: a constant. -/
theorem v308 (i : S8x8192x1024.Idx) : val_main_v308 (F := Ideal) i = Ideal.ofBits .f32 0x3F800000#32 := (val_main_v308_apply i).trans rfl

/-- Operation 309 at an index: a quotient. -/
theorem v309 (i : S8x8192x1024.Idx) : val_main_v309 (F := Ideal) A.a0 A.a2 A.a3 i = Ideal.div (val_main_v308 (F := Ideal) i) (val_main_v307 (F := Ideal) A.a0 A.a2 A.a3 i) :=
  divf_at (val_main_v308 (F := Ideal)) (val_main_v307 (F := Ideal) A.a0 A.a2 A.a3) i

/-- Operation 310 at an index: a product. -/
theorem v310 (i : S8x8192x1024.Idx) : val_main_v310 (F := Ideal) A.a0 A.a2 A.a3 i = val_main_v30 (F := Ideal) A.a0 A.a2 A.a3 i * val_main_v309 (F := Ideal) A.a0 A.a2 A.a3 i :=
  mulf_at (val_main_v30 (F := Ideal) A.a0 A.a2 A.a3) (val_main_v309 (F := Ideal) A.a0 A.a2 A.a3) i

/-- Operation 311 at an index: a product. -/
theorem v311 (i : S8x8192x1024.Idx) : val_main_v311 (F := Ideal) A.a0 A.a2 A.a3 A.a4 A.a5 A.a6 A.a7 A.a8 A.a9 i = val_main_v303 (F := Ideal) A.a0 A.a2 A.a3 A.a4 A.a5 A.a6 A.a7 A.a8 A.a9 i * val_main_v310 (F := Ideal) A.a0 A.a2 A.a3 i :=
  mulf_at (val_main_v303 (F := Ideal) A.a0 A.a2 A.a3 A.a4 A.a5 A.a6 A.a7 A.a8 A.a9) (val_main_v310 (F := Ideal) A.a0 A.a2 A.a3) i

/-- Operation 312 at an index: an entry of its operand. -/
theorem v312 (q : Fin 1024) : val_main_v312 (F := Ideal) A.a10 (ix2 0 q) = val_main_v11 (F := Ideal) A.a10 (ix2 0 q) :=
  (val_main_v312_apply _ _).trans (congrArg (val_main_v11 (F := Ideal) A.a10) (ix2_ext rfl rfl))

/-- Operation 313 at an index: an entry of its operand. -/
theorem v313 (l : Fin 1024) : val_main_v313 (F := Ideal) A.a10 (ix1 l) = val_main_v312 (F := Ideal) A.a10 (ix2 0 l) :=
  (val_main_v313_apply _ _).trans (congrArg (val_main_v312 (F := Ideal) A.a10) (ix2_ext rfl (by show (l.val) % 1024 = l.val; omega)))

/-- Operation 314 at an index: a constant. -/
theorem v314 (i : S1024.Idx) : val_main_v314 (F := Ideal) i = Ideal.ofBits .f32 0x3F800000#32 := (val_main_v314_apply i).trans rfl

/-- Operation 315 at an index: a difference. -/
theorem v315 (i : S1024.Idx) : val_main_v315 (F := Ideal) A.a10 i = val_main_v314 (F := Ideal) i - val_main_v313 (F := Ideal) A.a10 i :=
  subf_at (val_main_v314 (F := Ideal)) (val_main_v313 (F := Ideal) A.a10) i

/-- Operation 316 at an index: a negation. -/
theorem v316 (i : S8x8192x1024.Idx) : val_main_v316 (F := Ideal) A.a0 A.a2 A.a3 i = -(val_main_v32 (F := Ideal) A.a0 A.a2 A.a3 i) :=
  negf_at (val_main_v32 (F := Ideal) A.a0 A.a2 A.a3) i

/-- Operation 317 at an index: an exponential. -/
theorem v317 (i : S8x8192x1024.Idx) : val_main_v317 (F := Ideal) A.a0 A.a2 A.a3 i = Ideal.exp (val_main_v316 (F := Ideal) A.a0 A.a2 A.a3 i) :=
  exp_at (val_main_v316 (F := Ideal) A.a0 A.a2 A.a3) i

/-- Operation 318 at an index: a constant. -/
theorem v318 (i : S8x8192x1024.Idx) : val_main_v318 (F := Ideal) i = Ideal.ofBits .f32 0x3F800000#32 := (val_main_v318_apply i).trans rfl

/-- Operation 319 at an index: a sum. -/
theorem v319 (i : S8x8192x1024.Idx) : val_main_v319 (F := Ideal) A.a0 A.a2 A.a3 i = val_main_v318 (F := Ideal) i + val_main_v317 (F := Ideal) A.a0 A.a2 A.a3 i :=
  addf_at (val_main_v318 (F := Ideal)) (val_main_v317 (F := Ideal) A.a0 A.a2 A.a3) i

/-- Operation 320 at an index: a constant. -/
theorem v320 (i : S8x8192x1024.Idx) : val_main_v320 (F := Ideal) i = Ideal.ofBits .f32 0x3F800000#32 := (val_main_v320_apply i).trans rfl

/-- Operation 321 at an index: a quotient. -/
theorem v321 (i : S8x8192x1024.Idx) : val_main_v321 (F := Ideal) A.a0 A.a2 A.a3 i = Ideal.div (val_main_v320 (F := Ideal) i) (val_main_v319 (F := Ideal) A.a0 A.a2 A.a3 i) :=
  divf_at (val_main_v320 (F := Ideal)) (val_main_v319 (F := Ideal) A.a0 A.a2 A.a3) i

/-- Operation 322 at an index: an entry of its operand. -/
theorem v322 (c : Fin 1024) : val_main_v322 (F := Ideal) A.a10 (ix3 0 0 c) = val_main_v315 (F := Ideal) A.a10 (ix1 c) :=
  (val_main_v322_apply _ _).trans (congrArg (val_main_v315 (F := Ideal) A.a10) (ix1_ext rfl))

/-- Operation 323 at an index: an entry of its operand. -/
theorem v323 (b : Fin 8) (t : Fin 8192) (c : Fin 1024) : val_main_v323 (F := Ideal) A.a10 (ix3 b t c) = val_main_v322 (F := Ideal) A.a10 (ix3 0 0 c) :=
  (val_main_v323_apply _ _).trans (congrArg (val_main_v322 (F := Ideal) A.a10) (ix3_ext rfl rfl rfl))

/-- Operation 324 at an index: a product. -/
theorem v324 (i : S8x8192x1024.Idx) : val_main_v324 (F := Ideal) A.a0 A.a2 A.a3 A.a10 i = val_main_v323 (F := Ideal) A.a10 i * val_main_v321 (F := Ideal) A.a0 A.a2 A.a3 i :=
  mulf_at (val_main_v323 (F := Ideal) A.a10) (val_main_v321 (F := Ideal) A.a0 A.a2 A.a3) i

/-- Operation 325 at an index: an entry of its operand. -/
theorem v325 (c : Fin 1024) : val_main_v325 (F := Ideal) A.a10 (ix3 0 0 c) = val_main_v313 (F := Ideal) A.a10 (ix1 c) :=
  (val_main_v325_apply _ _).trans (congrArg (val_main_v313 (F := Ideal) A.a10) (ix1_ext rfl))

/-- Operation 326 at an index: an entry of its operand. -/
theorem v326 (b : Fin 8) (t : Fin 8192) (c : Fin 1024) : val_main_v326 (F := Ideal) A.a10 (ix3 b t c) = val_main_v325 (F := Ideal) A.a10 (ix3 0 0 c) :=
  (val_main_v326_apply _ _).trans (congrArg (val_main_v325 (F := Ideal) A.a10) (ix3_ext rfl rfl rfl))

/-- Operation 327 at an index: a sum. -/
theorem v327 (i : S8x8192x1024.Idx) : val_main_v327 (F := Ideal) A.a0 A.a2 A.a3 A.a10 i = val_main_v326 (F := Ideal) A.a10 i + val_main_v324 (F := Ideal) A.a0 A.a2 A.a3 A.a10 i :=
  addf_at (val_main_v326 (F := Ideal) A.a10) (val_main_v324 (F := Ideal) A.a0 A.a2 A.a3 A.a10) i

/-- Operation 328 at an index: a constant. -/
theorem v328 (i : S1024.Idx) : val_main_v328 (F := Ideal) i = Ideal.ofBits .f32 0x3F800000#32 := (val_main_v328_apply i).trans rfl

/-- Operation 329 at an index: a difference. -/
theorem v329 (i : S1024.Idx) : val_main_v329 (F := Ideal) A.a10 i = val_main_v328 (F := Ideal) i - val_main_v313 (F := Ideal) A.a10 i :=
  subf_at (val_main_v328 (F := Ideal)) (val_main_v313 (F := Ideal) A.a10) i

/-- Operation 330 at an index: a negation. -/
theorem v330 (i : S8x8192x1024.Idx) : val_main_v330 (F := Ideal) A.a0 A.a2 A.a3 i = -(val_main_v32 (F := Ideal) A.a0 A.a2 A.a3 i) :=
  negf_at (val_main_v32 (F := Ideal) A.a0 A.a2 A.a3) i

/-- Operation 331 at an index: a negation. -/
theorem v331 (i : S8x8192x1024.Idx) : val_main_v331 (F := Ideal) A.a0 A.a2 A.a3 i = -(val_main_v330 (F := Ideal) A.a0 A.a2 A.a3 i) :=
  negf_at (val_main_v330 (F := Ideal) A.a0 A.a2 A.a3) i

/-- Operation 332 at an index: an exponential. -/
theorem v332 (i : S8x8192x1024.Idx) : val_main_v332 (F := Ideal) A.a0 A.a2 A.a3 i = Ideal.exp (val_main_v331 (F := Ideal) A.a0 A.a2 A.a3 i) :=
  exp_at (val_main_v331 (F := Ideal) A.a0 A.a2 A.a3) i

/-- Operation 333 at an index: a constant. -/
theorem v333 (i : S8x8192x1024.Idx) : val_main_v333 (F := Ideal) i = Ideal.ofBits .f32 0x3F800000#32 := (val_main_v333_apply i).trans rfl

/-- Operation 334 at an index: a sum. -/
theorem v334 (i : S8x8192x1024.Idx) : val_main_v334 (F := Ideal) A.a0 A.a2 A.a3 i = val_main_v333 (F := Ideal) i + val_main_v332 (F := Ideal) A.a0 A.a2 A.a3 i :=
  addf_at (val_main_v333 (F := Ideal)) (val_main_v332 (F := Ideal) A.a0 A.a2 A.a3) i

/-- Operation 335 at an index: a constant. -/
theorem v335 (i : S8x8192x1024.Idx) : val_main_v335 (F := Ideal) i = Ideal.ofBits .f32 0x3F800000#32 := (val_main_v335_apply i).trans rfl

/-- Operation 336 at an index: a quotient. -/
theorem v336 (i : S8x8192x1024.Idx) : val_main_v336 (F := Ideal) A.a0 A.a2 A.a3 i = Ideal.div (val_main_v335 (F := Ideal) i) (val_main_v334 (F := Ideal) A.a0 A.a2 A.a3 i) :=
  divf_at (val_main_v335 (F := Ideal)) (val_main_v334 (F := Ideal) A.a0 A.a2 A.a3) i

/-- Operation 337 at an index: an entry of its operand. -/
theorem v337 (c : Fin 1024) : val_main_v337 (F := Ideal) A.a10 (ix3 0 0 c) = val_main_v329 (F := Ideal) A.a10 (ix1 c) :=
  (val_main_v337_apply _ _).trans (congrArg (val_main_v329 (F := Ideal) A.a10) (ix1_ext rfl))

/-- Operation 338 at an index: an entry of its operand. -/
theorem v338 (b : Fin 8) (t : Fin 8192) (c : Fin 1024) : val_main_v338 (F := Ideal) A.a10 (ix3 b t c) = val_main_v337 (F := Ideal) A.a10 (ix3 0 0 c) :=
  (val_main_v338_apply _ _).trans (congrArg (val_main_v337 (F := Ideal) A.a10) (ix3_ext rfl rfl rfl))

/-- Operation 339 at an index: a product. -/
theorem v339 (i : S8x8192x1024.Idx) : val_main_v339 (F := Ideal) A.a0 A.a2 A.a3 A.a10 i = val_main_v338 (F := Ideal) A.a10 i * val_main_v336 (F := Ideal) A.a0 A.a2 A.a3 i :=
  mulf_at (val_main_v338 (F := Ideal) A.a10) (val_main_v336 (F := Ideal) A.a0 A.a2 A.a3) i

/-- Operation 340 at an index: a negation. -/
theorem v340 (i : S8x8192x1024.Idx) : val_main_v340 (F := Ideal) A.a0 A.a2 A.a3 i = -(val_main_v31 (F := Ideal) A.a0 A.a2 A.a3 i) :=
  negf_at (val_main_v31 (F := Ideal) A.a0 A.a2 A.a3) i

/-- Operation 341 at an index: an exponential. -/
theorem v341 (i : S8x8192x1024.Idx) : val_main_v341 (F := Ideal) A.a0 A.a2 A.a3 i = Ideal.exp (val_main_v340 (F := Ideal) A.a0 A.a2 A.a3 i) :=
  exp_at (val_main_v340 (F := Ideal) A.a0 A.a2 A.a3) i

/-- Operation 342 at an index: a constant. -/
theorem v342 (i : S8x8192x1024.Idx) : val_main_v342 (F := Ideal) i = Ideal.ofBits .f32 0x3F800000#32 := (val_main_v342_apply i).trans rfl

/-- Operation 343 at an index: a sum. -/
theorem v343 (i : S8x8192x1024.Idx) : val_main_v343 (F := Ideal) A.a0 A.a2 A.a3 i = val_main_v342 (F := Ideal) i + val_main_v341 (F := Ideal) A.a0 A.a2 A.a3 i :=
  addf_at (val_main_v342 (F := Ideal)) (val_main_v341 (F := Ideal) A.a0 A.a2 A.a3) i

/-- Operation 344 at an index: a constant. -/
theorem v344 (i : S8x8192x1024.Idx) : val_main_v344 (F := Ideal) i = Ideal.ofBits .f32 0x3F800000#32 := (val_main_v344_apply i).trans rfl

/-- Operation 345 at an index: a quotient. -/
theorem v345 (i : S8x8192x1024.Idx) : val_main_v345 (F := Ideal) A.a0 A.a2 A.a3 i = Ideal.div (val_main_v344 (F := Ideal) i) (val_main_v343 (F := Ideal) A.a0 A.a2 A.a3 i) :=
  divf_at (val_main_v344 (F := Ideal)) (val_main_v343 (F := Ideal) A.a0 A.a2 A.a3) i

/-- Operation 346 at an index: a product. -/
theorem v346 (i : S8x8192x1024.Idx) : val_main_v346 (F := Ideal) A.a0 A.a2 A.a3 i = val_main_v31 (F := Ideal) A.a0 A.a2 A.a3 i * val_main_v345 (F := Ideal) A.a0 A.a2 A.a3 i :=
  mulf_at (val_main_v31 (F := Ideal) A.a0 A.a2 A.a3) (val_main_v345 (F := Ideal) A.a0 A.a2 A.a3) i

/-- Operation 347 at an index: an entry of its operand. -/
theorem v347 (i0 : Fin 8) (i1 : Fin 8192) (i2 : Fin 8) (i3 : Fin 128) : val_main_v347 (F := Ideal) A.a0 A.a2 A.a3 (ix4 i0 i1 i2 i3) = val_main_v346 (F := Ideal) A.a0 A.a2 A.a3 (ix3 i0 i1 (ch i2 i3)) :=
  (val_main_v347_apply _ _ _ _).trans (congrArg (val_main_v346 (F := Ideal) A.a0 A.a2 A.a3) (ix3_ext (by show (((i0.val * 8192 + i1.val) * 8 + i2.val) * 128 + i3.val) / 8388608 = i0.val; omega) (by show (((i0.val * 8192 + i1.val) * 8 + i2.val) * 128 + i3.val) / 1024 % 8192 = i1.val; omega) (by show (((i0.val * 8192 + i1.val) * 8 + i2.val) * 128 + i3.val) % 1024 = 128 * i2.val + i3.val; omega)))

/-- Operation 348 at an index: an entry of its operand. -/
theorem v348 (i0 : Fin 8) (i1 : Fin 8) (i2 : Fin 8192) (i3 : Fin 128) : val_main_v348 (F := Ideal) A.a0 A.a2 A.a3 (ix4 i0 i1 i2 i3) = val_main_v347 (F := Ideal) A.a0 A.a2 A.a3 (ix4 i0 i2 i1 i3) :=
  (val_main_v348_apply _ _ _ _).trans (congrArg (val_main_v347 (F := Ideal) A.a0 A.a2 A.a3) (ix4_ext rfl rfl rfl rfl))

/-- Operation 349 at an index: an entry of its operand. -/
theorem v349 (i0 : Fin 8) (i1 : Fin 8192) (i2 : Fin 8) (i3 : Fin 128) : val_main_v349 (F := Ideal) A.a0 A.a2 A.a3 A.a10 (ix4 i0 i1 i2 i3) = val_main_v339 (F := Ideal) A.a0 A.a2 A.a3 A.a10 (ix3 i0 i1 (ch i2 i3)) :=
  (val_main_v349_apply _ _ _ _ _).trans (congrArg (val_main_v339 (F := Ideal) A.a0 A.a2 A.a3 A.a10) (ix3_ext (by show (((i0.val * 8192 + i1.val) * 8 + i2.val) * 128 + i3.val) / 8388608 = i0.val; omega) (by show (((i0.val * 8192 + i1.val) * 8 + i2.val) * 128 + i3.val) / 1024 % 8192 = i1.val; omega) (by show (((i0.val * 8192 + i1.val) * 8 + i2.val) * 128 + i3.val) % 1024 = 128 * i2.val + i3.val; omega)))

/-- Operation 350 at an index: an entry of its operand. -/
theorem v350 (i0 : Fin 8) (i1 : Fin 8) (i2 : Fin 8192) (i3 : Fin 128) : val_main_v350 (F := Ideal) A.a0 A.a2 A.a3 A.a10 (ix4 i0 i1 i2 i3) = val_main_v349 (F := Ideal) A.a0 A.a2 A.a3 A.a10 (ix4 i0 i2 i1 i3) :=
  (val_main_v350_apply _ _ _ _ _).trans (congrArg (val_main_v349 (F := Ideal) A.a0 A.a2 A.a3 A.a10) (ix4_ext rfl rfl rfl rfl))

/-- Operation 351 at an index: an entry of its operand. -/
theorem v351 (i0 : Fin 8) (i1 : Fin 8192) (i2 : Fin 8) (i3 : Fin 128) : val_main_v351 (F := Ideal) A.a0 A.a2 A.a3 (ix4 i0 i1 i2 i3) = val_main_v33 (F := Ideal) A.a0 A.a2 A.a3 (ix3 i0 i1 (ch i2 i3)) :=
  (val_main_v351_apply _ _ _ _).trans (congrArg (val_main_v33 (F := Ideal) A.a0 A.a2 A.a3) (ix3_ext (by show (((i0.val * 8192 + i1.val) * 8 + i2.val) * 128 + i3.val) / 8388608 = i0.val; omega) (by show (((i0.val * 8192 + i1.val) * 8 + i2.val) * 128 + i3.val) / 1024 % 8192 = i1.val; omega) (by show (((i0.val * 8192 + i1.val) * 8 + i2.val) * 128 + i3.val) % 1024 = 128 * i2.val + i3.val; omega)))

/-- Operation 352 at an index: an entry of its operand. -/
theorem v352 (i0 : Fin 8) (i1 : Fin 8) (i2 : Fin 8192) (i3 : Fin 128) : val_main_v352 (F := Ideal) A.a0 A.a2 A.a3 (ix4 i0 i1 i2 i3) = val_main_v351 (F := Ideal) A.a0 A.a2 A.a3 (ix4 i0 i2 i1 i3) :=
  (val_main_v352_apply _ _ _ _).trans (congrArg (val_main_v351 (F := Ideal) A.a0 A.a2 A.a3) (ix4_ext rfl rfl rfl rfl))

/-- Operation 353 at an index: a logarithm. -/
theorem v353 (i : S8x8192x1024.Idx) : val_main_v353 (F := Ideal) A.a0 A.a2 A.a3 A.a10 i = Ideal.log (val_main_v327 (F := Ideal) A.a0 A.a2 A.a3 A.a10 i) :=
  log_at (val_main_v327 (F := Ideal) A.a0 A.a2 A.a3 A.a10) i

/-- Operation 354 at an index: an entry of its operand. -/
theorem v354 (i0 : Fin 8) (i1 : Fin 8192) (i2 : Fin 8) (i3 : Fin 128) : val_main_v354 (F := Ideal) A.a0 A.a2 A.a3 A.a10 (ix4 i0 i1 i2 i3) = val_main_v353 (F := Ideal) A.a0 A.a2 A.a3 A.a10 (ix3 i0 i1 (ch i2 i3)) :=
  (val_main_v354_apply _ _ _ _ _).trans (congrArg (val_main_v353 (F := Ideal) A.a0 A.a2 A.a3 A.a10) (ix3_ext (by show (((i0.val * 8192 + i1.val) * 8 + i2.val) * 128 + i3.val) / 8388608 = i0.val; omega) (by show (((i0.val * 8192 + i1.val) * 8 + i2.val) * 128 + i3.val) / 1024 % 8192 = i1.val; omega) (by show (((i0.val * 8192 + i1.val) * 8 + i2.val) * 128 + i3.val) % 1024 = 128 * i2.val + i3.val; omega)))

/-- Operation 355 at an index: an entry of its operand. -/
theorem v355 (i0 : Fin 8) (i1 : Fin 8) (i2 : Fin 8192) (i3 : Fin 128) : val_main_v355 (F := Ideal) A.a0 A.a2 A.a3 A.a10 (ix4 i0 i1 i2 i3) = val_main_v354 (F := Ideal) A.a0 A.a2 A.a3 A.a10 (ix4 i0 i2 i1 i3) :=
  (val_main_v355_apply _ _ _ _ _).trans (congrArg (val_main_v354 (F := Ideal) A.a0 A.a2 A.a3 A.a10) (ix4_ext rfl rfl rfl rfl))

/-- Operation 364 at an index: an entry of its operand. -/
theorem v364 (i0 : Fin 8) (i1 : Fin 8) (i2 : Fin 8192) (i4 : Fin 128) : val_main_v364 (F := Ideal) A.a0 A.a2 A.a3 A.a10 (ix5 i0 i1 i2 0 i4) = val_main_v356 (F := Ideal) A.a0 A.a2 A.a3 A.a10 (ix4 i0 i1 i2 i4) :=
  (val_main_v364_apply _ _ _ _ _).trans (congrArg (val_main_v356 (F := Ideal) A.a0 A.a2 A.a3 A.a10) (ix4_ext rfl rfl rfl rfl))

/-- Operation 365 at an index: an entry of its operand. -/
theorem v365 (i0 : Fin 8) (i1 : Fin 8) (i3 : Fin 8192) (i4 : Fin 128) : val_main_v365 (F := Ideal) A.a0 A.a2 A.a3 A.a10 (ix5 i0 i1 0 i3 i4) = val_main_v356 (F := Ideal) A.a0 A.a2 A.a3 A.a10 (ix4 i0 i1 i3 i4) :=
  (val_main_v365_apply _ _ _ _ _).trans (congrArg (val_main_v356 (F := Ideal) A.a0 A.a2 A.a3 A.a10) (ix4_ext rfl rfl rfl rfl))

/-- Operation 366 at an index: an entry of its operand. -/
theorem v366 (i0 : Fin 8) (i1 : Fin 8) (i2 : Fin 8192) (i3 : Fin 8192) (i4 : Fin 128) : val_main_v366 (F := Ideal) A.a0 A.a2 A.a3 A.a10 (ix5 i0 i1 i2 i3 i4) = val_main_v364 (F := Ideal) A.a0 A.a2 A.a3 A.a10 (ix5 i0 i1 i2 0 i4) :=
  (val_main_v366_apply _ _ _ _ _).trans (congrArg (val_main_v364 (F := Ideal) A.a0 A.a2 A.a3 A.a10) (ix5_ext rfl rfl rfl rfl rfl))

/-- Operation 367 at an index: an entry of its operand. -/
theorem v367 (i0 : Fin 8) (i1 : Fin 8) (i2 : Fin 8192) (i3 : Fin 8192) (i4 : Fin 128) : val_main_v367 (F := Ideal) A.a0 A.a2 A.a3 A.a10 (ix5 i0 i1 i2 i3 i4) = val_main_v365 (F := Ideal) A.a0 A.a2 A.a3 A.a10 (ix5 i0 i1 0 i3 i4) :=
  (val_main_v367_apply _ _ _ _ _).trans (congrArg (val_main_v365 (F := Ideal) A.a0 A.a2 A.a3 A.a10) (ix5_ext rfl rfl rfl rfl rfl))

/-- Operation 368 at an index: a difference. -/
theorem v368 (i : S8x8x8192x8192x128.Idx) : val_main_v368 (F := Ideal) A.a0 A.a2 A.a3 A.a10 i = val_main_v366 (F := Ideal) A.a0 A.a2 A.a3 A.a10 i - val_main_v367 (F := Ideal) A.a0 A.a2 A.a3 A.a10 i :=
  subf_at (val_main_v366 (F := Ideal) A.a0 A.a2 A.a3 A.a10) (val_main_v367 (F := Ideal) A.a0 A.a2 A.a3 A.a10) i

/-- Operation 370 at an index: an exponential. -/
theorem v370 (i : S8x8x8192x8192x128.Idx) : val_main_v370 (F := Ideal) A.a0 A.a2 A.a3 A.a10 i = Ideal.exp (val_main_v369 (F := Ideal) A.a0 A.a2 A.a3 A.a10 i) :=
  exp_at (val_main_v369 (F := Ideal) A.a0 A.a2 A.a3 A.a10) i

/-- Operation 371 at an index: an entry of its operand. -/
theorem v371 (i0 : Fin 8) (i1 : Fin 8) (i2 : Fin 8192) (i4 : Fin 128) : val_main_v371 (F := Ideal) A.a0 A.a2 A.a3 (ix5 i0 i1 i2 0 i4) = val_main_v348 (F := Ideal) A.a0 A.a2 A.a3 (ix4 i0 i1 i2 i4) :=
  (val_main_v371_apply _ _ _ _).trans (congrArg (val_main_v348 (F := Ideal) A.a0 A.a2 A.a3) (ix4_ext rfl rfl rfl rfl))

/-- Operation 372 at an index: an entry of its operand. -/
theorem v372 (i0 : Fin 8) (i1 : Fin 8) (i2 : Fin 8192) (i3 : Fin 8192) (i4 : Fin 128) : val_main_v372 (F := Ideal) A.a0 A.a2 A.a3 (ix5 i0 i1 i2 i3 i4) = val_main_v371 (F := Ideal) A.a0 A.a2 A.a3 (ix5 i0 i1 i2 0 i4) :=
  (val_main_v372_apply _ _ _ _).trans (congrArg (val_main_v371 (F := Ideal) A.a0 A.a2 A.a3) (ix5_ext rfl rfl rfl rfl rfl))

/-- Operation 373 at an index: a product. -/
theorem v373 (i : S8x8x8192x8192x128.Idx) : val_main_v373 (F := Ideal) A.a0 A.a2 A.a3 A.a10 i = val_main_v372 (F := Ideal) A.a0 A.a2 A.a3 i * val_main_v370 (F := Ideal) A.a0 A.a2 A.a3 A.a10 i :=
  mulf_at (val_main_v372 (F := Ideal) A.a0 A.a2 A.a3) (val_main_v370 (F := Ideal) A.a0 A.a2 A.a3 A.a10) i

/-- Operation 374 at an index: a sum over one axis. -/
theorem v374 (i0 : Fin 8) (i1 : Fin 8) (i2 : Fin 8192) (i3 : Fin 8192) : val_main_v374 (F := Ideal) A.a0 A.a2 A.a3 A.a10 (ix4 i0 i1 i2 i3) = ∑ k : Fin 128, val_main_v350 (F := Ideal) A.a0 A.a2 A.a3 A.a10 (ix4 i0 i1 i2 k) * val_main_v373 (F := Ideal) A.a0 A.a2 A.a3 A.a10 (ix5 i0 i1 i3 i2 k) :=
  (val_main_v374_apply _ _ _ _ _).trans (Finset.sum_congr rfl fun k _ => congrArg₂ (· * ·) (congrArg (val_main_v350 (F := Ideal) A.a0 A.a2 A.a3 A.a10) (ix4_ext rfl rfl rfl rfl)) (congrArg (val_main_v373 (F := Ideal) A.a0 A.a2 A.a3 A.a10) (ix5_ext rfl rfl rfl rfl rfl)))

/-- Operation 375 at an index: an entry of its operand. -/
theorem v375 (i0 : Fin 8) (i1 : Fin 8) (i2 : Fin 8192) (i3 : Fin 8192) : val_main_v375 (F := Ideal) A.a0 A.a2 A.a3 A.a10 (ix4 i0 i1 i2 i3) = val_main_v374 (F := Ideal) A.a0 A.a2 A.a3 A.a10 (ix4 i0 i1 i3 i2) :=
  (val_main_v375_apply _ _ _ _ _).trans (congrArg (val_main_v374 (F := Ideal) A.a0 A.a2 A.a3 A.a10) (ix4_ext rfl rfl rfl rfl))

/-- Operation 376 at an index: a sum over one axis. -/
theorem v376 (i0 : Fin 8) (i1 : Fin 8) (i2 : Fin 8192) (i3 : Fin 128) : val_main_v376 (F := Ideal) A.a0 A.a2 A.a3 A.a10 (ix4 i0 i1 i2 i3) = ∑ k : Fin 8192, val_main_v375 (F := Ideal) A.a0 A.a2 A.a3 A.a10 (ix4 i0 i1 i2 k) * val_main_v352 (F := Ideal) A.a0 A.a2 A.a3 (ix4 i0 i1 k i3) :=
  (val_main_v376_apply _ _ _ _ _).trans (Finset.sum_congr rfl fun k _ => congrArg₂ (· * ·) (congrArg (val_main_v375 (F := Ideal) A.a0 A.a2 A.a3 A.a10) (ix4_ext rfl rfl rfl rfl)) (congrArg (val_main_v352 (F := Ideal) A.a0 A.a2 A.a3) (ix4_ext rfl rfl rfl rfl)))

/-- Operation 377 at an index: an entry of its operand. -/
theorem v377 (i0 : Fin 8) (i1 : Fin 8192) (i2 : Fin 8) (i3 : Fin 128) : val_main_v377 (F := Ideal) A.a0 A.a2 A.a3 A.a10 (ix4 i0 i1 i2 i3) = val_main_v376 (F := Ideal) A.a0 A.a2 A.a3 A.a10 (ix4 i0 i2 i1 i3) :=
  (val_main_v377_apply _ _ _ _ _).trans (congrArg (val_main_v376 (F := Ideal) A.a0 A.a2 A.a3 A.a10) (ix4_ext rfl rfl rfl rfl))

/-- Operation 378 at an index: an entry of its operand. -/
theorem v378 (l : Fin 1024) : val_main_v378 (F := Ideal) A.a11 (ix1 l) = A.a11 (ix2 0 l) :=
  (val_main_v378_apply _ _).trans (congrArg (A.a11) (ix2_ext rfl (by show (l.val) % 1024 = l.val; omega)))

/-- Operation 379 at an index: an entry of its operand. -/
theorem v379 (p : Fin 8) (q : Fin 128) : val_main_v379 (F := Ideal) A.a11 (ix2 p q) = val_main_v378 (F := Ideal) A.a11 (ix1 (ch p q)) :=
  (val_main_v379_apply _ _).trans (congrArg (val_main_v378 (F := Ideal) A.a11) (ix1_ext (by show p.val * 128 + q.val = 128 * p.val + q.val; omega)))

/-- Operation 380 at an index: a product. -/
theorem v380 (i : S8x8192x8x128.Idx) : val_main_v380 (F := Ideal) A.a0 A.a2 A.a3 A.a10 i = val_main_v377 (F := Ideal) A.a0 A.a2 A.a3 A.a10 i * val_main_v377 (F := Ideal) A.a0 A.a2 A.a3 A.a10 i :=
  mulf_at (val_main_v377 (F := Ideal) A.a0 A.a2 A.a3 A.a10) (val_main_v377 (F := Ideal) A.a0 A.a2 A.a3 A.a10) i

/-- Operation 381 at an index: a sum over one axis. -/
theorem v381 (b : Fin 8) (t : Fin 8192) (c : Fin 8) : val_main_v381 (F := Ideal) A.a0 A.a2 A.a3 A.a10 (ix3 b t c) = ∑ k : Fin 128, val_main_v380 (F := Ideal) A.a0 A.a2 A.a3 A.a10 (ix4 b t c k) :=
  (val_main_v381_apply _ _ _ _ _).trans ((congrArg₂ (· + ·) Ideal.ofBits_zero_f32 (Finset.sum_congr rfl fun k _ => congrArg (val_main_v380 (F := Ideal) A.a0 A.a2 A.a3 A.a10) (ix4_ext rfl rfl rfl rfl))).trans (zero_add _))

/-- Operation 382 at an index: an entry of its operand. -/
theorem v382 (i0 : Fin 8) (i1 : Fin 8192) (i2 : Fin 8) : val_main_v382 (F := Ideal) A.a0 A.a2 A.a3 A.a10 (ix4 i0 i1 i2 0) = val_main_v381 (F := Ideal) A.a0 A.a2 A.a3 A.a10 (ix3 i0 i1 i2) :=
  (val_main_v382_apply _ _ _ _ _).trans (congrArg (val_main_v381 (F := Ideal) A.a0 A.a2 A.a3 A.a10) (ix3_ext rfl rfl rfl))

/-- Operation 383 at an index: a constant. -/
theorem v383 (i : S8x8192x8x1.Idx) : val_main_v383 (F := Ideal) i = Ideal.ofBits .f32 0x43000000#32 := (val_main_v383_apply i).trans rfl

/-- Operation 384 at an index: a quotient. -/
theorem v384 (i : S8x8192x8x1.Idx) : val_main_v384 (F := Ideal) A.a0 A.a2 A.a3 A.a10 i = Ideal.div (val_main_v382 (F := Ideal) A.a0 A.a2 A.a3 A.a10 i) (val_main_v383 (F := Ideal) i) :=
  divf_at (val_main_v382 (F := Ideal) A.a0 A.a2 A.a3 A.a10) (val_main_v383 (F := Ideal)) i

/-- Operation 385 at an index: a constant. -/
theorem v385 (i : S8x8192x8x1.Idx) : val_main_v385 (F := Ideal) i = Ideal.ofBits .f32 0x358637BD#32 := (val_main_v385_apply i).trans rfl

/-- Operation 386 at an index: a sum. -/
theorem v386 (i : S8x8192x8x1.Idx) : val_main_v386 (F := Ideal) A.a0 A.a2 A.a3 A.a10 i = val_main_v384 (F := Ideal) A.a0 A.a2 A.a3 A.a10 i + val_main_v385 (F := Ideal) i :=
  addf_at (val_main_v384 (F := Ideal) A.a0 A.a2 A.a3 A.a10) (val_main_v385 (F := Ideal)) i

/-- Operation 387 at an index: a reciprocal root. -/
theorem v387 (i : S8x8192x8x1.Idx) : val_main_v387 (F := Ideal) A.a0 A.a2 A.a3 A.a10 i = Ideal.rsqrt (val_main_v386 (F := Ideal) A.a0 A.a2 A.a3 A.a10 i) :=
  rsqrt_at (val_main_v386 (F := Ideal) A.a0 A.a2 A.a3 A.a10) i

/-- Operation 388 at an index: an entry of its operand. -/
theorem v388 (i0 : Fin 8) (i1 : Fin 8192) (i2 : Fin 8) (i3 : Fin 128) : val_main_v388 (F := Ideal) A.a0 A.a2 A.a3 A.a10 (ix4 i0 i1 i2 i3) = val_main_v387 (F := Ideal) A.a0 A.a2 A.a3 A.a10 (ix4 i0 i1 i2 0) :=
  (val_main_v388_apply _ _ _ _ _).trans (congrArg (val_main_v387 (F := Ideal) A.a0 A.a2 A.a3 A.a10) (ix4_ext rfl rfl rfl rfl))

/-- Operation 389 at an index: a product. -/
theorem v389 (i : S8x8192x8x128.Idx) : val_main_v389 (F := Ideal) A.a0 A.a2 A.a3 A.a10 i = val_main_v377 (F := Ideal) A.a0 A.a2 A.a3 A.a10 i * val_main_v388 (F := Ideal) A.a0 A.a2 A.a3 A.a10 i :=
  mulf_at (val_main_v377 (F := Ideal) A.a0 A.a2 A.a3 A.a10) (val_main_v388 (F := Ideal) A.a0 A.a2 A.a3 A.a10) i

/-- Operation 390 at an index: an entry of its operand. -/
theorem v390 (i2 : Fin 8) (i3 : Fin 128) : val_main_v390 (F := Ideal) A.a11 (ix4 0 0 i2 i3) = val_main_v379 (F := Ideal) A.a11 (ix2 i2 i3) :=
  (val_main_v390_apply _ _).trans (congrArg (val_main_v379 (F := Ideal) A.a11) (ix2_ext rfl rfl))

/-- Operation 391 at an index: an entry of its operand. -/
theorem v391 (i0 : Fin 8) (i1 : Fin 8192) (i2 : Fin 8) (i3 : Fin 128) : val_main_v391 (F := Ideal) A.a11 (ix4 i0 i1 i2 i3) = val_main_v390 (F := Ideal) A.a11 (ix4 0 0 i2 i3) :=
  (val_main_v391_apply _ _).trans (congrArg (val_main_v390 (F := Ideal) A.a11) (ix4_ext rfl rfl rfl rfl))

/-- Operation 392 at an index: a product. -/
theorem v392 (i : S8x8192x8x128.Idx) : val_main_v392 (F := Ideal) A.a0 A.a2 A.a3 A.a10 A.a11 i = val_main_v389 (F := Ideal) A.a0 A.a2 A.a3 A.a10 i * val_main_v391 (F := Ideal) A.a11 i :=
  mulf_at (val_main_v389 (F := Ideal) A.a0 A.a2 A.a3 A.a10) (val_main_v391 (F := Ideal) A.a11) i

/-- Operation 393 at an index: an entry of its operand. -/
theorem v393 (b : Fin 8) (t : Fin 8192) (c : Fin 1024) : val_main_v393 (F := Ideal) A.a0 A.a2 A.a3 A.a10 A.a11 (ix3 b t c) = val_main_v392 (F := Ideal) A.a0 A.a2 A.a3 A.a10 A.a11 (ix4 b t (grp c) (lane c)) :=
  (val_main_v393_apply _ _ _ _ _ _).trans (congrArg (val_main_v392 (F := Ideal) A.a0 A.a2 A.a3 A.a10 A.a11) (ix4_ext (by show ((b.val * 8192 + t.val) * 1024 + c.val) / 8388608 = b.val; omega) (by show ((b.val * 8192 + t.val) * 1024 + c.val) / 1024 % 8192 = t.val; omega) (by show ((b.val * 8192 + t.val) * 1024 + c.val) / 128 % 8 = c.val / 128; omega) (by show ((b.val * 8192 + t.val) * 1024 + c.val) % 128 = c.val % 128; omega)))

/-- Operation 394 at an index: a negation. -/
theorem v394 (i : S8x8192x1024.Idx) : val_main_v394 (F := Ideal) A.a0 A.a2 A.a3 i = -(val_main_v34 (F := Ideal) A.a0 A.a2 A.a3 i) :=
  negf_at (val_main_v34 (F := Ideal) A.a0 A.a2 A.a3) i

/-- Operation 395 at an index: an exponential. -/
theorem v395 (i : S8x8192x1024.Idx) : val_main_v395 (F := Ideal) A.a0 A.a2 A.a3 i = Ideal.exp (val_main_v394 (F := Ideal) A.a0 A.a2 A.a3 i) :=
  exp_at (val_main_v394 (F := Ideal) A.a0 A.a2 A.a3) i

/-- Operation 396 at an index: a constant. -/
theorem v396 (i : S8x8192x1024.Idx) : val_main_v396 (F := Ideal) i = Ideal.ofBits .f32 0x3F800000#32 := (val_main_v396_apply i).trans rfl

/-- Operation 397 at an index: a sum. -/
theorem v397 (i : S8x8192x1024.Idx) : val_main_v397 (F := Ideal) A.a0 A.a2 A.a3 i = val_main_v396 (F := Ideal) i + val_main_v395 (F := Ideal) A.a0 A.a2 A.a3 i :=
  addf_at (val_main_v396 (F := Ideal)) (val_main_v395 (F := Ideal) A.a0 A.a2 A.a3) i

/-- Operation 398 at an index: a constant. -/
theorem v398 (i : S8x8192x1024.Idx) : val_main_v398 (F := Ideal) i = Ideal.ofBits .f32 0x3F800000#32 := (val_main_v398_apply i).trans rfl

/-- Operation 399 at an index: a quotient. -/
theorem v399 (i : S8x8192x1024.Idx) : val_main_v399 (F := Ideal) A.a0 A.a2 A.a3 i = Ideal.div (val_main_v398 (F := Ideal) i) (val_main_v397 (F := Ideal) A.a0 A.a2 A.a3 i) :=
  divf_at (val_main_v398 (F := Ideal)) (val_main_v397 (F := Ideal) A.a0 A.a2 A.a3) i

/-- Operation 400 at an index: a product. -/
theorem v400 (i : S8x8192x1024.Idx) : val_main_v400 (F := Ideal) A.a0 A.a2 A.a3 i = val_main_v34 (F := Ideal) A.a0 A.a2 A.a3 i * val_main_v399 (F := Ideal) A.a0 A.a2 A.a3 i :=
  mulf_at (val_main_v34 (F := Ideal) A.a0 A.a2 A.a3) (val_main_v399 (F := Ideal) A.a0 A.a2 A.a3) i

/-- Operation 401 at an index: a product. -/
theorem v401 (i : S8x8192x1024.Idx) : val_main_v401 (F := Ideal) A.a0 A.a2 A.a3 A.a10 A.a11 i = val_main_v393 (F := Ideal) A.a0 A.a2 A.a3 A.a10 A.a11 i * val_main_v400 (F := Ideal) A.a0 A.a2 A.a3 i :=
  mulf_at (val_main_v393 (F := Ideal) A.a0 A.a2 A.a3 A.a10 A.a11) (val_main_v400 (F := Ideal) A.a0 A.a2 A.a3) i

/-- Operation 403 at an index: an entry of its operand. -/
theorem v403 (p : Fin 2048) (q : Fin 1024) : val_main_v403 (F := Ideal) A.a12 (ix2 p q) = A.a12 (ix3 0 p q) :=
  (val_main_v403_apply _ _).trans (congrArg (A.a12) (ix3_ext rfl (by show (p.val * 1024 + q.val) / 1024 % 2048 = p.val; omega) (by show (p.val * 1024 + q.val) % 1024 = q.val; omega)))

/-- Operation 404 at an index: a sum over one axis. -/
theorem v404 (b : Fin 8) (t : Fin 8192) (c : Fin 1024) : val_main_v404 (F := Ideal) A.a0 A.a2 A.a3 A.a4 A.a5 A.a6 A.a7 A.a8 A.a9 A.a10 A.a11 A.a12 (ix3 b t c) = ∑ k : Fin 2048, val_main_v402 (F := Ideal) A.a0 A.a2 A.a3 A.a4 A.a5 A.a6 A.a7 A.a8 A.a9 A.a10 A.a11 (ix3 b t k) * val_main_v403 (F := Ideal) A.a12 (ix2 k c) :=
  (val_main_v404_apply _ _ _ _ _ _ _ _ _ _ _ _ _).trans (Finset.sum_congr rfl fun k _ => congrArg₂ (· * ·) (congrArg (val_main_v402 (F := Ideal) A.a0 A.a2 A.a3 A.a4 A.a5 A.a6 A.a7 A.a8 A.a9 A.a10 A.a11) (ix3_ext rfl rfl rfl)) (congrArg (val_main_v403 (F := Ideal) A.a12) (ix2_ext rfl rfl)))

/-- Operation 405 at an index: a sum. -/
theorem v405 (i : S8x8192x1024.Idx) : val_main_v405 (F := Ideal) A.a0 A.a2 A.a3 A.a4 A.a5 A.a6 A.a7 A.a8 A.a9 A.a10 A.a11 A.a12 i = A.a0 i + val_main_v404 (F := Ideal) A.a0 A.a2 A.a3 A.a4 A.a5 A.a6 A.a7 A.a8 A.a9 A.a10 A.a11 A.a12 i :=
  addf_at (A.a0) (val_main_v404 (F := Ideal) A.a0 A.a2 A.a3 A.a4 A.a5 A.a6 A.a7 A.a8 A.a9 A.a10 A.a11 A.a12) i

/-- Operation 406 at an index: an entry of its operand. -/
theorem v406 (l : Fin 1024) : val_main_v406 (F := Ideal) A.a13 (ix1 l) = A.a13 (ix2 0 l) :=
  (val_main_v406_apply _ _).trans (congrArg (A.a13) (ix2_ext rfl (by show (l.val) % 1024 = l.val; omega)))

/-- Operation 407 at an index: a product. -/
theorem v407 (i : S8x8192x1024.Idx) : val_main_v407 (F := Ideal) A.a0 A.a2 A.a3 A.a4 A.a5 A.a6 A.a7 A.a8 A.a9 A.a10 A.a11 A.a12 i = val_main_v405 (F := Ideal) A.a0 A.a2 A.a3 A.a4 A.a5 A.a6 A.a7 A.a8 A.a9 A.a10 A.a11 A.a12 i * val_main_v405 (F := Ideal) A.a0 A.a2 A.a3 A.a4 A.a5 A.a6 A.a7 A.a8 A.a9 A.a10 A.a11 A.a12 i :=
  mulf_at (val_main_v405 (F := Ideal) A.a0 A.a2 A.a3 A.a4 A.a5 A.a6 A.a7 A.a8 A.a9 A.a10 A.a11 A.a12) (val_main_v405 (F := Ideal) A.a0 A.a2 A.a3 A.a4 A.a5 A.a6 A.a7 A.a8 A.a9 A.a10 A.a11 A.a12) i

/-- Operation 408 at an index: a sum over one axis. -/
theorem v408 (p : Fin 8) (q : Fin 8192) : val_main_v408 (F := Ideal) A.a0 A.a2 A.a3 A.a4 A.a5 A.a6 A.a7 A.a8 A.a9 A.a10 A.a11 A.a12 (ix2 p q) = ∑ k : Fin 1024, val_main_v407 (F := Ideal) A.a0 A.a2 A.a3 A.a4 A.a5 A.a6 A.a7 A.a8 A.a9 A.a10 A.a11 A.a12 (ix3 p q k) :=
  (val_main_v408_apply _ _ _ _ _ _ _ _ _ _ _ _ _).trans ((congrArg₂ (· + ·) Ideal.ofBits_zero_f32 (Finset.sum_congr rfl fun k _ => congrArg (val_main_v407 (F := Ideal) A.a0 A.a2 A.a3 A.a4 A.a5 A.a6 A.a7 A.a8 A.a9 A.a10 A.a11 A.a12) (ix3_ext rfl rfl rfl))).trans (zero_add _))

/-- Operation 409 at an index: an entry of its operand. -/
theorem v409 (b : Fin 8) (t : Fin 8192) : val_main_v409 (F := Ideal) A.a0 A.a2 A.a3 A.a4 A.a5 A.a6 A.a7 A.a8 A.a9 A.a10 A.a11 A.a12 (ix3 b t 0) = val_main_v408 (F := Ideal) A.a0 A.a2 A.a3 A.a4 A.a5 A.a6 A.a7 A.a8 A.a9 A.a10 A.a11 A.a12 (ix2 b t) :=
  (val_main_v409_apply _ _ _ _ _ _ _ _ _ _ _ _ _).trans (congrArg (val_main_v408 (F := Ideal) A.a0 A.a2 A.a3 A.a4 A.a5 A.a6 A.a7 A.a8 A.a9 A.a10 A.a11 A.a12) (ix2_ext rfl rfl))

/-- Operation 410 at an index: a constant. -/
theorem v410 (i : S8x8192x1.Idx) : val_main_v410 (F := Ideal) i = Ideal.ofBits .f32 0x44800000#32 := (val_main_v410_apply i).trans rfl

/-- Operation 411 at an index: a quotient. -/
theorem v411 (i : S8x8192x1.Idx) : val_main_v411 (F := Ideal) A.a0 A.a2 A.a3 A.a4 A.a5 A.a6 A.a7 A.a8 A.a9 A.a10 A.a11 A.a12 i = Ideal.div (val_main_v409 (F := Ideal) A.a0 A.a2 A.a3 A.a4 A.a5 A.a6 A.a7 A.a8 A.a9 A.a10 A.a11 A.a12 i) (val_main_v410 (F := Ideal) i) :=
  divf_at (val_main_v409 (F := Ideal) A.a0 A.a2 A.a3 A.a4 A.a5 A.a6 A.a7 A.a8 A.a9 A.a10 A.a11 A.a12) (val_main_v410 (F := Ideal)) i

/-- Operation 412 at an index: a constant. -/
theorem v412 (i : S8x8192x1.Idx) : val_main_v412 (F := Ideal) i = Ideal.ofBits .f32 0x358637BD#32 := (val_main_v412_apply i).trans rfl

/-- Operation 413 at an index: a sum. -/
theorem v413 (i : S8x8192x1.Idx) : val_main_v413 (F := Ideal) A.a0 A.a2 A.a3 A.a4 A.a5 A.a6 A.a7 A.a8 A.a9 A.a10 A.a11 A.a12 i = val_main_v411 (F := Ideal) A.a0 A.a2 A.a3 A.a4 A.a5 A.a6 A.a7 A.a8 A.a9 A.a10 A.a11 A.a12 i + val_main_v412 (F := Ideal) i :=
  addf_at (val_main_v411 (F := Ideal) A.a0 A.a2 A.a3 A.a4 A.a5 A.a6 A.a7 A.a8 A.a9 A.a10 A.a11 A.a12) (val_main_v412 (F := Ideal)) i

/-- Operation 414 at an index: a reciprocal root. -/
theorem v414 (i : S8x8192x1.Idx) : val_main_v414 (F := Ideal) A.a0 A.a2 A.a3 A.a4 A.a5 A.a6 A.a7 A.a8 A.a9 A.a10 A.a11 A.a12 i = Ideal.rsqrt (val_main_v413 (F := Ideal) A.a0 A.a2 A.a3 A.a4 A.a5 A.a6 A.a7 A.a8 A.a9 A.a10 A.a11 A.a12 i) :=
  rsqrt_at (val_main_v413 (F := Ideal) A.a0 A.a2 A.a3 A.a4 A.a5 A.a6 A.a7 A.a8 A.a9 A.a10 A.a11 A.a12) i

/-- Operation 415 at an index: an entry of its operand. -/
theorem v415 (b : Fin 8) (t : Fin 8192) (c : Fin 1024) : val_main_v415 (F := Ideal) A.a0 A.a2 A.a3 A.a4 A.a5 A.a6 A.a7 A.a8 A.a9 A.a10 A.a11 A.a12 (ix3 b t c) = val_main_v414 (F := Ideal) A.a0 A.a2 A.a3 A.a4 A.a5 A.a6 A.a7 A.a8 A.a9 A.a10 A.a11 A.a12 (ix3 b t 0) :=
  (val_main_v415_apply _ _ _ _ _ _ _ _ _ _ _ _ _).trans (congrArg (val_main_v414 (F := Ideal) A.a0 A.a2 A.a3 A.a4 A.a5 A.a6 A.a7 A.a8 A.a9 A.a10 A.a11 A.a12) (ix3_ext rfl rfl rfl))

/-- Operation 416 at an index: a product. -/
theorem v416 (i : S8x8192x1024.Idx) : val_main_v416 (F := Ideal) A.a0 A.a2 A.a3 A.a4 A.a5 A.a6 A.a7 A.a8 A.a9 A.a10 A.a11 A.a12 i = val_main_v405 (F := Ideal) A.a0 A.a2 A.a3 A.a4 A.a5 A.a6 A.a7 A.a8 A.a9 A.a10 A.a11 A.a12 i * val_main_v415 (F := Ideal) A.a0 A.a2 A.a3 A.a4 A.a5 A.a6 A.a7 A.a8 A.a9 A.a10 A.a11 A.a12 i :=
  mulf_at (val_main_v405 (F := Ideal) A.a0 A.a2 A.a3 A.a4 A.a5 A.a6 A.a7 A.a8 A.a9 A.a10 A.a11 A.a12) (val_main_v415 (F := Ideal) A.a0 A.a2 A.a3 A.a4 A.a5 A.a6 A.a7 A.a8 A.a9 A.a10 A.a11 A.a12) i

/-- Operation 417 at an index: an entry of its operand. -/
theorem v417 (c : Fin 1024) : val_main_v417 (F := Ideal) A.a13 (ix3 0 0 c) = val_main_v406 (F := Ideal) A.a13 (ix1 c) :=
  (val_main_v417_apply _ _).trans (congrArg (val_main_v406 (F := Ideal) A.a13) (ix1_ext rfl))

/-- Operation 418 at an index: an entry of its operand. -/
theorem v418 (b : Fin 8) (t : Fin 8192) (c : Fin 1024) : val_main_v418 (F := Ideal) A.a13 (ix3 b t c) = val_main_v417 (F := Ideal) A.a13 (ix3 0 0 c) :=
  (val_main_v418_apply _ _).trans (congrArg (val_main_v417 (F := Ideal) A.a13) (ix3_ext rfl rfl rfl))

/-- Operation 419 at an index: a product. -/
theorem v419 (i : S8x8192x1024.Idx) : val_main_v419 (F := Ideal) A.a0 A.a2 A.a3 A.a4 A.a5 A.a6 A.a7 A.a8 A.a9 A.a10 A.a11 A.a12 A.a13 i = val_main_v416 (F := Ideal) A.a0 A.a2 A.a3 A.a4 A.a5 A.a6 A.a7 A.a8 A.a9 A.a10 A.a11 A.a12 i * val_main_v418 (F := Ideal) A.a13 i :=
  mulf_at (val_main_v416 (F := Ideal) A.a0 A.a2 A.a3 A.a4 A.a5 A.a6 A.a7 A.a8 A.a9 A.a10 A.a11 A.a12) (val_main_v418 (F := Ideal) A.a13) i

/-- Operation 420 at an index: an entry of its operand. -/
theorem v420 (p : Fin 1024) (q : Fin 1024) : val_main_v420 (F := Ideal) A.a14 (ix2 p q) = A.a14 (ix3 0 p q) :=
  (val_main_v420_apply _ _).trans (congrArg (A.a14) (ix3_ext rfl (by show (p.val * 1024 + q.val) / 1024 % 1024 = p.val; omega) (by show (p.val * 1024 + q.val) % 1024 = q.val; omega)))

/-- Operation 421 at an index: a sum over one axis. -/
theorem v421 (b : Fin 8) (t : Fin 8192) (c : Fin 1024) : val_main_v421 (F := Ideal) A.a0 A.a2 A.a3 A.a4 A.a5 A.a6 A.a7 A.a8 A.a9 A.a10 A.a11 A.a12 A.a13 A.a14 (ix3 b t c) = ∑ k : Fin 1024, val_main_v419 (F := Ideal) A.a0 A.a2 A.a3 A.a4 A.a5 A.a6 A.a7 A.a8 A.a9 A.a10 A.a11 A.a12 A.a13 (ix3 b t k) * val_main_v420 (F := Ideal) A.a14 (ix2 k c) :=
  (val_main_v421_apply _ _ _ _ _ _ _ _ _ _ _ _ _ _ _).trans (Finset.sum_congr rfl fun k _ => congrArg₂ (· * ·) (congrArg (val_main_v419 (F := Ideal) A.a0 A.a2 A.a3 A.a4 A.a5 A.a6 A.a7 A.a8 A.a9 A.a10 A.a11 A.a12 A.a13) (ix3_ext rfl rfl rfl)) (congrArg (val_main_v420 (F := Ideal) A.a14) (ix2_ext rfl rfl)))

/-- Operation 422 at an index: a negation. -/
theorem v422 (i : S8x8192x1024.Idx) : val_main_v422 (F := Ideal) A.a0 A.a2 A.a3 A.a4 A.a5 A.a6 A.a7 A.a8 A.a9 A.a10 A.a11 A.a12 A.a13 A.a14 i = -(val_main_v421 (F := Ideal) A.a0 A.a2 A.a3 A.a4 A.a5 A.a6 A.a7 A.a8 A.a9 A.a10 A.a11 A.a12 A.a13 A.a14 i) :=
  negf_at (val_main_v421 (F := Ideal) A.a0 A.a2 A.a3 A.a4 A.a5 A.a6 A.a7 A.a8 A.a9 A.a10 A.a11 A.a12 A.a13 A.a14) i

/-- Operation 423 at an index: an exponential. -/
theorem v423 (i : S8x8192x1024.Idx) : val_main_v423 (F := Ideal) A.a0 A.a2 A.a3 A.a4 A.a5 A.a6 A.a7 A.a8 A.a9 A.a10 A.a11 A.a12 A.a13 A.a14 i = Ideal.exp (val_main_v422 (F := Ideal) A.a0 A.a2 A.a3 A.a4 A.a5 A.a6 A.a7 A.a8 A.a9 A.a10 A.a11 A.a12 A.a13 A.a14 i) :=
  exp_at (val_main_v422 (F := Ideal) A.a0 A.a2 A.a3 A.a4 A.a5 A.a6 A.a7 A.a8 A.a9 A.a10 A.a11 A.a12 A.a13 A.a14) i

/-- Operation 424 at an index: a constant. -/
theorem v424 (i : S8x8192x1024.Idx) : val_main_v424 (F := Ideal) i = Ideal.ofBits .f32 0x3F800000#32 := (val_main_v424_apply i).trans rfl

/-- Operation 425 at an index: a sum. -/
theorem v425 (i : S8x8192x1024.Idx) : val_main_v425 (F := Ideal) A.a0 A.a2 A.a3 A.a4 A.a5 A.a6 A.a7 A.a8 A.a9 A.a10 A.a11 A.a12 A.a13 A.a14 i = val_main_v424 (F := Ideal) i + val_main_v423 (F := Ideal) A.a0 A.a2 A.a3 A.a4 A.a5 A.a6 A.a7 A.a8 A.a9 A.a10 A.a11 A.a12 A.a13 A.a14 i :=
  addf_at (val_main_v424 (F := Ideal)) (val_main_v423 (F := Ideal) A.a0 A.a2 A.a3 A.a4 A.a5 A.a6 A.a7 A.a8 A.a9 A.a10 A.a11 A.a12 A.a13 A.a14) i

/-- Operation 426 at an index: a constant. -/
theorem v426 (i : S8x8192x1024.Idx) : val_main_v426 (F := Ideal) i = Ideal.ofBits .f32 0x3F800000#32 := (val_main_v426_apply i).trans rfl

/-- Operation 427 at an index: a quotient. -/
theorem v427 (i : S8x8192x1024.Idx) : val_main_v427 (F := Ideal) A.a0 A.a2 A.a3 A.a4 A.a5 A.a6 A.a7 A.a8 A.a9 A.a10 A.a11 A.a12 A.a13 A.a14 i = Ideal.div (val_main_v426 (F := Ideal) i) (val_main_v425 (F := Ideal) A.a0 A.a2 A.a3 A.a4 A.a5 A.a6 A.a7 A.a8 A.a9 A.a10 A.a11 A.a12 A.a13 A.a14 i) :=
  divf_at (val_main_v426 (F := Ideal)) (val_main_v425 (F := Ideal) A.a0 A.a2 A.a3 A.a4 A.a5 A.a6 A.a7 A.a8 A.a9 A.a10 A.a11 A.a12 A.a13 A.a14) i

/-- Operation 428 at an index: an entry of its operand. -/
theorem v428 (b : Fin 8) (t : Fin 8192) (c : Fin 256) : val_main_v428 (F := Ideal) A.a1 (ix3 b t c) = A.a1 (ix4 0 b t c) :=
  (val_main_v428_apply _ _).trans (congrArg (A.a1) (ix4_ext rfl (by show ((b.val * 8192 + t.val) * 256 + c.val) / 2097152 % 8 = b.val; omega) (by show ((b.val * 8192 + t.val) * 256 + c.val) / 256 % 8192 = t.val; omega) (by show ((b.val * 8192 + t.val) * 256 + c.val) % 256 = c.val; omega)))

/-- Operation 429 at an index: an entry of its operand. -/
theorem v429 (p : Fin 256) (q : Fin 1024) : val_main_v429 (F := Ideal) A.a15 (ix2 p q) = A.a15 (ix3 0 p q) :=
  (val_main_v429_apply _ _).trans (congrArg (A.a15) (ix3_ext rfl (by show (p.val * 1024 + q.val) / 1024 % 256 = p.val; omega) (by show (p.val * 1024 + q.val) % 1024 = q.val; omega)))

/-- Operation 430 at an index: a sum over one axis. -/
theorem v430 (b : Fin 8) (t : Fin 8192) (c : Fin 1024) : val_main_v430 (F := Ideal) A.a1 A.a15 (ix3 b t c) = ∑ k : Fin 256, val_main_v428 (F := Ideal) A.a1 (ix3 b t k) * val_main_v429 (F := Ideal) A.a15 (ix2 k c) :=
  (val_main_v430_apply _ _ _).trans (Finset.sum_congr rfl fun k _ => congrArg₂ (· * ·) (congrArg (val_main_v428 (F := Ideal) A.a1) (ix3_ext rfl rfl rfl)) (congrArg (val_main_v429 (F := Ideal) A.a15) (ix2_ext rfl rfl)))

/-- Operation 431 at an index: a product. -/
theorem v431 (i : S8x8192x1024.Idx) : val_main_v431 (F := Ideal) A.a0 A.a1 A.a2 A.a3 A.a4 A.a5 A.a6 A.a7 A.a8 A.a9 A.a10 A.a11 A.a12 A.a13 A.a14 A.a15 i = val_main_v427 (F := Ideal) A.a0 A.a2 A.a3 A.a4 A.a5 A.a6 A.a7 A.a8 A.a9 A.a10 A.a11 A.a12 A.a13 A.a14 i * val_main_v430 (F := Ideal) A.a1 A.a15 i :=
  mulf_at (val_main_v427 (F := Ideal) A.a0 A.a2 A.a3 A.a4 A.a5 A.a6 A.a7 A.a8 A.a9 A.a10 A.a11 A.a12 A.a13 A.a14) (val_main_v430 (F := Ideal) A.a1 A.a15) i

/-- Operation 432 at an index: a sum. -/
theorem v432 (i : S8x8192x1024.Idx) : val_main_v432 (F := Ideal) A.a0 A.a1 A.a2 A.a3 A.a4 A.a5 A.a6 A.a7 A.a8 A.a9 A.a10 A.a11 A.a12 A.a13 A.a14 A.a15 i = val_main_v405 (F := Ideal) A.a0 A.a2 A.a3 A.a4 A.a5 A.a6 A.a7 A.a8 A.a9 A.a10 A.a11 A.a12 i + val_main_v431 (F := Ideal) A.a0 A.a1 A.a2 A.a3 A.a4 A.a5 A.a6 A.a7 A.a8 A.a9 A.a10 A.a11 A.a12 A.a13 A.a14 A.a15 i :=
  addf_at (val_main_v405 (F := Ideal) A.a0 A.a2 A.a3 A.a4 A.a5 A.a6 A.a7 A.a8 A.a9 A.a10 A.a11 A.a12) (val_main_v431 (F := Ideal) A.a0 A.a1 A.a2 A.a3 A.a4 A.a5 A.a6 A.a7 A.a8 A.a9 A.a10 A.a11 A.a12 A.a13 A.a14 A.a15) i

/-- Operation 433 at an index: a product. -/
theorem v433 (i : S8x8192x1024.Idx) : val_main_v433 (F := Ideal) A.a0 A.a1 A.a2 A.a3 A.a4 A.a5 A.a6 A.a7 A.a8 A.a9 A.a10 A.a11 A.a12 A.a13 A.a14 A.a15 i = val_main_v432 (F := Ideal) A.a0 A.a1 A.a2 A.a3 A.a4 A.a5 A.a6 A.a7 A.a8 A.a9 A.a10 A.a11 A.a12 A.a13 A.a14 A.a15 i * val_main_v432 (F := Ideal) A.a0 A.a1 A.a2 A.a3 A.a4 A.a5 A.a6 A.a7 A.a8 A.a9 A.a10 A.a11 A.a12 A.a13 A.a14 A.a15 i :=
  mulf_at (val_main_v432 (F := Ideal) A.a0 A.a1 A.a2 A.a3 A.a4 A.a5 A.a6 A.a7 A.a8 A.a9 A.a10 A.a11 A.a12 A.a13 A.a14 A.a15) (val_main_v432 (F := Ideal) A.a0 A.a1 A.a2 A.a3 A.a4 A.a5 A.a6 A.a7 A.a8 A.a9 A.a10 A.a11 A.a12 A.a13 A.a14 A.a15) i

/-- Operation 434 at an index: a sum over one axis. -/
theorem v434 (p : Fin 8) (q : Fin 8192) : val_main_v434 (F := Ideal) A.a0 A.a1 A.a2 A.a3 A.a4 A.a5 A.a6 A.a7 A.a8 A.a9 A.a10 A.a11 A.a12 A.a13 A.a14 A.a15 (ix2 p q) = ∑ k : Fin 1024, val_main_v433 (F := Ideal) A.a0 A.a1 A.a2 A.a3 A.a4 A.a5 A.a6 A.a7 A.a8 A.a9 A.a10 A.a11 A.a12 A.a13 A.a14 A.a15 (ix3 p q k) :=
  (val_main_v434_apply _ _ _ _ _ _ _ _ _ _ _ _ _ _ _ _ _).trans ((congrArg₂ (· + ·) Ideal.ofBits_zero_f32 (Finset.sum_congr rfl fun k _ => congrArg (val_main_v433 (F := Ideal) A.a0 A.a1 A.a2 A.a3 A.a4 A.a5 A.a6 A.a7 A.a8 A.a9 A.a10 A.a11 A.a12 A.a13 A.a14 A.a15) (ix3_ext rfl rfl rfl))).trans (zero_add _))

/-- Operation 435 at an index: an entry of its operand. -/
theorem v435 (b : Fin 8) (t : Fin 8192) : val_main_v435 (F := Ideal) A.a0 A.a1 A.a2 A.a3 A.a4 A.a5 A.a6 A.a7 A.a8 A.a9 A.a10 A.a11 A.a12 A.a13 A.a14 A.a15 (ix3 b t 0) = val_main_v434 (F := Ideal) A.a0 A.a1 A.a2 A.a3 A.a4 A.a5 A.a6 A.a7 A.a8 A.a9 A.a10 A.a11 A.a12 A.a13 A.a14 A.a15 (ix2 b t) :=
  (val_main_v435_apply _ _ _ _ _ _ _ _ _ _ _ _ _ _ _ _ _).trans (congrArg (val_main_v434 (F := Ideal) A.a0 A.a1 A.a2 A.a3 A.a4 A.a5 A.a6 A.a7 A.a8 A.a9 A.a10 A.a11 A.a12 A.a13 A.a14 A.a15) (ix2_ext rfl rfl))

/-- Operation 436 at an index: a constant. -/
theorem v436 (i : S8x8192x1.Idx) : val_main_v436 (F := Ideal) i = Ideal.ofBits .f32 0x44800000#32 := (val_main_v436_apply i).trans rfl

/-- Operation 437 at an index: a quotient. -/
theorem v437 (i : S8x8192x1.Idx) : val_main_v437 (F := Ideal) A.a0 A.a1 A.a2 A.a3 A.a4 A.a5 A.a6 A.a7 A.a8 A.a9 A.a10 A.a11 A.a12 A.a13 A.a14 A.a15 i = Ideal.div (val_main_v435 (F := Ideal) A.a0 A.a1 A.a2 A.a3 A.a4 A.a5 A.a6 A.a7 A.a8 A.a9 A.a10 A.a11 A.a12 A.a13 A.a14 A.a15 i) (val_main_v436 (F := Ideal) i) :=
  divf_at (val_main_v435 (F := Ideal) A.a0 A.a1 A.a2 A.a3 A.a4 A.a5 A.a6 A.a7 A.a8 A.a9 A.a10 A.a11 A.a12 A.a13 A.a14 A.a15) (val_main_v436 (F := Ideal)) i

/-- Operation 438 at an index: a constant. -/
theorem v438 (i : S8x8192x1.Idx) : val_main_v438 (F := Ideal) i = Ideal.ofBits .f32 0x358637BD#32 := (val_main_v438_apply i).trans rfl

/-- Operation 439 at an index: a sum. -/
theorem v439 (i : S8x8192x1.Idx) : val_main_v439 (F := Ideal) A.a0 A.a1 A.a2 A.a3 A.a4 A.a5 A.a6 A.a7 A.a8 A.a9 A.a10 A.a11 A.a12 A.a13 A.a14 A.a15 i = val_main_v437 (F := Ideal) A.a0 A.a1 A.a2 A.a3 A.a4 A.a5 A.a6 A.a7 A.a8 A.a9 A.a10 A.a11 A.a12 A.a13 A.a14 A.a15 i + val_main_v438 (F := Ideal) i :=
  addf_at (val_main_v437 (F := Ideal) A.a0 A.a1 A.a2 A.a3 A.a4 A.a5 A.a6 A.a7 A.a8 A.a9 A.a10 A.a11 A.a12 A.a13 A.a14 A.a15) (val_main_v438 (F := Ideal)) i

/-- Operation 440 at an index: a reciprocal root. -/
theorem v440 (i : S8x8192x1.Idx) : val_main_v440 (F := Ideal) A.a0 A.a1 A.a2 A.a3 A.a4 A.a5 A.a6 A.a7 A.a8 A.a9 A.a10 A.a11 A.a12 A.a13 A.a14 A.a15 i = Ideal.rsqrt (val_main_v439 (F := Ideal) A.a0 A.a1 A.a2 A.a3 A.a4 A.a5 A.a6 A.a7 A.a8 A.a9 A.a10 A.a11 A.a12 A.a13 A.a14 A.a15 i) :=
  rsqrt_at (val_main_v439 (F := Ideal) A.a0 A.a1 A.a2 A.a3 A.a4 A.a5 A.a6 A.a7 A.a8 A.a9 A.a10 A.a11 A.a12 A.a13 A.a14 A.a15) i

/-- Operation 441 at an index: an entry of its operand. -/
theorem v441 (b : Fin 8) (t : Fin 8192) (c : Fin 1024) : val_main_v441 (F := Ideal) A.a0 A.a1 A.a2 A.a3 A.a4 A.a5 A.a6 A.a7 A.a8 A.a9 A.a10 A.a11 A.a12 A.a13 A.a14 A.a15 (ix3 b t c) = val_main_v440 (F := Ideal) A.a0 A.a1 A.a2 A.a3 A.a4 A.a5 A.a6 A.a7 A.a8 A.a9 A.a10 A.a11 A.a12 A.a13 A.a14 A.a15 (ix3 b t 0) :=
  (val_main_v441_apply _ _ _ _ _ _ _ _ _ _ _ _ _ _ _ _ _).trans (congrArg (val_main_v440 (F := Ideal) A.a0 A.a1 A.a2 A.a3 A.a4 A.a5 A.a6 A.a7 A.a8 A.a9 A.a10 A.a11 A.a12 A.a13 A.a14 A.a15) (ix3_ext rfl rfl rfl))

/-- Operation 442 at an index: a product. -/
theorem v442 (i : S8x8192x1024.Idx) : val_main_v442 (F := Ideal) A.a0 A.a1 A.a2 A.a3 A.a4 A.a5 A.a6 A.a7 A.a8 A.a9 A.a10 A.a11 A.a12 A.a13 A.a14 A.a15 i = val_main_v432 (F := Ideal) A.a0 A.a1 A.a2 A.a3 A.a4 A.a5 A.a6 A.a7 A.a8 A.a9 A.a10 A.a11 A.a12 A.a13 A.a14 A.a15 i * val_main_v441 (F := Ideal) A.a0 A.a1 A.a2 A.a3 A.a4 A.a5 A.a6 A.a7 A.a8 A.a9 A.a10 A.a11 A.a12 A.a13 A.a14 A.a15 i :=
  mulf_at (val_main_v432 (F := Ideal) A.a0 A.a1 A.a2 A.a3 A.a4 A.a5 A.a6 A.a7 A.a8 A.a9 A.a10 A.a11 A.a12 A.a13 A.a14 A.a15) (val_main_v441 (F := Ideal) A.a0 A.a1 A.a2 A.a3 A.a4 A.a5 A.a6 A.a7 A.a8 A.a9 A.a10 A.a11 A.a12 A.a13 A.a14 A.a15) i

/-- Operation 443 at an index: an entry of its operand. -/
theorem v443 (c : Fin 1024) : val_main_v443 (F := Ideal) A.a16 (ix3 0 0 c) = A.a16 (ix1 c) :=
  (val_main_v443_apply _ _).trans (congrArg (A.a16) (ix1_ext rfl))

/-- Operation 444 at an index: an entry of its operand. -/
theorem v444 (b : Fin 8) (t : Fin 8192) (c : Fin 1024) : val_main_v444 (F := Ideal) A.a16 (ix3 b t c) = val_main_v443 (F := Ideal) A.a16 (ix3 0 0 c) :=
  (val_main_v444_apply _ _).trans (congrArg (val_main_v443 (F := Ideal) A.a16) (ix3_ext rfl rfl rfl))

/-- Operation 445 at an index: a product. -/
theorem v445 (i : S8x8192x1024.Idx) : val_main_v445 (F := Ideal) A.a0 A.a1 A.a2 A.a3 A.a4 A.a5 A.a6 A.a7 A.a8 A.a9 A.a10 A.a11 A.a12 A.a13 A.a14 A.a15 A.a16 i = val_main_v442 (F := Ideal) A.a0 A.a1 A.a2 A.a3 A.a4 A.a5 A.a6 A.a7 A.a8 A.a9 A.a10 A.a11 A.a12 A.a13 A.a14 A.a15 i * val_main_v444 (F := Ideal) A.a16 i :=
  mulf_at (val_main_v442 (F := Ideal) A.a0 A.a1 A.a2 A.a3 A.a4 A.a5 A.a6 A.a7 A.a8 A.a9 A.a10 A.a11 A.a12 A.a13 A.a14 A.a15) (val_main_v444 (F := Ideal) A.a16) i

end Cert.Layer.Ref

end
-- ==== Proof.RefConv.lean ====
/- The reference program's normalised row, projection and convolution branch are the layer's. -/
module

public import proofs.«01_k».proof.Proof.RefIdx
public import proofs.«01_k».proof.Proof.KerRead
public import Idealize.ShloMosaic.Lib.KernelVsHost

@[expose] public section

noncomputable section

namespace Cert.Layer.Ref

open Idealize.ShloMosaic Cert.ReferenceIdeal Cert.ReferenceIdeal.Gen Cert.ReferenceIdeal.Read

/-- A logistic as the reference spells it. -/
theorem logistic_eq (x : EReal) : Ideal.div (Ideal.ofBits .f32 0x3F800000#32) (Ideal.ofBits .f32 0x3F800000#32 + Ideal.exp (-x)) = Ideal.logistic x := by
  rw [show Ideal.ofBits .f32 0x3F800000#32 = 1 from one_eq]; rfl

variable (A : Arrs)

/-- A batch row of the stream, read in the argument array. -/
theorem xr_at (b : Fin 8) (t : Fin 8192) (c : Fin 1024) : A.xr b t.val c = A.a0 (ix3 b t c) := by
  unfold Arrs.xr; rw [dif_pos t.isLt]

/-- A batch row of the projected embedding, read in the argument array. -/
theorem pr_at (b : Fin 8) (t : Fin 8192) (c : Fin 256) : A.pr b t.val c = A.a1 (ix4 0 b t c) := by
  unfold Arrs.pr; rw [dif_pos t.isLt]

/-- The normalised row. -/
theorem rms_read (b : Fin 8) (t : Fin 8192) (c : Fin 1024) :
    val_main_v25 (F := Ideal) A.a0 A.a2 (ix3 b t c) = rms (A.xr b t.val) A.wts.lng c := by
  simp only [v25, v22, v21, v20, v19, v18, v17, v16, v15, v14, v13, v24, v23, v12, rms, xr_at]
  rfl

/-- The combined projection. -/
theorem z_read (b : Fin 8) (t : Fin 8192) (n : Fin 7168) :
    val_main_v27 (F := Ideal) A.a0 A.a2 A.a3 (ix3 b t n) = z A.wts (A.xr b) t.val n := by
  simp only [v27, rms_read, v26, z]
  rfl

/-- The gated linear unit. -/
theorem glu_read (b : Fin 8) (t : Fin 8192) (c : Fin 1024) :
    val_main_v41 (F := Ideal) A.a0 A.a2 A.a3 (ix3 b t c) = glu A.wts (A.xr b) t.val c := by
  simp only [v41, v40, v39, v38, v37, v36, v35, v29, v28, z_read, logistic_eq, glu]

/-- The gated linear unit after `30` rows of zeros. -/
theorem gluP_read (b : Fin 8) (u : Fin 8222) (c : Fin 1024) :
    val_main_v42 (F := Ideal) A.a0 A.a2 A.a3 (ix3 b u c) = gluP A.wts (A.xr b) u.val c := by
  unfold val_main_v42 gluP
  split
  · rename_i h
    refine (pad_apply_of_not_inside _ _ _ _ _ _ _ _ (1 : Fin 3) ?_).trans ?_
    · intro hh; have : 30 ≤ u.val := hh.1; omega
    · show (((0#32 : BitVec 32).toInt : ℝ) : EReal) = 0
      simp
  · rename_i h
    refine (pad_apply_of_inside _ _ _ _ _ _ _ _ (ix3 b ⟨u.val - 30, by omega⟩ c) ?_).trans (glu_read A b ⟨u.val - 30, by omega⟩ c)
    intro a
    match a with
    | ⟨0, _⟩ => show b.val = 0 + b.val * (0 + 1); omega
    | ⟨1, _⟩ => show u.val = 30 + (u.val - 30) * (0 + 1); omega
    | ⟨2, _⟩ => show c.val = 0 + c.val * (0 + 1); omega

/-- One tap of the convolution: a row of weights times the padded sequence `o` steps on. -/
theorem tap_at (o : ℕ) (ho : o < 31) (w : FVec Ideal S1x31x1024 .f32) (P : FVec Ideal S8x8222x1024 .f32)
    (h1 : S1x31x1024.Slices ![0, o, 0] S1x1x1024) (h2 : S8x8222x1024.Slices ![0, o, 0] S8x8192x1024) (b : Fin 8) (t : Fin 8192) (c : Fin 1024) :
    mulf (broadcastInDim S8x8192x1024 ![0, 1, 2] bcast_S1x1x1024_S8x8192x1024_0_1_2 (broadcastInDim S1x1x1024 ![2] bcast_S1024_S1x1x1024_2
        (shapeCast S1024 (extractStridedSlice S1x1x1024 ![0, o, 0] w h1) shapeCasts_S1x1x1024_S1024)))
      (extractStridedSlice S8x8192x1024 ![0, o, 0] P h2) (ix3 b t c) = w (ix3 0 ⟨o, ho⟩ c) * P (ix3 b ⟨t.val + o, by omega⟩ c) := by
  refine congrArg₂ (· * ·) ?_ ?_
  · refine (broadcastInDim_apply _ _ _ _ (ix3 0 0 c) (fun a => match a with | ⟨0, _⟩ => rfl | ⟨1, _⟩ => rfl | ⟨2, _⟩ => rfl)).trans ?_
    refine (broadcastInDim_apply _ _ _ _ (ix1 c) (fun a => match a with | ⟨0, _⟩ => rfl)).trans ?_
    refine (shapeCast_apply _ _ _ (ix3 0 0 c) ?_).trans ?_
    · rw [Shape.rowMajor_val_three, Shape.rowMajor_val_one]; show (0 * 1 + 0) * 1024 + c.val = c.val; omega
    · exact extractStridedSlice_apply _ _ _ _ _ (fun a => match a with
        | ⟨0, _⟩ => rfl | ⟨1, _⟩ => rfl | ⟨2, _⟩ => by show c.val = 0 + c.val; omega)
  · exact extractStridedSlice_apply _ _ _ _ _ (fun a => match a with
      | ⟨0, _⟩ => by show b.val = 0 + b.val; omega
      | ⟨1, _⟩ => by show t.val + o = o + t.val; omega
      | ⟨2, _⟩ => by show c.val = 0 + c.val; omega)

/-- The convolution's bias. -/
theorem bias_read (b : Fin 8) (t : Fin 8192) (c : Fin 1024) : val_main_v51 (F := Ideal) A.a5 (ix3 b t c) = A.wts.cb c := by
  refine (val_main_v51_apply _ _).trans ((val_main_v50_apply _ _).trans ((val_main_v43_apply _ _).trans (congrArg A.a5 (ix2_ext rfl ?_))))
  show c.val % 1024 = c.val
  omega

/-- One step of the convolution's chain of sums. -/
theorem step_at (o : ℕ) (ho : o < 31) {v p : FVec Ideal S8x8192x1024 .f32} {s : FVec Ideal S8x8192x1024 .f32} (b : Fin 8) (t : Fin 8192) (c : Fin 1024)
    (h1 : S1x31x1024.Slices ![0, o, 0] S1x1x1024) (h2 : S8x8222x1024.Slices ![0, o, 0] S8x8192x1024)
    (hs : s = addf p v) (hv : v = mulf (broadcastInDim S8x8192x1024 ![0, 1, 2] bcast_S1x1x1024_S8x8192x1024_0_1_2 (broadcastInDim S1x1x1024 ![2] bcast_S1024_S1x1x1024_2
        (shapeCast S1024 (extractStridedSlice S1x1x1024 ![0, o, 0] A.a4 h1) shapeCasts_S1x1x1024_S1024)))
      (extractStridedSlice S8x8192x1024 ![0, o, 0] (val_main_v42 (F := Ideal) A.a0 A.a2 A.a3) h2)) :
    s (ix3 b t c) = p (ix3 b t c) + A.wts.cw ⟨o, ho⟩ c * gluP A.wts (A.xr b) (t.val + o) c := by
  rw [hs, addf_at, hv, tap_at o ho, gluP_read]
  rfl

/-- The convolution. -/
theorem conv_read (b : Fin 8) (t : Fin 8192) (c : Fin 1024) :
    val_main_v262 (F := Ideal) A.a0 A.a2 A.a3 A.a4 A.a5 (ix3 b t c) = conv A.wts (A.xr b) t.val c := by
  unfold conv
  obtain ⟨u, hu⟩ : ∃ u : ℕ → EReal, ∀ (j : ℕ) (h : j < 31), A.wts.cw ⟨j, h⟩ c = u j :=
    ⟨fun j => if h : j < 31 then A.wts.cw ⟨j, h⟩ c else 0, fun j h => by dsimp only; rw [dif_pos h]⟩
  have hu' : ∀ j : Fin 31, A.wts.cw j c = u j.val := fun j => hu j.val j.isLt
  simp only [hu']
  rw [Fin.sum_univ_eq_sum_range (fun j => u j * gluP A.wts (A.xr b) (t.val + j) c) 31]
  simp only [Finset.sum_range_succ, Finset.sum_range_zero, zero_add, ← add_assoc]
  rw [step_at A 30 (by omega) (s := val_main_v262 (F := Ideal) A.a0 A.a2 A.a3 A.a4 A.a5) (p := val_main_v255 (F := Ideal) A.a0 A.a2 A.a3 A.a4 A.a5) (v := val_main_v261 (F := Ideal) A.a0 A.a2 A.a3 A.a4) b t c slices_S1x31x1024_S1x1x1024_0_30_0 slices_S8x8222x1024_S8x8192x1024_0_30_0 rfl rfl, hu]
  rw [step_at A 29 (by omega) (s := val_main_v255 (F := Ideal) A.a0 A.a2 A.a3 A.a4 A.a5) (p := val_main_v248 (F := Ideal) A.a0 A.a2 A.a3 A.a4 A.a5) (v := val_main_v254 (F := Ideal) A.a0 A.a2 A.a3 A.a4) b t c slices_S1x31x1024_S1x1x1024_0_29_0 slices_S8x8222x1024_S8x8192x1024_0_29_0 rfl rfl, hu]
  rw [step_at A 28 (by omega) (s := val_main_v248 (F := Ideal) A.a0 A.a2 A.a3 A.a4 A.a5) (p := val_main_v241 (F := Ideal) A.a0 A.a2 A.a3 A.a4 A.a5) (v := val_main_v247 (F := Ideal) A.a0 A.a2 A.a3 A.a4) b t c slices_S1x31x1024_S1x1x1024_0_28_0 slices_S8x8222x1024_S8x8192x1024_0_28_0 rfl rfl, hu]
  rw [step_at A 27 (by omega) (s := val_main_v241 (F := Ideal) A.a0 A.a2 A.a3 A.a4 A.a5) (p := val_main_v234 (F := Ideal) A.a0 A.a2 A.a3 A.a4 A.a5) (v := val_main_v240 (F := Ideal) A.a0 A.a2 A.a3 A.a4) b t c slices_S1x31x1024_S1x1x1024_0_27_0 slices_S8x8222x1024_S8x8192x1024_0_27_0 rfl rfl, hu]
  rw [step_at A 26 (by omega) (s := val_main_v234 (F := Ideal) A.a0 A.a2 A.a3 A.a4 A.a5) (p := val_main_v227 (F := Ideal) A.a0 A.a2 A.a3 A.a4 A.a5) (v := val_main_v233 (F := Ideal) A.a0 A.a2 A.a3 A.a4) b t c slices_S1x31x1024_S1x1x1024_0_26_0 slices_S8x8222x1024_S8x8192x1024_0_26_0 rfl rfl, hu]
  rw [step_at A 25 (by omega) (s := val_main_v227 (F := Ideal) A.a0 A.a2 A.a3 A.a4 A.a5) (p := val_main_v220 (F := Ideal) A.a0 A.a2 A.a3 A.a4 A.a5) (v := val_main_v226 (F := Ideal) A.a0 A.a2 A.a3 A.a4) b t c slices_S1x31x1024_S1x1x1024_0_25_0 slices_S8x8222x1024_S8x8192x1024_0_25_0 rfl rfl, hu]
  rw [step_at A 24 (by omega) (s := val_main_v220 (F := Ideal) A.a0 A.a2 A.a3 A.a4 A.a5) (p := val_main_v213 (F := Ideal) A.a0 A.a2 A.a3 A.a4 A.a5) (v := val_main_v219 (F := Ideal) A.a0 A.a2 A.a3 A.a4) b t c slices_S1x31x1024_S1x1x1024_0_24_0 slices_S8x8222x1024_S8x8192x1024_0_24_0 rfl rfl, hu]
  rw [step_at A 23 (by omega) (s := val_main_v213 (F := Ideal) A.a0 A.a2 A.a3 A.a4 A.a5) (p := val_main_v206 (F := Ideal) A.a0 A.a2 A.a3 A.a4 A.a5) (v := val_main_v212 (F := Ideal) A.a0 A.a2 A.a3 A.a4) b t c slices_S1x31x1024_S1x1x1024_0_23_0 slices_S8x8222x1024_S8x8192x1024_0_23_0 rfl rfl, hu]
  rw [step_at A 22 (by omega) (s := val_main_v206 (F := Ideal) A.a0 A.a2 A.a3 A.a4 A.a5) (p := val_main_v199 (F := Ideal) A.a0 A.a2 A.a3 A.a4 A.a5) (v := val_main_v205 (F := Ideal) A.a0 A.a2 A.a3 A.a4) b t c slices_S1x31x1024_S1x1x1024_0_22_0 slices_S8x8222x1024_S8x8192x1024_0_22_0 rfl rfl, hu]
  rw [step_at A 21 (by omega) (s := val_main_v199 (F := Ideal) A.a0 A.a2 A.a3 A.a4 A.a5) (p := val_main_v192 (F := Ideal) A.a0 A.a2 A.a3 A.a4 A.a5) (v := val_main_v198 (F := Ideal) A.a0 A.a2 A.a3 A.a4) b t c slices_S1x31x1024_S1x1x1024_0_21_0 slices_S8x8222x1024_S8x8192x1024_0_21_0 rfl rfl, hu]
  rw [step_at A 20 (by omega) (s := val_main_v192 (F := Ideal) A.a0 A.a2 A.a3 A.a4 A.a5) (p := val_main_v185 (F := Ideal) A.a0 A.a2 A.a3 A.a4 A.a5) (v := val_main_v191 (F := Ideal) A.a0 A.a2 A.a3 A.a4) b t c slices_S1x31x1024_S1x1x1024_0_20_0 slices_S8x8222x1024_S8x8192x1024_0_20_0 rfl rfl, hu]
  rw [step_at A 19 (by omega) (s := val_main_v185 (F := Ideal) A.a0 A.a2 A.a3 A.a4 A.a5) (p := val_main_v178 (F := Ideal) A.a0 A.a2 A.a3 A.a4 A.a5) (v := val_main_v184 (F := Ideal) A.a0 A.a2 A.a3 A.a4) b t c slices_S1x31x1024_S1x1x1024_0_19_0 slices_S8x8222x1024_S8x8192x1024_0_19_0 rfl rfl, hu]
  rw [step_at A 18 (by omega) (s := val_main_v178 (F := Ideal) A.a0 A.a2 A.a3 A.a4 A.a5) (p := val_main_v171 (F := Ideal) A.a0 A.a2 A.a3 A.a4 A.a5) (v := val_main_v177 (F := Ideal) A.a0 A.a2 A.a3 A.a4) b t c slices_S1x31x1024_S1x1x1024_0_18_0 slices_S8x8222x1024_S8x8192x1024_0_18_0 rfl rfl, hu]
  rw [step_at A 17 (by omega) (s := val_main_v171 (F := Ideal) A.a0 A.a2 A.a3 A.a4 A.a5) (p := val_main_v164 (F := Ideal) A.a0 A.a2 A.a3 A.a4 A.a5) (v := val_main_v170 (F := Ideal) A.a0 A.a2 A.a3 A.a4) b t c slices_S1x31x1024_S1x1x1024_0_17_0 slices_S8x8222x1024_S8x8192x1024_0_17_0 rfl rfl, hu]
  rw [step_at A 16 (by omega) (s := val_main_v164 (F := Ideal) A.a0 A.a2 A.a3 A.a4 A.a5) (p := val_main_v157 (F := Ideal) A.a0 A.a2 A.a3 A.a4 A.a5) (v := val_main_v163 (F := Ideal) A.a0 A.a2 A.a3 A.a4) b t c slices_S1x31x1024_S1x1x1024_0_16_0 slices_S8x8222x1024_S8x8192x1024_0_16_0 rfl rfl, hu]
  rw [step_at A 15 (by omega) (s := val_main_v157 (F := Ideal) A.a0 A.a2 A.a3 A.a4 A.a5) (p := val_main_v150 (F := Ideal) A.a0 A.a2 A.a3 A.a4 A.a5) (v := val_main_v156 (F := Ideal) A.a0 A.a2 A.a3 A.a4) b t c slices_S1x31x1024_S1x1x1024_0_15_0 slices_S8x8222x1024_S8x8192x1024_0_15_0 rfl rfl, hu]
  rw [step_at A 14 (by omega) (s := val_main_v150 (F := Ideal) A.a0 A.a2 A.a3 A.a4 A.a5) (p := val_main_v143 (F := Ideal) A.a0 A.a2 A.a3 A.a4 A.a5) (v := val_main_v149 (F := Ideal) A.a0 A.a2 A.a3 A.a4) b t c slices_S1x31x1024_S1x1x1024_0_14_0 slices_S8x8222x1024_S8x8192x1024_0_14_0 rfl rfl, hu]
  rw [step_at A 13 (by omega) (s := val_main_v143 (F := Ideal) A.a0 A.a2 A.a3 A.a4 A.a5) (p := val_main_v136 (F := Ideal) A.a0 A.a2 A.a3 A.a4 A.a5) (v := val_main_v142 (F := Ideal) A.a0 A.a2 A.a3 A.a4) b t c slices_S1x31x1024_S1x1x1024_0_13_0 slices_S8x8222x1024_S8x8192x1024_0_13_0 rfl rfl, hu]
  rw [step_at A 12 (by omega) (s := val_main_v136 (F := Ideal) A.a0 A.a2 A.a3 A.a4 A.a5) (p := val_main_v129 (F := Ideal) A.a0 A.a2 A.a3 A.a4 A.a5) (v := val_main_v135 (F := Ideal) A.a0 A.a2 A.a3 A.a4) b t c slices_S1x31x1024_S1x1x1024_0_12_0 slices_S8x8222x1024_S8x8192x1024_0_12_0 rfl rfl, hu]
  rw [step_at A 11 (by omega) (s := val_main_v129 (F := Ideal) A.a0 A.a2 A.a3 A.a4 A.a5) (p := val_main_v122 (F := Ideal) A.a0 A.a2 A.a3 A.a4 A.a5) (v := val_main_v128 (F := Ideal) A.a0 A.a2 A.a3 A.a4) b t c slices_S1x31x1024_S1x1x1024_0_11_0 slices_S8x8222x1024_S8x8192x1024_0_11_0 rfl rfl, hu]
  rw [step_at A 10 (by omega) (s := val_main_v122 (F := Ideal) A.a0 A.a2 A.a3 A.a4 A.a5) (p := val_main_v115 (F := Ideal) A.a0 A.a2 A.a3 A.a4 A.a5) (v := val_main_v121 (F := Ideal) A.a0 A.a2 A.a3 A.a4) b t c slices_S1x31x1024_S1x1x1024_0_10_0 slices_S8x8222x1024_S8x8192x1024_0_10_0 rfl rfl, hu]
  rw [step_at A 9 (by omega) (s := val_main_v115 (F := Ideal) A.a0 A.a2 A.a3 A.a4 A.a5) (p := val_main_v108 (F := Ideal) A.a0 A.a2 A.a3 A.a4 A.a5) (v := val_main_v114 (F := Ideal) A.a0 A.a2 A.a3 A.a4) b t c slices_S1x31x1024_S1x1x1024_0_9_0 slices_S8x8222x1024_S8x8192x1024_0_9_0 rfl rfl, hu]
  rw [step_at A 8 (by omega) (s := val_main_v108 (F := Ideal) A.a0 A.a2 A.a3 A.a4 A.a5) (p := val_main_v101 (F := Ideal) A.a0 A.a2 A.a3 A.a4 A.a5) (v := val_main_v107 (F := Ideal) A.a0 A.a2 A.a3 A.a4) b t c slices_S1x31x1024_S1x1x1024_0_8_0 slices_S8x8222x1024_S8x8192x1024_0_8_0 rfl rfl, hu]
  rw [step_at A 7 (by omega) (s := val_main_v101 (F := Ideal) A.a0 A.a2 A.a3 A.a4 A.a5) (p := val_main_v94 (F := Ideal) A.a0 A.a2 A.a3 A.a4 A.a5) (v := val_main_v100 (F := Ideal) A.a0 A.a2 A.a3 A.a4) b t c slices_S1x31x1024_S1x1x1024_0_7_0 slices_S8x8222x1024_S8x8192x1024_0_7_0 rfl rfl, hu]
  rw [step_at A 6 (by omega) (s := val_main_v94 (F := Ideal) A.a0 A.a2 A.a3 A.a4 A.a5) (p := val_main_v87 (F := Ideal) A.a0 A.a2 A.a3 A.a4 A.a5) (v := val_main_v93 (F := Ideal) A.a0 A.a2 A.a3 A.a4) b t c slices_S1x31x1024_S1x1x1024_0_6_0 slices_S8x8222x1024_S8x8192x1024_0_6_0 rfl rfl, hu]
  rw [step_at A 5 (by omega) (s := val_main_v87 (F := Ideal) A.a0 A.a2 A.a3 A.a4 A.a5) (p := val_main_v80 (F := Ideal) A.a0 A.a2 A.a3 A.a4 A.a5) (v := val_main_v86 (F := Ideal) A.a0 A.a2 A.a3 A.a4) b t c slices_S1x31x1024_S1x1x1024_0_5_0 slices_S8x8222x1024_S8x8192x1024_0_5_0 rfl rfl, hu]
  rw [step_at A 4 (by omega) (s := val_main_v80 (F := Ideal) A.a0 A.a2 A.a3 A.a4 A.a5) (p := val_main_v73 (F := Ideal) A.a0 A.a2 A.a3 A.a4 A.a5) (v := val_main_v79 (F := Ideal) A.a0 A.a2 A.a3 A.a4) b t c slices_S1x31x1024_S1x1x1024_0_4_0 slices_S8x8222x1024_S8x8192x1024_0_4_0 rfl rfl, hu]
  rw [step_at A 3 (by omega) (s := val_main_v73 (F := Ideal) A.a0 A.a2 A.a3 A.a4 A.a5) (p := val_main_v66 (F := Ideal) A.a0 A.a2 A.a3 A.a4 A.a5) (v := val_main_v72 (F := Ideal) A.a0 A.a2 A.a3 A.a4) b t c slices_S1x31x1024_S1x1x1024_0_3_0 slices_S8x8222x1024_S8x8192x1024_0_3_0 rfl rfl, hu]
  rw [step_at A 2 (by omega) (s := val_main_v66 (F := Ideal) A.a0 A.a2 A.a3 A.a4 A.a5) (p := val_main_v59 (F := Ideal) A.a0 A.a2 A.a3 A.a4 A.a5) (v := val_main_v65 (F := Ideal) A.a0 A.a2 A.a3 A.a4) b t c slices_S1x31x1024_S1x1x1024_0_2_0 slices_S8x8222x1024_S8x8192x1024_0_2_0 rfl rfl, hu]
  rw [step_at A 1 (by omega) (s := val_main_v59 (F := Ideal) A.a0 A.a2 A.a3 A.a4 A.a5) (p := val_main_v52 (F := Ideal) A.a0 A.a2 A.a3 A.a4 A.a5) (v := val_main_v58 (F := Ideal) A.a0 A.a2 A.a3 A.a4) b t c slices_S1x31x1024_S1x1x1024_0_1_0 slices_S8x8222x1024_S8x8192x1024_0_1_0 rfl rfl, hu]
  rw [step_at A 0 (by omega) (s := val_main_v52 (F := Ideal) A.a0 A.a2 A.a3 A.a4 A.a5) (p := val_main_v51 (F := Ideal) A.a5) (v := val_main_v49 (F := Ideal) A.a0 A.a2 A.a3 A.a4) b t c slices_S1x31x1024_S1x1x1024_0_0_0 slices_S8x8222x1024_S8x8192x1024_0_0_0 rfl rfl, hu]
  rw [bias_read]
end Cert.Layer.Ref

end
-- ==== Proof.RefMix.lean ====
/- The reference program's group normalisation, gates and heads are the layer's. -/
module

public import proofs.«01_k».proof.Proof.RefConv
public import proofs.«01_k».proof.Proof.KerHead

@[expose] public section

noncomputable section

namespace Cert.Layer.Ref

open Idealize.ShloMosaic Cert.ReferenceIdeal Cert.ReferenceIdeal.Gen Cert.ReferenceIdeal.Read

variable (A : Arrs)

/-- The convolution less its group's mean. -/
theorem cen_read (b : Fin 8) (t : Fin 8192) (g : Fin 8) (k : Fin 128) :
    val_main_v269 (F := Ideal) A.a0 A.a2 A.a3 A.a4 A.a5 (ix4 b t g k) = cen A.wts (A.xr b) t.val g k := by
  simp only [v269, v268, v267, v266, v265, v264, v263, conv_read, cen, mu]
  rfl

/-- The same, as the reference writes it a second time. -/
theorem cen_read' (b : Fin 8) (t : Fin 8192) (g : Fin 8) (k : Fin 128) :
    val_main_v276 (F := Ideal) A.a0 A.a2 A.a3 A.a4 A.a5 (ix4 b t g k) = cen A.wts (A.xr b) t.val g k := by
  simp only [v276, v275, v267, v266, v265, v264, v263, conv_read, cen, mu]
  rfl

/-- The group normalisation. -/
theorem gn_read (b : Fin 8) (t : Fin 8192) (c : Fin 1024) :
    val_main_v290 (F := Ideal) A.a0 A.a2 A.a3 A.a4 A.a5 A.a6 A.a7 (ix3 b t c) = gn A.wts (A.xr b) t.val (grp c) (lane c) := by
  simp only [v290, v289, v288, v287, v286, v285, v284, v283, v282, v281, v280, v279, v278, v277, v274, v273, v272, v271, v270, cen_read, cen_read',
    gn, var, ch_grp_lane]
  rfl

/-- The convolution branch before its projection. -/
theorem cvb_read (b : Fin 8) (t : Fin 8192) (c : Fin 1024) :
    val_main_v297 (F := Ideal) A.a0 A.a2 A.a3 A.a4 A.a5 A.a6 A.a7 (ix3 b t c) = cvb A.wts (A.xr b) t.val c := by
  simp only [v297, v296, v295, v294, v293, v292, v291, gn_read, logistic_eq, cvb, swish]

/-- The convolution branch's gated output. -/
theorem yc_read (b : Fin 8) (t : Fin 8192) (c : Fin 1024) :
    val_main_v311 (F := Ideal) A.a0 A.a2 A.a3 A.a4 A.a5 A.a6 A.a7 A.a8 A.a9 (ix3 b t c) = yc A.wts (A.xr b) t.val c := by
  simp only [v311, v310, v309, v308, v307, v306, v305, v304, v303, v302, v301, v300, v299, v298, v30, cvb_read, z_read, logistic_eq, yc, swish]
  rfl

/-- A sum over a window of additions, as a sum over the window's positions. -/
theorem window_sum {s t : Shape} {window strides lo hi : Fin s.rank → ℕ} (x : FVec Ideal s .f32) (init : S_.Idx → Ideal .f32)
    (h : s.ReduceWindows window strides lo hi t) (hu : 0 < S_.numel) (h0 : init (Shape.Idx.first hu) = 0) (j : t.Idx) :
    Host.reduceWindowAdd window strides lo hi x init h hu j = ∑ w : (⟨s.rank, window⟩ : Shape).Idx,
      (if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else (0 : EReal)) := by
  have fold : ∀ (l : List (Fin (⟨s.rank, window⟩ : Shape).numel)) (g : Fin (⟨s.rank, window⟩ : Shape).numel → EReal) (r : EReal),
      l.foldl (fun r n => r + g n) r = r + (l.map g).sum := by
    intro l g
    induction l with
    | nil => intro r; simp
    | cons a l ih => intro r; rw [List.foldl_cons, ih, List.map_cons, List.sum_cons, add_assoc]
  rw [← Equiv.sum_comp (⟨s.rank, window⟩ : Shape).rowMajor.symm]
  rw [Fin.sum_univ_def]
  show (List.finRange _).foldl _ (init (Shape.Idx.first hu)) = _
  refine (fold _ _ _).trans ?_
  rw [h0, zero_add]
  refine congrArg List.sum (List.map_congr_left fun n _ => ?_)
  split_ifs
  · rfl
  · rfl

/-- The positions of a window that is `n` long on its third axis and one on the others. -/
def alongThird (n : ℕ) : Fin n ≃ Shape.Idx ⟨4, ![1, 1, n, 1]⟩ where
  toFun k := ix4 0 0 k 0
  invFun w := w 2
  left_inv _ := rfl
  right_inv w := (ix4_ext (by have h : (w 0).val < 1 := (w 0).isLt; show (w 0).val = 0; omega)
    (by have h : (w 1).val < 1 := (w 1).isLt; show (w 1).val = 0; omega) rfl
    (by have h : (w 3).val < 1 := (w 3).isLt; show (w 3).val = 0; omega)).symm

/-- The positions of a window that is `n` long on the first of two axes. -/
def alongFirst (n : ℕ) : Fin n ≃ Shape.Idx ⟨2, ![n, 1]⟩ where
  toFun k := ix2 k 0
  invFun w := w 0
  left_inv _ := rfl
  right_inv w := (ix2_ext rfl (by have h : (w 1).val < 1 := (w 1).isLt; show (w 1).val = 0; omega)).symm

/-- A running sum, as the sum of a window padded before its first entry. -/
theorem running (f : ℕ → EReal) (N t : ℕ) (ht : t < N + 1) :
    ∑ u ∈ Finset.range (N + 1), (if N ≤ t + u then f (t + u - N) else 0) = ∑ i ∈ Finset.range (t + 1), f i := by
  obtain ⟨d, rfl⟩ : ∃ d, N = d + t := ⟨N - t, by omega⟩
  rw [add_assoc, Finset.sum_range_add, Finset.sum_eq_zero, zero_add]
  · refine Finset.sum_congr rfl fun i _ => ?_
    rw [if_pos (by omega)]; congr 1; omega
  · intro u hu; rw [if_neg (by have := Finset.mem_range.1 hu; omega)]

/-- The largest of the two layers' logits. -/
theorem lmax_read (c : Fin 1024) : val_main_v2 (F := Ideal) A.a10 (ix1 c) = lmax A.wts c := by
  rw [v2, v1]
  have e : val_main_v0 (F := Ideal) A.a10 (ix1 c) = max (A.a10 (ix2 0 c)) (A.a10 (ix2 1 c)) := by
    unfold val_main_v0 val_main_cst
    generalize A.a10 = X
    pointwise
    exact max_two (fun k => X (ix2 k c))
  rw [e, show Ideal.ofBits .f32 0xFF800000#32 = ⊥ by simp [Ideal.ofBits, Ideal.ieee], max_eq_right bot_le]
  rfl

/-- The first layer's share of the softmax. -/
theorem lb_read (c : Fin 1024) : val_main_v11 (F := Ideal) A.a10 (ix2 0 c) = lb A.wts c := by
  unfold val_main_v11
  rw [window_sum _ _ _ _ (Ideal.ofBits_zero_f32), ← Equiv.sum_comp (alongFirst 2), Fin.sum_univ_two, dif_neg, dif_pos, zero_add]
  · refine Eq.trans (congrArg (val_main_v10 (F := Ideal) A.a10) (ix2_ext (a := 0) (b := c) rfl ?_)) ?_
    · show c.val * 1 + 0 - 0 = c.val; omega
    · simp only [v10, v9, v8, v7, v6, v5, v4, v3, lmax_read, Fin.sum_univ_two, lb]
      rfl
  · intro a
    match a with
    | ⟨0, _⟩ => show 1 ≤ 0 * 1 + 1 ∧ 0 * 1 + 1 - 1 < 2; omega
    | ⟨1, _⟩ => show 0 ≤ c.val * 1 + 0 ∧ c.val * 1 + 0 - 0 < 1024; omega
  · intro hh
    have : 1 ≤ 0 * 1 + 0 := (hh 0).1
    omega

/-- The forget gate. -/
theorem fg_read (b : Fin 8) (t : Fin 8192) (c : Fin 1024) :
    val_main_v327 (F := Ideal) A.a0 A.a2 A.a3 A.a10 (ix3 b t c) = fg A.wts (A.xr b) t.val c := by
  simp only [v327, v326, v325, v324, v323, v322, v321, v320, v319, v318, v317, v316, v315, v314, v313, v312, v32, lb_read, z_read, logistic_eq, fg]
  rw [show Ideal.ofBits .f32 0x3F800000#32 = 1 from one_eq]

/-- The keys. -/
theorem key_read (b : Fin 8) (t : Fin 8192) (c : Fin 1024) :
    val_main_v339 (F := Ideal) A.a0 A.a2 A.a3 A.a10 (ix3 b t c) = key A.wts (A.xr b) t.val c := by
  simp only [v339, v338, v337, v336, v335, v334, v333, v332, v331, v330, v329, v328, v313, v312, v32, lb_read, z_read, logistic_eq, key]
  rw [show Ideal.ofBits .f32 0x3F800000#32 = 1 from one_eq]

/-- The queries. -/
theorem qry_read (b : Fin 8) (t : Fin 8192) (c : Fin 1024) :
    val_main_v346 (F := Ideal) A.a0 A.a2 A.a3 (ix3 b t c) = qry A.wts (A.xr b) t.val c := by
  simp only [v346, v345, v344, v343, v342, v341, v340, v31, z_read, logistic_eq, qry, swish]

/-- The logarithm of the forget gate, by heads. -/
theorem lf_read (b h : Fin 8) (t : Fin 8192) (k : Fin 128) :
    val_main_v355 (F := Ideal) A.a0 A.a2 A.a3 A.a10 (ix4 b h t k) = lf A.wts (A.xr b) t.val (ch h k) := by
  simp only [v355, v354, v353, fg_read, lf]

/-- The summed logarithms. -/
theorem cum_read (b h : Fin 8) (t : Fin 8192) (k : Fin 128) :
    val_main_v356 (F := Ideal) A.a0 A.a2 A.a3 A.a10 (ix4 b h t k) = cum A.wts (A.xr b) t.val (ch h k) := by
  unfold val_main_v356
  rw [window_sum _ _ _ _ (Ideal.ofBits_zero_f32), ← Equiv.sum_comp (alongThird 8192)]
  unfold cum
  rw [← running (fun i => lf A.wts (A.xr b) i (ch h k)) 8191 t.val (by omega),
    ← Fin.sum_univ_eq_sum_range (fun u => if 8191 ≤ t.val + u then lf A.wts (A.xr b) (t.val + u - 8191) (ch h k) else 0) 8192]
  refine Finset.sum_congr rfl fun u _ => ?_
  by_cases hu : 8191 ≤ t.val + u.val
  · rw [if_pos hu, dif_pos]
    · refine Eq.trans (congrArg (val_main_v355 (F := Ideal) A.a0 A.a2 A.a3 A.a10)
        (ix4_ext (a := b) (b := h) (c := ⟨t.val + u.val - 8191, by omega⟩) (d := k) ?_ ?_ ?_ ?_)) (lf_read A b h _ k)
      · show b.val * 1 + 0 - 0 = b.val; omega
      · show h.val * 1 + 0 - 0 = h.val; omega
      · show t.val * 1 + u.val - 8191 = t.val + u.val - 8191; omega
      · show k.val * 1 + 0 - 0 = k.val; omega
    · intro a
      match a with
      | ⟨0, _⟩ => show 0 ≤ b.val * 1 + 0 ∧ b.val * 1 + 0 - 0 < 8; omega
      | ⟨1, _⟩ => show 0 ≤ h.val * 1 + 0 ∧ h.val * 1 + 0 - 0 < 8; omega
      | ⟨2, _⟩ => show 8191 ≤ t.val * 1 + u.val ∧ t.val * 1 + u.val - 8191 < 8192; omega
      | ⟨3, _⟩ => show 0 ≤ k.val * 1 + 0 ∧ k.val * 1 + 0 - 0 < 128; omega
  · rw [if_neg hu, dif_neg]
    intro hh
    have : 8191 ≤ t.val * 1 + u.val := (hh 2).1
    omega

end Cert.Layer.Ref

end
-- ==== Proof.RefOut.lean ====
/- The reference program's readout, heads, residual stream and result are the layer's. -/
module

public import proofs.«01_k».proof.Proof.RefMix
public import Idealize.ShloMosaic.Lib.Pipeline.Value

@[expose] public section

noncomputable section

namespace Cert.Layer.Ref

open Idealize.ShloMosaic Cert.ReferenceIdeal Cert.ReferenceIdeal.Gen Cert.ReferenceIdeal.Read

variable (A : Arrs)

/-- The causal mask's bit: whether step `s` is not after step `t`. -/
theorem mask_read (b h : Fin 8) (t s : Fin 8192) (k : Fin 128) :
    val_main_call3_v1 (F := Ideal) (ix5 b h t s k) = BitVec.ofBool (decide (s.val ≤ t.val)) := by
  rw [val_main_call3_v1_apply, val_main_v363_apply, val_main_v362_apply, val_main_v360_apply, val_main_v361_apply, val_main_v358_apply,
    val_main_v359_apply, val_main_v357_apply, val_main_v357_apply]
  exact WordCmp.cmpi_sge_ofNat (w := 32) (a := t.val) (b := s.val) (by omega) (by omega)

/-- What the mask leaves outside: minus infinity. -/
theorem outside_read (i : S8x8x8192x8192x128.Idx) : val_main_call3_v2 (F := Ideal) i = ⊥ := by
  rw [val_main_call3_v2_apply, val_main_call3_v0_apply, val_main_cst_24_apply]
  show Ideal.ofBits .f32 0xFF800000#32 = ⊥
  simp [Ideal.ofBits, Ideal.ieee]

/-- The masked difference of the summed logarithms. -/
theorem diff_read (b h : Fin 8) (t s : Fin 8192) (k : Fin 128) :
    val_main_v369 (F := Ideal) A.a0 A.a2 A.a3 A.a10 (ix5 b h t s k)
      = if s.val ≤ t.val then cum A.wts (A.xr b) t.val (ch h k) - cum A.wts (A.xr b) s.val (ch h k) else ⊥ := by
  rw [val_main_v369_apply, mask_read, outside_read, Scalar.select_ofBool, v368, v366, v367, v364, v365, cum_read, cum_read]
  simp only [decide_eq_true_eq]

/-- The readout. -/
theorem rd_read (b h : Fin 8) (t : Fin 8192) (v : Fin 128) :
    val_main_v377 (F := Ideal) A.a0 A.a2 A.a3 A.a10 (ix4 b t h v) = rd A.wts (A.xr b) t.val h v := by
  rw [v377, v376]
  unfold rd
  refine Finset.sum_congr rfl fun s _ => ?_
  rw [v375, v374, v352, v351, v33, z_read]
  refine congrArg₂ (· * ·) (Finset.sum_congr rfl fun k _ => ?_) rfl
  rw [v373, v372, v371, v348, v347, v370, v350, v349, diff_read, qry_read, key_read]
  exact mul_comm _ _

/-- A head's normalised and gated readout. -/
theorem yh_read (b : Fin 8) (t : Fin 8192) (c : Fin 1024) :
    val_main_v401 (F := Ideal) A.a0 A.a2 A.a3 A.a10 A.a11 (ix3 b t c) = yh A.wts (A.xr b) t.val (grp c) (lane c) := by
  simp only [v401, v400, v399, v398, v397, v396, v395, v394, v393, v392, v391, v390, v389, v388, v387, v386, v385, v384, v383, v382, v381, v380,
    v379, v378, v34, rd_read, z_read, logistic_eq, yh, swish, ch_grp_lane]
  rfl

/-- Two arrays side by side, on the left. -/
theorem left_at (x y : FVec Ideal S8x8192x1024 .f32) (b : Fin 8) (t : Fin 8192) (c : Fin 2048) (hc : c.val < 1024) :
    concatenate S8x8192x2048 2 [⟨S8x8192x1024, x⟩, ⟨S8x8192x1024, y⟩] concatenates_S8x8192x1024_S8x8192x1024_S8x8192x2048_d2 (ix3 b t c)
      = x (ix3 b t ⟨c.val, hc⟩) :=
  concatenate_pair_apply_left (t := S8x8192x2048) (2 : Fin 3) x y concatenates_S8x8192x1024_S8x8192x1024_S8x8192x2048_d2 (ix3 b t c) rfl
    (ix3 b t ⟨c.val, hc⟩) (fun a => match a with | ⟨0, _⟩ => rfl | ⟨1, _⟩ => rfl | ⟨2, _⟩ => rfl)

/-- Two arrays side by side, on the right. -/
theorem right_at (x y : FVec Ideal S8x8192x1024 .f32) (b : Fin 8) (t : Fin 8192) (c : Fin 2048) (hc : ¬c.val < 1024) :
    concatenate S8x8192x2048 2 [⟨S8x8192x1024, x⟩, ⟨S8x8192x1024, y⟩] concatenates_S8x8192x1024_S8x8192x1024_S8x8192x2048_d2 (ix3 b t c)
      = y (ix3 b t ⟨c.val - 1024, by omega⟩) :=
  concatenate_pair_apply_right (t := S8x8192x2048) (2 : Fin 3) x y concatenates_S8x8192x1024_S8x8192x1024_S8x8192x2048_d2 (ix3 b t c) rfl rfl
    (ix3 b t ⟨c.val - 1024, by omega⟩)
    (fun a => match a with | ⟨0, _⟩ => fun _ => rfl | ⟨1, _⟩ => fun _ => rfl | ⟨2, _⟩ => fun hn => absurd rfl hn)
    (by show c.val - 1024 + 1024 = c.val; omega)

/-- The two branches side by side. -/
theorem cat_read (b : Fin 8) (t : Fin 8192) (c : Fin 2048) :
    val_main_v402 (F := Ideal) A.a0 A.a2 A.a3 A.a4 A.a5 A.a6 A.a7 A.a8 A.a9 A.a10 A.a11 (ix3 b t c) = cat A.wts (A.xr b) t.val c := by
  unfold val_main_v402 cat
  by_cases hc : c.val < 1024
  · rw [dif_pos hc, ← yc_read A b t ⟨c.val, hc⟩]
    exact left_at _ _ b t c hc
  · rw [dif_neg hc, ← yh_read A b t ⟨c.val - 1024, by omega⟩]
    exact right_at _ _ b t c hc

/-- The stream after the mixers. -/
theorem hres_read (b : Fin 8) (t : Fin 8192) (n : Fin 1024) :
    val_main_v405 (F := Ideal) A.a0 A.a2 A.a3 A.a4 A.a5 A.a6 A.a7 A.a8 A.a9 A.a10 A.a11 A.a12 (ix3 b t n) = hres A.wts (A.xr b) t.val n := by
  simp only [v405, v404, v403, cat_read, hres, xr_at]
  rfl

/-- The stream after the gated per-layer embedding. -/
theorem hemb_read (b : Fin 8) (t : Fin 8192) (n : Fin 1024) :
    val_main_v432 (F := Ideal) A.a0 A.a1 A.a2 A.a3 A.a4 A.a5 A.a6 A.a7 A.a8 A.a9 A.a10 A.a11 A.a12 A.a13 A.a14 A.a15 (ix3 b t n)
      = hemb A.wts (A.xr b) (A.pr b) t.val n := by
  simp only [v432, v431, v430, v429, v428, v427, v426, v425, v424, v423, v422, v421, v420, v419, v418, v417, v416, v415, v414, v413, v412, v411,
    v410, v409, v408, v407, v406, hres_read, logistic_eq, hemb, rms, pr_at]
  rfl

/-- The reference program's result, at an index. -/
theorem res_read (b : Fin 8) (t : Fin 8192) (n : Fin 1024) :
    val_main_v445 (F := Ideal) A.a0 A.a1 A.a2 A.a3 A.a4 A.a5 A.a6 A.a7 A.a8 A.a9 A.a10 A.a11 A.a12 A.a13 A.a14 A.a15 A.a16 (ix3 b t n)
      = out A.wts (A.xr b) (A.pr b) t.val n := by
  simp only [v445, v444, v443, v442, v441, v440, v439, v438, v437, v436, v435, v434, v433, hemb_read, out, rms]
  rfl

/-- The reference program's result is the layer's. -/
theorem out_read : val_main_v445 (F := Ideal) A.a0 A.a1 A.a2 A.a3 A.a4 A.a5 A.a6 A.a7 A.a8 A.a9 A.a10 A.a11 A.a12 A.a13 A.a14 A.a15 A.a16
    = A.out := by
  funext i
  refine (congrArg (val_main_v445 (F := Ideal) A.a0 A.a1 A.a2 A.a3 A.a4 A.a5 A.a6 A.a7 A.a8 A.a9 A.a10 A.a11 A.a12 A.a13 A.a14 A.a15 A.a16)
    (ix3_ext (a := i 0) (b := i 1) (c := i 2) rfl rfl rfl)).trans ?_
  exact res_read A (i 0) (i 1) (i 2)

end Cert.Layer.Ref

end
-- ==== Proof.Finite.lean ====
/- The precondition: an array in which no absolute value reaches infinity holds real numbers. -/
module

public import proofs.«01_k».proof.Defs
public import proofs.«01_k».proof.Proof.Ties
public import Idealize.ShloMosaic.Lib.ReduceAll

@[expose] public section

noncomputable section

namespace Cert.Layer.Finite

open Idealize.ShloMosaic Cert.Pre_finite

/-- The shape relations of the precondition's operations. -/
theorem facts : Cert.Pre_finite.Facts where
  slices_S1x1024x7168_S1x1024x3072_0_0_3072 := by decide
  h_S_ := by decide
  bcast_S_S1x1024 := by decide
  reducesTo_S1x1024_S_d0_1 := by decide
  bcast_S_S1x1024x3072 := by decide
  reducesTo_S1x1024x3072_S_d0_1_2 := by decide

/-- The scalar shape has one index. -/
instance : Subsingleton S_.Idx := ⟨fun a b => funext fun i => i.elim0⟩

/-- A number whose absolute value is below infinity is real. -/
theorem real_of_abs_lt (x : EReal) (h : max x (-x) < ⊤) : Rl x := by
  refine ⟨x.toReal, (EReal.coe_toReal ?_ ?_).symm⟩
  · rintro rfl
    exact absurd h (by simp)
  · rintro rfl
    exact absurd h (by simp)

/-- One array's test that it is finite says that every entry is real. -/
theorem real_of_test {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j
      = 1#1) (i : s.Idx) : Rl (x i) := by
  have h := Host.reduce_andi_all _ _ hr hu j e i
  have h' : BitVec.ofBool (decide (max (x i) (-(x i)) < Ideal.ofBits .f32 0x7F800000#32)) = 1#1 := h
  have ht : Ideal.ofBits .f32 0x7F800000#32 = ⊤ := by simp [Ideal.ofBits, Ideal.ieee]
  rw [ht] at h'
  refine real_of_abs_lt _ ?_
  by_contra hn
  rw [decide_eq_false hn] at h'
  exact absurd h' (by decide)

/-- The projection's columns from 3072 on, read at a column. -/
theorem slice_cols {α : Type} (w : S1x1024x7168.Idx → α) (hs : S1x1024x7168.Slices ![0, 0, 3072] S1x1024x3072) (k : Fin 1024) (n : Fin 7168)
    (h3 : 3072 ≤ n.val) (h6 : n.val < 6144) :
    extractStridedSlice S1x1024x3072 ![0, 0, 3072] w hs (ix3 0 k ⟨n.val - 3072, by omega⟩) = w (ix3 0 k n) := by
  refine congrArg w (funext fun i => Fin.ext ?_)
  match i with
  | ⟨0, _⟩ => rfl
  | ⟨1, _⟩ => exact Nat.zero_add _
  | ⟨2, _⟩ => exact Nat.add_sub_cancel' h3

/-- Under the precondition the first norm's gain and those columns of the combined projection hold real numbers. -/
theorem isReal [hP : Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : (arrs m c).IsReal := by
  have h0 := congrFun (h c) (fun a => a.elim0)
  unfold Cert.Pre_finite.fn at h0
  obtain ⟨hg, hw⟩ := IntOp.andi_eq_one.1 h0
  refine ⟨real_of_test _ _ _ _ _ hg, fun k n h3 h6 => ?_⟩
  have hr := real_of_test _ _ _ _ _ hw (ix3 0 k ⟨n.val - 3072, by omega⟩)
  exact (congrArg Rl (slice_cols _ _ k n h3 h6)).mp hr

end Cert.Layer.Finite

end
-- ==== Proof.lean ====
/- The certificate: the frames of the kernel, of its idealized program and of the reference; and that the idealized kernel's
   result is, under the precondition, the reference's, every entry of it. The layer's mathematics is in Proof/Spec.lean; that
   the kernel's sweep over the time blocks computes it, in Proof/Fold.lean; that the reference does, in Proof/RefOut.lean. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Fold
public import proofs.«01_k».proof.Proof.RefOut
public import proofs.«01_k».proof.Proof.Finite

@[expose] public section

noncomputable section

namespace Cert.Proof

open Idealize.ShloMosaic Idealize.SL.Sem Cert.Layer

/-- The frame of the reference: its run leaves every argument as it was, and it declares no semaphore. -/
theorem frame_ri : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The reference's result, on arrays equal to the kernel's, is the layer's. -/
theorem reference_eq (m : (ℓ : Loc Cert.KernelIdeal.nD Cert.KernelIdeal.τ Cert.KernelIdeal.sig) → Buf (Elt Ideal) ℓ)
    (c : Dev Cert.KernelIdeal.nD) {x0 x1 x2 x3 x4 x5 x6 x7 x8 x9 x10 x11 x12 x13 x14 x15 x16}
    (h0 : x0 = (arrs m c).a0) (h1 : x1 = (arrs m c).a1) (h2 : x2 = (arrs m c).a2) (h3 : x3 = (arrs m c).a3) (h4 : x4 = (arrs m c).a4)
    (h5 : x5 = (arrs m c).a5) (h6 : x6 = (arrs m c).a6) (h7 : x7 = (arrs m c).a7) (h8 : x8 = (arrs m c).a8) (h9 : x9 = (arrs m c).a9)
    (h10 : x10 = (arrs m c).a10) (h11 : x11 = (arrs m c).a11) (h12 : x12 = (arrs m c).a12) (h13 : x13 = (arrs m c).a13)
    (h14 : x14 = (arrs m c).a14) (h15 : x15 = (arrs m c).a15) (h16 : x16 = (arrs m c).a16) :
    Cert.ReferenceIdeal.Read.val_main_v445 (F := Ideal) x0 x1 x2 x3 x4 x5 x6 x7 x8 x9 x10 x11 x12 x13 x14 x15 x16 = (arrs m c).out := by
  rw [h0, h1, h2, h3, h4, h5, h6, h7, h8, h9, h10, h11, h12, h13, h14, h15, h16]
  exact Ref.out_read (arrs m c)

/-- From arguments that agree, with no infinity among the arrays the recurrence is computed from, the idealized kernel and the
    reference leave the same result: the layer's. -/
theorem algebraic [hP : Cert.Pre_finite.Facts] : Cert.algebraic_KernelIdeal_ReferenceIdeal_pre_finite
    (hKernelIdeal := Cert.KernelIdeal.Gen.facts) (hReferenceIdeal := Cert.ReferenceIdeal.Gen.facts) := by
  intro m ρ m' ρ' hpre hagree
  refine ⟨fun c => (arrs m c).out, ?_, ?_⟩
  · exact (θ_run Cert.KernelIdeal.defs _ _).mono (fun r h c => ⟨(h c).1.trans (G17_eq m c (Finite.isReal m hpre c)), (h c).2⟩)
      (Cert.KernelIdeal.Value.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    exact (Cert.ReferenceIdeal.Read.val_main_v445_eq _).trans
      (reference_eq m c e0 e1 e2 e3 e4 e5 e6 e7 e8 e9 e10 e11 e12 e13 e14 e15 e16)

/-- The frames, with and without the precondition; `preserves`, which has no rewrites to state; and `algebraic`. -/
theorem claim : Cert.Claim :=
  have hP := Finite.facts
  ⟨Cert.Kernel.Gen.facts, Cert.KernelIdeal.Gen.facts, Cert.ReferenceIdeal.Gen.facts, hP,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial, trivial, algebraic⟩

end Cert.Proof

end
